-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v27) = v1 c
          ∧ r.2.mem ((c.tc : Thread Cert.Reference15Ideal.nD Cert.Reference15Ideal.τ).loc Cert.Reference15Ideal.main_v8) = v2 c
          ∧ r.2.mem ((c.tc : Thread Cert.Reference15Ideal.nD Cert.Reference15Ideal.τ).loc Cert.Reference15Ideal.main_v14) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v21) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v16) = v0 c
          ∧ r.2.mem ((c.tc : Thread Cert.Reference17Ideal.nD Cert.Reference17Ideal.τ).loc Cert.Reference17Ideal.main_v38) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v3_0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v39) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v4_1)) (v1 : (c : Dev Cert.Kernel20Ideal.nD) → Buf (Elt Ideal) ((c.tc : Thread Cert.Kernel20Ideal.nD Cert.Kernel20Ideal.τ).loc Cert.Kernel20Ideal.main_v4_2)) (v2 : (c : Dev Cert.Kernel20Ideal.nD) → Buf (Elt Ideal) ((c.tc : Thread Cert.Kernel20Ideal.nD Cert.Kernel20Ideal.τ).loc Cert.Kernel20Ideal.main_v4_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_1) = v0 c
          ∧ r.2.mem ((c.tc : Thread Cert.Kernel20Ideal.nD Cert.Kernel20Ideal.τ).loc Cert.Kernel20Ideal.main_v4_2) = v1 c
          ∧ r.2.mem ((c.tc : Thread Cert.Kernel20Ideal.nD Cert.Kernel20Ideal.τ).loc Cert.Kernel20Ideal.main_v4_3) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v70) = v0 c
          ∧ r.2.mem ((c.tc : Thread Cert.Reference20Ideal.nD Cert.Reference20Ideal.τ).loc Cert.Reference20Ideal.main_v71) = v1 c
          ∧ r.2.mem ((c.tc : Thread Cert.Reference20Ideal.nD Cert.Reference20Ideal.τ).loc Cert.Reference20Ideal.main_v72) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite19 : Cert.Pre_finite19.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S1x4096x6x64 : Shape := ⟨4, ![1, 4096, 6, 64]⟩
abbrev S1x4096x6 : Shape := ⟨3, ![1, 4096, 6]⟩
abbrev S_ : Shape := ⟨0, ![]⟩
abbrev S1x4096x6x1 : Shape := ⟨4, ![1, 4096, 6, 1]⟩

class Facts : Prop where
  bcast_S_S1x4096x6x64 : S_.BroadcastsInDim S1x4096x6x64 (![] : Fin 0 → Fin S1x4096x6x64.rank)
  bcast_S_S1x4096x6 : S_.BroadcastsInDim S1x4096x6 (![] : Fin 0 → Fin S1x4096x6.rank)
  bcast_S1x4096x6_S1x4096x6x1_0_1_2 : S1x4096x6.BroadcastsInDim S1x4096x6x1 (![0, 1, 2] : Fin 3 → Fin S1x4096x6x1.rank)
  bcast_S1x4096x6x1_S1x4096x6x64_0_1_2_3 : S1x4096x6x1.BroadcastsInDim S1x4096x6x64 (![0, 1, 2, 3] : Fin 4 → Fin S1x4096x6x64.rank)

variable [Facts]

def fn_part1 {F : FTy → Type} [FloatOps F] (main_v14 : IVec S1x4096x6x64 1) (main_v18 : IVec S1x4096x6x1 1) : IVec S1x4096x6x64 1 :=
  let main_v19 : IVec S1x4096x6x64 1 := broadcastInDim S1x4096x6x64 ![0, 1, 2, 3] bcast_S1x4096x6x1_S1x4096x6x64_0_1_2_3 main_v18
  let main_v20 : IVec S1x4096x6x64 1 := andi main_v14 main_v19
  main_v20

def fn {F : FTy → Type} [FloatOps F] (main_arg0 : FVec F S1x4096x6x64 .f32) (main_arg1 : FVec F S1x4096x6x64 .f32) (main_arg2 : FVec F S1x4096x6x64 .f32) (main_arg3 : FVec F S1x4096x6x64 .f32) (main_arg4 : FVec F S1x4096x6 .f32) : IVec S1x4096x6x64 1 :=
  let main_v0 : FVec F S1x4096x6x64 .f32 := Host.absf main_arg0
  let main_cst : FVec F S_ .f32 := constant S_ .f32 0x7F800000#32
  let main_v1 : FVec F S1x4096x6x64 .f32 := broadcastInDim S1x4096x6x64 ![] bcast_S_S1x4096x6x64 main_cst
  let main_v2 : IVec S1x4096x6x64 1 := cmpf .olt main_v0 main_v1
  let main_v3 : FVec F S1x4096x6x64 .f32 := Host.absf main_arg1
  let main_cst_0 : FVec F S_ .f32 := constant S_ .f32 0x7F800000#32
  let main_v4 : FVec F S1x4096x6x64 .f32 := broadcastInDim S1x4096x6x64 ![] bcast_S_S1x4096x6x64 main_cst_0
  let main_v5 : IVec S1x4096x6x64 1 := cmpf .olt main_v3 main_v4
  let main_v6 : IVec S1x4096x6x64 1 := andi main_v2 main_v5
  let main_v7 : FVec F S1x4096x6x64 .f32 := Host.absf main_arg2
  let main_cst_1 : FVec F S_ .f32 := constant S_ .f32 0x7F800000#32
  let main_v8 : FVec F S1x4096x6x64 .f32 := broadcastInDim S1x4096x6x64 ![] bcast_S_S1x4096x6x64 main_cst_1
  let main_v9 : IVec S1x4096x6x64 1 := cmpf .olt main_v7 main_v8
  let main_v10 : IVec S1x4096x6x64 1 := andi main_v6 main_v9
  let main_v11 : FVec F S1x4096x6x64 .f32 := Host.absf main_arg3
  let main_cst_2 : FVec F S_ .f32 := constant S_ .f32 0x7F800000#32
  let main_v12 : FVec F S1x4096x6x64 .f32 := broadcastInDim S1x4096x6x64 ![] bcast_S_S1x4096x6x64 main_cst_2
  let main_v13 : IVec S1x4096x6x64 1 := cmpf .olt main_v11 main_v12
  let main_v14 : IVec S1x4096x6x64 1 := andi main_v10 main_v13
  let main_v15 : FVec F S1x4096x6 .f32 := Host.absf main_arg4
  let main_cst_3 : FVec F S_ .f32 := constant S_ .f32 0x7F800000#32
  let main_v16 : FVec F S1x4096x6 .f32 := broadcastInDim S1x4096x6 ![] bcast_S_S1x4096x6 main_cst_3
  let main_v17 : IVec S1x4096x6 1 := cmpf .olt main_v15 main_v16
  let main_v18 : IVec S1x4096x6x1 1 := broadcastInDim S1x4096x6x1 ![0, 1, 2] bcast_S1x4096x6_S1x4096x6x1_0_1_2 main_v17
  fn_part1 (F := F) main_v14 main_v18
-- ==== Pre_finite19.lean ====
abbrev S4096x2048 : Shape := ⟨2, ![4096, 2048]⟩
abbrev S2048 : Shape := ⟨1, ![2048]⟩
abbrev S_ : Shape := ⟨0, ![]⟩
abbrev S1x2048 : Shape := ⟨2, ![1, 2048]⟩

class Facts : Prop where
  bcast_S_S4096x2048 : S_.BroadcastsInDim S4096x2048 (![] : Fin 0 → Fin S4096x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)

variable [Facts]

def fn {F : FTy → Type} [FloatOps F] (main_arg0 : FVec F S4096x2048 .f32) (main_arg1 : FVec F S4096x2048 .f32) (main_arg2 : FVec F S4096x2048 .f32) (main_arg3 : FVec F S2048 .f32) (main_arg4 : FVec F S2048 .f32) : IVec S4096x2048 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg2
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : IVec S4096x2048 1 := andi main_v2 main_v5
  let main_v7 : FVec F S2048 .f32 := Host.absf main_arg3
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : IVec S1x2048 1 := broadcastInDim S1x2048 ![1] bcast_S2048_S1x2048_1 main_v9
  let main_v11 : IVec S4096x2048 1 := broadcastInDim S4096x2048 ![0, 1] bcast_S1x2048_S4096x2048_0_1 main_v10
  let main_v12 : IVec S4096x2048 1 := andi main_v6 main_v11
  let main_v13 : FVec F S2048 .f32 := Host.absf main_arg4
  let main_cst_2 : FVec F S_ .f32 := constant S_ .f32 0x7F800000#32
  let main_v14 : FVec F S2048 .f32 := broadcastInDim S2048 ![] bcast_S_S2048 main_cst_2
  let main_v15 : IVec S2048 1 := cmpf .olt main_v13 main_v14
  let main_v16 : IVec S1x2048 1 := broadcastInDim S1x2048 ![1] bcast_S2048_S1x2048_1 main_v15
  let main_v17 : IVec S4096x2048 1 := broadcastInDim S4096x2048 ![0, 1] bcast_S1x2048_S4096x2048_0_1 main_v16
  let main_v18 : IVec S4096x2048 1 := andi main_v12 main_v17
  main_v18
-- ==== Pre_finite20.lean ====
abbrev S4096x896 : Shape := ⟨2, ![4096, 896]⟩
abbrev S4096x1280 : Shape := ⟨2, ![4096, 1280]⟩
abbrev S896x896 : Shape := ⟨2, ![896, 896]⟩
abbrev S896 : Shape := ⟨1, ![896]⟩
abbrev S_ : Shape := ⟨0, ![]⟩
abbrev S1x896 : Shape := ⟨2, ![1, 896]⟩

class Facts : Prop where
  bcast_S_S4096x896 : S_.BroadcastsInDim S4096x896 (![] : Fin 0 → Fin S4096x896.rank)
  slices_S4096x1280_S4096x896_0_384 : S4096x1280.Slices ![0, 384] S4096x896
  bcast_S_S896 : S_.BroadcastsInDim S896 (![] : Fin 0 → Fin S896.rank)
  bcast_S896_S1x896_1 : S896.BroadcastsInDim S1x896 (![1] : Fin 1 → Fin S1x896.rank)
  bcast_S1x896_S4096x896_0_1 : S1x896.BroadcastsInDim S4096x896 (![0, 1] : Fin 2 → Fin S4096x896.rank)

variable [Facts]

def fn {F : FTy → Type} [FloatOps F] (main_arg0 : FVec F S4096x896 .f32) (main_arg1 : FVec F S4096x1280 .f32) (main_arg2 : FVec F S896x896 .f32) (main_arg3 : FVec F S896 .f32) (main_arg4 : FVec F S896 .f32) : IVec S4096x896 1 :=
  let main_v0 : FVec F S4096x896 .f32 := Host.absf main_arg0
  let main_cst : FVec F S_ .f32 := constant S_ .f32 0x7F800000#32
  let main_v1 : FVec F S4096x896 .f32 := broadcastInDim S4096x896 ![] bcast_S_S4096x896 main_cst
  let main_v2 : IVec S4096x896 1 := cmpf .olt main_v0 main_v1
  let main_v3 : FVec F S4096x896 .f32 := (extractStridedSlice S4096x896 ![0, 384] · slices_S4096x1280_S4096x896_0_384) main_arg1
  let main_v4 : FVec F S4096x896 .f32 := Host.absf main_v3
  let main_cst_0 : FVec F S_ .f32 := constant S_ .f32 0x7F800000#32
  let main_v5 : FVec F S4096x896 .f32 := broadcastInDim S4096x896 ![] bcast_S_S4096x896 main_cst_0
  let main_v6 : IVec S4096x896 1 := cmpf .olt main_v4 main_v5
  let main_v7 : IVec S4096x896 1 := andi main_v2 main_v6
  let main_v8 : FVec F S896 .f32 := Host.absf main_arg4
  let main_cst_1 : FVec F S_ .f32 := constant S_ .f32 0x7F800000#32
  let main_v9 : FVec F S896 .f32 := broadcastInDim S896 ![] bcast_S_S896 main_cst_1
  let main_v10 : IVec S896 1 := cmpf .olt main_v8 main_v9
  let main_v11 : IVec S1x896 1 := broadcastInDim S1x896 ![1] bcast_S896_S1x896_1 main_v10
  let main_v12 : IVec S4096x896 1 := broadcastInDim S4096x896 ![0, 1] bcast_S1x896_S4096x896_0_1 main_v11
  let main_v13 : IVec S4096x896 1 := andi main_v7 main_v12
  main_v13
-- ==== Kernel.lean ====
abbrev S1x4096x6x64 : Shape := ⟨4, ![1, 4096, 6, 64]⟩
abbrev S1x4096x6 : Shape := ⟨3, ![1, 4096, 6]⟩
abbrev S1024x4x384 : Shape := ⟨3, ![1024, 4, 384]⟩
abbrev S4x1024x384 : Shape := ⟨3, ![4, 1024, 384]⟩
abbrev S_ : Shape := ⟨0, ![]⟩
abbrev S4x1024x1152 : Shape := ⟨3, ![4, 1024, 1152]⟩
abbrev S4096x1152 : Shape := ⟨2, ![4096, 1152]⟩
abbrev S4096x384 : Shape := ⟨2, ![4096, 384]⟩
abbrev S128x384 : Shape := ⟨2, ![128, 384]⟩
abbrev S128x256 : Shape := ⟨2, ![128, 256]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1x4096x384 : Shape := ⟨3, ![1, 4096, 384]⟩
abbrev S256x384 : Shape := ⟨2, ![256, 384]⟩

abbrev nBuf : Space → Nat
  | .hbm => 35
  | .vmem => 36
  | .smem => 0
  | _ => 0

abbrev bufTy : (tb : Table) → Fin (tcTables nBuf tb) → BufTy
  | .hbm, ⟨0, _⟩ => ⟨S1x4096x6x64, .f32⟩
  | .hbm, ⟨1, _⟩ => ⟨S1x4096x6x64, .f32⟩
  | .hbm, ⟨2, _⟩ => ⟨S1x4096x6x64, .f32⟩
  | .hbm, ⟨3, _⟩ => ⟨S1x4096x6x64, .f32⟩
  | .hbm, ⟨4, _⟩ => ⟨S1x4096x6, .f32⟩
  | .hbm, ⟨5, _⟩ => ⟨S1024x4x384, .f32⟩
  | .hbm, ⟨6, _⟩ => ⟨S4x1024x384, .f32⟩
  | .hbm, ⟨7, _⟩ => ⟨S_, .f32⟩
  | .hbm, ⟨8, _⟩ => ⟨S4x1024x384, .f32⟩
  | .hbm, ⟨9, _⟩ => ⟨S4x1024x384, .f32⟩
  | .hbm, ⟨10, _⟩ => ⟨S1024x4x384, .f32⟩
  | .hbm, ⟨11, _⟩ => ⟨S4x1024x384, .f32⟩
  | .hbm, ⟨12, _⟩ => ⟨S1024x4x384, .f32⟩
  | .hbm, ⟨13, _⟩ => ⟨S4x1024x384, .f32⟩
  | .hbm, ⟨14, _⟩ => ⟨S4x1024x1152, .f32⟩
  | .hbm, ⟨15, _⟩ => ⟨S4x1024x1152, .bf16⟩
  | .hbm, ⟨16, _⟩ => ⟨S4096x1152, .bf16⟩
  | .hbm, ⟨17, _⟩ => ⟨S4096x384, .f32⟩
  | .hbm, ⟨18, _⟩ => ⟨S4096x384, .f32⟩
  | .hbm, ⟨19, _⟩ => ⟨S4x1024x384, .f32⟩
  | .hbm, ⟨20, _⟩ => ⟨S4x1024x384, .f32⟩
  | .hbm, ⟨21, _⟩ => ⟨S1024x4x384, .f32⟩
  | .hbm, ⟨22, _⟩ => ⟨S4x1024x384, .f32⟩
  | .hbm, ⟨23, _⟩ => ⟨S1x4096x6x64, .f32⟩
  | .hbm, ⟨24, _⟩ => ⟨S1x4096x384, .f32⟩
  | .hbm, ⟨25, _⟩ => ⟨S1024x4x384, .f32⟩
  | .hbm, ⟨26, _⟩ => ⟨S4x1024x384, .f32⟩
  | .hbm, ⟨27, _⟩ => ⟨S4096x1152, .bf16⟩
  | .hbm, ⟨28, _⟩ => ⟨S4096x384, .f32⟩
  | .hbm, ⟨29, _⟩ => ⟨S4096x384, .f32⟩
  | .hbm, ⟨30, _⟩ => ⟨S4096x384, .f32⟩
  | .hbm, ⟨31, _⟩ => ⟨S4096x384, .f32⟩
  | .hbm, ⟨32, _⟩ => ⟨S4096x384, .f32⟩
  | .hbm, ⟨33, _⟩ => ⟨S4096x384, .f32⟩
  | .hbm, ⟨34, _⟩ => ⟨S4096x384, .f32⟩
  | .local _ .vmem, ⟨0, _⟩ => ⟨S128x384, .bf16⟩
  | .local _ .vmem, ⟨1, _⟩ => ⟨S128x384, .bf16⟩
  | .local _ .vmem, ⟨2, _⟩ => ⟨S128x384, .bf16⟩
  | .local _ .vmem, ⟨3, _⟩ => ⟨S128x384, .bf16⟩
  | .local _ .vmem, ⟨4, _⟩ => ⟨S128x384, .bf16⟩
  | .local _ .vmem, ⟨5, _⟩ => ⟨S128x384, .bf16⟩
  | .local _ .vmem, ⟨6, _⟩ => ⟨S128x384, .bf16⟩
  | .local _ .vmem, ⟨7, _⟩ => ⟨S128x384, .bf16⟩
  | .local _ .vmem, ⟨8, _⟩ => ⟨S128x384, .bf16⟩
  | .local _ .vmem, ⟨9, _⟩ => ⟨S128x384, .bf16⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .bf16⟩
  | .local _ .vmem, ⟨15, _⟩ => ⟨S128x384, .bf16⟩
  | .local _ .vmem, ⟨16, _⟩ => ⟨S128x384, .bf16⟩
  | .local _ .vmem, ⟨17, _⟩ => ⟨S128x384, .bf16⟩
  | .local _ .vmem, ⟨18, _⟩ => ⟨S128x384, .bf16⟩
  | .local _ .vmem, ⟨19, _⟩ => ⟨S128x384, .bf16⟩
  | .local _ .vmem, ⟨20, _⟩ => ⟨S128x384, .bf16⟩
  | .local _ .vmem, ⟨21, _⟩ => ⟨S128x384, .bf16⟩
  | .local _ .vmem, ⟨22, _⟩ => ⟨S128x384, .bf16⟩
  | .local _ .vmem, ⟨23, _⟩ => ⟨S128x384, .bf16⟩
  | .local _ .vmem, ⟨24, _⟩ => ⟨S128x384, .f32⟩
  | .local _ .vmem, ⟨25, _⟩ => ⟨S128x384, .f32⟩
  | .local _ .vmem, ⟨26, _⟩ => ⟨S128x384, .f32⟩
  | .local _ .vmem, ⟨27, _⟩ => ⟨S128x384, .f32⟩
  | .local _ .vmem, ⟨28, _⟩ => ⟨S128x384, .f32⟩
  | .local _ .vmem, ⟨29, _⟩ => ⟨S128x384, .f32⟩
  | .local _ .vmem, ⟨30, _⟩ => ⟨S128x384, .f32⟩
  | .local _ .vmem, ⟨31, _⟩ => ⟨S128x384, .f32⟩
  | .local _ .vmem, ⟨32, _⟩ => ⟨S128x384, .f32⟩
  | .local _ .vmem, ⟨33, _⟩ => ⟨S128x384, .f32⟩
  | .local _ .vmem, ⟨34, _⟩ => ⟨S4096x384, .f32⟩
  | .local _ .vmem, ⟨35, _⟩ => ⟨S4096x384, .f32⟩
  | _, _ => ⟨S1x4096x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg11_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem11_0 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c1_i32 : BitVec 32 := 1#32
  let v21 : BitVec 32 := Scalar.subi arg0 c1_i32
  let c0_i32_5 : BitVec 32 := 0#32
  let v22 : BitVec 32 := Scalar.maxsi v21 c0_i32_5
  let c128_i32_6 : BitVec 32 := 128#32
  let v23 : BitVec 32 := Scalar.muli v22 c128_i32_6
  v23
def k1_mult2 (i : grid1.Coords) : BitVec 32 :=
  let arg0 : BitVec 32 := BitVec.ofNat 32 (i 0).val
  let c128_i32_7 : BitVec 32 := 128#32
  let v25 : BitVec 32 := Scalar.muli arg0 c128_i32_7
  v25
def k1_off1 (i : grid1.Coords) : Fin 2 → Nat :=
  let arg0 : BitVec 32 := BitVec.ofNat 32 (i 0).val
  let c1_i32 : BitVec 32 := 1#32
  let v21 : BitVec 32 := Scalar.subi arg0 c1_i32
  let c0_i32_5 : BitVec 32 := 0#32
  let v22 : BitVec 32 := Scalar.maxsi v21 c0_i32_5
  let c128_i32_6 : BitVec 32 := 128#32
  let v23 : BitVec 32 := Scalar.muli v22 c128_i32_6
  let v24 : BitVec 32 := v23
  let v279 : Index := Scalar.indexCast v24
  let c0_154 : Index := 0#32
  ![v279.toNat, 0]
def k1_off2 (i : grid1.Coords) : Fin 2 → Nat :=
  let arg0 : BitVec 32 := BitVec.ofNat 32 (i 0).val
  let c128_i32_7 : BitVec 32 := 128#32
  let v25 : BitVec 32 := Scalar.muli arg0 c128_i32_7
  let v26 : BitVec 32 := v25
  let v293 : Index := Scalar.indexCast v26
  let c0_158 : Index := 0#32
  ![v293.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc1_transform_4 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x384 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x384 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S4096x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4096x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== KernelIdeal.lean ====
variable {F : FTy → Type} [FloatOps F] [Named F]
def κ : String → Option EReal := fun
  | "mask" => some ⊥
  | _ => none
-- ==== ReferenceIdeal.lean ====
abbrev S1x4096x6x64 : Shape := ⟨4, ![1, 4096, 6, 64]⟩
abbrev S1x4096x6 : Shape := ⟨3, ![1, 4096, 6]⟩
abbrev S1x1024x4x6x64 : Shape := ⟨5, ![1, 1024, 4, 6, 64]⟩
abbrev S1x4x6x1024x64 : Shape := ⟨5, ![1, 4, 6, 1024, 64]⟩
abbrev S1x4x6x8x128x64 : Shape := ⟨6, ![1, 4, 6, 8, 128, 64]⟩
abbrev S1x4x6x1x128x64 : Shape := ⟨6, ![1, 4, 6, 1, 128, 64]⟩
abbrev S_ : Shape := ⟨0, ![]⟩
abbrev S1x4x6x7x128x64 : Shape := ⟨6, ![1, 4, 6, 7, 128, 64]⟩
abbrev S1x4x6x8x256x64 : Shape := ⟨6, ![1, 4, 6, 8, 256, 64]⟩
abbrev S1x4x6x8x128x256 : Shape := ⟨6, ![1, 4, 6, 8, 128, 256]⟩
abbrev S8 : Shape := ⟨1, ![8]⟩
abbrev S8x1x1 : Shape := ⟨3, ![8, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S8x1x256 : Shape := ⟨3, ![8, 1, 256]⟩
abbrev S8x128x256 : Shape := ⟨3, ![8, 128, 256]⟩
abbrev S1x4x6x8x128 : Shape := ⟨5, ![1, 4, 6, 8, 128]⟩
abbrev S1x4x6x8x128x1 : Shape := ⟨6, ![1, 4, 6, 8, 128, 1]⟩
abbrev S1x4x6x1024 : Shape := ⟨4, ![1, 4, 6, 1024]⟩
abbrev S1x1024x4x6 : Shape := ⟨4, ![1, 1024, 4, 6]⟩
abbrev S1x4x6x8x64x256 : Shape := ⟨6, ![1, 4, 6, 8, 64, 256]⟩
abbrev S4x6x8x128 : Shape := ⟨4, ![4, 6, 8, 128]⟩
abbrev S1024x4x384 : Shape := ⟨3, ![1024, 4, 384]⟩
abbrev S4x1024x384 : Shape := ⟨3, ![4, 1024, 384]⟩
abbrev S4096x384 : Shape := ⟨2, ![4096, 384]⟩

abbrev nBuf : Space → Nat
  | .hbm => 164
  | .vmem => 0
  | .smem => 0
  | _ => 0

abbrev hbmTy0_0 (i : Nat) : BufTy := match i % 128 with
  | 0 => ⟨S1x4096x6x64, .f32⟩
  | 1 => ⟨S1x4096x6x64, .f32⟩
  | 2 => ⟨S1x4096x6x64, .f32⟩
  | 3 => ⟨S1x4096x6x64, .f32⟩
  | 4 => ⟨S1x4096x6, .f32⟩
  | 5 => ⟨S1x1024x4x6x64, .f32⟩
  | 6 => ⟨S1x4x6x1024x64, .f32⟩
  | 7 => ⟨S1x1024x4x6x64, .f32⟩
  | 8 => ⟨S1x4x6x1024x64, .f32⟩
  | 9 => ⟨S1x1024x4x6x64, .f32⟩
  | 10 => ⟨S1x4x6x1024x64, .f32⟩
  | 11 => ⟨S1x4x6x8x128x64, .f32⟩
  | 12 => ⟨S1x4x6x8x128x64, .f32⟩
  | 13 => ⟨S1x4x6x8x128x64, .f32⟩
  | 14 => ⟨S1x4x6x1x128x64, .f32⟩
  | 15 => ⟨S_, .f32⟩
  | 16 => ⟨S1x4x6x1x128x64, .f32⟩
  | 17 => ⟨S1x4x6x7x128x64, .f32⟩
  | 18 => ⟨S1x4x6x8x128x64, .f32⟩
  | 19 => ⟨S_, .f32⟩
  | 20 => ⟨S1x4x6x1x128x64, .f32⟩
  | 21 => ⟨S1x4x6x8x256x64, .f32⟩
  | 22 => ⟨S1x4x6x1x128x64, .f32⟩
  | 23 => ⟨S_, .f32⟩
  | 24 => ⟨S1x4x6x1x128x64, .f32⟩
  | 25 => ⟨S1x4x6x7x128x64, .f32⟩
  | 26 => ⟨S1x4x6x8x128x64, .f32⟩
  | 27 => ⟨S_, .f32⟩
  | 28 => ⟨S1x4x6x1x128x64, .f32⟩
  | 29 => ⟨S1x4x6x8x256x64, .f32⟩
  | 30 => ⟨S1x4x6x8x128x256, .f32⟩
  | 31 => ⟨S_, .f32⟩
  | 32 => ⟨S1x4x6x8x128x256, .f32⟩
  | 33 => ⟨S1x4x6x8x128x256, .f32⟩
  | 34 => ⟨S8, .i32⟩
  | 35 => ⟨S8x1x1, .i32⟩
  | 36 => ⟨S128, .i32⟩
  | 37 => ⟨S1x128x1, .i32⟩
  | 38 => ⟨S256, .i32⟩
  | 39 => ⟨S1x1x256, .i32⟩
  | 40 => ⟨S_, .i32⟩
  | 41 => ⟨S1x128x1, .i32⟩
  | 42 => ⟨S1x128x1, .i32⟩
  | 43 => ⟨S1x128x256, .i32⟩
  | 44 => ⟨S1x128x256, .i32⟩
  | 45 => ⟨S1x128x256, .i32⟩
  | 46 => ⟨S_, .i32⟩
  | 47 => ⟨S1x128x256, .i32⟩
  | 48 => ⟨S1x128x256, .i1⟩
  | 49 => ⟨S_, .i32⟩
  | 50 => ⟨S1x128x256, .i32⟩
  | 51 => ⟨S1x128x256, .i1⟩
  | 52 => ⟨S1x128x256, .i1⟩
  | 53 => ⟨S_, .i32⟩
  | 54 => ⟨S8x1x1, .i32⟩
  | 55 => ⟨S8x1x1, .i32⟩
  | 56 => ⟨S_, .i32⟩
  | 57 => ⟨S8x1x1, .i32⟩
  | 58 => ⟨S8x1x1, .i32⟩
  | 59 => ⟨S8x1x256, .i32⟩
  | 60 => ⟨S8x1x256, .i32⟩
  | 61 => ⟨S8x1x256, .i32⟩
  | 62 => ⟨S_, .i32⟩
  | 63 => ⟨S8x1x256, .i32⟩
  | 64 => ⟨S8x1x256, .i1⟩
  | 65 => ⟨S8x128x256, .i1⟩
  | 66 => ⟨S8x128x256, .i1⟩
  | 67 => ⟨S8x128x256, .i1⟩
  | 68 => ⟨S_, .f32⟩
  | 69 => ⟨S_, .f32⟩
  | 70 => ⟨S1x4x6x8x128x256, .i1⟩
  | 71 => ⟨S1x4x6x8x128x256, .f32⟩
  | 72 => ⟨S1x4x6x8x128x256, .f32⟩
  | 73 => ⟨S_, .f32⟩
  | 74 => ⟨S1x4x6x8x128x256, .f32⟩
  | 75 => ⟨S_, .f32⟩
  | 76 => ⟨S1x4x6x8x128, .f32⟩
  | 77 => ⟨S1x4x6x8x128x1, .f32⟩
  | 78 => ⟨S1x4x6x8x128x256, .f32⟩
  | 79 => ⟨S1x4x6x8x128x256, .i1⟩
  | 80 => ⟨S1x4x6x8x128x256, .f32⟩
  | 81 => ⟨S_, .f32⟩
  | 82 => ⟨S1x4x6x8x128, .f32⟩
  | 83 => ⟨S1x4x6x8x128x1, .f32⟩
  | 84 => ⟨S1x4x6x8x128x256, .f32⟩
  | 85 => ⟨S1x4x6x8x128x256, .f32⟩
  | 86 => ⟨S1x4x6x8x128x256, .f32⟩
  | 87 => ⟨S_, .f32⟩
  | 88 => ⟨S1x4x6x8x128, .f32⟩
  | 89 => ⟨S1x4x6x8x128, .f32⟩
  | 90 => ⟨S1x4x6x8x128, .f32⟩
  | 91 => ⟨S1x4x6x8x128x1, .f32⟩
  | 92 => ⟨S1x4x6x8x128x256, .f32⟩
  | 93 => ⟨S1x4x6x8x128x256, .f32⟩
  | 94 => ⟨S1x4x6x8x128x256, .f32⟩
  | 95 => ⟨S1x4x6x8x128x64, .f32⟩
  | 96 => ⟨S1x4x6x1024x64, .f32⟩
  | 97 => ⟨S1x1024x4x6x64, .f32⟩
  | 98 => ⟨S1x4096x6x64, .f32⟩
  | 99 => ⟨S1x4x6x1024, .f32⟩
  | 100 => ⟨S1x1024x4x6, .f32⟩
  | 101 => ⟨S1x4096x6, .f32⟩
  | 102 => ⟨S1x1024x4x6, .f32⟩
  | 103 => ⟨S1x4x6x1024, .f32⟩
  | 104 => ⟨S1x4x6x8x128, .f32⟩
  | 105 => ⟨S1x1024x4x6x64, .f32⟩
  | 106 => ⟨S1x4x6x1024x64, .f32⟩
  | 107 => ⟨S1x4x6x8x128x64, .f32⟩
  | 108 => ⟨S1x4x6x8x64x256, .f32⟩
  | 109 => ⟨S1x4x6x8x256x64, .f32⟩
  | 110 => ⟨S1x4x6x8x128x256, .f32⟩
  | 111 => ⟨S1x4x6x8x128x256, .f32⟩
  | 112 => ⟨S1x4x6x8x128x256, .f32⟩
  | 113 => ⟨S_, .f32⟩
  | 114 => ⟨S1x4x6x8x128, .f32⟩
  | 115 => ⟨S1x4x6x8x128x1, .f32⟩
  | 116 => ⟨S_, .f32⟩
  | 117 => ⟨S4x6x8x128, .f32⟩
  | 118 => ⟨S1x4x6x8x128, .f32⟩
  | 119 => ⟨S1x4x6x8x128, .f32⟩
  | 120 => ⟨S1x4x6x8x128, .f32⟩
  | 121 => ⟨S1x4x6x8x128x256, .f32⟩
  | 122 => ⟨S1x4x6x8x128x256, .f32⟩
  | 123 => ⟨S1x4x6x8x128x256, .f32⟩
  | 124 => ⟨S_, .f32⟩
  | 125 => ⟨S1x4x6x8x128x256, .f32⟩
  | 126 => ⟨S1x4x6x8x128x256, .f32⟩
  | 127 => ⟨S_, .f32⟩
  | _ => ⟨S1x4096x6x64, .f32⟩

abbrev hbmTy0_1 (i : Nat) : BufTy := match i % 128 with
  | 0 => ⟨S1x4x6x8x128x256, .f32⟩
  | 1 => ⟨S1x4x6x8x128x256, .f32⟩
  | 2 => ⟨S1x4x6x8x256x64, .f32⟩
  | 3 => ⟨S1x4x6x8x128x64, .f32⟩
  | 4 => ⟨S1x4x6x8x128x64, .f32⟩
  | 5 => ⟨S1x4x6x8x128x64, .f32⟩
  | 6 => ⟨S1x4x6x1x128x64, .f32⟩
  | 7 => ⟨S1x4x6x7x128x64, .f32⟩
  | 8 => ⟨S_, .f32⟩
  | 9 => ⟨S1x4x6x8x128x64, .f32⟩
  | 10 => ⟨S1x4x6x8x128x64, .f32⟩
  | 11 => ⟨S1x4x6x8x128x64, .f32⟩
  | 12 => ⟨S1x4x6x8x128x64, .f32⟩
  | 13 => ⟨S1x4x6x1x128x64, .f32⟩
  | 14 => ⟨S1x4x6x7x128x64, .f32⟩
  | 15 => ⟨S_, .f32⟩
  | 16 => ⟨S1x4x6x8x128x64, .f32⟩
  | 17 => ⟨S1x4x6x8x128x64, .f32⟩
  | 18 => ⟨S1x4x6x1024x64, .f32⟩
  | 19 => ⟨S1x4x6x1024x64, .f32⟩
  | 20 => ⟨S1x4x6x1024x64, .f32⟩
  | 21 => ⟨S1x1024x4x6x64, .f32⟩
  | 22 => ⟨S1x4096x6x64, .f32⟩
  | 23 => ⟨S1x1024x4x6x64, .f32⟩
  | 24 => ⟨S1x4096x6x64, .f32⟩
  | 25 => ⟨S1x1024x4x6x64, .f32⟩
  | 26 => ⟨S1x4096x6x64, .f32⟩
  | 27 => ⟨S1024x4x384, .f32⟩
  | 28 => ⟨S4x1024x384, .f32⟩
  | 29 => ⟨S4096x384, .f32⟩
  | 30 => ⟨S1024x4x384, .f32⟩
  | 31 => ⟨S4x1024x384, .f32⟩
  | 32 => ⟨S4096x384, .f32⟩
  | 33 => ⟨S1024x4x384, .f32⟩
  | 34 => ⟨S4x1024x384, .f32⟩
  | 35 => ⟨S4096x384, .f32⟩
  | _ => ⟨S1x4096x6x64, .f32⟩

abbrev hbmTy (i : Nat) : BufTy := match i / 128 with
  | 0 => hbmTy0_0 i
  | 1 => hbmTy0_1 i
  | _ => ⟨S1x4096x6x64, .f32⟩

abbrev bufTy : (tb : Table) → Fin (tcTables nBuf tb) → BufTy
  | .hbm, ⟨i, _⟩ => hbmTy i
  | _, _ => ⟨S1x4096x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_call0_v0 : Ref sig .tc := ⟨.hbm, 69, rfl⟩
abbrev main_v52_1 : Ref sig .tc := ⟨.hbm, 70, rfl⟩
abbrev main_call0_v2 : Ref sig .tc := ⟨.hbm, 71, rfl⟩
abbrev main_v52_0 : Ref sig .tc := ⟨.hbm, 72, rfl⟩
abbrev main_call0_cst : Ref sig .tc := ⟨.hbm, 73, rfl⟩
abbrev main_v52_2 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_13 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_call1_cst : Ref sig .tc := ⟨.hbm, 124, rfl⟩
abbrev main_call1_v0 : Ref sig .tc := ⟨.hbm, 125, rfl⟩
abbrev main_v97 : Ref sig .tc := ⟨.hbm, 126, rfl⟩
abbrev main_cst_15 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_16 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_17 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩

abbrev nD : Nat := 1
abbrev τ : Topo := Topo.v7x

variable {F : FTy → Type} [FloatOps F]
-- ==== Kernel2.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 7
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x2048, .bf16⟩
  | .hbm, ⟨4, _⟩ => ⟨S8192x2048, .bf16⟩
  | .hbm, ⟨5, _⟩ => ⟨S4096x8192, .bf16⟩
  | .hbm, ⟨6, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S2048x8192, .f32⟩
  | .hbm, ⟨17, _⟩ => ⟨S8192x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .bf16⟩
  | .hbm, ⟨9, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S2048x8192, .f32⟩
  | .hbm, ⟨17, _⟩ => ⟨S8192x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S4096x2048 : Shape := ⟨2, ![4096, 2048]⟩
abbrev S2048x8192 : Shape := ⟨2, ![2048, 8192]⟩
abbrev S4096x8192 : Shape := ⟨2, ![4096, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S2048x8x1024, .f32⟩
  | .hbm, ⟨5, _⟩ => ⟨S8x2048x1024, .f32⟩
  | .hbm, ⟨6, _⟩ => ⟨S8x2048x1024, .bf16⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_12 : BitVec 32 := 3#32
  let v21 : BitVec 1 := Scalar.cmpi .eq arg2 c3_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S4096x2048, .f32⟩
  | .hbm, ⟨7, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2048 : Shape := ⟨2, ![4096, 2048]⟩
abbrev S2048x8192 : Shape := ⟨2, ![2048, 8192]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x2048, .bf16⟩
  | .hbm, ⟨4, _⟩ => ⟨S4096x8192, .bf16⟩
  | .hbm, ⟨5, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S4096x2048, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S4096x8192 : Shape := ⟨2, ![4096, 8192]⟩
abbrev S8192x2048 : Shape := ⟨2, ![8192, 2048]⟩
abbrev S_ : Shape := ⟨0, ![]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .hbm, ⟨8, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x8192 : Shape := ⟨2, ![4096, 8192]⟩
abbrev S8192x2048 : Shape := ⟨2, ![8192, 2048]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x2816 : Shape := ⟨2, ![2048, 2816]⟩
abbrev S2816x2048 : Shape := ⟨2, ![2816, 2048]⟩
abbrev S4096x2816 : Shape := ⟨2, ![4096, 2816]⟩
abbrev S512x2048 : Shape := ⟨2, ![512, 2048]⟩
abbrev S512x2816 : Shape := ⟨2, ![512, 2816]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2816, .f32⟩
  | .hbm, ⟨2, _⟩ => ⟨S4096x2048, .bf16⟩
  | .hbm, ⟨3, _⟩ => ⟨S2816x2048, .f32⟩
  | .hbm, ⟨4, _⟩ => ⟨S2816x2048, .bf16⟩
  | .hbm, ⟨5, _⟩ => ⟨S4096x2816, .f32⟩
  | .local _ .vmem, ⟨0, _⟩ => ⟨S512x2048, .bf16⟩
  | .local _ .vmem, ⟨1, _⟩ => ⟨S512x2048, .bf16⟩
  | .local _ .vmem, ⟨2, _⟩ => ⟨S2816x2048, .bf16⟩
  | .local _ .vmem, ⟨3, _⟩ => ⟨S512x2816, .f32⟩
  | .local _ .vmem, ⟨4, _⟩ => ⟨S512x2816, .f32⟩
  | .local _ .vmem, ⟨5, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2816 : Shape := ⟨2, ![2048, 2816]⟩
abbrev S4096x2816 : Shape := ⟨2, ![4096, 2816]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2816, .f32⟩
  | .hbm, ⟨2, _⟩ => ⟨S4096x2816, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x1280 : Shape := ⟨2, ![4096, 1280]⟩
abbrev S1280x2048 : Shape := ⟨2, ![1280, 2048]⟩
abbrev S4096x2048 : Shape := ⟨2, ![4096, 2048]⟩
abbrev S1024x1280 : Shape := ⟨2, ![1024, 1280]⟩
abbrev S1280x1024 : Shape := ⟨2, ![1280, 1024]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x1280, .f32⟩
  | .hbm, ⟨1, _⟩ => ⟨S1280x2048, .f32⟩
  | .hbm, ⟨2, _⟩ => ⟨S4096x1280, .bf16⟩
  | .hbm, ⟨3, _⟩ => ⟨S1280x2048, .bf16⟩
  | .hbm, ⟨4, _⟩ => ⟨S4096x2048, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1280 : Shape := ⟨2, ![4096, 1280]⟩
abbrev S1280x2048 : Shape := ⟨2, ![1280, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1280x2048, .f32⟩
  | .hbm, ⟨2, _⟩ => ⟨S4096x2048, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4096x1280 : Shape := ⟨2, ![4096, 1280]⟩
abbrev S1280x2048 : Shape := ⟨2, ![1280, 2048]⟩
abbrev S4096x2048 : Shape := ⟨2, ![4096, 2048]⟩
abbrev S1024x2048 : Shape := ⟨2, ![1024, 2048]⟩
abbrev S1024x1280 : Shape := ⟨2, ![1024, 1280]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x1280, .f32⟩
  | .hbm, ⟨1, _⟩ => ⟨S1280x2048, .f32⟩
  | .hbm, ⟨2, _⟩ => ⟨S4096x2048, .f32⟩
  | .hbm, ⟨3, _⟩ => ⟨S4096x2048, .bf16⟩
  | .hbm, ⟨4, _⟩ => ⟨S1280x2048, .bf16⟩
  | .hbm, ⟨5, _⟩ => ⟨S4096x1280, .bf16⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1024x1280, .bf16⟩
  | .local _ .vmem, ⟨4, _⟩ => ⟨S1024x1280, .bf16⟩
  | .local _ .vmem, ⟨5, _⟩ => ⟨S8x128, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1280 : Shape := ⟨2, ![4096, 1280]⟩
abbrev S1280x2048 : Shape := ⟨2, ![1280, 2048]⟩
abbrev S4096x2048 : Shape := ⟨2, ![4096, 2048]⟩
abbrev S2048x1280 : Shape := ⟨2, ![2048, 1280]⟩

abbrev nBuf : Space → Nat
  | .hbm => 8
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1280x2048, .f32⟩
  | .hbm, ⟨2, _⟩ => ⟨S4096x2048, .f32⟩
  | .hbm, ⟨3, _⟩ => ⟨S4096x2048, .f32⟩
  | .hbm, ⟨4, _⟩ => ⟨S2048x1280, .f32⟩
  | .hbm, ⟨5, _⟩ => ⟨S1280x2048, .f32⟩
  | .hbm, ⟨6, _⟩ => ⟨S4096x1280, .f32⟩
  | .hbm, ⟨7, _⟩ => ⟨S4096x1280, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1280 : Shape := ⟨2, ![4096, 1280]⟩
abbrev S1280x2048 : Shape := ⟨2, ![1280, 2048]⟩
abbrev S4096x2048 : Shape := ⟨2, ![4096, 2048]⟩
abbrev S2048x640 : Shape := ⟨2, ![2048, 640]⟩
abbrev S2048x1024 : Shape := ⟨2, ![2048, 1024]⟩
abbrev S640x1024 : Shape := ⟨2, ![640, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1280, .f32⟩
  | .hbm, ⟨1, _⟩ => ⟨S1280x2048, .f32⟩
  | .hbm, ⟨2, _⟩ => ⟨S4096x2048, .f32⟩
  | .hbm, ⟨3, _⟩ => ⟨S4096x1280, .bf16⟩
  | .hbm, ⟨4, _⟩ => ⟨S4096x2048, .bf16⟩
  | .hbm, ⟨5, _⟩ => ⟨S1280x2048, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1280 : Shape := ⟨2, ![4096, 1280]⟩
abbrev S1280x2048 : Shape := ⟨2, ![1280, 2048]⟩
abbrev S4096x2048 : Shape := ⟨2, ![4096, 2048]⟩
abbrev S2048x1280 : Shape := ⟨2, ![2048, 1280]⟩

abbrev nBuf : Space → Nat
  | .hbm => 8
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1280x2048, .f32⟩
  | .hbm, ⟨2, _⟩ => ⟨S4096x2048, .f32⟩
  | .hbm, ⟨3, _⟩ => ⟨S4096x2048, .f32⟩
  | .hbm, ⟨4, _⟩ => ⟨S2048x1280, .f32⟩
  | .hbm, ⟨5, _⟩ => ⟨S1280x2048, .f32⟩
  | .hbm, ⟨6, _⟩ => ⟨S4096x1280, .f32⟩
  | .hbm, ⟨7, _⟩ => ⟨S1280x2048, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x2048 : Shape := ⟨2, ![4096, 2048]⟩
abbrev S2048x2816 : Shape := ⟨2, ![2048, 2816]⟩
abbrev S4096x2816 : Shape := ⟨2, ![4096, 2816]⟩
abbrev S2816x2048 : Shape := ⟨2, ![2816, 2048]⟩
abbrev S1024x2816 : Shape := ⟨2, ![1024, 2816]⟩
abbrev S2816x1024 : Shape := ⟨2, ![2816, 1024]⟩
abbrev S1024x1024 : Shape := ⟨2, ![1024, 1024]⟩
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2816, .f32⟩
  | .hbm, ⟨2, _⟩ => ⟨S4096x2816, .f32⟩
  | .hbm, ⟨3, _⟩ => ⟨S4096x2816, .bf16⟩
  | .hbm, ⟨4, _⟩ => ⟨S2816x2048, .f32⟩
  | .hbm, ⟨5, _⟩ => ⟨S2816x2048, .bf16⟩
  | .hbm, ⟨6, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2816 : Shape := ⟨2, ![2048, 2816]⟩
abbrev S4096x2816 : Shape := ⟨2, ![4096, 2816]⟩
abbrev S2816x2048 : Shape := ⟨2, ![2816, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2816, .f32⟩
  | .hbm, ⟨2, _⟩ => ⟨S4096x2816, .f32⟩
  | .hbm, ⟨3, _⟩ => ⟨S4096x2816, .f32⟩
  | .hbm, ⟨4, _⟩ => ⟨S2816x2048, .f32⟩
  | .hbm, ⟨5, _⟩ => ⟨S2048x2816, .f32⟩
  | .hbm, ⟨6, _⟩ => ⟨S4096x2048, .f32⟩
  | .hbm, ⟨7, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x2048 : Shape := ⟨2, ![4096, 2048]⟩
abbrev S2048x2816 : Shape := ⟨2, ![2048, 2816]⟩
abbrev S4096x2816 : Shape := ⟨2, ![4096, 2816]⟩
abbrev S2816x2048 : Shape := ⟨2, ![2816, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2816, .f32⟩
  | .hbm, ⟨2, _⟩ => ⟨S4096x2816, .f32⟩
  | .hbm, ⟨3, _⟩ => ⟨S4096x2816, .bf16⟩
  | .hbm, ⟨4, _⟩ => ⟨S4096x2048, .bf16⟩
  | .hbm, ⟨5, _⟩ => ⟨S2816x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2816 : Shape := ⟨2, ![2048, 2816]⟩
abbrev S4096x2816 : Shape := ⟨2, ![4096, 2816]⟩
abbrev S2816x2048 : Shape := ⟨2, ![2816, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2816, .f32⟩
  | .hbm, ⟨2, _⟩ => ⟨S4096x2816, .f32⟩
  | .hbm, ⟨3, _⟩ => ⟨S4096x2816, .f32⟩
  | .hbm, ⟨4, _⟩ => ⟨S2816x2048, .f32⟩
  | .hbm, ⟨5, _⟩ => ⟨S2048x2816, .f32⟩
  | .hbm, ⟨6, _⟩ => ⟨S4096x2048, .f32⟩
  | .hbm, ⟨7, _⟩ => ⟨S2816x2048, .f32⟩
  | .hbm, ⟨8, _⟩ => ⟨S2816x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x896 : Shape := ⟨2, ![4096, 896]⟩
abbrev S896x896 : Shape := ⟨2, ![896, 896]⟩
abbrev S896 : Shape := ⟨1, ![896]⟩
abbrev S1x896 : Shape := ⟨2, ![1, 896]⟩
abbrev S256x896 : Shape := ⟨2, ![256, 896]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x896, .f32⟩
  | .hbm, ⟨1, _⟩ => ⟨S896x896, .f32⟩
  | .hbm, ⟨2, _⟩ => ⟨S896, .f32⟩
  | .hbm, ⟨3, _⟩ => ⟨S896, .f32⟩
  | .hbm, ⟨4, _⟩ => ⟨S896x896, .bf16⟩
  | .hbm, ⟨5, _⟩ => ⟨S1x896, .f32⟩
  | .hbm, ⟨6, _⟩ => ⟨S1x896, .f32⟩
  | .hbm, ⟨7, _⟩ => ⟨S4096x896, .bf16⟩
  | .local _ .vmem, ⟨0, _⟩ => ⟨S256x896, .f32⟩
  | .local _ .vmem, ⟨1, _⟩ => ⟨S256x896, .f32⟩
  | .local _ .vmem, ⟨2, _⟩ => ⟨S896x896, .bf16⟩
  | .local _ .vmem, ⟨3, _⟩ => ⟨S1x896, .f32⟩
  | .local _ .vmem, ⟨4, _⟩ => ⟨S1x896, .f32⟩
  | .local _ .vmem, ⟨5, _⟩ => ⟨S256x896, .bf16⟩
  | .local _ .vmem, ⟨6, _⟩ => ⟨S256x896, .bf16⟩
  | _, _ => ⟨S4096x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S896x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4096x896 : Shape := ⟨2, ![4096, 896]⟩
abbrev S896x896 : Shape := ⟨2, ![896, 896]⟩
abbrev S896 : Shape := ⟨1, ![896]⟩
abbrev S_ : Shape := ⟨0, ![]⟩
abbrev S1x896 : Shape := ⟨2, ![1, 896]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x896, .f32⟩
  | .hbm, ⟨1, _⟩ => ⟨S896x896, .f32⟩
  | .hbm, ⟨2, _⟩ => ⟨S896, .f32⟩
  | .hbm, ⟨3, _⟩ => ⟨S896, .f32⟩
  | .hbm, ⟨4, _⟩ => ⟨S4096x896, .f32⟩
  | .hbm, ⟨5, _⟩ => ⟨S4096x896, .f32⟩
  | .hbm, ⟨6, _⟩ => ⟨S_, .f32⟩
  | .hbm, ⟨7, _⟩ => ⟨S4096x896, .f32⟩
  | .hbm, ⟨8, _⟩ => ⟨S4096x896, .f32⟩
  | .hbm, ⟨9, _⟩ => ⟨S4096x896, .f32⟩
  | .hbm, ⟨10, _⟩ => ⟨S_, .f32⟩
  | .hbm, ⟨11, _⟩ => ⟨S4096x896, .f32⟩
  | .hbm, ⟨12, _⟩ => ⟨S4096x896, .f32⟩
  | .hbm, ⟨13, _⟩ => ⟨S4096x896, .f32⟩
  | .hbm, ⟨14, _⟩ => ⟨S_, .f32⟩
  | .hbm, ⟨15, _⟩ => ⟨S4096x896, .f32⟩
  | .hbm, ⟨16, _⟩ => ⟨S4096x896, .f32⟩
  | .hbm, ⟨17, _⟩ => ⟨S_, .f32⟩
  | .hbm, ⟨18, _⟩ => ⟨S4096x896, .f32⟩
  | .hbm, ⟨19, _⟩ => ⟨S4096x896, .f32⟩
  | .hbm, ⟨20, _⟩ => ⟨S4096x896, .f32⟩
  | .hbm, ⟨21, _⟩ => ⟨S4096x896, .f32⟩
  | .hbm, ⟨22, _⟩ => ⟨S1x896, .f32⟩
  | .hbm, ⟨23, _⟩ => ⟨S4096x896, .f32⟩
  | .hbm, ⟨24, _⟩ => ⟨S4096x896, .f32⟩
  | .hbm, ⟨25, _⟩ => ⟨S4096x896, .f32⟩
  | .hbm, ⟨26, _⟩ => ⟨S4096x896, .f32⟩
  | .hbm, ⟨27, _⟩ => ⟨S_, .f32⟩
  | .hbm, ⟨28, _⟩ => ⟨S4096x896, .f32⟩
  | .hbm, ⟨29, _⟩ => ⟨S4096x896, .f32⟩
  | .hbm, ⟨30, _⟩ => ⟨S_, .f32⟩
  | .hbm, ⟨31, _⟩ => ⟨S4096x896, .f32⟩
  | .hbm, ⟨32, _⟩ => ⟨S4096x896, .f32⟩
  | .hbm, ⟨33, _⟩ => ⟨S4096x896, .f32⟩
  | .hbm, ⟨34, _⟩ => ⟨S4096x896, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x896, .f32⟩
  | .hbm, ⟨46, _⟩ => ⟨S4096x896, .f32⟩
  | .hbm, ⟨47, _⟩ => ⟨S1x896, .f32⟩
  | .hbm, ⟨48, _⟩ => ⟨S4096x896, .f32⟩
  | .hbm, ⟨49, _⟩ => ⟨S4096x896, .f32⟩
  | .hbm, ⟨50, _⟩ => ⟨S4096x896, .bf16⟩
  | _, _ => ⟨S4096x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel15.lean ====
abbrev S8x2048 : Shape := ⟨2, ![8, 2048]⟩
abbrev S8x1536 : Shape := ⟨2, ![8, 1536]⟩
abbrev S2048x1536 : Shape := ⟨2, ![2048, 1536]⟩
abbrev S8x256 : Shape := ⟨2, ![8, 256]⟩
abbrev S256x1536 : Shape := ⟨2, ![256, 1536]⟩

abbrev nBuf : Space → Nat
  | .hbm => 9
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S8x256, .f32⟩
  | .local _ .vmem, ⟨1, _⟩ => ⟨S8x256, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S8x2048 : Shape := ⟨2, ![8, 2048]⟩
abbrev S8x1536 : Shape := ⟨2, ![8, 1536]⟩
abbrev S2048x1536 : Shape := ⟨2, ![2048, 1536]⟩
abbrev S_ : Shape := ⟨0, ![]⟩
abbrev S1536x2048 : Shape := ⟨2, ![1536, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x1536, .f32⟩
  | .hbm, ⟨15, _⟩ => ⟨S1536x2048, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S_, .f32⟩
  | .hbm, ⟨21, _⟩ => ⟨S2048x1536, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S_, .f32⟩
  | .hbm, ⟨40, _⟩ => ⟨S2048x1536, .f32⟩
  | .hbm, ⟨41, _⟩ => ⟨S2048x1536, .f32⟩
  | .hbm, ⟨42, _⟩ => ⟨S2048x1536, .f32⟩
  | .hbm, ⟨43, _⟩ => ⟨S_, .f32⟩
  | .hbm, ⟨44, _⟩ => ⟨S2048x1536, .f32⟩
  | .hbm, ⟨45, _⟩ => ⟨S2048x1536, .f32⟩
  | .hbm, ⟨46, _⟩ => ⟨S2048x1536, .f32⟩
  | .hbm, ⟨47, _⟩ => ⟨S_, .f32⟩
  | .hbm, ⟨48, _⟩ => ⟨S2048x1536, .f32⟩
  | .hbm, ⟨49, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel16.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel17.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel18.lean ====
abbrev S8x1944x128 : Shape := ⟨3, ![8, 1944, 128]⟩
abbrev S1944x128 : Shape := ⟨2, ![1944, 128]⟩
abbrev S1x1944x128 : Shape := ⟨3, ![1, 1944, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1944x128, .f32⟩
  | .hbm, ⟨1, _⟩ => ⟨S1944x128, .f32⟩
  | .hbm, ⟨2, _⟩ => ⟨S1944x128, .f32⟩
  | .hbm, ⟨3, _⟩ => ⟨S1944x128, .f32⟩
  | .hbm, ⟨4, _⟩ => ⟨S1944x128, .f32⟩
  | .hbm, ⟨5, _⟩ => ⟨S1944x128, .f32⟩
  | .hbm, ⟨6, _⟩ => ⟨S1944x128, .f32⟩
  | .hbm, ⟨7, _⟩ => ⟨S1944x128, .f32⟩
  | .local _ .vmem, ⟨0, _⟩ => ⟨S8x1944x128, .f32⟩
  | .local _ .vmem, ⟨1, _⟩ => ⟨S1944x128, .f32⟩
  | .local _ .vmem, ⟨2, _⟩ => ⟨S1944x128, .f32⟩
  | .local _ .vmem, ⟨3, _⟩ => ⟨S1944x128, .f32⟩
  | .local _ .vmem, ⟨4, _⟩ => ⟨S1944x128, .f32⟩
  | .local _ .vmem, ⟨5, _⟩ => ⟨S1944x128, .f32⟩
  | .local _ .vmem, ⟨6, _⟩ => ⟨S1944x128, .f32⟩
  | .local _ .vmem, ⟨7, _⟩ => ⟨S1944x128, .f32⟩
  | _, _ => ⟨S8x1944x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1944x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1944x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1944x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1944x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1944x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1944x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1944x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1944x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference18Ideal.lean ====
abbrev S8x1944x128 : Shape := ⟨3, ![8, 1944, 128]⟩
abbrev S1944x128 : Shape := ⟨2, ![1944, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1944x128, .f32⟩
  | .hbm, ⟨1, _⟩ => ⟨S1944x128, .f32⟩
  | .hbm, ⟨2, _⟩ => ⟨S1944x128, .f32⟩
  | .hbm, ⟨3, _⟩ => ⟨S1944x128, .f32⟩
  | .hbm, ⟨4, _⟩ => ⟨S_, .f32⟩
  | .hbm, ⟨5, _⟩ => ⟨S1944x128, .f32⟩
  | .hbm, ⟨6, _⟩ => ⟨S_, .f32⟩
  | .hbm, ⟨7, _⟩ => ⟨S1944x128, .f32⟩
  | .hbm, ⟨8, _⟩ => ⟨S1944x128, .f32⟩
  | .hbm, ⟨9, _⟩ => ⟨S_, .f32⟩
  | .hbm, ⟨10, _⟩ => ⟨S1944x128, .f32⟩
  | .hbm, ⟨11, _⟩ => ⟨S1944x128, .f32⟩
  | .hbm, ⟨12, _⟩ => ⟨S1944x128, .f32⟩
  | .hbm, ⟨13, _⟩ => ⟨S_, .f32⟩
  | .hbm, ⟨14, _⟩ => ⟨S1944x128, .f32⟩
  | .hbm, ⟨15, _⟩ => ⟨S1944x128, .f32⟩
  | .hbm, ⟨16, _⟩ => ⟨S1944x128, .f32⟩
  | .hbm, ⟨17, _⟩ => ⟨S_, .f32⟩
  | .hbm, ⟨18, _⟩ => ⟨S1944x128, .f32⟩
  | .hbm, ⟨19, _⟩ => ⟨S1944x128, .f32⟩
  | .hbm, ⟨20, _⟩ => ⟨S1944x128, .f32⟩
  | .hbm, ⟨21, _⟩ => ⟨S_, .f32⟩
  | .hbm, ⟨22, _⟩ => ⟨S1944x128, .f32⟩
  | .hbm, ⟨23, _⟩ => ⟨S1944x128, .f32⟩
  | .hbm, ⟨24, _⟩ => ⟨S_, .f32⟩
  | .hbm, ⟨25, _⟩ => ⟨S1944x128, .f32⟩
  | .hbm, ⟨26, _⟩ => ⟨S1944x128, .f32⟩
  | .hbm, ⟨27, _⟩ => ⟨S1944x128, .f32⟩
  | .hbm, ⟨28, _⟩ => ⟨S_, .f32⟩
  | .hbm, ⟨29, _⟩ => ⟨S1944x128, .f32⟩
  | .hbm, ⟨30, _⟩ => ⟨S1944x128, .f32⟩
  | .hbm, ⟨31, _⟩ => ⟨S1944x128, .f32⟩
  | .hbm, ⟨32, _⟩ => ⟨S_, .f32⟩
  | .hbm, ⟨33, _⟩ => ⟨S1944x128, .f32⟩
  | .hbm, ⟨34, _⟩ => ⟨S1944x128, .f32⟩
  | .hbm, ⟨35, _⟩ => ⟨S1944x128, .f32⟩
  | .hbm, ⟨36, _⟩ => ⟨S_, .f32⟩
  | .hbm, ⟨37, _⟩ => ⟨S1944x128, .f32⟩
  | .hbm, ⟨38, _⟩ => ⟨S1944x128, .f32⟩
  | _, _ => ⟨S8x1944x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S4096x2048, .bf16⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S8x2048, .f32⟩
  | .hbm, ⟨10, _⟩ => ⟨S8x2048, .f32⟩
  | .hbm, ⟨11, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference19Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel20.lean ====
abbrev S4096x896 : Shape := ⟨2, ![4096, 896]⟩
abbrev S4096x1280 : Shape := ⟨2, ![4096, 1280]⟩
abbrev S896x896 : Shape := ⟨2, ![896, 896]⟩
abbrev S896 : Shape := ⟨1, ![896]⟩
abbrev S1x896 : Shape := ⟨2, ![1, 896]⟩
abbrev S8x896 : Shape := ⟨2, ![8, 896]⟩
abbrev S256x896 : Shape := ⟨2, ![256, 896]⟩
abbrev S256x1280 : Shape := ⟨2, ![256, 1280]⟩
abbrev S256 : Shape := ⟨1, ![256]⟩
abbrev S256x1 : Shape := ⟨2, ![256, 1]⟩
abbrev S32x8x896 : Shape := ⟨3, ![32, 8, 896]⟩

abbrev nBuf : Space → Nat
  | .hbm => 13
  | .vmem => 12
  | .smem => 0
  | _ => 0

abbrev bufTy : (tb : Table) → Fin (tcTables nBuf tb) → BufTy
  | .hbm, ⟨0, _⟩ => ⟨S4096x896, .f32⟩
  | .hbm, ⟨1, _⟩ => ⟨S4096x1280, .f32⟩
  | .hbm, ⟨2, _⟩ => ⟨S896x896, .f32⟩
  | .hbm, ⟨3, _⟩ => ⟨S896, .f32⟩
  | .hbm, ⟨4, _⟩ => ⟨S896, .f32⟩
  | .hbm, ⟨5, _⟩ => ⟨S4096x1280, .bf16⟩
  | .hbm, ⟨6, _⟩ => ⟨S896x896, .bf16⟩
  | .hbm, ⟨7, _⟩ => ⟨S1x896, .f32⟩
  | .hbm, ⟨8, _⟩ => ⟨S1x896, .f32⟩
  | .hbm, ⟨9, _⟩ => ⟨S4096x896, .f32⟩
  | .hbm, ⟨10, _⟩ => ⟨S896x896, .f32⟩
  | .hbm, ⟨11, _⟩ => ⟨S8x896, .f32⟩
  | .hbm, ⟨12, _⟩ => ⟨S8x896, .f32⟩
  | .local _ .vmem, ⟨0, _⟩ => ⟨S256x896, .f32⟩
  | .local _ .vmem, ⟨1, _⟩ => ⟨S256x896, .f32⟩
  | .local _ .vmem, ⟨2, _⟩ => ⟨S256x1280, .bf16⟩
  | .local _ .vmem, ⟨3, _⟩ => ⟨S256x1280, .bf16⟩
  | .local _ .vmem, ⟨4, _⟩ => ⟨S896x896, .bf16⟩
  | .local _ .vmem, ⟨5, _⟩ => ⟨S1x896, .f32⟩
  | .local _ .vmem, ⟨6, _⟩ => ⟨S1x896, .f32⟩
  | .local _ .vmem, ⟨7, _⟩ => ⟨S256x896, .f32⟩
  | .local _ .vmem, ⟨8, _⟩ => ⟨S256x896, .f32⟩
  | .local _ .vmem, ⟨9, _⟩ => ⟨S896x896, .f32⟩
  | .local _ .vmem, ⟨10, _⟩ => ⟨S8x896, .f32⟩
  | .local _ .vmem, ⟨11, _⟩ => ⟨S8x896, .f32⟩
  | _, _ => ⟨S4096x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S896x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S4096x896 : Shape := ⟨2, ![4096, 896]⟩
abbrev S4096x1280 : Shape := ⟨2, ![4096, 1280]⟩
abbrev S896x896 : Shape := ⟨2, ![896, 896]⟩
abbrev S896 : Shape := ⟨1, ![896]⟩
abbrev S_ : Shape := ⟨0, ![]⟩
abbrev S1x896 : Shape := ⟨2, ![1, 896]⟩
abbrev S4096 : Shape := ⟨1, ![4096]⟩
abbrev S4096x1 : Shape := ⟨2, ![4096, 1]⟩
abbrev S8x896 : Shape := ⟨2, ![8, 896]⟩

abbrev nBuf : Space → Nat
  | .hbm => 96
  | .vmem => 0
  | .smem => 0
  | _ => 0

abbrev bufTy : (tb : Table) → Fin (tcTables nBuf tb) → BufTy
  | .hbm, ⟨0, _⟩ => ⟨S4096x896, .f32⟩
  | .hbm, ⟨1, _⟩ => ⟨S4096x1280, .f32⟩
  | .hbm, ⟨2, _⟩ => ⟨S896x896, .f32⟩
  | .hbm, ⟨3, _⟩ => ⟨S896, .f32⟩
  | .hbm, ⟨4, _⟩ => ⟨S896, .f32⟩
  | .hbm, ⟨5, _⟩ => ⟨S4096x896, .f32⟩
  | .hbm, ⟨6, _⟩ => ⟨S4096x896, .f32⟩
  | .hbm, ⟨7, _⟩ => ⟨S_, .f32⟩
  | .hbm, ⟨8, _⟩ => ⟨S4096x896, .f32⟩
  | .hbm, ⟨9, _⟩ => ⟨S4096x896, .f32⟩
  | .hbm, ⟨10, _⟩ => ⟨S4096x896, .f32⟩
  | .hbm, ⟨11, _⟩ => ⟨S_, .f32⟩
  | .hbm, ⟨12, _⟩ => ⟨S4096x896, .f32⟩
  | .hbm, ⟨13, _⟩ => ⟨S4096x896, .f32⟩
  | .hbm, ⟨14, _⟩ => ⟨S4096x896, .f32⟩
  | .hbm, ⟨15, _⟩ => ⟨S_, .f32⟩
  | .hbm, ⟨16, _⟩ => ⟨S4096x896, .f32⟩
  | .hbm, ⟨17, _⟩ => ⟨S4096x896, .f32⟩
  | .hbm, ⟨18, _⟩ => ⟨S_, .f32⟩
  | .hbm, ⟨19, _⟩ => ⟨S4096x896, .f32⟩
  | .hbm, ⟨20, _⟩ => ⟨S4096x896, .f32⟩
  | .hbm, ⟨21, _⟩ => ⟨S4096x896, .f32⟩
  | .hbm, ⟨22, _⟩ => ⟨S4096x896, .f32⟩
  | .hbm, ⟨23, _⟩ => ⟨S1x896, .f32⟩
  | .hbm, ⟨24, _⟩ => ⟨S4096x896, .f32⟩
  | .hbm, ⟨25, _⟩ => ⟨S4096x896, .f32⟩
  | .hbm, ⟨26, _⟩ => ⟨S4096x896, .f32⟩
  | .hbm, ⟨27, _⟩ => ⟨S4096x896, .f32⟩
  | .hbm, ⟨28, _⟩ => ⟨S_, .f32⟩
  | .hbm, ⟨29, _⟩ => ⟨S4096x896, .f32⟩
  | .hbm, ⟨30, _⟩ => ⟨S4096x896, .f32⟩
  | .hbm, ⟨31, _⟩ => ⟨S_, .f32⟩
  | .hbm, ⟨32, _⟩ => ⟨S4096x896, .f32⟩
  | .hbm, ⟨33, _⟩ => ⟨S4096x896, .f32⟩
  | .hbm, ⟨34, _⟩ => ⟨S_, .f32⟩
  | .hbm, ⟨35, _⟩ => ⟨S4096x896, .f32⟩
  | .hbm, ⟨36, _⟩ => ⟨S4096x896, .f32⟩
  | .hbm, ⟨37, _⟩ => ⟨S4096x896, .f32⟩
  | .hbm, ⟨38, _⟩ => ⟨S4096x896, .f32⟩
  | .hbm, ⟨39, _⟩ => ⟨S4096x896, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x896, .f32⟩
  | .hbm, ⟨55, _⟩ => ⟨S4096x896, .f32⟩
  | .hbm, ⟨56, _⟩ => ⟨S1x896, .f32⟩
  | .hbm, ⟨57, _⟩ => ⟨S4096x896, .f32⟩
  | .hbm, ⟨58, _⟩ => ⟨S4096x896, .f32⟩
  | .hbm, ⟨59, _⟩ => ⟨S4096x896, .f32⟩
  | .hbm, ⟨60, _⟩ => ⟨S4096x896, .f32⟩
  | .hbm, ⟨61, _⟩ => ⟨S_, .f32⟩
  | .hbm, ⟨62, _⟩ => ⟨S896, .f32⟩
  | .hbm, ⟨63, _⟩ => ⟨S1x896, .f32⟩
  | .hbm, ⟨64, _⟩ => ⟨S4096x896, .f32⟩
  | .hbm, ⟨65, _⟩ => ⟨S4096x896, .f32⟩
  | .hbm, ⟨66, _⟩ => ⟨S_, .f32⟩
  | .hbm, ⟨67, _⟩ => ⟨S896, .f32⟩
  | .hbm, ⟨68, _⟩ => ⟨S4096x896, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x896, .f32⟩
  | .hbm, ⟨73, _⟩ => ⟨S4096x896, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x896, .f32⟩
  | .hbm, ⟨81, _⟩ => ⟨S4096x896, .f32⟩
  | .hbm, ⟨82, _⟩ => ⟨S4096x896, .f32⟩
  | .hbm, ⟨83, _⟩ => ⟨S4096x896, .f32⟩
  | .hbm, ⟨84, _⟩ => ⟨S4096x896, .f32⟩
  | .hbm, ⟨85, _⟩ => ⟨S4096x896, .f32⟩
  | .hbm, ⟨86, _⟩ => ⟨S4096x896, .f32⟩
  | .hbm, ⟨87, _⟩ => ⟨S_, .f32⟩
  | .hbm, ⟨88, _⟩ => ⟨S896, .f32⟩
  | .hbm, ⟨89, _⟩ => ⟨S1x896, .f32⟩
  | .hbm, ⟨90, _⟩ => ⟨S_, .f32⟩
  | .hbm, ⟨91, _⟩ => ⟨S896, .f32⟩
  | .hbm, ⟨92, _⟩ => ⟨S896x896, .f32⟩
  | .hbm, ⟨93, _⟩ => ⟨S896x896, .f32⟩
  | .hbm, ⟨94, _⟩ => ⟨S8x896, .f32⟩
  | .hbm, ⟨95, _⟩ => ⟨S8x896, .f32⟩
  | _, _ => ⟨S4096x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_cst_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_cst_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Proof.Sums.lean ====
/- A sum cut into two or four sums of 2048 terms, as the grids sum. -/
module

public import Idealize.ShloMosaic.Lib.Pointwise

@[expose] public section

namespace Cert.Sums

/-- A sum of `n` times `b` terms as `n` sums of `b` terms. -/
theorem sum_parts (n b : Nat) (f : Fin (n * b) → EReal) :
    ∑ k, f k = ∑ q : Fin n, ∑ k : Fin b, f ⟨q.val * b + k.val,
      lt_of_lt_of_le (Nat.add_lt_add_left k.isLt _) (by rw [← Nat.succ_mul]; exact Nat.mul_le_mul_right b q.isLt)⟩ := by
  rw [← Fintype.sum_prod_type' (f := fun (q : Fin n) (k : Fin b) => f ⟨q.val * b + k.val, _⟩)]
  refine (Fintype.sum_equiv finProdFinEquiv _ _ fun p => ?_).symm
  refine congrArg f (Fin.ext ?_)
  show p.1.val * b + p.2.val = p.2.val + b * p.1.val
  rw [Nat.mul_comm, Nat.add_comm]

/-- 4096 terms in two halves. -/
theorem sum_2 (f : Fin 4096 → EReal) :
    ∑ k, f k = ∑ k : Fin 2048, f ⟨0 * 2048 + k.val, by omega⟩ + ∑ k : Fin 2048, f ⟨1 * 2048 + k.val, by omega⟩ :=
  (sum_parts 2 2048 f).trans (Fin.sum_univ_two _)

/-- 8192 terms in four quarters. -/
theorem sum_4 (f : Fin 8192 → EReal) :
    ∑ k, f k = ∑ k : Fin 2048, f ⟨0 * 2048 + k.val, by omega⟩ + ∑ k : Fin 2048, f ⟨1 * 2048 + k.val, by omega⟩
      + ∑ k : Fin 2048, f ⟨2 * 2048 + k.val, by omega⟩ + ∑ k : Fin 2048, f ⟨3 * 2048 + k.val, by omega⟩ :=
  (sum_parts 4 2048 f).trans (Fin.sum_univ_four _)

/-- 2048 terms in two halves. -/
theorem sum_half (f : Fin 2048 → EReal) :
    ∑ k, f k = ∑ k : Fin 1024, f ⟨k.val, by omega⟩ + ∑ k : Fin 1024, f ⟨1024 + k.val, by omega⟩ := by
  refine (sum_parts 2 1024 f).trans ((Fin.sum_univ_two _).trans ?_)
  refine congrArg₂ (· + ·) (Finset.sum_congr rfl fun k _ => congrArg f (Fin.ext ?_)) (Finset.sum_congr rfl fun k _ => congrArg f (Fin.ext ?_))
  · show 0 * 1024 + k.val = k.val; omega
  · show 1 * 1024 + k.val = 1024 + k.val; omega

end Cert.Sums
-- ==== Proof.Prod2.lean ====
/- The product behind the gradient of the squared ReLU: each point of the grid writes its own tile. -/
module

public import proofs.«01_k».proof.Proof.Gen.Kernel2Ideal.Value
public import proofs.«01_k».proof.Proof.Gen.Reference2Ideal.Run
public import proofs.«01_k».proof.Proof.Sums
public import proofs.«01_k».proof.Defs

@[expose] public section

set_option maxRecDepth 16384

noncomputable section

namespace Cert.Kernel2Ideal.Prod

open Cert.Kernel2Ideal Cert.Kernel2Ideal.Gen Cert.Sums
open Idealize.ShloMosaic Idealize.ShloMosaic.TcCoe Idealize.ShloMosaic.Tactic
open Idealize.ShloMosaic.Pipeline (Dat Cfg Window)

/-- What a point writes: a tile of the product, times twice the positive part of the pre-activation. -/
theorem pay_apply (x : Vec Ideal S1024x2048 .bf16) (y : Vec Ideal S1024x2048 .bf16) (z : Vec Ideal S1024x1024 .bf16) (a b : Fin 1024) :
    k0_pay1 x y z (ix2 a b) = (∑ k : Fin 2048, x (ix2 a k) * y (ix2 b k)) * (Ideal.ofBits .f32 0x40000000#32 * max (z (ix2 a b)) 0) := by
  pointwise [k0_pay1]

theorem zz : (![0, 0] : Fin 2 → Nat) = fun _ => 0 := by funext x; match x with | ⟨0, _⟩ => rfl | ⟨1, _⟩ => rfl

/-- What the body leaves in a result's block. -/
theorem out0_eq (c : Dev nD) (i : grid0.Coords) (r0 : Memref sig .tc .vmem S1024x2048 .bf16) (h0 : r0.IsWhole) (r1 : Memref sig .tc .vmem S1024x2048 .bf16) (h1 : r1.IsWhole) (r2 : Memref sig .tc .vmem S1024x1024 .bf16) (h2 : r2.IsWhole) (r3 : Memref sig .tc .vmem S1024x1024 .bf16) (h3 : r3.IsWhole) (r4 : Memref sig .tc .vmem S8x128 .f32) (h4 : r4.IsWhole)
    (x : Vec Ideal S1024x2048 .bf16) (y : Vec Ideal S1024x2048 .bf16) (z : Vec Ideal S1024x1024 .bf16) :
    out0_A_3 c i r0 h0 r1 h1 r2 h2 r3 h3 r4 h4 x y z = k0_pay1 x y z := by
  unfold out0_A_3
  rw [View.read_writes_eq_canon _ _ _ (cover0_A_3 c i r0 h0 r1 h1 r2 h2 r3 h3 r4 h4 x y z)]
  unfold kernelRun0_A
  dsimp only
  sl_unfold_words
  rw [View.canon_unit_zero zz]
  simp only [View.readAt_eq_ld, h0.read_unread, h1.read_unread, h2.read_unread, View.ld_unit_zero (S := S1024x2048) zz, View.ld_unit_zero (S := S1024x1024) zz, shapeCast_self]

/-- Each window's block at a point of the grid. -/
theorem idx_facts : ∀ t : Fin cfg0.N, win0_0.index t (0 : Fin 2) = t.val / 8
    ∧ win0_0.index t (1 : Fin 2) = 0
    ∧ win0_1.index t (0 : Fin 2) = t.val / 1 % 8
    ∧ win0_1.index t (1 : Fin 2) = 0
    ∧ win0_2.index t (0 : Fin 2) = t.val / 8
    ∧ win0_2.index t (1 : Fin 2) = t.val / 1 % 8
    ∧ win0_3.index t (0 : Fin 2) = t.val / 8
    ∧ win0_3.index t (1 : Fin 2) = t.val / 1 % 8
    ∧ win0_3.flush t = true :=
  (by decide +kernel : ∀ t : Fin grid0.N, _)

variable (m : (ℓ : Loc nD τ sig) → Buf (Elt Ideal) ℓ) (c : Dev nD)

/-- The array window 0 cuts into blocks. -/
abbrev arr0 : Vec Ideal S4096x2048 .bf16 := V m c main_v0

/-- The array window 1 cuts into blocks. -/
abbrev arr1 : Vec Ideal S8192x2048 .bf16 := V m c main_v1

/-- The array window 2 cuts into blocks. -/
abbrev arr2 : Vec Ideal S4096x8192 .bf16 := V m c main_v2

theorem blk_0 (t : Fin cfg0.N) (p0 : Fin 1024) (p1 : Fin 2048) (q0 : Fin 4096) (q1 : Fin 2048)
    (h0 : q0.val = t.val / 8 * 1024 + p0.val) (h1 : q1.val = 0 * 2048 + p1.val) :
    (iblk m c 0 t : Vec Ideal S1024x2048 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 1024 + p0.val = q0.val by rw [e0, h0])
  | ⟨1, _⟩ => exact (Window.rect_emb_val _ _ _ _).trans (show win0_0.index t (1 : Fin 2) * 2048 + p1.val = q1.val by rw [e1, h1])

theorem blk_1 (t : Fin cfg0.N) (p0 : Fin 1024) (p1 : Fin 2048) (q0 : Fin 8192) (q1 : Fin 2048)
    (h0 : q0.val = t.val / 1 % 8 * 1024 + p0.val) (h1 : q1.val = 0 * 2048 + p1.val) :
    (iblk m c 1 t : Vec Ideal S1024x2048 .bf16) (ix2 p0 p1) = arr1 m c (ix2 q0 q1) := by
  obtain ⟨-, -, e0, e1, -⟩ := idx_facts t
  unfold iblk
  rw [View.read_apply]
  refine congrArg (V m c main_v1) ?_
  funext x
  apply Fin.ext
  match x with
  | ⟨0, _⟩ => exact (Window.rect_emb_val _ _ _ _).trans (show win0_1.index t (0 : Fin 2) * 1024 + p0.val = q0.val by rw [e0, h0])
  | ⟨1, _⟩ => exact (Window.rect_emb_val _ _ _ _).trans (show win0_1.index t (1 : Fin 2) * 2048 + p1.val = q1.val by rw [e1, h1])

theorem blk_2 (t : Fin cfg0.N) (p0 : Fin 1024) (p1 : Fin 1024) (q0 : Fin 4096) (q1 : Fin 8192)
    (h0 : q0.val = t.val / 8 * 1024 + p0.val) (h1 : q1.val = t.val / 1 % 8 * 1024 + p1.val) :
    (iblk m c 2 t : Vec Ideal S1024x1024 .bf16) (ix2 p0 p1) = arr2 m c (ix2 q0 q1) := by
  obtain ⟨-, -, -, -, e0, e1, -⟩ := idx_facts t
  unfold iblk
  rw [View.read_apply]
  refine congrArg (V m c main_v2) ?_
  funext x
  apply Fin.ext
  match x with
  | ⟨0, _⟩ => exact (Window.rect_emb_val _ _ _ _).trans (show win0_2.index t (0 : Fin 2) * 1024 + p0.val = q0.val by rw [e0, h0])
  | ⟨1, _⟩ => exact (Window.rect_emb_val _ _ _ _).trans (show win0_2.index t (1 : Fin 2) * 1024 + p1.val = q1.val by rw [e1, h1])

/-- A result at an index, over the arrays the grid cuts. -/
theorem result0 (r : Fin 4096) (s : Fin 8192) :
    ((dats m 0 c).arrAt 3 cfg0.N : Vec Ideal S4096x8192 .bf16) (ix2 r s)
      = (∑ k : Fin 2048, arr0 m c (ix2 r k) * arr1 m c (ix2 s k)) * (Ideal.ofBits .f32 0x40000000#32 * max (arr2 m c (ix2 r s)) 0) := by
  have hr := r.isLt
  have hs := s.isLt
  let t : Fin cfg0.N := ⟨r.val / 1024 * 8 + s.val / 1024, lt_of_lt_of_eq (by omega) N_0.symm⟩
  have ht : t.val = r.val / 1024 * 8 + s.val / 1024 := rfl
  let a : Fin 1024 := ⟨r.val % 1024, Nat.mod_lt _ (by decide)⟩
  let b : Fin 1024 := ⟨s.val % 1024, Nat.mod_lt _ (by decide)⟩
  have ha : r.val = t.val / 8 * 1024 + a.val := by show _ = t.val / 8 * 1024 + r.val % 1024; omega
  have hb : s.val = t.val / 1 % 8 * 1024 + b.val := by show _ = t.val / 1 % 8 * 1024 + s.val % 1024; omega
  obtain ⟨-, -, -, -, -, -, e0, e1, hf⟩ := idx_facts t
  have h := congrFun ((Value.blocks3 m c t hf).trans (Value.flushed3_A m c t)) (ix2 a b)
  rw [View.read_apply, out0_eq] at h
  refine (congrArg ((dats m 0 c).arrAt 3 cfg0.N) ?_).trans (h.trans ?_)
  · funext x
    apply Fin.ext
    match x with
    | ⟨0, _⟩ => exact ((Window.rect_emb_val _ _ _ _).trans (show win0_3.index t (0 : Fin 2) * 1024 + a.val = r.val by rw [e0, ha])).symm
    | ⟨1, _⟩ => exact ((Window.rect_emb_val _ _ _ _).trans (show win0_3.index t (1 : Fin 2) * 1024 + b.val = s.val by rw [e1, hb])).symm
  · refine (pay_apply (iblk m c 0 t) (iblk m c 1 t) (iblk m c 2 t) a b).trans ?_
    rw [blk_2 m c t a b r s ha hb]
    exact congrArg (· * _) (Finset.sum_congr rfl fun k _ => by
      rw [blk_0 m c t a k r k ha (by omega), blk_1 m c t b k s k hb (by omega)])

/-- Argument 0. -/
abbrev arg0 : Vec Ideal S4096x8192 .f32 := m ((c : Thread nD τ).loc main_arg0)

/-- Argument 1. -/
abbrev arg1 : Vec Ideal S8192x2048 .f32 := m ((c : Thread nD τ).loc main_arg1)

/-- Argument 2. -/
abbrev arg2 : Vec Ideal S4096x2048 .f32 := m ((c : Thread nD τ).loc main_arg2)

theorem arr0_apply (r : Fin 4096) (s : Fin 2048) : arr0 m c (ix2 r s) = arg2 m c (ix2 r s) := by
  have e : arr0 m c = (truncf .bf16 (arg2 m c) bitsLt_bf16_f32 : FVec Ideal S4096x2048 .bf16) := by
    show StableHlo.after _ _ _ = _
    after_results_simp
  rw [e]
  rfl

theorem arr1_apply (r : Fin 8192) (s : Fin 2048) : arr1 m c (ix2 r s) = arg1 m c (ix2 r s) := by
  have e : arr1 m c = (truncf .bf16 (arg1 m c) bitsLt_bf16_f32 : FVec Ideal S8192x2048 .bf16) := by
    show StableHlo.after _ _ _ = _
    after_results_simp
  rw [e]
  rfl

theorem arr2_apply (r : Fin 4096) (s : Fin 8192) : arr2 m c (ix2 r s) = arg0 m c (ix2 r s) := by
  have e : arr2 m c = (truncf .bf16 (arg0 m c) bitsLt_bf16_f32 : FVec Ideal S4096x8192 .bf16) := by
    show StableHlo.after _ _ _ = _
    after_results_simp
  rw [e]
  rfl

/-- Result 0. -/
abbrev out0 : Vec Ideal S4096x8192 .bf16 := (dats m 0 c).arrAt 3 cfg0.N

/-- The kernel's result at an index, over the arguments. -/
theorem kernel0_apply (r : Fin 4096) (s : Fin 8192) :
    out0 m c (ix2 r s)
      = (∑ k : Fin 2048, arg2 m c (ix2 r k) * arg1 m c (ix2 s k)) * (Ideal.ofBits .f32 0x40000000#32 * max (arg0 m c (ix2 r s)) 0) := by
  have h : (∑ k : Fin 2048, arr0 m c (ix2 r k) * arr1 m c (ix2 s k) : EReal) = ∑ k : Fin 2048, arg2 m c (ix2 r k) * arg1 m c (ix2 s k) :=
    Finset.sum_congr rfl fun k _ => by rw [arr0_apply, arr1_apply]
  refine (result0 m c r s).trans ?_
  rw [arr2_apply]
  exact congrArg (· * _) h

end Cert.Kernel2Ideal.Prod

namespace Cert.Reference2Ideal.Prod

open Cert.Reference2Ideal Cert.Reference2Ideal.Gen
open Idealize.ShloMosaic Idealize.ShloMosaic.TcCoe Idealize.ShloMosaic.Tactic

/-- The reference's result as a function of its arguments. -/
def res0 (x0 : FVec Ideal S4096x8192 .f32) (x1 : FVec Ideal S8192x2048 .f32) (x2 : FVec Ideal S4096x2048 .f32) : FVec Ideal S4096x8192 .bf16 :=
  truncf .bf16 (select (cmpf .ogt x0 (broadcastInDim S4096x8192 ![] bcast_S_S4096x8192 (constant S_ .f32 0x00000000#32))) (mulf (Host.dotGeneral dot_S4096x2048_S8192x2048_S4096x8192_1_1_0_0_n_n none x2 x1) (mulf (broadcastInDim S4096x8192 ![] bcast_S_S4096x8192 (constant S_ .f32 0x40000000#32)) (maximumf x0 (broadcastInDim S4096x8192 ![] bcast_S_S4096x8192 (constant S_ .f32 0x00000000#32))))) (broadcastInDim S4096x8192 ![] bcast_S_S4096x8192 (constant S_ .f32 0x00000000#32))) bitsLt_bf16_f32

/-- The reference's result at an index: where the pre-activation isn't positive, twice its positive part is zero. -/
theorem ref0_apply (x0 : FVec Ideal S4096x8192 .f32) (x1 : FVec Ideal S8192x2048 .f32) (x2 : FVec Ideal S4096x2048 .f32) (r : Fin 4096) (s : Fin 8192) :
    res0 x0 x1 x2 (ix2 r s) = (∑ k : Fin 2048, x2 (ix2 r k) * x1 (ix2 s k)) * (Ideal.ofBits .f32 0x40000000#32 * max (x0 (ix2 r s)) 0) := by
  pointwise [res0]
  by_cases h : 0 < x0 (ix2 r s)
  · rw [if_pos h]
  · rw [if_neg h, max_eq_right (not_lt.mp h), mul_zero, mul_zero]

end Cert.Reference2Ideal.Prod

namespace Cert.Kernel2Ideal.Prod

open Cert.Kernel2Ideal Cert.Kernel2Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference2Ideal.Prod.res0 (arg0 m c) (arg1 m c) (arg2 m c) = out0 m c := by
  funext i
  obtain ⟨r, s, rfl⟩ : ∃ (r : Fin 4096) (s : Fin 8192), i = ix2 r s := ⟨i 0, i 1, eq_ix2 i⟩
  exact (Cert.Reference2Ideal.Prod.ref0_apply (arg0 m c) (arg1 m c) (arg2 m c) r s).trans (kernel0_apply m c r s).symm

/-- Over the reals the kernel computes what the reference does, whatever the arguments. -/
theorem algebraic : Cert.algebraic_Kernel2Ideal_Reference2Ideal := by
  intro m g m' g' _ heq
  refine ⟨fun c => (dats m 0 c).arrAt 3 cfg0.N, Value.run_blocks (F := Ideal) m g, ?_⟩
  refine (θ_run Cert.Reference2Ideal.defs _ _).mono (fun r h c => ⟨(h c).1.trans ?_, (h c).2⟩) (Cert.Reference2Ideal.Value.run (F := Ideal) m' g')
  · obtain ⟨e0, e1, e2⟩ := heq c
    refine Eq.trans ?_ (same0 m c)
    show Cert.Reference2Ideal.Prod.res0 _ _ _ = _
    rw [e0, e1, e2]

end Cert.Kernel2Ideal.Prod

end
-- ==== Proof.Prod3.lean ====
/- The gradient of the second MLP weight: two points of the grid sum each tile, one for each half of the tokens. -/
module

public import proofs.«01_k».proof.Proof.Gen.Kernel3Ideal.Value
public import proofs.«01_k».proof.Proof.Gen.Reference3Ideal.Run
public import proofs.«01_k».proof.Proof.Sums
public import proofs.«01_k».proof.Defs

@[expose] public section

set_option maxRecDepth 16384

noncomputable section

namespace Cert.Kernel3Ideal.Prod

open Cert.Kernel3Ideal Cert.Kernel3Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S2048x1024 .bf16) (y : Vec Ideal S2048x1024 .bf16) (a : Fin 1024) (b : Fin 1024) :
    k0_pay1 x y (ix2 a b) = ∑ k : Fin 2048, x (ix2 k a) * y (ix2 k b) := by
  pointwise [k0_pay1]

theorem pay2_eq (x : Vec Ideal S2048x1024 .bf16) (y : Vec Ideal S2048x1024 .bf16) : k0_pay2 x y = k0_pay1 x y := by
  unfold k0_pay2
  rw [shapeCast_self]

theorem pay4_apply (x : Vec Ideal S2048x1024 .bf16) (y : Vec Ideal S2048x1024 .bf16) (z : Vec Ideal S1024x1024 .f32) (a : Fin 1024) (b : Fin 1024) :
    k0_pay4 x y z (ix2 a b) = z (ix2 a b) + k0_pay1 x y (ix2 a b) := by
  pointwise [k0_pay4, k0_pay1]

theorem zz : (![0, 0] : Fin 2 → Nat) = fun _ => 0 := by funext x; match x with | ⟨0, _⟩ => rfl | ⟨1, _⟩ => rfl

/-- The first point of a tile keeps its product. -/
theorem sum_A (c : Dev nD) (i : grid0.Coords) (r0 : Memref sig .tc .vmem S2048x1024 .bf16) (h0 : r0.IsWhole) (r1 : Memref sig .tc .vmem S2048x1024 .bf16) (h1 : r1.IsWhole) (r2 : Memref sig .tc .vmem S1024x1024 .bf16) (h2 : r2.IsWhole) (r3 : Memref sig .tc .vmem S1024x1024 .f32) (h3 : r3.IsWhole) (hc0 : cond0_0 i) (hc1 : ¬cond0_1 i) (hc2 : ¬cond0_2 i)
    (x : Vec Ideal S2048x1024 .bf16) (y : Vec Ideal S2048x1024 .bf16) :
    sout0_A_0 c i r0 h0 r1 h1 r2 h2 r3 h3 hc0 hc1 hc2 x y = k0_pay2 x y := by
  unfold sout0_A_0
  rw [View.read_writes_eq_canon _ _ _ (scover0_A_0 c i r0 h0 r1 h1 r2 h2 r3 h3 hc0 hc1 hc2 x y)]
  unfold kernelRun0_A
  dsimp only
  sl_unfold_words
  rw [View.canon_unit_zero zz]
  simp only [View.readAt_eq_ld, h0.read_unread, h1.read_unread, h3.read_unread, View.ld_unit_zero (S := S2048x1024) zz, View.ld_unit_zero (S := S1024x1024) zz, shapeCast_self]

/-- The last point of a tile writes the sum. -/
theorem out_eq (c : Dev nD) (i : grid0.Coords) (r0 : Memref sig .tc .vmem S2048x1024 .bf16) (h0 : r0.IsWhole) (r1 : Memref sig .tc .vmem S2048x1024 .bf16) (h1 : r1.IsWhole) (r2 : Memref sig .tc .vmem S1024x1024 .bf16) (h2 : r2.IsWhole) (r3 : Memref sig .tc .vmem S1024x1024 .f32) (h3 : r3.IsWhole) (hc0 : ¬cond0_0 i) (hc1 : ¬cond0_1 i) (hc2 : cond0_2 i)
    (x : Vec Ideal S2048x1024 .bf16) (y : Vec Ideal S2048x1024 .bf16) (z : Vec Ideal S1024x1024 .f32) :
    out0_B_2 c i r0 h0 r1 h1 r2 h2 r3 h3 hc0 hc1 hc2 x y z = k0_pay4 x y z := by
  unfold out0_B_2
  rw [View.read_writes_eq_canon _ _ _ (cover0_B_2 c i r0 h0 r1 h1 r2 h2 r3 h3 hc0 hc1 hc2 x y z)]
  unfold kernelRun0_B
  dsimp only
  sl_unfold_words
  rw [View.canon_unit_zero zz]
  simp only [View.readAt_eq_ld, h0.read_unread, h1.read_unread, h3.read_unread, View.ld_unit_zero (S := S2048x1024) zz, View.ld_unit_zero (S := S1024x1024) zz, shapeCast_self]

/-- Each window's block at a point of the grid. -/
theorem idx_facts : ∀ t : Fin cfg0.N, win0_0.index t (0 : Fin 2) = t.val % 2
    ∧ win0_0.index t (1 : Fin 2) = t.val / 4
    ∧ win0_1.index t (0 : Fin 2) = t.val % 2
    ∧ win0_1.index t (1 : Fin 2) = t.val / 2 % 2 :=
  (by decide +kernel : ∀ t : Fin grid0.N, _)

variable (m : (ℓ : Loc nD τ sig) → Buf (Elt Ideal) ℓ) (c : Dev nD)

/-- The array window 0 cuts into blocks. -/
abbrev arr0 : Vec Ideal S4096x8192 .bf16 := V m c main_v2

/-- The array window 1 cuts into blocks. -/
abbrev arr1 : Vec Ideal S4096x2048 .bf16 := V m c main_v3

theorem blk_0 (t : Fin cfg0.N) (p0 : Fin 2048) (p1 : Fin 1024) (q0 : Fin 4096) (q1 : Fin 8192)
    (h0 : q0.val = t.val % 2 * 2048 + p0.val) (h1 : q1.val = t.val / 4 * 1024 + p1.val) :
    (iblk m c 0 t : Vec Ideal S2048x1024 .bf16) (ix2 p0 p1) = arr0 m c (ix2 q0 q1) := by
  obtain ⟨e0, e1, -⟩ := idx_facts t
  unfold iblk
  rw [View.read_apply]
  refine congrArg (V m c main_v2) ?_
  funext x
  apply Fin.ext
  match x with
  | ⟨0, _⟩ => exact (Window.rect_emb_val _ _ _ _).trans (show win0_0.index t (0 : Fin 2) * 2048 + p0.val = q0.val by rw [e0, h0])
  | ⟨1, _⟩ => exact (Window.rect_emb_val _ _ _ _).trans (show win0_0.index t (1 : Fin 2) * 1024 + p1.val = q1.val by rw [e1, h1])

theorem blk_1 (t : Fin cfg0.N) (p0 : Fin 2048) (p1 : Fin 1024) (q0 : Fin 4096) (q1 : Fin 2048)
    (h0 : q0.val = t.val % 2 * 2048 + p0.val) (h1 : q1.val = t.val / 2 % 2 * 1024 + p1.val) :
    (iblk m c 1 t : Vec Ideal S2048x1024 .bf16) (ix2 p0 p1) = arr1 m c (ix2 q0 q1) := by
  obtain ⟨-, -, e0, e1⟩ := idx_facts t
  unfold iblk
  rw [View.read_apply]
  refine congrArg (V m c main_v3) ?_
  funext x
  apply Fin.ext
  match x with
  | ⟨0, _⟩ => exact (Window.rect_emb_val _ _ _ _).trans (show win0_1.index t (0 : Fin 2) * 2048 + p0.val = q0.val by rw [e0, h0])
  | ⟨1, _⟩ => exact (Window.rect_emb_val _ _ _ _).trans (show win0_1.index t (1 : Fin 2) * 1024 + p1.val = q1.val by rw [e1, h1])

/-- A point's product at a place of its tile, over the arrays the grid cuts. -/
theorem prod_at (t : Fin cfg0.N) (a : Fin 1024) (b : Fin 1024) (r : Fin 8192) (s : Fin 2048) (q : Nat) (hlt : q < 2)
    (hq : t.val % 2 = q) (ha : r.val = t.val / 4 * 1024 + a.val) (hb : s.val = t.val / 2 % 2 * 1024 + b.val) :
    k0_pay1 (iblk m c 0 t) (iblk m c 1 t) (ix2 a b)
      = ∑ k : Fin 2048, arr0 m c (ix2 ⟨q * 2048 + k.val, by omega⟩ r) * arr1 m c (ix2 ⟨q * 2048 + k.val, by omega⟩ s) := by
  refine (pay_apply (iblk m c 0 t) (iblk m c 1 t) a b).trans (Finset.sum_congr rfl fun k _ => ?_)
  rw [blk_0 m c t k a ⟨q * 2048 + k.val, by omega⟩ r (by rw [hq]) ha, blk_1 m c t k b ⟨q * 2048 + k.val, by omega⟩ s (by rw [hq]) hb]

theorem left_A (t : Fin cfg0.N) (h : t.val % 2 = 0) :
    (outsAt0 m c t.val t.isLt).2 = k0_pay1 (iblk m c 0 t) (iblk m c 1 t) := by
  rw [outsAt0_A m c t h (by omega)]
  dsimp only
  rw [sum_A, pay2_eq]

theorem left_last (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h]
  dsimp only
  rw [out_eq]

/-- The result at an index: what the last point of its tile wrote. -/
theorem final_apply (i : S8192x2048.Idx) (h : Value.pt2Of i < cfg0.N) :
    Value.G2 m c i = (outsAt0 m c (Value.pt2Of i) h).1 (Value.loc2Of i) := by
  unfold Value.G2
  rw [dif_pos h, ← Value.outsAt0_sweep]

/-- What the last point of a tile writes at a place of it, over the arrays the grid cuts. -/
theorem tile_apply (n : Nat) (hp : ∀ q < 2, n + q < cfg0.N) (hq : ∀ q < 2, (n + q) % 2 = q) (a : Fin 1024) (b : Fin 1024)
    (r : Fin 8192) (s : Fin 2048) (ha : ∀ q < 2, r.val = (n + q) / 4 * 1024 + a.val)
    (hb : ∀ q < 2, s.val = (n + q) / 2 % 2 * 1024 + b.val) :
    (outsAt0 m c (n + 1) (hp 1 (by decide))).1 (ix2 a b) = ∑ k : Fin 4096, arr0 m c (ix2 k r) * arr1 m c (ix2 k s) := by
  have e : ∀ q, ∀ hlt : q < 2, k0_pay1 (iblk m c 0 ⟨n + q, hp q hlt⟩) (iblk m c 1 ⟨n + q, hp q hlt⟩) (ix2 a b) = _ := fun q hlt =>
    prod_at m c ⟨n + q, hp q hlt⟩ a b r s q hlt (hq q hlt) (ha q hlt) (hb q hlt)
  have e0 := (congrFun (left_A m c ⟨n + 0, hp 0 (by decide)⟩ (hq 0 (by decide))) (ix2 a b)).trans (e 0 (by decide))
  exact (congrFun (left_last m c ⟨n + 1, hp 1 (by decide)⟩ (hq 1 (by decide))) (ix2 a b)).trans
    ((pay4_apply _ _ _ a b).trans ((congrArg₂ (· + ·) e0 (e 1 (by decide))).trans (sum_2 fun k => arr0 m c (ix2 k r) * arr1 m c (ix2 k s)).symm))

/-- The result at an index, over the arrays the grid cuts. -/
theorem result0 (r : Fin 8192) (s : Fin 2048) :
    (Value.G2 m c : Vec Ideal S8192x2048 .bf16) (ix2 r s)
      = ∑ k : Fin 4096, arr0 m c (ix2 k r) * arr1 m c (ix2 k s) := by
  have hr := r.isLt
  have hs := s.isLt
  have N0 : cfg0.N = 32 := N_0
  obtain ⟨n, hn⟩ : ∃ n : Nat, n = (r.val / 1024 * 2 + s.val / 1024) * 2 := ⟨_, rfl⟩
  have hp : ∀ q < 2, n + q < cfg0.N := fun q hq => by omega
  have hpt : Value.pt2Of (ix2 r s : S8192x2048.Idx) = n + 1 := by
    show 2 * (2 * (r.val / 1024 - 0) + 1 * (s.val / 1024 - 0)) + 1 = _
    omega
  have hloc : Value.loc2Of (ix2 r s : S8192x2048.Idx) = ix2 ⟨r.val % 1024, Nat.mod_lt _ (by decide)⟩ ⟨s.val % 1024, Nat.mod_lt _ (by decide)⟩ := by
    funext x
    match x with
    | ⟨0, _⟩ => rfl
    | ⟨1, _⟩ => rfl
  refine (final_apply m c _ (hpt ▸ hp 1 (by decide))).trans ?_
  rw [hloc]
  refine Eq.trans ?_ (tile_apply m c n hp (fun q hq => by omega) ⟨r.val % 1024, Nat.mod_lt _ (by decide)⟩
    ⟨s.val % 1024, Nat.mod_lt _ (by decide)⟩ r s (fun q hq => by show _ = _ * 1024 + r.val % 1024; omega)
    (fun q hq => by show _ = _ * 1024 + s.val % 1024; omega))
  simp only [hpt]

/-- Argument 0. -/
abbrev arg0 : Vec Ideal S4096x8192 .f32 := m ((c : Thread nD τ).loc main_arg0)

/-- Argument 1. -/
abbrev arg1 : Vec Ideal S8192x2048 .f32 := m ((c : Thread nD τ).loc main_arg1)

/-- Argument 2. -/
abbrev arg2 : Vec Ideal S4096x2048 .f32 := m ((c : Thread nD τ).loc main_arg2)

theorem arr0_apply (r : Fin 4096) (s : Fin 8192) : arr0 m c (ix2 r s) = max (arg0 m c (ix2 r s)) 0 * max (arg0 m c (ix2 r s)) 0 := by
  have e : arr0 m c = (truncf .bf16 (mulf (maximumf (arg0 m c) (broadcastInDim S4096x8192 ![] bcast_S_S4096x8192 (constant S_ .f32 0x00000000#32))) (maximumf (arg0 m c) (broadcastInDim S4096x8192 ![] bcast_S_S4096x8192 (constant S_ .f32 0x00000000#32)))) bitsLt_bf16_f32 : FVec Ideal S4096x8192 .bf16) := by
    show StableHlo.after (hostOps0 ++ hostOps0_1) _ _ = _
    rw [StableHlo.after_append]
    after_results_simp
    rfl
  rw [e]
  pointwise

theorem arr1_apply (r : Fin 4096) (s : Fin 2048) : arr1 m c (ix2 r s) = arg2 m c (ix2 r s) := by
  have e : arr1 m c = (truncf .bf16 (arg2 m c) bitsLt_bf16_f32 : FVec Ideal S4096x2048 .bf16) := by
    show StableHlo.after (hostOps0 ++ hostOps0_1) _ _ = _
    rw [StableHlo.after_append]
    after_results_simp
  rw [e]
  rfl

/-- Result 0. -/
abbrev out0 : Vec Ideal S8192x2048 .bf16 := Value.G2 m c

/-- The kernel's result at an index, over the arguments. -/
theorem kernel0_apply (r : Fin 8192) (s : Fin 2048) :
    out0 m c (ix2 r s)
      = ∑ k : Fin 4096, (max (arg0 m c (ix2 k r)) 0 * max (arg0 m c (ix2 k r)) 0) * arg2 m c (ix2 k s) := by
  have h : (∑ k : Fin 4096, arr0 m c (ix2 k r) * arr1 m c (ix2 k s) : EReal) = ∑ k : Fin 4096, (max (arg0 m c (ix2 k r)) 0 * max (arg0 m c (ix2 k r)) 0) * arg2 m c (ix2 k s) :=
    Finset.sum_congr rfl fun k _ => by rw [arr0_apply, arr1_apply]
  exact (result0 m c r s).trans h

end Cert.Kernel3Ideal.Prod

namespace Cert.Reference3Ideal.Prod

open Cert.Reference3Ideal Cert.Reference3Ideal.Gen
open Idealize.ShloMosaic Idealize.ShloMosaic.TcCoe Idealize.ShloMosaic.Tactic

/-- The reference's result as a function of its arguments. -/
def res0 (x0 : FVec Ideal S4096x8192 .f32) (x1 : FVec Ideal S8192x2048 .f32) (x2 : FVec Ideal S4096x2048 .f32) : FVec Ideal S8192x2048 .bf16 :=
  truncf .bf16 (transpose S8192x2048 [1, 0] (Host.dotGeneral dot_S4096x2048_S4096x8192_S2048x8192_0_0_1_1_n_n none x2 (mulf (maximumf x0 (broadcastInDim S4096x8192 ![] bcast_S_S4096x8192 (constant S_ .f32 0x00000000#32))) (maximumf x0 (broadcastInDim S4096x8192 ![] bcast_S_S4096x8192 (constant S_ .f32 0x00000000#32))))) transposes_S2048x8192_S8192x2048_1_0) bitsLt_bf16_f32

/-- The reference's result at an index. -/
theorem ref0_apply (x0 : FVec Ideal S4096x8192 .f32) (x1 : FVec Ideal S8192x2048 .f32) (x2 : FVec Ideal S4096x2048 .f32) (r : Fin 8192) (s : Fin 2048) :
    res0 x0 x1 x2 (ix2 r s) = ∑ k : Fin 4096, (max (x0 (ix2 k r)) 0 * max (x0 (ix2 k r)) 0) * x2 (ix2 k s) := by
  refine Eq.trans (b := ∑ k : Fin 4096, x2 (ix2 k s) * (max (x0 (ix2 k r)) 0 * max (x0 (ix2 k r)) 0)) ?_ (Finset.sum_congr rfl fun k _ => mul_comm _ _)
  pointwise [res0]

end Cert.Reference3Ideal.Prod

namespace Cert.Kernel3Ideal.Prod

open Cert.Kernel3Ideal Cert.Kernel3Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference3Ideal.Prod.res0 (arg0 m c) (arg1 m c) (arg2 m c) = out0 m c := by
  funext i
  obtain ⟨r, s, rfl⟩ : ∃ (r : Fin 8192) (s : Fin 2048), i = ix2 r s := ⟨i 0, i 1, eq_ix2 i⟩
  exact (Cert.Reference3Ideal.Prod.ref0_apply (arg0 m c) (arg1 m c) (arg2 m c) r s).trans (kernel0_apply m c r s).symm

/-- Over the reals the kernel computes what the reference does, whatever the arguments. -/
theorem algebraic : Cert.algebraic_Kernel3Ideal_Reference3Ideal := by
  intro m g m' g' _ heq
  refine ⟨fun c => Value.G2 m c, Value.run (F := Ideal) m g, ?_⟩
  refine (θ_run Cert.Reference3Ideal.defs _ _).mono (fun r h c => ⟨(h c).1.trans ?_, (h c).2⟩) (Cert.Reference3Ideal.Value.run (F := Ideal) m' g')
  · obtain ⟨e0, e1, e2⟩ := heq c
    have h := same0 m c
    dsimp only [arg0, arg1, arg2] at h
    rw [← e0, ← e1, ← e2] at h
    exact h

end Cert.Kernel3Ideal.Prod

end
-- ==== Proof.Prod4.lean ====
/- The gradient of the MLP's input: four points of the grid sum each tile, one for each two of the eight parts of the weight. -/
module

public import proofs.«01_k».proof.Proof.Gen.Kernel4Ideal.Value
public import proofs.«01_k».proof.Proof.Gen.Reference4Ideal.Run
public import proofs.«01_k».proof.Proof.Sums
public import proofs.«01_k».proof.Defs

@[expose] public section

set_option maxRecDepth 16384

noncomputable section

namespace Cert.Kernel4Ideal.Prod

open Cert.Kernel4Ideal Cert.Kernel4Ideal.Gen Cert.Sums
open Idealize.ShloMosaic Idealize.ShloMosaic.TcCoe Idealize.ShloMosaic.Tactic
open Idealize.ShloMosaic.Pipeline (Dat Cfg Window)

/-- The left half of a block's columns, as the body loads it. -/
def left (x : Vec Ideal S1024x2048 .bf16) : Vec Ideal S1024x1024 .bf16 :=
  View.ld x (Rect.unit (s := S1024x2048) ![0, 0] S1024x1024.size inb_S1024x2048_S1024x1024_0_0)

/-- The right half. -/
def right (x : Vec Ideal S1024x2048 .bf16) : Vec Ideal S1024x1024 .bf16 :=
  View.ld x (Rect.unit (s := S1024x2048) ![0, 1024] S1024x1024.size inb_S1024x2048_S1024x1024_0_1024)

/-- The first of a block's two parts. -/
def fst (y : Vec Ideal S2x1024x1024 .bf16) : Vec Ideal S1x1024x1024 .bf16 :=
  View.ld y (Rect.unit (s := S2x1024x1024) ![0, 0, 0] S1x1024x1024.size inb_S2x1024x1024_S1x1024x1024_0_0_0)

/-- The second. -/
def snd (y : Vec Ideal S2x1024x1024 .bf16) : Vec Ideal S1x1024x1024 .bf16 :=
  View.ld y (Rect.unit (s := S2x1024x1024) ![1, 0, 0] S1x1024x1024.size inb_S2x1024x1024_S1x1024x1024_1_0_0)

theorem left_apply (x : Vec Ideal S1024x2048 .bf16) (a k : Fin 1024) : left x (ix2 a k) = x (ix2 a ⟨k.val, by omega⟩) :=
  congrArg x (funext fun d => Fin.ext (by
    match d with
    | ⟨0, _⟩ => show 0 + 1 * a.val = a.val; omega
    | ⟨1, _⟩ => show 0 + 1 * k.val = k.val; omega))

theorem right_apply (x : Vec Ideal S1024x2048 .bf16) (a k : Fin 1024) : right x (ix2 a k) = x (ix2 a ⟨1024 + k.val, by omega⟩) :=
  congrArg x (funext fun d => Fin.ext (by
    match d with
    | ⟨0, _⟩ => show 0 + 1 * a.val = a.val; omega
    | ⟨1, _⟩ => show 1024 + 1 * k.val = 1024 + k.val; omega))

theorem fst_apply (y : Vec Ideal S2x1024x1024 .bf16) (b k : Fin 1024) : fst y (ix3 0 b k) = y (ix3 0 b k) :=
  congrArg y (funext fun d => Fin.ext (by
    match d with
    | ⟨0, _⟩ => show 0 + 1 * 0 = 0; omega
    | ⟨1, _⟩ => show 0 + 1 * b.val = b.val; omega
    | ⟨2, _⟩ => show 0 + 1 * k.val = k.val; omega))

theorem snd_apply (y : Vec Ideal S2x1024x1024 .bf16) (b k : Fin 1024) : snd y (ix3 0 b k) = y (ix3 1 b k) :=
  congrArg y (funext fun d => Fin.ext (by
    match d with
    | ⟨0, _⟩ => show 1 + 1 * 0 = 1; omega
    | ⟨1, _⟩ => show 0 + 1 * b.val = b.val; omega
    | ⟨2, _⟩ => show 0 + 1 * k.val = k.val; omega))

/-- A point's product: of the halves with the two parts. -/
def tile1 (x : Vec Ideal S1024x2048 .bf16) (y : Vec Ideal S2x1024x1024 .bf16) : FVec Ideal S1024x1024 .f32 := k0_pay1 (left x) (fst y) (right x) (snd y)

/-- What the first point keeps. -/
def tile2 (x : Vec Ideal S1024x2048 .bf16) (y : Vec Ideal S2x1024x1024 .bf16) : FVec Ideal S1024x1024 .f32 := k0_pay2 (left x) (fst y) (right x) (snd y)

/-- What a middle point keeps. -/
def tile3 (x : Vec Ideal S1024x2048 .bf16) (y : Vec Ideal S2x1024x1024 .bf16) (z : Vec Ideal S1024x1024 .f32) : FVec Ideal S1024x1024 .f32 := k0_pay3 (left x) (fst y) (right x) (snd y) z

/-- What the last point writes. -/
def tile4 (x : Vec Ideal S1024x2048 .bf16) (y : Vec Ideal S2x1024x1024 .bf16) (z : Vec Ideal S1024x1024 .f32) : FVec Ideal S1024x1024 .bf16 := k0_pay4 (left x) (fst y) (right x) (snd y) z

theorem halves_apply (u w : Vec Ideal S1024x1024 .bf16) (v t : Vec Ideal S1x1024x1024 .bf16) (a b : Fin 1024) :
    k0_pay1 u v w t (ix2 a b) = ∑ k : Fin 1024, u (ix2 a k) * v (ix3 0 b k) + ∑ k : Fin 1024, w (ix2 a k) * t (ix3 0 b k) := by
  pointwise [k0_pay1]

/-- A tile's product. -/
theorem pay_apply (x : Vec Ideal S1024x2048 .bf16) (y : Vec Ideal S2x1024x1024 .bf16) (a b : Fin 1024) :
    tile1 x y (ix2 a b) = ∑ k : Fin 1024, x (ix2 a ⟨k.val, by omega⟩) * y (ix3 0 b k) + ∑ k : Fin 1024, x (ix2 a ⟨1024 + k.val, by omega⟩) * y (ix3 1 b k) := by
  refine (halves_apply _ _ _ _ a b).trans (congrArg₂ (· + ·) (Finset.sum_congr rfl fun k _ => ?_) (Finset.sum_congr rfl fun k _ => ?_))
  · rw [left_apply, fst_apply]
  · rw [right_apply, snd_apply]

theorem pay2_eq (x : Vec Ideal S1024x2048 .bf16) (y : Vec Ideal S2x1024x1024 .bf16) : tile2 x y = tile1 x y := by
  unfold tile2 tile1 k0_pay2
  rw [shapeCast_self]

theorem pay3_apply (x : Vec Ideal S1024x2048 .bf16) (y : Vec Ideal S2x1024x1024 .bf16) (z : Vec Ideal S1024x1024 .f32) (a b : Fin 1024) :
    tile3 x y z (ix2 a b) = z (ix2 a b) + tile1 x y (ix2 a b) := by
  unfold tile3 tile1 k0_pay3
  generalize k0_pay1 (left x) (fst y) (right x) (snd y) = p
  pointwise

theorem pay4_apply (x : Vec Ideal S1024x2048 .bf16) (y : Vec Ideal S2x1024x1024 .bf16) (z : Vec Ideal S1024x1024 .f32) (a b : Fin 1024) :
    tile4 x y z (ix2 a b) = z (ix2 a b) + tile1 x y (ix2 a b) := by
  unfold tile4 tile1 k0_pay4
  generalize k0_pay1 (left x) (fst y) (right x) (snd y) = p
  pointwise

theorem zz : (![0, 0] : Fin 2 → Nat) = fun _ => 0 := by funext x; match x with | ⟨0, _⟩ => rfl | ⟨1, _⟩ => rfl

/-- The first point of a tile keeps its product. -/
theorem sum_A (c : Dev nD) (i : grid0.Coords) (r0 : Memref sig .tc .vmem S1024x2048 .bf16) (h0 : r0.IsWhole) (r1 : Memref sig .tc .vmem S2x1024x1024 .bf16) (h1 : r1.IsWhole) (r2 : Memref sig .tc .vmem S1024x1024 .bf16) (h2 : r2.IsWhole) (r3 : Memref sig .tc .vmem S1024x1024 .f32) (h3 : r3.IsWhole) (hc0 : cond0_0 i) (hc1 : ¬cond0_1 i) (hc2 : ¬cond0_2 i)
    (x : Vec Ideal S1024x2048 .bf16) (y : Vec Ideal S2x1024x1024 .bf16) :
    sout0_A_0 c i r0 h0 r1 h1 r2 h2 r3 h3 hc0 hc1 hc2 x y = tile2 x y := by
  unfold sout0_A_0
  rw [View.read_writes_eq_canon _ _ _ (scover0_A_0 c i r0 h0 r1 h1 r2 h2 r3 h3 hc0 hc1 hc2 x y)]
  unfold kernelRun0_A
  dsimp only
  sl_unfold_words
  rw [View.canon_unit_zero zz]
  simp only [View.readAt_eq_ld, h0.read_unread, h1.read_unread, h3.read_unread, View.ld_unit_zero (S := S1024x2048) zz, View.ld_unit_zero (S := S1024x1024) zz, shapeCast_self]
  rfl

/-- A middle point adds its product. -/
theorem sum_B (c : Dev nD) (i : grid0.Coords) (r0 : Memref sig .tc .vmem S1024x2048 .bf16) (h0 : r0.IsWhole) (r1 : Memref sig .tc .vmem S2x1024x1024 .bf16) (h1 : r1.IsWhole) (r2 : Memref sig .tc .vmem S1024x1024 .bf16) (h2 : r2.IsWhole) (r3 : Memref sig .tc .vmem S1024x1024 .f32) (h3 : r3.IsWhole) (hc0 : ¬cond0_0 i) (hc1 : cond0_1 i) (hc2 : ¬cond0_2 i)
    (x : Vec Ideal S1024x2048 .bf16) (y : Vec Ideal S2x1024x1024 .bf16) (z : Vec Ideal S1024x1024 .f32) :
    sout0_B_0 c i r0 h0 r1 h1 r2 h2 r3 h3 hc0 hc1 hc2 x y z = tile3 x y z := by
  unfold sout0_B_0
  rw [View.read_writes_eq_canon _ _ _ (scover0_B_0 c i r0 h0 r1 h1 r2 h2 r3 h3 hc0 hc1 hc2 x y z)]
  unfold kernelRun0_B
  dsimp only
  sl_unfold_words
  rw [View.canon_unit_zero zz]
  simp only [View.readAt_eq_ld, h0.read_unread, h1.read_unread, h3.read_unread, View.ld_unit_zero (S := S1024x2048) zz, View.ld_unit_zero (S := S1024x1024) zz, shapeCast_self]
  rfl

/-- The last point of a tile writes the sum. -/
theorem out_eq (c : Dev nD) (i : grid0.Coords) (r0 : Memref sig .tc .vmem S1024x2048 .bf16) (h0 : r0.IsWhole) (r1 : Memref sig .tc .vmem S2x1024x1024 .bf16) (h1 : r1.IsWhole) (r2 : Memref sig .tc .vmem S1024x1024 .bf16) (h2 : r2.IsWhole) (r3 : Memref sig .tc .vmem S1024x1024 .f32) (h3 : r3.IsWhole) (hc0 : ¬cond0_0 i) (hc1 : ¬cond0_1 i) (hc2 : cond0_2 i)
    (x : Vec Ideal S1024x2048 .bf16) (y : Vec Ideal S2x1024x1024 .bf16) (z : Vec Ideal S1024x1024 .f32) :
    out0_C_2 c i r0 h0 r1 h1 r2 h2 r3 h3 hc0 hc1 hc2 x y z = tile4 x y z := by
  unfold out0_C_2
  rw [View.read_writes_eq_canon _ _ _ (cover0_C_2 c i r0 h0 r1 h1 r2 h2 r3 h3 hc0 hc1 hc2 x y z)]
  unfold kernelRun0_C
  dsimp only
  sl_unfold_words
  rw [View.canon_unit_zero zz]
  simp only [View.readAt_eq_ld, h0.read_unread, h1.read_unread, h3.read_unread, View.ld_unit_zero (S := S1024x2048) zz, View.ld_unit_zero (S := S1024x1024) zz, shapeCast_self]
  rfl

/-- Each window's block at a point of the grid. -/
theorem idx_facts : ∀ t : Fin cfg0.N, win0_0.index t (0 : Fin 2) = t.val / 8
    ∧ win0_0.index t (1 : Fin 2) = t.val % 4
    ∧ win0_1.index t (0 : Fin 3) = t.val % 4
    ∧ win0_1.index t (1 : Fin 3) = t.val / 4 % 2
    ∧ win0_1.index t (2 : Fin 3) = 0 :=
  (by decide +kernel : ∀ t : Fin grid0.N, _)

variable (m : (ℓ : Loc nD τ sig) → Buf (Elt Ideal) ℓ) (c : Dev nD)

/-- The array window 0 cuts into blocks. -/
abbrev arr0 : Vec Ideal S4096x8192 .bf16 := V m c main_v0

/-- The array window 1 cuts into blocks. -/
abbrev arr1 : Vec Ideal S8x2048x1024 .bf16 := V m c main_v3

theorem blk_0 (t : Fin cfg0.N) (p0 : Fin 1024) (p1 : Fin 2048) (q0 : Fin 4096) (q1 : Fin 8192)
    (h0 : q0.val = t.val / 8 * 1024 + p0.val) (h1 : q1.val = t.val % 4 * 2048 + p1.val) :
    (iblk m c 0 t : Vec Ideal S1024x2048 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 1024 + p0.val = q0.val by rw [e0, h0])
  | ⟨1, _⟩ => exact (Window.rect_emb_val _ _ _ _).trans (show win0_0.index t (1 : Fin 2) * 2048 + p1.val = q1.val by rw [e1, h1])

theorem blk_1 (t : Fin cfg0.N) (p0 : Fin 2) (p1 : Fin 1024) (p2 : Fin 1024) (q0 : Fin 8) (q1 : Fin 2048) (q2 : Fin 1024)
    (h0 : q0.val = t.val % 4 * 2 + p0.val) (h1 : q1.val = t.val / 4 % 2 * 1024 + p1.val) (h2 : q2.val = 0 * 1024 + p2.val) :
    (iblk m c 1 t : Vec Ideal S2x1024x1024 .bf16) (ix3 p0 p1 p2) = arr1 m c (ix3 q0 q1 q2) := by
  obtain ⟨-, -, e0, e1, e2⟩ := idx_facts t
  unfold iblk
  rw [View.read_apply]
  refine congrArg (V m c main_v3) ?_
  funext x
  apply Fin.ext
  match x with
  | ⟨0, _⟩ => exact (Window.rect_emb_val _ _ _ _).trans (show win0_1.index t (0 : Fin 3) * 2 + p0.val = q0.val by rw [e0, h0])
  | ⟨1, _⟩ => exact (Window.rect_emb_val _ _ _ _).trans (show win0_1.index t (1 : Fin 3) * 1024 + p1.val = q1.val by rw [e1, h1])
  | ⟨2, _⟩ => exact (Window.rect_emb_val _ _ _ _).trans (show win0_1.index t (2 : Fin 3) * 1024 + p2.val = q2.val by rw [e2, h2])

/-- A point's product at a place of its tile, over the arrays the grid cuts. -/
theorem prod_at (t : Fin cfg0.N) (a : Fin 1024) (b : Fin 1024) (r : Fin 4096) (s : Fin 2048) (q : Nat) (hlt : q < 4)
    (hq : t.val % 4 = q) (ha : r.val = t.val / 8 * 1024 + a.val) (hb : s.val = t.val / 4 % 2 * 1024 + b.val) :
    tile1 (iblk m c 0 t) (iblk m c 1 t) (ix2 a b)
      = ∑ k : Fin 2048, arr0 m c (ix2 r ⟨q * 2048 + k.val, by omega⟩) * arr1 m c (ix3 ⟨(q * 2048 + k.val) / 1024, by omega⟩ s ⟨(q * 2048 + k.val) % 1024, by omega⟩) := by
  have h := (sum_half fun k => arr0 m c (ix2 r ⟨q * 2048 + k.val, by omega⟩) * arr1 m c (ix3 ⟨(q * 2048 + k.val) / 1024, by omega⟩ s ⟨(q * 2048 + k.val) % 1024, by omega⟩)).symm
  refine (pay_apply (iblk m c 0 t) (iblk m c 1 t) a b).trans (Eq.trans (congrArg₂ (· + ·) ?_ ?_) h)
  · refine Finset.sum_congr rfl fun k _ => ?_
    rw [blk_0 m c t a ⟨k.val, by omega⟩ r ⟨q * 2048 + k.val, by omega⟩ ha (by rw [hq]),
      blk_1 m c t 0 b k ⟨(q * 2048 + k.val) / 1024, by omega⟩ s ⟨(q * 2048 + k.val) % 1024, by omega⟩
        (by rw [hq]; show (q * 2048 + k.val) / 1024 = q * 2 + 0; omega) hb (by show (q * 2048 + k.val) % 1024 = 0 * 1024 + k.val; omega)]
  · refine Finset.sum_congr rfl fun k _ => ?_
    rw [blk_0 m c t a ⟨1024 + k.val, by omega⟩ r ⟨q * 2048 + (1024 + k.val), by omega⟩ ha (by rw [hq]),
      blk_1 m c t 1 b k ⟨(q * 2048 + (1024 + k.val)) / 1024, by omega⟩ s ⟨(q * 2048 + (1024 + k.val)) % 1024, by omega⟩
        (by rw [hq]; show (q * 2048 + (1024 + k.val)) / 1024 = q * 2 + 1; omega) hb (by show (q * 2048 + (1024 + k.val)) % 1024 = 0 * 1024 + k.val; omega)]

theorem left_A (t : Fin cfg0.N) (h : t.val % 4 = 0) :
    (outsAt0 m c t.val t.isLt).2 = tile1 (iblk m c 0 t) (iblk m c 1 t) := by
  rw [outsAt0_A m c t h (by omega) (by omega)]
  dsimp only
  rw [sum_A, pay2_eq]

theorem left_B (t : Fin cfg0.N) (h : 1 ≤ t.val % 4 ∧ t.val % 4 ≤ 2) :
    (outsAt0 m c t.val t.isLt).2 = tile3 (iblk m c 0 t) (iblk m c 1 t) (outsAt0 m c (t.val - 1) (Nat.lt_of_le_of_lt (Nat.sub_le _ _) t.isLt)).2 := by
  rw [outsAt0_B m c t (by omega) h (by omega)]
  dsimp only
  rw [sum_B]

theorem left_last (t : Fin cfg0.N) (h : t.val % 4 = 3) :
    (outsAt0 m c t.val t.isLt).1 = tile4 (iblk m c 0 t) (iblk m c 1 t) (outsAt0 m c (t.val - 1) (Nat.lt_of_le_of_lt (Nat.sub_le _ _) t.isLt)).2 := by
  rw [outsAt0_C m c t (by omega) (by omega) h]
  dsimp only
  rw [out_eq]

/-- The result at an index: what the last point of its tile wrote. -/
theorem final_apply (i : S4096x2048.Idx) (h : Value.pt2Of i < cfg0.N) :
    Value.G2 m c i = (outsAt0 m c (Value.pt2Of i) h).1 (Value.loc2Of i) := by
  unfold Value.G2
  rw [dif_pos h, ← Value.outsAt0_sweep]

/-- What the last point of a tile writes at a place of it, over the arrays the grid cuts. -/
theorem tile_apply (n : Nat) (hp : ∀ q < 4, n + q < cfg0.N) (hq : ∀ q < 4, (n + q) % 4 = q) (a : Fin 1024) (b : Fin 1024)
    (r : Fin 4096) (s : Fin 2048) (ha : ∀ q < 4, r.val = (n + q) / 8 * 1024 + a.val)
    (hb : ∀ q < 4, s.val = (n + q) / 4 % 2 * 1024 + b.val) :
    (outsAt0 m c (n + 3) (hp 3 (by decide))).1 (ix2 a b) = ∑ k : Fin 8192, arr0 m c (ix2 r k) * arr1 m c (ix3 ⟨k.val / 1024, by omega⟩ s ⟨k.val % 1024, by omega⟩) := by
  have e : ∀ q, ∀ hlt : q < 4, tile1 (iblk m c 0 ⟨n + q, hp q hlt⟩) (iblk m c 1 ⟨n + q, hp q hlt⟩) (ix2 a b) = _ := fun q hlt =>
    prod_at m c ⟨n + q, hp q hlt⟩ a b r s q hlt (hq q hlt) (ha q hlt) (hb q hlt)
  have e0 := (congrFun (left_A m c ⟨n + 0, hp 0 (by decide)⟩ (hq 0 (by decide))) (ix2 a b)).trans (e 0 (by decide))
  have e1 := (congrFun (left_B m c ⟨n + 1, hp 1 (by decide)⟩ (by rw [hq 1 (by decide)]; decide)) (ix2 a b)).trans
    ((pay3_apply _ _ _ a b).trans (congrArg₂ (· + ·) e0 (e 1 (by decide))))
  have e2 := (congrFun (left_B m c ⟨n + 2, hp 2 (by decide)⟩ (by rw [hq 2 (by decide)]; decide)) (ix2 a b)).trans
    ((pay3_apply _ _ _ a b).trans (congrArg₂ (· + ·) e1 (e 2 (by decide))))
  exact (congrFun (left_last m c ⟨n + 3, hp 3 (by decide)⟩ (hq 3 (by decide))) (ix2 a b)).trans
    ((pay4_apply _ _ _ a b).trans ((congrArg₂ (· + ·) e2 (e 3 (by decide))).trans (sum_4 fun k => arr0 m c (ix2 r k) * arr1 m c (ix3 ⟨k.val / 1024, by omega⟩ s ⟨k.val % 1024, by omega⟩)).symm))

/-- The result at an index, over the arrays the grid cuts. -/
theorem result0 (r : Fin 4096) (s : Fin 2048) :
    (Value.G2 m c : Vec Ideal S4096x2048 .bf16) (ix2 r s)
      = ∑ k : Fin 8192, arr0 m c (ix2 r k) * arr1 m c (ix3 ⟨k.val / 1024, by omega⟩ s ⟨k.val % 1024, by omega⟩) := by
  have hr := r.isLt
  have hs := s.isLt
  have N0 : cfg0.N = 32 := N_0
  obtain ⟨n, hn⟩ : ∃ n : Nat, n = (r.val / 1024 * 2 + s.val / 1024) * 4 := ⟨_, rfl⟩
  have hp : ∀ q < 4, n + q < cfg0.N := fun q hq => by omega
  have hpt : Value.pt2Of (ix2 r s : S4096x2048.Idx) = n + 3 := by
    show 4 * (2 * (r.val / 1024 - 0) + 1 * (s.val / 1024 - 0)) + 3 = _
    omega
  have hloc : Value.loc2Of (ix2 r s : S4096x2048.Idx) = ix2 ⟨r.val % 1024, Nat.mod_lt _ (by decide)⟩ ⟨s.val % 1024, Nat.mod_lt _ (by decide)⟩ := by
    funext x
    match x with
    | ⟨0, _⟩ => rfl
    | ⟨1, _⟩ => rfl
  refine (final_apply m c _ (hpt ▸ hp 3 (by decide))).trans ?_
  rw [hloc]
  refine Eq.trans ?_ (tile_apply m c n hp (fun q hq => by omega) ⟨r.val % 1024, Nat.mod_lt _ (by decide)⟩
    ⟨s.val % 1024, Nat.mod_lt _ (by decide)⟩ r s (fun q hq => by show _ = _ * 1024 + r.val % 1024; omega)
    (fun q hq => by show _ = _ * 1024 + s.val % 1024; omega))
  simp only [hpt]

/-- Argument 0. -/
abbrev arg0 : Vec Ideal S4096x2048 .f32 := m ((c : Thread nD τ).loc main_arg0)

/-- Argument 1. -/
abbrev arg1 : Vec Ideal S2048x8192 .f32 := m ((c : Thread nD τ).loc main_arg1)

/-- Argument 2. -/
abbrev arg2 : Vec Ideal S4096x8192 .f32 := m ((c : Thread nD τ).loc main_arg2)

theorem arr0_apply (r : Fin 4096) (s : Fin 8192) : arr0 m c (ix2 r s) = arg2 m c (ix2 r s) := by
  have e : arr0 m c = (truncf .bf16 (arg2 m c) bitsLt_bf16_f32 : FVec Ideal S4096x8192 .bf16) := by
    show StableHlo.after _ _ _ = _
    after_results_simp
  rw [e]
  rfl

theorem arr1_apply (p : Fin 8) (r : Fin 2048) (s : Fin 1024) : arr1 m c (ix3 p r s) = arg1 m c (ix2 r ⟨p.val * 1024 + s.val, by omega⟩) := by
  have e : arr1 m c = (truncf .bf16 (transpose S8x2048x1024 [1, 0, 2] (fun i => shapeCast S2048x8x1024 (arg1 m c) shapeCasts_S2048x8192_S2048x8x1024 i) transposes_S2048x8x1024_S8x2048x1024_1_0_2) bitsLt_bf16_f32 : FVec Ideal S8x2048x1024 .bf16) := by
    show StableHlo.after _ _ _ = _
    after_results_simp
    rfl
  rw [e]
  pointwise

/-- Result 0. -/
abbrev out0 : Vec Ideal S4096x2048 .bf16 := Value.G2 m c

/-- The kernel's result at an index, over the arguments. -/
theorem kernel0_apply (r : Fin 4096) (s : Fin 2048) :
    out0 m c (ix2 r s)
      = ∑ k : Fin 8192, arg2 m c (ix2 r k) * arg1 m c (ix2 s k) := by
  have h : (∑ k : Fin 8192, arr0 m c (ix2 r k) * arr1 m c (ix3 ⟨k.val / 1024, by omega⟩ s ⟨k.val % 1024, by omega⟩) : EReal) = ∑ k : Fin 8192, arg2 m c (ix2 r k) * arg1 m c (ix2 s k) :=
    Finset.sum_congr rfl fun k _ => by
    rw [arr0_apply, arr1_apply]; exact congrArg _ (congrArg _ (congrArg _ (Fin.ext (show k.val / 1024 * 1024 + k.val % 1024 = k.val by omega))))
  exact (result0 m c r s).trans h

end Cert.Kernel4Ideal.Prod

namespace Cert.Reference4Ideal.Prod

open Cert.Reference4Ideal Cert.Reference4Ideal.Gen
open Idealize.ShloMosaic Idealize.ShloMosaic.TcCoe Idealize.ShloMosaic.Tactic

/-- The reference's result as a function of its arguments. -/
def res0 (x0 : FVec Ideal S4096x2048 .f32) (x1 : FVec Ideal S2048x8192 .f32) (x2 : FVec Ideal S4096x8192 .f32) : FVec Ideal S4096x2048 .bf16 :=
  truncf .bf16 (Host.dotGeneral dot_S4096x8192_S2048x8192_S4096x2048_1_1_0_0_n_n none x2 x1) bitsLt_bf16_f32

/-- The reference's result at an index. -/
theorem ref0_apply (x0 : FVec Ideal S4096x2048 .f32) (x1 : FVec Ideal S2048x8192 .f32) (x2 : FVec Ideal S4096x8192 .f32) (r : Fin 4096) (s : Fin 2048) :
    res0 x0 x1 x2 (ix2 r s) = ∑ k : Fin 8192, x2 (ix2 r k) * x1 (ix2 s k) := by
  pointwise [res0]

end Cert.Reference4Ideal.Prod

namespace Cert.Kernel4Ideal.Prod

open Cert.Kernel4Ideal Cert.Kernel4Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference4Ideal.Prod.res0 (arg0 m c) (arg1 m c) (arg2 m c) = out0 m c := by
  funext i
  obtain ⟨r, s, rfl⟩ : ∃ (r : Fin 4096) (s : Fin 2048), i = ix2 r s := ⟨i 0, i 1, eq_ix2 i⟩
  exact (Cert.Reference4Ideal.Prod.ref0_apply (arg0 m c) (arg1 m c) (arg2 m c) r s).trans (kernel0_apply m c r s).symm

/-- Over the reals the kernel computes what the reference does, whatever the arguments. -/
theorem algebraic : Cert.algebraic_Kernel4Ideal_Reference4Ideal := by
  intro m g m' g' _ heq
  refine ⟨fun c => Value.G2 m c, Value.run (F := Ideal) m g, ?_⟩
  refine (θ_run Cert.Reference4Ideal.defs _ _).mono (fun r h c => ⟨(h c).1.trans ?_, (h c).2⟩) (Cert.Reference4Ideal.Value.run (F := Ideal) m' g')
  · obtain ⟨e0, e1, e2⟩ := heq c
    have h := same0 m c
    dsimp only [arg0, arg1, arg2] at h
    rw [← e0, ← e1, ← e2] at h
    exact h

end Cert.Kernel4Ideal.Prod

end
-- ==== Proof.Prod5.lean ====
/- The gradient of the first MLP weight: two points of the grid sum each tile, one for each half of the tokens. -/
module

public import proofs.«01_k».proof.Proof.Gen.Kernel5Ideal.Value
public import proofs.«01_k».proof.Proof.Gen.Reference5Ideal.Run
public import proofs.«01_k».proof.Proof.Sums
public import proofs.«01_k».proof.Defs

@[expose] public section

set_option maxRecDepth 16384

noncomputable section

namespace Cert.Kernel5Ideal.Prod

open Cert.Kernel5Ideal Cert.Kernel5Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S2048x1024 .bf16) (y : Vec Ideal S2048x1024 .bf16) (a : Fin 1024) (b : Fin 1024) :
    k0_pay1 x y (ix2 a b) = ∑ k : Fin 2048, x (ix2 k a) * y (ix2 k b) := by
  pointwise [k0_pay1]

theorem pay2_eq (x : Vec Ideal S2048x1024 .bf16) (y : Vec Ideal S2048x1024 .bf16) : k0_pay2 x y = k0_pay1 x y := by
  unfold k0_pay2
  rw [shapeCast_self]

theorem pay4_apply (x : Vec Ideal S2048x1024 .bf16) (y : Vec Ideal S2048x1024 .bf16) (z : Vec Ideal S1024x1024 .f32) (a : Fin 1024) (b : Fin 1024) :
    k0_pay4 x y z (ix3 0 a b) = z (ix2 a b) + k0_pay1 x y (ix2 a b) := by
  pointwise [k0_pay4, k0_pay1]

theorem zz : (![0, 0] : Fin 2 → Nat) = fun _ => 0 := by funext x; match x with | ⟨0, _⟩ => rfl | ⟨1, _⟩ => rfl

theorem zzz : (![0, 0, 0] : Fin 3 → Nat) = fun _ => 0 := by funext x; match x with | ⟨0, _⟩ => rfl | ⟨1, _⟩ => rfl | ⟨2, _⟩ => rfl

/-- The first point of a tile keeps its product. -/
theorem sum_A (c : Dev nD) (i : grid0.Coords) (r0 : Memref sig .tc .vmem S2048x1024 .bf16) (h0 : r0.IsWhole) (r1 : Memref sig .tc .vmem S2048x1024 .bf16) (h1 : r1.IsWhole) (r2 : Memref sig .tc .vmem S1x1024x1024 .bf16) (h2 : r2.IsWhole) (r3 : Memref sig .tc .vmem S1024x1024 .f32) (h3 : r3.IsWhole) (hc0 : cond0_0 i) (hc1 : ¬cond0_1 i) (hc2 : ¬cond0_2 i)
    (x : Vec Ideal S2048x1024 .bf16) (y : Vec Ideal S2048x1024 .bf16) :
    sout0_A_0 c i r0 h0 r1 h1 r2 h2 r3 h3 hc0 hc1 hc2 x y = k0_pay2 x y := by
  unfold sout0_A_0
  rw [View.read_writes_eq_canon _ _ _ (scover0_A_0 c i r0 h0 r1 h1 r2 h2 r3 h3 hc0 hc1 hc2 x y)]
  unfold kernelRun0_A
  dsimp only
  sl_unfold_words
  rw [View.canon_unit_zero zz]
  simp only [View.readAt_eq_ld, h0.read_unread, h1.read_unread, h3.read_unread, View.ld_unit_zero (S := S2048x1024) zz, View.ld_unit_zero (S := S1x1024x1024) zzz, View.ld_unit_zero (S := S1024x1024) zz, shapeCast_self]

/-- The last point of a tile writes the sum. -/
theorem out_eq (c : Dev nD) (i : grid0.Coords) (r0 : Memref sig .tc .vmem S2048x1024 .bf16) (h0 : r0.IsWhole) (r1 : Memref sig .tc .vmem S2048x1024 .bf16) (h1 : r1.IsWhole) (r2 : Memref sig .tc .vmem S1x1024x1024 .bf16) (h2 : r2.IsWhole) (r3 : Memref sig .tc .vmem S1024x1024 .f32) (h3 : r3.IsWhole) (hc0 : ¬cond0_0 i) (hc1 : ¬cond0_1 i) (hc2 : cond0_2 i)
    (x : Vec Ideal S2048x1024 .bf16) (y : Vec Ideal S2048x1024 .bf16) (z : Vec Ideal S1024x1024 .f32) :
    out0_B_2 c i r0 h0 r1 h1 r2 h2 r3 h3 hc0 hc1 hc2 x y z = k0_pay4 x y z := by
  unfold out0_B_2
  rw [View.read_writes_eq_canon _ _ _ (cover0_B_2 c i r0 h0 r1 h1 r2 h2 r3 h3 hc0 hc1 hc2 x y z)]
  unfold kernelRun0_B
  dsimp only
  sl_unfold_words
  rw [View.canon_unit_zero zzz]
  simp only [View.readAt_eq_ld, h0.read_unread, h1.read_unread, h3.read_unread, View.ld_unit_zero (S := S2048x1024) zz, View.ld_unit_zero (S := S1x1024x1024) zzz, View.ld_unit_zero (S := S1024x1024) zz, shapeCast_self]

/-- Each window's block at a point of the grid. -/
theorem idx_facts : ∀ t : Fin cfg0.N, win0_0.index t (0 : Fin 2) = t.val % 2
    ∧ win0_0.index t (1 : Fin 2) = t.val / 16
    ∧ win0_1.index t (0 : Fin 2) = t.val % 2
    ∧ win0_1.index t (1 : Fin 2) = t.val / 2 % 8 :=
  (by decide +kernel : ∀ t : Fin grid0.N, _)

variable (m : (ℓ : Loc nD τ sig) → Buf (Elt Ideal) ℓ) (c : Dev nD)

/-- The array window 0 cuts into blocks. -/
abbrev arr0 : Vec Ideal S4096x2048 .bf16 := V m c main_v0

/-- The array window 1 cuts into blocks. -/
abbrev arr1 : Vec Ideal S4096x8192 .bf16 := V m c main_v1

theorem blk_0 (t : Fin cfg0.N) (p0 : Fin 2048) (p1 : Fin 1024) (q0 : Fin 4096) (q1 : Fin 2048)
    (h0 : q0.val = t.val % 2 * 2048 + p0.val) (h1 : q1.val = t.val / 16 * 1024 + p1.val) :
    (iblk m c 0 t : Vec Ideal S2048x1024 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 2048 + p0.val = q0.val by rw [e0, h0])
  | ⟨1, _⟩ => exact (Window.rect_emb_val _ _ _ _).trans (show win0_0.index t (1 : Fin 2) * 1024 + p1.val = q1.val by rw [e1, h1])

theorem blk_1 (t : Fin cfg0.N) (p0 : Fin 2048) (p1 : Fin 1024) (q0 : Fin 4096) (q1 : Fin 8192)
    (h0 : q0.val = t.val % 2 * 2048 + p0.val) (h1 : q1.val = t.val / 2 % 8 * 1024 + p1.val) :
    (iblk m c 1 t : Vec Ideal S2048x1024 .bf16) (ix2 p0 p1) = arr1 m c (ix2 q0 q1) := by
  obtain ⟨-, -, e0, e1⟩ := idx_facts t
  unfold iblk
  rw [View.read_apply]
  refine congrArg (V m c main_v1) ?_
  funext x
  apply Fin.ext
  match x with
  | ⟨0, _⟩ => exact (Window.rect_emb_val _ _ _ _).trans (show win0_1.index t (0 : Fin 2) * 2048 + p0.val = q0.val by rw [e0, h0])
  | ⟨1, _⟩ => exact (Window.rect_emb_val _ _ _ _).trans (show win0_1.index t (1 : Fin 2) * 1024 + p1.val = q1.val by rw [e1, h1])

/-- A point's product at a place of its tile, over the arrays the grid cuts. -/
theorem prod_at (t : Fin cfg0.N) (a : Fin 1024) (b : Fin 1024) (r : Fin 2048) (s : Fin 8192) (q : Nat) (hlt : q < 2)
    (hq : t.val % 2 = q) (ha : r.val = t.val / 16 * 1024 + a.val) (hb : s.val = t.val / 2 % 8 * 1024 + b.val) :
    k0_pay1 (iblk m c 0 t) (iblk m c 1 t) (ix2 a b)
      = ∑ k : Fin 2048, arr0 m c (ix2 ⟨q * 2048 + k.val, by omega⟩ r) * arr1 m c (ix2 ⟨q * 2048 + k.val, by omega⟩ s) := by
  refine (pay_apply (iblk m c 0 t) (iblk m c 1 t) a b).trans (Finset.sum_congr rfl fun k _ => ?_)
  rw [blk_0 m c t k a ⟨q * 2048 + k.val, by omega⟩ r (by rw [hq]) ha, blk_1 m c t k b ⟨q * 2048 + k.val, by omega⟩ s (by rw [hq]) hb]

theorem left_A (t : Fin cfg0.N) (h : t.val % 2 = 0) :
    (outsAt0 m c t.val t.isLt).2 = k0_pay1 (iblk m c 0 t) (iblk m c 1 t) := by
  rw [outsAt0_A m c t h (by omega)]
  dsimp only
  rw [sum_A, pay2_eq]

theorem left_last (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h]
  dsimp only
  rw [out_eq]

/-- The result at an index: what the last point of its tile wrote. -/
theorem final_apply (i : S8x2048x1024.Idx) (h : Value.pt2Of i < cfg0.N) :
    Value.G2 m c i = (outsAt0 m c (Value.pt2Of i) h).1 (Value.loc2Of i) := by
  unfold Value.G2
  rw [dif_pos h, ← Value.outsAt0_sweep]

/-- What the last point of a tile writes at a place of it, over the arrays the grid cuts. -/
theorem tile_apply (n : Nat) (hp : ∀ q < 2, n + q < cfg0.N) (hq : ∀ q < 2, (n + q) % 2 = q) (a : Fin 1024) (b : Fin 1024)
    (r : Fin 2048) (s : Fin 8192) (ha : ∀ q < 2, r.val = (n + q) / 16 * 1024 + a.val)
    (hb : ∀ q < 2, s.val = (n + q) / 2 % 8 * 1024 + b.val) :
    (outsAt0 m c (n + 1) (hp 1 (by decide))).1 (ix3 0 a b) = ∑ k : Fin 4096, arr0 m c (ix2 k r) * arr1 m c (ix2 k s) := by
  have e : ∀ q, ∀ hlt : q < 2, k0_pay1 (iblk m c 0 ⟨n + q, hp q hlt⟩) (iblk m c 1 ⟨n + q, hp q hlt⟩) (ix2 a b) = _ := fun q hlt =>
    prod_at m c ⟨n + q, hp q hlt⟩ a b r s q hlt (hq q hlt) (ha q hlt) (hb q hlt)
  have e0 := (congrFun (left_A m c ⟨n + 0, hp 0 (by decide)⟩ (hq 0 (by decide))) (ix2 a b)).trans (e 0 (by decide))
  exact (congrFun (left_last m c ⟨n + 1, hp 1 (by decide)⟩ (hq 1 (by decide))) (ix3 0 a b)).trans
    ((pay4_apply _ _ _ a b).trans ((congrArg₂ (· + ·) e0 (e 1 (by decide))).trans (sum_2 fun k => arr0 m c (ix2 k r) * arr1 m c (ix2 k s)).symm))

/-- The result at an index, over the arrays the grid cuts. -/
theorem result0 (r : Fin 2048) (s : Fin 8192) :
    (Value.G2 m c : Vec Ideal S8x2048x1024 .bf16) (ix3 ⟨s.val / 1024, by omega⟩ r ⟨s.val % 1024, by omega⟩)
      = ∑ k : Fin 4096, arr0 m c (ix2 k r) * arr1 m c (ix2 k s) := by
  have hr := r.isLt
  have hs := s.isLt
  have N0 : cfg0.N = 32 := N_0
  obtain ⟨n, hn⟩ : ∃ n : Nat, n = (r.val / 1024 * 8 + s.val / 1024) * 2 := ⟨_, rfl⟩
  have hp : ∀ q < 2, n + q < cfg0.N := fun q hq => by omega
  have hpt : Value.pt2Of (ix3 ⟨s.val / 1024, by omega⟩ r ⟨s.val % 1024, by omega⟩ : S8x2048x1024.Idx) = n + 1 := by
    show 2 * (1 * (s.val / 1024 / 1 - 0) + 8 * (r.val / 1024 - 0) + 16 * (s.val % 1024 / 1024 - 0)) + 1 = _
    omega
  have hloc : Value.loc2Of (ix3 ⟨s.val / 1024, by omega⟩ r ⟨s.val % 1024, by omega⟩ : S8x2048x1024.Idx) = ix3 0 ⟨r.val % 1024, Nat.mod_lt _ (by decide)⟩ ⟨s.val % 1024, Nat.mod_lt _ (by decide)⟩ := by
    funext x
    match x with
    | ⟨0, _⟩ => exact Fin.ext (Nat.mod_one _)
    | ⟨1, _⟩ => rfl
    | ⟨2, _⟩ => exact Fin.ext (show s.val % 1024 % 1024 = s.val % 1024 by omega)
  refine (final_apply m c _ (hpt ▸ hp 1 (by decide))).trans ?_
  rw [hloc]
  refine Eq.trans ?_ (tile_apply m c n hp (fun q hq => by omega) ⟨r.val % 1024, Nat.mod_lt _ (by decide)⟩
    ⟨s.val % 1024, Nat.mod_lt _ (by decide)⟩ r s (fun q hq => by show _ = _ * 1024 + r.val % 1024; omega)
    (fun q hq => by show _ = _ * 1024 + s.val % 1024; omega))
  simp only [hpt]

/-- Argument 0. -/
abbrev arg0 : Vec Ideal S4096x2048 .f32 := m ((c : Thread nD τ).loc main_arg0)

/-- Argument 1. -/
abbrev arg1 : Vec Ideal S2048x8192 .f32 := m ((c : Thread nD τ).loc main_arg1)

/-- Argument 2. -/
abbrev arg2 : Vec Ideal S4096x8192 .f32 := m ((c : Thread nD τ).loc main_arg2)

theorem arr0_apply (r : Fin 4096) (s : Fin 2048) : arr0 m c (ix2 r s) = arg0 m c (ix2 r s) := by
  have e : arr0 m c = (truncf .bf16 (arg0 m c) bitsLt_bf16_f32 : FVec Ideal S4096x2048 .bf16) := by
    show StableHlo.after _ _ _ = _
    after_results_simp
  rw [e]
  rfl

theorem arr1_apply (r : Fin 4096) (s : Fin 8192) : arr1 m c (ix2 r s) = arg2 m c (ix2 r s) := by
  have e : arr1 m c = (truncf .bf16 (arg2 m c) bitsLt_bf16_f32 : FVec Ideal S4096x8192 .bf16) := by
    show StableHlo.after _ _ _ = _
    after_results_simp
  rw [e]
  rfl

/-- Result 0. -/
abbrev out0 : Vec Ideal S8x2048x1024 .bf16 := Value.G2 m c

/-- The kernel's result at an index, over the arguments. -/
theorem kernel0_apply (r : Fin 2048) (s : Fin 8192) :
    out0 m c (ix3 ⟨s.val / 1024, by omega⟩ r ⟨s.val % 1024, by omega⟩)
      = ∑ k : Fin 4096, arg0 m c (ix2 k r) * arg2 m c (ix2 k s) := by
  have h : (∑ k : Fin 4096, arr0 m c (ix2 k r) * arr1 m c (ix2 k s) : EReal) = ∑ k : Fin 4096, arg0 m c (ix2 k r) * arg2 m c (ix2 k s) :=
    Finset.sum_congr rfl fun k _ => by rw [arr0_apply, arr1_apply]
  exact (result0 m c r s).trans h

end Cert.Kernel5Ideal.Prod

namespace Cert.Reference5Ideal.Prod

open Cert.Reference5Ideal Cert.Reference5Ideal.Gen
open Idealize.ShloMosaic Idealize.ShloMosaic.TcCoe Idealize.ShloMosaic.Tactic

/-- The reference's result as a function of its arguments. -/
def res0 (x0 : FVec Ideal S4096x2048 .f32) (x1 : FVec Ideal S2048x8192 .f32) (x2 : FVec Ideal S4096x8192 .f32) : FVec Ideal S8x2048x1024 .bf16 :=
  truncf .bf16 (transpose S8x2048x1024 [1, 0, 2] (shapeCast _ (transpose S2048x8192 [1, 0] (Host.dotGeneral dot_S4096x8192_S4096x2048_S8192x2048_0_0_1_1_n_n none x2 x0) transposes_S8192x2048_S2048x8192_1_0) shapeCasts_S2048x8192_S2048x8x1024) transposes_S2048x8x1024_S8x2048x1024_1_0_2) bitsLt_bf16_f32

theorem res0_apply (x0 : FVec Ideal S4096x2048 .f32) (x1 : FVec Ideal S2048x8192 .f32) (x2 : FVec Ideal S4096x8192 .f32) (p : Fin 8) (r : Fin 2048) (q : Fin 1024) :
    res0 x0 x1 x2 (ix3 p r q) = ∑ k : Fin 4096, x2 (ix2 k ⟨p.val * 1024 + q.val, by omega⟩) * x0 (ix2 k r) := by
  pointwise [res0]

/-- The reference's result at an index. -/
theorem ref0_apply (x0 : FVec Ideal S4096x2048 .f32) (x1 : FVec Ideal S2048x8192 .f32) (x2 : FVec Ideal S4096x8192 .f32) (r : Fin 2048) (s : Fin 8192) :
    res0 x0 x1 x2 (ix3 ⟨s.val / 1024, by omega⟩ r ⟨s.val % 1024, by omega⟩) = ∑ k : Fin 4096, x0 (ix2 k r) * x2 (ix2 k s) := by
  rw [res0_apply]
  refine Finset.sum_congr rfl fun k _ => (mul_comm _ _).trans ?_
  exact congrArg _ (congrArg _ (congrArg _ (Fin.ext (show s.val / 1024 * 1024 + s.val % 1024 = s.val by omega))))

end Cert.Reference5Ideal.Prod

namespace Cert.Kernel5Ideal.Prod

open Cert.Kernel5Ideal Cert.Kernel5Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference5Ideal.Prod.res0 (arg0 m c) (arg1 m c) (arg2 m c) = out0 m c := by
  funext i
  have e : ∃ (r : Fin 2048) (s : Fin 8192), i = ix3 ⟨s.val / 1024, by omega⟩ r ⟨s.val % 1024, by omega⟩ := by
    have h0 : (i 0).val < 8 := (i 0).isLt
    have h2 : (i 2).val < 1024 := (i 2).isLt
    refine ⟨i 1, ⟨(i 0).val * 1024 + (i 2).val, by omega⟩, funext fun x => Fin.ext ?_⟩
    match x with
    | ⟨0, _⟩ => show (i 0).val = ((i 0).val * 1024 + (i 2).val) / 1024; omega
    | ⟨1, _⟩ => rfl
    | ⟨2, _⟩ => show (i 2).val = ((i 0).val * 1024 + (i 2).val) % 1024; omega
  obtain ⟨r, s, rfl⟩ := e
  exact (Cert.Reference5Ideal.Prod.ref0_apply (arg0 m c) (arg1 m c) (arg2 m c) r s).trans (kernel0_apply m c r s).symm

/-- Over the reals the kernel computes what the reference does, whatever the arguments. -/
theorem algebraic : Cert.algebraic_Kernel5Ideal_Reference5Ideal := by
  intro m g m' g' _ heq
  refine ⟨fun c => Value.G2 m c, Value.run (F := Ideal) m g, ?_⟩
  refine (θ_run Cert.Reference5Ideal.defs _ _).mono (fun r h c => ⟨(h c).1.trans ?_, (h c).2⟩) (Cert.Reference5Ideal.Value.run (F := Ideal) m' g')
  · obtain ⟨e0, e1, e2⟩ := heq c
    have h := same0 m c
    dsimp only [arg0, arg1, arg2] at h
    rw [← e0, ← e1, ← e2] at h
    exact h

end Cert.Kernel5Ideal.Prod

end
-- ==== Proof.Prod6.lean ====
/- The first product of the MLP and its squared ReLU: each point of the grid writes its own tile of both. -/
module

public import proofs.«01_k».proof.Proof.Gen.Kernel6Ideal.Value
public import proofs.«01_k».proof.Proof.Gen.Reference6Ideal.Run
public import proofs.«01_k».proof.Proof.Sums
public import proofs.«01_k».proof.Defs

@[expose] public section

set_option maxRecDepth 16384

noncomputable section

namespace Cert.Kernel6Ideal.Prod

open Cert.Kernel6Ideal Cert.Kernel6Ideal.Gen Cert.Sums
open Idealize.ShloMosaic Idealize.ShloMosaic.TcCoe Idealize.ShloMosaic.Tactic
open Idealize.ShloMosaic.Pipeline (Dat Cfg Window)

/-- A tile of the product. -/
theorem pay_apply (x : Vec Ideal S1024x2048 .bf16) (y : Vec Ideal S1x2048x1024 .bf16) (a b : Fin 1024) :
    k0_pay2 x y (ix2 a b) = ∑ k : Fin 2048, x (ix2 a k) * y (ix3 0 k b) := by
  pointwise [k0_pay2, k0_pay1]

/-- The same tile's squared ReLU. -/
theorem pay3_apply (x : Vec Ideal S1024x2048 .bf16) (y : Vec Ideal S1x2048x1024 .bf16) (a b : Fin 1024) :
    k0_pay3 x y (ix2 a b) = max (∑ k : Fin 2048, x (ix2 a k) * y (ix3 0 k b)) 0 * max (∑ k : Fin 2048, x (ix2 a k) * y (ix3 0 k b)) 0 := by
  pointwise [k0_pay3, k0_pay1]

theorem zz : (![0, 0] : Fin 2 → Nat) = fun _ => 0 := by funext x; match x with | ⟨0, _⟩ => rfl | ⟨1, _⟩ => rfl

theorem zzz : (![0, 0, 0] : Fin 3 → Nat) = fun _ => 0 := by funext x; match x with | ⟨0, _⟩ => rfl | ⟨1, _⟩ => rfl | ⟨2, _⟩ => rfl

/-- What the body leaves in a result's block. -/
theorem out0_eq (c : Dev nD) (i : grid0.Coords) (r0 : Memref sig .tc .vmem S1024x2048 .bf16) (h0 : r0.IsWhole) (r1 : Memref sig .tc .vmem S1x2048x1024 .bf16) (h1 : r1.IsWhole) (r2 : Memref sig .tc .vmem S1024x1024 .bf16) (h2 : r2.IsWhole) (r3 : Memref sig .tc .vmem S1024x1024 .bf16) (h3 : r3.IsWhole) (r4 : Memref sig .tc .vmem S8x128 .f32) (h4 : r4.IsWhole)
    (x : Vec Ideal S1024x2048 .bf16) (y : Vec Ideal S1x2048x1024 .bf16) :
    out0_A_2 c i r0 h0 r1 h1 r2 h2 r3 h3 r4 h4 x y = k0_pay2 x y := by
  unfold out0_A_2
  rw [View.read_writes_eq_canon _ _ _ (cover0_A_2 c i r0 h0 r1 h1 r2 h2 r3 h3 r4 h4 x y)]
  unfold kernelRun0_A
  dsimp only
  sl_unfold_words
  rw [View.canon_unit_zero zz]
  simp only [View.readAt_eq_ld, h0.read_unread, h1.read_unread, View.ld_unit_zero (S := S1024x2048) zz, View.ld_unit_zero (S := S1x2048x1024) zzz, View.ld_unit_zero (S := S1024x1024) zz, shapeCast_self]

/-- What the body leaves in a result's block. -/
theorem out1_eq (c : Dev nD) (i : grid0.Coords) (r0 : Memref sig .tc .vmem S1024x2048 .bf16) (h0 : r0.IsWhole) (r1 : Memref sig .tc .vmem S1x2048x1024 .bf16) (h1 : r1.IsWhole) (r2 : Memref sig .tc .vmem S1024x1024 .bf16) (h2 : r2.IsWhole) (r3 : Memref sig .tc .vmem S1024x1024 .bf16) (h3 : r3.IsWhole) (r4 : Memref sig .tc .vmem S8x128 .f32) (h4 : r4.IsWhole)
    (x : Vec Ideal S1024x2048 .bf16) (y : Vec Ideal S1x2048x1024 .bf16) :
    out0_A_3 c i r0 h0 r1 h1 r2 h2 r3 h3 r4 h4 x y = k0_pay3 x y := by
  unfold out0_A_3
  rw [View.read_writes_eq_canon _ _ _ (cover0_A_3 c i r0 h0 r1 h1 r2 h2 r3 h3 r4 h4 x y)]
  unfold kernelRun0_A
  dsimp only
  sl_unfold_words
  rw [View.canon_unit_zero zz]
  simp only [View.readAt_eq_ld, h0.read_unread, h1.read_unread, View.ld_unit_zero (S := S1024x2048) zz, View.ld_unit_zero (S := S1x2048x1024) zzz, View.ld_unit_zero (S := S1024x1024) zz, shapeCast_self]

/-- Each window's block at a point of the grid. -/
theorem idx_facts : ∀ t : Fin cfg0.N, win0_0.index t (0 : Fin 2) = t.val / 8
    ∧ win0_0.index t (1 : Fin 2) = 0
    ∧ win0_1.index t (0 : Fin 3) = t.val / 1 % 8
    ∧ win0_1.index t (1 : Fin 3) = 0
    ∧ win0_1.index t (2 : Fin 3) = 0
    ∧ win0_2.index t (0 : Fin 2) = t.val / 8
    ∧ win0_2.index t (1 : Fin 2) = t.val / 1 % 8
    ∧ win0_3.index t (0 : Fin 2) = t.val / 8
    ∧ win0_3.index t (1 : Fin 2) = t.val / 1 % 8
    ∧ win0_2.flush t = true
    ∧ win0_3.flush t = true :=
  (by decide +kernel : ∀ t : Fin grid0.N, _)

variable (m : (ℓ : Loc nD τ sig) → Buf (Elt Ideal) ℓ) (c : Dev nD)

/-- The array window 0 cuts into blocks. -/
abbrev arr0 : Vec Ideal S4096x2048 .bf16 := V m c main_v0

/-- The array window 1 cuts into blocks. -/
abbrev arr1 : Vec Ideal S8x2048x1024 .bf16 := V m c main_v3

theorem blk_0 (t : Fin cfg0.N) (p0 : Fin 1024) (p1 : Fin 2048) (q0 : Fin 4096) (q1 : Fin 2048)
    (h0 : q0.val = t.val / 8 * 1024 + p0.val) (h1 : q1.val = 0 * 2048 + p1.val) :
    (iblk m c 0 t : Vec Ideal S1024x2048 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 1024 + p0.val = q0.val by rw [e0, h0])
  | ⟨1, _⟩ => exact (Window.rect_emb_val _ _ _ _).trans (show win0_0.index t (1 : Fin 2) * 2048 + p1.val = q1.val by rw [e1, h1])

theorem blk_1 (t : Fin cfg0.N) (p0 : Fin 1) (p1 : Fin 2048) (p2 : Fin 1024) (q0 : Fin 8) (q1 : Fin 2048) (q2 : Fin 1024)
    (h0 : q0.val = t.val / 1 % 8 * 1 + p0.val) (h1 : q1.val = 0 * 2048 + p1.val) (h2 : q2.val = 0 * 1024 + p2.val) :
    (iblk m c 1 t : Vec Ideal S1x2048x1024 .bf16) (ix3 p0 p1 p2) = arr1 m c (ix3 q0 q1 q2) := by
  obtain ⟨-, -, e0, e1, e2, -⟩ := idx_facts t
  unfold iblk
  rw [View.read_apply]
  refine congrArg (V m c main_v3) ?_
  funext x
  apply Fin.ext
  match x with
  | ⟨0, _⟩ => exact (Window.rect_emb_val _ _ _ _).trans (show win0_1.index t (0 : Fin 3) * 1 + p0.val = q0.val by rw [e0, h0])
  | ⟨1, _⟩ => exact (Window.rect_emb_val _ _ _ _).trans (show win0_1.index t (1 : Fin 3) * 2048 + p1.val = q1.val by rw [e1, h1])
  | ⟨2, _⟩ => exact (Window.rect_emb_val _ _ _ _).trans (show win0_1.index t (2 : Fin 3) * 1024 + p2.val = q2.val by rw [e2, h2])

/-- A result at an index, over the arrays the grid cuts. -/
theorem result0 (r : Fin 4096) (s : Fin 8192) :
    ((dats m 0 c).arrAt 2 cfg0.N : Vec Ideal S4096x8192 .bf16) (ix2 r s)
      = ∑ k : Fin 2048, arr0 m c (ix2 r k) * arr1 m c (ix3 ⟨s.val / 1024, by omega⟩ k ⟨s.val % 1024, by omega⟩) := by
  have hr := r.isLt
  have hs := s.isLt
  let t : Fin cfg0.N := ⟨r.val / 1024 * 8 + s.val / 1024, lt_of_lt_of_eq (by omega) N_0.symm⟩
  have ht : t.val = r.val / 1024 * 8 + s.val / 1024 := rfl
  let a : Fin 1024 := ⟨r.val % 1024, Nat.mod_lt _ (by decide)⟩
  let b : Fin 1024 := ⟨s.val % 1024, Nat.mod_lt _ (by decide)⟩
  have ha : r.val = t.val / 8 * 1024 + a.val := by show _ = t.val / 8 * 1024 + r.val % 1024; omega
  have hb : s.val = t.val / 1 % 8 * 1024 + b.val := by show _ = t.val / 1 % 8 * 1024 + s.val % 1024; omega
  obtain ⟨-, -, -, -, -, e0, e1, -, -, hf, -⟩ := idx_facts t
  have h := congrFun ((Value.blocks2 m c t hf).trans (Value.flushed2_A m c t)) (ix2 a b)
  rw [View.read_apply, out0_eq] at h
  refine (congrArg ((dats m 0 c).arrAt 2 cfg0.N) ?_).trans (h.trans ?_)
  · funext x
    apply Fin.ext
    match x with
    | ⟨0, _⟩ => exact ((Window.rect_emb_val _ _ _ _).trans (show win0_2.index t (0 : Fin 2) * 1024 + a.val = r.val by rw [e0, ha])).symm
    | ⟨1, _⟩ => exact ((Window.rect_emb_val _ _ _ _).trans (show win0_2.index t (1 : Fin 2) * 1024 + b.val = s.val by rw [e1, hb])).symm
  · refine (pay_apply (iblk m c 0 t) (iblk m c 1 t) a b).trans ?_
    exact Finset.sum_congr rfl fun k _ => by
      rw [blk_0 m c t a k r k ha (by omega), blk_1 m c t 0 k b ⟨s.val / 1024, by omega⟩ k ⟨s.val % 1024, by omega⟩ (by show s.val / 1024 = _ * 1 + 0; omega) (by omega) (by show s.val % 1024 = 0 * 1024 + s.val % 1024; omega)]

/-- A result at an index, over the arrays the grid cuts. -/
theorem result1 (r : Fin 4096) (s : Fin 8192) :
    ((dats m 0 c).arrAt 3 cfg0.N : Vec Ideal S4096x8192 .bf16) (ix2 r s)
      = max (∑ k : Fin 2048, arr0 m c (ix2 r k) * arr1 m c (ix3 ⟨s.val / 1024, by omega⟩ k ⟨s.val % 1024, by omega⟩)) 0 * max (∑ k : Fin 2048, arr0 m c (ix2 r k) * arr1 m c (ix3 ⟨s.val / 1024, by omega⟩ k ⟨s.val % 1024, by omega⟩)) 0 := by
  have hr := r.isLt
  have hs := s.isLt
  let t : Fin cfg0.N := ⟨r.val / 1024 * 8 + s.val / 1024, lt_of_lt_of_eq (by omega) N_0.symm⟩
  have ht : t.val = r.val / 1024 * 8 + s.val / 1024 := rfl
  let a : Fin 1024 := ⟨r.val % 1024, Nat.mod_lt _ (by decide)⟩
  let b : Fin 1024 := ⟨s.val % 1024, Nat.mod_lt _ (by decide)⟩
  have ha : r.val = t.val / 8 * 1024 + a.val := by show _ = t.val / 8 * 1024 + r.val % 1024; omega
  have hb : s.val = t.val / 1 % 8 * 1024 + b.val := by show _ = t.val / 1 % 8 * 1024 + s.val % 1024; omega
  obtain ⟨-, -, -, -, -, -, -, e0, e1, -, hf⟩ := idx_facts t
  have h := congrFun ((Value.blocks3 m c t hf).trans (Value.flushed3_A m c t)) (ix2 a b)
  rw [View.read_apply, out1_eq] at h
  refine (congrArg ((dats m 0 c).arrAt 3 cfg0.N) ?_).trans (h.trans ?_)
  · funext x
    apply Fin.ext
    match x with
    | ⟨0, _⟩ => exact ((Window.rect_emb_val _ _ _ _).trans (show win0_3.index t (0 : Fin 2) * 1024 + a.val = r.val by rw [e0, ha])).symm
    | ⟨1, _⟩ => exact ((Window.rect_emb_val _ _ _ _).trans (show win0_3.index t (1 : Fin 2) * 1024 + b.val = s.val by rw [e1, hb])).symm
  · refine (pay3_apply (iblk m c 0 t) (iblk m c 1 t) a b).trans ?_
    exact congrArg (fun v : EReal => max v 0 * max v 0) (Finset.sum_congr rfl fun k _ => by
      rw [blk_0 m c t a k r k ha (by omega), blk_1 m c t 0 k b ⟨s.val / 1024, by omega⟩ k ⟨s.val % 1024, by omega⟩ (by show s.val / 1024 = _ * 1 + 0; omega) (by omega) (by show s.val % 1024 = 0 * 1024 + s.val % 1024; omega)])

/-- Argument 0. -/
abbrev arg0 : Vec Ideal S4096x2048 .f32 := m ((c : Thread nD τ).loc main_arg0)

/-- Argument 1. -/
abbrev arg1 : Vec Ideal S2048x8192 .f32 := m ((c : Thread nD τ).loc main_arg1)

theorem arr0_apply (r : Fin 4096) (s : Fin 2048) : arr0 m c (ix2 r s) = arg0 m c (ix2 r s) := by
  have e : arr0 m c = (truncf .bf16 (arg0 m c) bitsLt_bf16_f32 : FVec Ideal S4096x2048 .bf16) := by
    show StableHlo.after _ _ _ = _
    after_results_simp
  rw [e]
  rfl

theorem arr1_apply (p : Fin 8) (r : Fin 2048) (s : Fin 1024) : arr1 m c (ix3 p r s) = arg1 m c (ix2 r ⟨p.val * 1024 + s.val, by omega⟩) := by
  have e : arr1 m c = (truncf .bf16 (transpose S8x2048x1024 [1, 0, 2] (fun i => shapeCast S2048x8x1024 (arg1 m c) shapeCasts_S2048x8192_S2048x8x1024 i) transposes_S2048x8x1024_S8x2048x1024_1_0_2) bitsLt_bf16_f32 : FVec Ideal S8x2048x1024 .bf16) := by
    show StableHlo.after _ _ _ = _
    after_results_simp
    rfl
  rw [e]
  pointwise

/-- Result 0. -/
abbrev out0 : Vec Ideal S4096x8192 .bf16 := (dats m 0 c).arrAt 2 cfg0.N

/-- The kernel's result at an index, over the arguments. -/
theorem kernel0_apply (r : Fin 4096) (s : Fin 8192) :
    out0 m c (ix2 r s)
      = ∑ k : Fin 2048, arg0 m c (ix2 r k) * arg1 m c (ix2 k s) := by
  have h : (∑ k : Fin 2048, arr0 m c (ix2 r k) * arr1 m c (ix3 ⟨s.val / 1024, by omega⟩ k ⟨s.val % 1024, by omega⟩) : EReal) = ∑ k : Fin 2048, arg0 m c (ix2 r k) * arg1 m c (ix2 k s) :=
    Finset.sum_congr rfl fun k _ => by rw [arr0_apply, arr1_apply]; exact congrArg _ (congrArg _ (congrArg _ (Fin.ext (show s.val / 1024 * 1024 + s.val % 1024 = s.val by omega))))
  exact (result0 m c r s).trans h

/-- Result 1. -/
abbrev out1 : Vec Ideal S4096x8192 .bf16 := (dats m 0 c).arrAt 3 cfg0.N

/-- The kernel's result at an index, over the arguments. -/
theorem kernel1_apply (r : Fin 4096) (s : Fin 8192) :
    out1 m c (ix2 r s)
      = max (∑ k : Fin 2048, arg0 m c (ix2 r k) * arg1 m c (ix2 k s)) 0 * max (∑ k : Fin 2048, arg0 m c (ix2 r k) * arg1 m c (ix2 k s)) 0 := by
  have h : (∑ k : Fin 2048, arr0 m c (ix2 r k) * arr1 m c (ix3 ⟨s.val / 1024, by omega⟩ k ⟨s.val % 1024, by omega⟩) : EReal) = ∑ k : Fin 2048, arg0 m c (ix2 r k) * arg1 m c (ix2 k s) :=
    Finset.sum_congr rfl fun k _ => by rw [arr0_apply, arr1_apply]; exact congrArg _ (congrArg _ (congrArg _ (Fin.ext (show s.val / 1024 * 1024 + s.val % 1024 = s.val by omega))))
  exact (result1 m c r s).trans (congrArg (fun v : EReal => max v 0 * max v 0) h)

end Cert.Kernel6Ideal.Prod

namespace Cert.Reference6Ideal.Prod

open Cert.Reference6Ideal Cert.Reference6Ideal.Gen
open Idealize.ShloMosaic Idealize.ShloMosaic.TcCoe Idealize.ShloMosaic.Tactic

/-- The reference's result as a function of its arguments. -/
def res0 (x0 : FVec Ideal S4096x2048 .f32) (x1 : FVec Ideal S2048x8192 .f32) : FVec Ideal S4096x8192 .bf16 :=
  truncf .bf16 (Host.dotGeneral dot_S4096x2048_S2048x8192_S4096x8192_1_0_0_1_n_n none x0 x1) bitsLt_bf16_f32

/-- The reference's result at an index. -/
theorem ref0_apply (x0 : FVec Ideal S4096x2048 .f32) (x1 : FVec Ideal S2048x8192 .f32) (r : Fin 4096) (s : Fin 8192) :
    res0 x0 x1 (ix2 r s) = ∑ k : Fin 2048, x0 (ix2 r k) * x1 (ix2 k s) := by
  pointwise [res0]

/-- The reference's result as a function of its arguments. -/
def res1 (x0 : FVec Ideal S4096x2048 .f32) (x1 : FVec Ideal S2048x8192 .f32) : FVec Ideal S4096x8192 .bf16 :=
  truncf .bf16 (mulf (maximumf (Host.dotGeneral dot_S4096x2048_S2048x8192_S4096x8192_1_0_0_1_n_n none x0 x1) (broadcastInDim S4096x8192 ![] bcast_S_S4096x8192 (constant S_ .f32 0x00000000#32))) (maximumf (Host.dotGeneral dot_S4096x2048_S2048x8192_S4096x8192_1_0_0_1_n_n none x0 x1) (broadcastInDim S4096x8192 ![] bcast_S_S4096x8192 (constant S_ .f32 0x00000000#32)))) bitsLt_bf16_f32

/-- The reference's result at an index. -/
theorem ref1_apply (x0 : FVec Ideal S4096x2048 .f32) (x1 : FVec Ideal S2048x8192 .f32) (r : Fin 4096) (s : Fin 8192) :
    res1 x0 x1 (ix2 r s) = max (∑ k : Fin 2048, x0 (ix2 r k) * x1 (ix2 k s)) 0 * max (∑ k : Fin 2048, x0 (ix2 r k) * x1 (ix2 k s)) 0 := by
  pointwise [res1]

end Cert.Reference6Ideal.Prod

namespace Cert.Kernel6Ideal.Prod

open Cert.Kernel6Ideal Cert.Kernel6Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference6Ideal.Prod.res0 (arg0 m c) (arg1 m c) = out0 m c := by
  funext i
  obtain ⟨r, s, rfl⟩ : ∃ (r : Fin 4096) (s : Fin 8192), i = ix2 r s := ⟨i 0, i 1, eq_ix2 i⟩
  exact (Cert.Reference6Ideal.Prod.ref0_apply (arg0 m c) (arg1 m c) r s).trans (kernel0_apply m c r s).symm

/-- The reference's result is the kernel's. -/
theorem same1 (m : (ℓ : Loc nD τ sig) → Buf (Elt Ideal) ℓ) (c : Dev nD) :
    Cert.Reference6Ideal.Prod.res1 (arg0 m c) (arg1 m c) = out1 m c := by
  funext i
  obtain ⟨r, s, rfl⟩ : ∃ (r : Fin 4096) (s : Fin 8192), i = ix2 r s := ⟨i 0, i 1, eq_ix2 i⟩
  exact (Cert.Reference6Ideal.Prod.ref1_apply (arg0 m c) (arg1 m c) r s).trans (kernel1_apply m c r s).symm

/-- Over the reals the kernel computes what the reference does, whatever the arguments. -/
theorem algebraic : Cert.algebraic_Kernel6Ideal_Reference6Ideal := by
  intro m g m' g' _ heq
  refine ⟨fun c => (dats m 0 c).arrAt 2 cfg0.N, fun c => (dats m 0 c).arrAt 3 cfg0.N, Value.run_blocks (F := Ideal) m g, ?_⟩
  refine (θ_run Cert.Reference6Ideal.defs _ _).mono (fun r h c => ⟨(h c).1.trans ?_, (h c).2.1.trans ?_, (h c).2.2⟩) (Cert.Reference6Ideal.Value.run (F := Ideal) m' g')
  · obtain ⟨e0, e1⟩ := heq c
    refine Eq.trans ?_ (same0 m c)
    show Cert.Reference6Ideal.Prod.res0 _ _ = _
    rw [e0, e1]
  · obtain ⟨e0, e1⟩ := heq c
    refine Eq.trans ?_ (same1 m c)
    show Cert.Reference6Ideal.Prod.res1 _ _ = _
    rw [e0, e1]

end Cert.Kernel6Ideal.Prod

end
-- ==== Proof.Prod7.lean ====
/- The second product of the MLP: four points of the grid sum each tile, one for each quarter of the hidden columns. -/
module

public import proofs.«01_k».proof.Proof.Gen.Kernel7Ideal.Value
public import proofs.«01_k».proof.Proof.Gen.Reference7Ideal.Run
public import proofs.«01_k».proof.Proof.Sums
public import proofs.«01_k».proof.Defs

@[expose] public section

set_option maxRecDepth 16384

noncomputable section

namespace Cert.Kernel7Ideal.Prod

open Cert.Kernel7Ideal Cert.Kernel7Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S1024x2048 .bf16) (y : Vec Ideal S2048x1024 .bf16) (a : Fin 1024) (b : Fin 1024) :
    k0_pay1 x y (ix2 a b) = ∑ k : Fin 2048, x (ix2 a k) * y (ix2 k b) := by
  pointwise [k0_pay1]

theorem pay2_eq (x : Vec Ideal S1024x2048 .bf16) (y : Vec Ideal S2048x1024 .bf16) : k0_pay2 x y = k0_pay1 x y := by
  unfold k0_pay2
  rw [shapeCast_self]

theorem pay3_apply (x : Vec Ideal S1024x2048 .bf16) (y : Vec Ideal S2048x1024 .bf16) (z : Vec Ideal S1024x1024 .f32) (a : Fin 1024) (b : Fin 1024) :
    k0_pay3 x y z (ix2 a b) = z (ix2 a b) + k0_pay1 x y (ix2 a b) := by
  pointwise [k0_pay3, k0_pay1]

theorem pay4_apply (x : Vec Ideal S1024x2048 .bf16) (y : Vec Ideal S2048x1024 .bf16) (z : Vec Ideal S1024x1024 .f32) (a : Fin 1024) (b : Fin 1024) :
    k0_pay4 x y z (ix2 a b) = z (ix2 a b) + k0_pay1 x y (ix2 a b) := by
  pointwise [k0_pay4, k0_pay1]

theorem zz : (![0, 0] : Fin 2 → Nat) = fun _ => 0 := by funext x; match x with | ⟨0, _⟩ => rfl | ⟨1, _⟩ => rfl

/-- The first point of a tile keeps its product. -/
theorem sum_A (c : Dev nD) (i : grid0.Coords) (r0 : Memref sig .tc .vmem S1024x2048 .bf16) (h0 : r0.IsWhole) (r1 : Memref sig .tc .vmem S2048x1024 .bf16) (h1 : r1.IsWhole) (r2 : Memref sig .tc .vmem S1024x1024 .f32) (h2 : r2.IsWhole) (r3 : Memref sig .tc .vmem S1024x1024 .f32) (h3 : r3.IsWhole) (hc0 : cond0_0 i) (hc1 : ¬cond0_1 i) (hc2 : ¬cond0_2 i)
    (x : Vec Ideal S1024x2048 .bf16) (y : Vec Ideal S2048x1024 .bf16) :
    sout0_A_0 c i r0 h0 r1 h1 r2 h2 r3 h3 hc0 hc1 hc2 x y = k0_pay2 x y := by
  unfold sout0_A_0
  rw [View.read_writes_eq_canon _ _ _ (scover0_A_0 c i r0 h0 r1 h1 r2 h2 r3 h3 hc0 hc1 hc2 x y)]
  unfold kernelRun0_A
  dsimp only
  sl_unfold_words
  rw [View.canon_unit_zero zz]
  simp only [View.readAt_eq_ld, h0.read_unread, h1.read_unread, h3.read_unread, View.ld_unit_zero (S := S1024x2048) zz, View.ld_unit_zero (S := S2048x1024) zz, View.ld_unit_zero (S := S1024x1024) zz, shapeCast_self]

/-- A middle point adds its product. -/
theorem sum_B (c : Dev nD) (i : grid0.Coords) (r0 : Memref sig .tc .vmem S1024x2048 .bf16) (h0 : r0.IsWhole) (r1 : Memref sig .tc .vmem S2048x1024 .bf16) (h1 : r1.IsWhole) (r2 : Memref sig .tc .vmem S1024x1024 .f32) (h2 : r2.IsWhole) (r3 : Memref sig .tc .vmem S1024x1024 .f32) (h3 : r3.IsWhole) (hc0 : ¬cond0_0 i) (hc1 : cond0_1 i) (hc2 : ¬cond0_2 i)
    (x : Vec Ideal S1024x2048 .bf16) (y : Vec Ideal S2048x1024 .bf16) (z : Vec Ideal S1024x1024 .f32) :
    sout0_B_0 c i r0 h0 r1 h1 r2 h2 r3 h3 hc0 hc1 hc2 x y z = k0_pay3 x y z := by
  unfold sout0_B_0
  rw [View.read_writes_eq_canon _ _ _ (scover0_B_0 c i r0 h0 r1 h1 r2 h2 r3 h3 hc0 hc1 hc2 x y z)]
  unfold kernelRun0_B
  dsimp only
  sl_unfold_words
  rw [View.canon_unit_zero zz]
  simp only [View.readAt_eq_ld, h0.read_unread, h1.read_unread, h3.read_unread, View.ld_unit_zero (S := S1024x2048) zz, View.ld_unit_zero (S := S2048x1024) zz, View.ld_unit_zero (S := S1024x1024) zz, shapeCast_self]

/-- The last point of a tile writes the sum. -/
theorem out_eq (c : Dev nD) (i : grid0.Coords) (r0 : Memref sig .tc .vmem S1024x2048 .bf16) (h0 : r0.IsWhole) (r1 : Memref sig .tc .vmem S2048x1024 .bf16) (h1 : r1.IsWhole) (r2 : Memref sig .tc .vmem S1024x1024 .f32) (h2 : r2.IsWhole) (r3 : Memref sig .tc .vmem S1024x1024 .f32) (h3 : r3.IsWhole) (hc0 : ¬cond0_0 i) (hc1 : ¬cond0_1 i) (hc2 : cond0_2 i)
    (x : Vec Ideal S1024x2048 .bf16) (y : Vec Ideal S2048x1024 .bf16) (z : Vec Ideal S1024x1024 .f32) :
    out0_C_2 c i r0 h0 r1 h1 r2 h2 r3 h3 hc0 hc1 hc2 x y z = k0_pay4 x y z := by
  unfold out0_C_2
  rw [View.read_writes_eq_canon _ _ _ (cover0_C_2 c i r0 h0 r1 h1 r2 h2 r3 h3 hc0 hc1 hc2 x y z)]
  unfold kernelRun0_C
  dsimp only
  sl_unfold_words
  rw [View.canon_unit_zero zz]
  simp only [View.readAt_eq_ld, h0.read_unread, h1.read_unread, h3.read_unread, View.ld_unit_zero (S := S1024x2048) zz, View.ld_unit_zero (S := S2048x1024) zz, View.ld_unit_zero (S := S1024x1024) zz, shapeCast_self]

/-- Each window's block at a point of the grid. -/
theorem idx_facts : ∀ t : Fin cfg0.N, win0_0.index t (0 : Fin 2) = t.val / 8
    ∧ win0_0.index t (1 : Fin 2) = t.val % 4
    ∧ win0_1.index t (0 : Fin 2) = t.val % 4
    ∧ win0_1.index t (1 : Fin 2) = t.val / 4 % 2 :=
  (by decide +kernel : ∀ t : Fin grid0.N, _)

variable (m : (ℓ : Loc nD τ sig) → Buf (Elt Ideal) ℓ) (c : Dev nD)

/-- The array window 0 cuts into blocks. -/
abbrev arr0 : Vec Ideal S4096x8192 .bf16 := V m c main_v2

/-- The array window 1 cuts into blocks. -/
abbrev arr1 : Vec Ideal S8192x2048 .bf16 := V m c main_v3

theorem blk_0 (t : Fin cfg0.N) (p0 : Fin 1024) (p1 : Fin 2048) (q0 : Fin 4096) (q1 : Fin 8192)
    (h0 : q0.val = t.val / 8 * 1024 + p0.val) (h1 : q1.val = t.val % 4 * 2048 + p1.val) :
    (iblk m c 0 t : Vec Ideal S1024x2048 .bf16) (ix2 p0 p1) = arr0 m c (ix2 q0 q1) := by
  obtain ⟨e0, e1, -⟩ := idx_facts t
  unfold iblk
  rw [View.read_apply]
  refine congrArg (V m c main_v2) ?_
  funext x
  apply Fin.ext
  match x with
  | ⟨0, _⟩ => exact (Window.rect_emb_val _ _ _ _).trans (show win0_0.index t (0 : Fin 2) * 1024 + p0.val = q0.val by rw [e0, h0])
  | ⟨1, _⟩ => exact (Window.rect_emb_val _ _ _ _).trans (show win0_0.index t (1 : Fin 2) * 2048 + p1.val = q1.val by rw [e1, h1])

theorem blk_1 (t : Fin cfg0.N) (p0 : Fin 2048) (p1 : Fin 1024) (q0 : Fin 8192) (q1 : Fin 2048)
    (h0 : q0.val = t.val % 4 * 2048 + p0.val) (h1 : q1.val = t.val / 4 % 2 * 1024 + p1.val) :
    (iblk m c 1 t : Vec Ideal S2048x1024 .bf16) (ix2 p0 p1) = arr1 m c (ix2 q0 q1) := by
  obtain ⟨-, -, e0, e1⟩ := idx_facts t
  unfold iblk
  rw [View.read_apply]
  refine congrArg (V m c main_v3) ?_
  funext x
  apply Fin.ext
  match x with
  | ⟨0, _⟩ => exact (Window.rect_emb_val _ _ _ _).trans (show win0_1.index t (0 : Fin 2) * 2048 + p0.val = q0.val by rw [e0, h0])
  | ⟨1, _⟩ => exact (Window.rect_emb_val _ _ _ _).trans (show win0_1.index t (1 : Fin 2) * 1024 + p1.val = q1.val by rw [e1, h1])

/-- A point's product at a place of its tile, over the arrays the grid cuts. -/
theorem prod_at (t : Fin cfg0.N) (a : Fin 1024) (b : Fin 1024) (r : Fin 4096) (s : Fin 2048) (q : Nat) (hlt : q < 4)
    (hq : t.val % 4 = q) (ha : r.val = t.val / 8 * 1024 + a.val) (hb : s.val = t.val / 4 % 2 * 1024 + b.val) :
    k0_pay1 (iblk m c 0 t) (iblk m c 1 t) (ix2 a b)
      = ∑ k : Fin 2048, arr0 m c (ix2 r ⟨q * 2048 + k.val, by omega⟩) * arr1 m c (ix2 ⟨q * 2048 + k.val, by omega⟩ s) := by
  refine (pay_apply (iblk m c 0 t) (iblk m c 1 t) a b).trans (Finset.sum_congr rfl fun k _ => ?_)
  rw [blk_0 m c t a k r ⟨q * 2048 + k.val, by omega⟩ ha (by rw [hq]), blk_1 m c t k b ⟨q * 2048 + k.val, by omega⟩ s (by rw [hq]) hb]

theorem left_A (t : Fin cfg0.N) (h : t.val % 4 = 0) :
    (outsAt0 m c t.val t.isLt).2 = k0_pay1 (iblk m c 0 t) (iblk m c 1 t) := by
  rw [outsAt0_A m c t h (by omega) (by omega)]
  dsimp only
  rw [sum_A, pay2_eq]

theorem left_B (t : Fin cfg0.N) (h : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h (by omega)]
  dsimp only
  rw [sum_B]

theorem left_last (t : Fin cfg0.N) (h : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h]
  dsimp only
  rw [out_eq]

/-- The result at an index: what the last point of its tile wrote. -/
theorem final_apply (i : S4096x2048.Idx) (h : Value.pt2Of i < cfg0.N) :
    Value.G2 m c i = (outsAt0 m c (Value.pt2Of i) h).1 (Value.loc2Of i) := by
  unfold Value.G2
  rw [dif_pos h, ← Value.outsAt0_sweep]

/-- What the last point of a tile writes at a place of it, over the arrays the grid cuts. -/
theorem tile_apply (n : Nat) (hp : ∀ q < 4, n + q < cfg0.N) (hq : ∀ q < 4, (n + q) % 4 = q) (a : Fin 1024) (b : Fin 1024)
    (r : Fin 4096) (s : Fin 2048) (ha : ∀ q < 4, r.val = (n + q) / 8 * 1024 + a.val)
    (hb : ∀ q < 4, s.val = (n + q) / 4 % 2 * 1024 + b.val) :
    (outsAt0 m c (n + 3) (hp 3 (by decide))).1 (ix2 a b) = ∑ k : Fin 8192, arr0 m c (ix2 r k) * arr1 m c (ix2 k s) := by
  have e : ∀ q, ∀ hlt : q < 4, k0_pay1 (iblk m c 0 ⟨n + q, hp q hlt⟩) (iblk m c 1 ⟨n + q, hp q hlt⟩) (ix2 a b) = _ := fun q hlt =>
    prod_at m c ⟨n + q, hp q hlt⟩ a b r s q hlt (hq q hlt) (ha q hlt) (hb q hlt)
  have e0 := (congrFun (left_A m c ⟨n + 0, hp 0 (by decide)⟩ (hq 0 (by decide))) (ix2 a b)).trans (e 0 (by decide))
  have e1 := (congrFun (left_B m c ⟨n + 1, hp 1 (by decide)⟩ (by rw [hq 1 (by decide)]; decide)) (ix2 a b)).trans
    ((pay3_apply _ _ _ a b).trans (congrArg₂ (· + ·) e0 (e 1 (by decide))))
  have e2 := (congrFun (left_B m c ⟨n + 2, hp 2 (by decide)⟩ (by rw [hq 2 (by decide)]; decide)) (ix2 a b)).trans
    ((pay3_apply _ _ _ a b).trans (congrArg₂ (· + ·) e1 (e 2 (by decide))))
  exact (congrFun (left_last m c ⟨n + 3, hp 3 (by decide)⟩ (hq 3 (by decide))) (ix2 a b)).trans
    ((pay4_apply _ _ _ a b).trans ((congrArg₂ (· + ·) e2 (e 3 (by decide))).trans (sum_4 fun k => arr0 m c (ix2 r k) * arr1 m c (ix2 k s)).symm))

/-- The result at an index, over the arrays the grid cuts. -/
theorem result0 (r : Fin 4096) (s : Fin 2048) :
    (Value.G2 m c : Vec Ideal S4096x2048 .f32) (ix2 r s)
      = ∑ k : Fin 8192, arr0 m c (ix2 r k) * arr1 m c (ix2 k s) := by
  have hr := r.isLt
  have hs := s.isLt
  have N0 : cfg0.N = 32 := N_0
  obtain ⟨n, hn⟩ : ∃ n : Nat, n = (r.val / 1024 * 2 + s.val / 1024) * 4 := ⟨_, rfl⟩
  have hp : ∀ q < 4, n + q < cfg0.N := fun q hq => by omega
  have hpt : Value.pt2Of (ix2 r s : S4096x2048.Idx) = n + 3 := by
    show 4 * (2 * (r.val / 1024 - 0) + 1 * (s.val / 1024 - 0)) + 3 = _
    omega
  have hloc : Value.loc2Of (ix2 r s : S4096x2048.Idx) = ix2 ⟨r.val % 1024, Nat.mod_lt _ (by decide)⟩ ⟨s.val % 1024, Nat.mod_lt _ (by decide)⟩ := by
    funext x
    match x with
    | ⟨0, _⟩ => rfl
    | ⟨1, _⟩ => rfl
  refine (final_apply m c _ (hpt ▸ hp 3 (by decide))).trans ?_
  rw [hloc]
  refine Eq.trans ?_ (tile_apply m c n hp (fun q hq => by omega) ⟨r.val % 1024, Nat.mod_lt _ (by decide)⟩
    ⟨s.val % 1024, Nat.mod_lt _ (by decide)⟩ r s (fun q hq => by show _ = _ * 1024 + r.val % 1024; omega)
    (fun q hq => by show _ = _ * 1024 + s.val % 1024; omega))
  simp only [hpt]

/-- Argument 0. -/
abbrev arg0 : Vec Ideal S4096x8192 .f32 := m ((c : Thread nD τ).loc main_arg0)

/-- Argument 1. -/
abbrev arg1 : Vec Ideal S8192x2048 .f32 := m ((c : Thread nD τ).loc main_arg1)

theorem arr0_apply (r : Fin 4096) (s : Fin 8192) : arr0 m c (ix2 r s) = max (arg0 m c (ix2 r s)) 0 * max (arg0 m c (ix2 r s)) 0 := by
  have e : arr0 m c = (truncf .bf16 (mulf (maximumf (arg0 m c) (broadcastInDim S4096x8192 ![] bcast_S_S4096x8192 (constant S_ .f32 0x00000000#32))) (maximumf (arg0 m c) (broadcastInDim S4096x8192 ![] bcast_S_S4096x8192 (constant S_ .f32 0x00000000#32)))) bitsLt_bf16_f32 : FVec Ideal S4096x8192 .bf16) := by
    show StableHlo.after (hostOps0 ++ hostOps0_1) _ _ = _
    rw [StableHlo.after_append]
    after_results_simp
    rfl
  rw [e]
  pointwise

theorem arr1_apply (r : Fin 8192) (s : Fin 2048) : arr1 m c (ix2 r s) = arg1 m c (ix2 r s) := by
  have e : arr1 m c = (truncf .bf16 (arg1 m c) bitsLt_bf16_f32 : FVec Ideal S8192x2048 .bf16) := by
    show StableHlo.after (hostOps0 ++ hostOps0_1) _ _ = _
    rw [StableHlo.after_append]
    after_results_simp
  rw [e]
  rfl

/-- Result 0. -/
abbrev out0 : Vec Ideal S4096x2048 .f32 := Value.G2 m c

/-- The kernel's result at an index, over the arguments. -/
theorem kernel0_apply (r : Fin 4096) (s : Fin 2048) :
    out0 m c (ix2 r s)
      = ∑ k : Fin 8192, (max (arg0 m c (ix2 r k)) 0 * max (arg0 m c (ix2 r k)) 0) * arg1 m c (ix2 k s) := by
  have h : (∑ k : Fin 8192, arr0 m c (ix2 r k) * arr1 m c (ix2 k s) : EReal) = ∑ k : Fin 8192, (max (arg0 m c (ix2 r k)) 0 * max (arg0 m c (ix2 r k)) 0) * arg1 m c (ix2 k s) :=
    Finset.sum_congr rfl fun k _ => by rw [arr0_apply, arr1_apply]
  exact (result0 m c r s).trans h

end Cert.Kernel7Ideal.Prod

namespace Cert.Reference7Ideal.Prod

open Cert.Reference7Ideal Cert.Reference7Ideal.Gen
open Idealize.ShloMosaic Idealize.ShloMosaic.TcCoe Idealize.ShloMosaic.Tactic

/-- The reference's result as a function of its arguments. -/
def res0 (x0 : FVec Ideal S4096x8192 .f32) (x1 : FVec Ideal S8192x2048 .f32) : FVec Ideal S4096x2048 .f32 :=
  Host.dotGeneral dot_S4096x8192_S8192x2048_S4096x2048_1_0_0_1_n_n none (mulf (maximumf x0 (broadcastInDim S4096x8192 ![] bcast_S_S4096x8192 (constant S_ .f32 0x00000000#32))) (maximumf x0 (broadcastInDim S4096x8192 ![] bcast_S_S4096x8192 (constant S_ .f32 0x00000000#32)))) x1

/-- The reference's result at an index. -/
theorem ref0_apply (x0 : FVec Ideal S4096x8192 .f32) (x1 : FVec Ideal S8192x2048 .f32) (r : Fin 4096) (s : Fin 2048) :
    res0 x0 x1 (ix2 r s) = ∑ k : Fin 8192, (max (x0 (ix2 r k)) 0 * max (x0 (ix2 r k)) 0) * x1 (ix2 k s) := by
  pointwise [res0]

end Cert.Reference7Ideal.Prod

namespace Cert.Kernel7Ideal.Prod

open Cert.Kernel7Ideal Cert.Kernel7Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference7Ideal.Prod.res0 (arg0 m c) (arg1 m c) = out0 m c := by
  funext i
  obtain ⟨r, s, rfl⟩ : ∃ (r : Fin 4096) (s : Fin 2048), i = ix2 r s := ⟨i 0, i 1, eq_ix2 i⟩
  exact (Cert.Reference7Ideal.Prod.ref0_apply (arg0 m c) (arg1 m c) r s).trans (kernel0_apply m c r s).symm

/-- Over the reals the kernel computes what the reference does, whatever the arguments. -/
theorem algebraic : Cert.algebraic_Kernel7Ideal_Reference7Ideal := by
  intro m g m' g' _ heq
  refine ⟨fun c => Value.G2 m c, Value.run (F := Ideal) m g, ?_⟩
  refine (θ_run Cert.Reference7Ideal.defs _ _).mono (fun r h c => ⟨(h c).1.trans ?_, (h c).2⟩) (Cert.Reference7Ideal.Value.run (F := Ideal) m' g')
  · obtain ⟨e0, e1⟩ := heq c
    refine Eq.trans ?_ (same0 m c)
    show Cert.Reference7Ideal.Prod.res0 _ _ = _
    rw [e0, e1]

end Cert.Kernel7Ideal.Prod

end
-- ==== Proof.Prod8.lean ====
/- The input projection: each point of the grid writes its own tile. -/
module

public import proofs.«01_k».proof.Proof.Gen.Kernel8Ideal.Value
public import proofs.«01_k».proof.Proof.Gen.Reference8Ideal.Run
public import proofs.«01_k».proof.Proof.Sums
public import proofs.«01_k».proof.Defs

@[expose] public section

set_option maxRecDepth 16384

noncomputable section

namespace Cert.Kernel8Ideal.Prod

open Cert.Kernel8Ideal Cert.Kernel8Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S512x2048 .bf16) (y : Vec Ideal S2816x2048 .bf16) (a : Fin 512) (b : Fin 2816) :
    k0_pay1 x y (ix2 a b) = ∑ k : Fin 2048, x (ix2 a k) * y (ix2 b k) := by
  pointwise [k0_pay1]

theorem zz : (![0, 0] : Fin 2 → Nat) = fun _ => 0 := by funext x; match x with | ⟨0, _⟩ => rfl | ⟨1, _⟩ => rfl

/-- What the body leaves in a result's block. -/
theorem out0_eq (c : Dev nD) (i : grid0.Coords) (r0 : Memref sig .tc .vmem S512x2048 .bf16) (h0 : r0.IsWhole) (r1 : Memref sig .tc .vmem S2816x2048 .bf16) (h1 : r1.IsWhole) (r2 : Memref sig .tc .vmem S512x2816 .f32) (h2 : r2.IsWhole) (r3 : Memref sig .tc .vmem S8x128 .f32) (h3 : r3.IsWhole)
    (x : Vec Ideal S512x2048 .bf16) (y : Vec Ideal S2816x2048 .bf16) :
    out0_A_2 c i r0 h0 r1 h1 r2 h2 r3 h3 x y = k0_pay1 x y := by
  unfold out0_A_2
  rw [View.read_writes_eq_canon _ _ _ (cover0_A_2 c i r0 h0 r1 h1 r2 h2 r3 h3 x y)]
  unfold kernelRun0_A
  dsimp only
  sl_unfold_words
  rw [View.canon_unit_zero zz]
  simp only [View.readAt_eq_ld, h0.read_unread, h1.read_unread, View.ld_unit_zero (S := S512x2048) zz, View.ld_unit_zero (S := S2816x2048) zz, View.ld_unit_zero (S := S512x2816) zz, shapeCast_self]

/-- Each window's block at a point of the grid. -/
theorem idx_facts : ∀ t : Fin cfg0.N, win0_0.index t (0 : Fin 2) = t.val / 1
    ∧ win0_0.index t (1 : Fin 2) = 0
    ∧ win0_1.index t (0 : Fin 2) = t.val / 1 % 1
    ∧ win0_1.index t (1 : Fin 2) = 0
    ∧ win0_2.index t (0 : Fin 2) = t.val / 1
    ∧ win0_2.index t (1 : Fin 2) = t.val / 1 % 1
    ∧ win0_2.flush t = true :=
  (by decide +kernel : ∀ t : Fin grid0.N, _)

variable (m : (ℓ : Loc nD τ sig) → Buf (Elt Ideal) ℓ) (c : Dev nD)

/-- The array window 0 cuts into blocks. -/
abbrev arr0 : Vec Ideal S4096x2048 .bf16 := V m c main_v0

/-- The array window 1 cuts into blocks. -/
abbrev arr1 : Vec Ideal S2816x2048 .bf16 := V m c main_v2

theorem blk_0 (t : Fin cfg0.N) (p0 : Fin 512) (p1 : Fin 2048) (q0 : Fin 4096) (q1 : Fin 2048)
    (h0 : q0.val = t.val / 1 * 512 + p0.val) (h1 : q1.val = 0 * 2048 + p1.val) :
    (iblk m c 0 t : Vec Ideal S512x2048 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 512 + p0.val = q0.val by rw [e0, h0])
  | ⟨1, _⟩ => exact (Window.rect_emb_val _ _ _ _).trans (show win0_0.index t (1 : Fin 2) * 2048 + p1.val = q1.val by rw [e1, h1])

theorem blk_1 (t : Fin cfg0.N) (p0 : Fin 2816) (p1 : Fin 2048) (q0 : Fin 2816) (q1 : Fin 2048)
    (h0 : q0.val = t.val / 1 % 1 * 2816 + p0.val) (h1 : q1.val = 0 * 2048 + p1.val) :
    (iblk m c 1 t : Vec Ideal S2816x2048 .bf16) (ix2 p0 p1) = arr1 m c (ix2 q0 q1) := by
  obtain ⟨-, -, e0, e1, -⟩ := idx_facts t
  unfold iblk
  rw [View.read_apply]
  refine congrArg (V m c main_v2) ?_
  funext x
  apply Fin.ext
  match x with
  | ⟨0, _⟩ => exact (Window.rect_emb_val _ _ _ _).trans (show win0_1.index t (0 : Fin 2) * 2816 + p0.val = q0.val by rw [e0, h0])
  | ⟨1, _⟩ => exact (Window.rect_emb_val _ _ _ _).trans (show win0_1.index t (1 : Fin 2) * 2048 + p1.val = q1.val by rw [e1, h1])

/-- A result at an index, over the arrays the grid cuts. -/
theorem result0 (r : Fin 4096) (s : Fin 2816) :
    ((dats m 0 c).arrAt 2 cfg0.N : Vec Ideal S4096x2816 .f32) (ix2 r s)
      = ∑ k : Fin 2048, arr0 m c (ix2 r k) * arr1 m c (ix2 s k) := by
  have hr := r.isLt
  have hs := s.isLt
  let t : Fin cfg0.N := ⟨r.val / 512 * 1 + s.val / 2816, lt_of_lt_of_eq (by omega) N_0.symm⟩
  have ht : t.val = r.val / 512 * 1 + s.val / 2816 := rfl
  let a : Fin 512 := ⟨r.val % 512, Nat.mod_lt _ (by decide)⟩
  let b : Fin 2816 := ⟨s.val % 2816, Nat.mod_lt _ (by decide)⟩
  have ha : r.val = t.val / 1 * 512 + a.val := by show _ = t.val / 1 * 512 + r.val % 512; omega
  have hb : s.val = t.val / 1 % 1 * 2816 + b.val := by show _ = t.val / 1 % 1 * 2816 + s.val % 2816; omega
  obtain ⟨-, -, -, -, e0, e1, hf⟩ := idx_facts t
  have h := congrFun ((Value.blocks2 m c t hf).trans (Value.flushed2_A m c t)) (ix2 a b)
  rw [View.read_apply, out0_eq] at h
  refine (congrArg ((dats m 0 c).arrAt 2 cfg0.N) ?_).trans (h.trans ?_)
  · funext x
    apply Fin.ext
    match x with
    | ⟨0, _⟩ => exact ((Window.rect_emb_val _ _ _ _).trans (show win0_2.index t (0 : Fin 2) * 512 + a.val = r.val by rw [e0, ha])).symm
    | ⟨1, _⟩ => exact ((Window.rect_emb_val _ _ _ _).trans (show win0_2.index t (1 : Fin 2) * 2816 + b.val = s.val by rw [e1, hb])).symm
  · refine (pay_apply (iblk m c 0 t) (iblk m c 1 t) a b).trans ?_
    exact Finset.sum_congr rfl fun k _ => by
      rw [blk_0 m c t a k r k ha (by omega), blk_1 m c t b k s k hb (by omega)]

/-- Argument 0. -/
abbrev arg0 : Vec Ideal S4096x2048 .f32 := m ((c : Thread nD τ).loc main_arg0)

/-- Argument 1. -/
abbrev arg1 : Vec Ideal S2048x2816 .f32 := m ((c : Thread nD τ).loc main_arg1)

theorem arr0_apply (r : Fin 4096) (s : Fin 2048) : arr0 m c (ix2 r s) = arg0 m c (ix2 r s) := by
  have e : arr0 m c = (truncf .bf16 (arg0 m c) bitsLt_bf16_f32 : FVec Ideal S4096x2048 .bf16) := by
    show StableHlo.after _ _ _ = _
    after_results_simp
  rw [e]
  rfl

theorem arr1_apply (r : Fin 2816) (s : Fin 2048) : arr1 m c (ix2 r s) = arg1 m c (ix2 s r) := by
  have e : arr1 m c = (truncf .bf16 (transpose S2816x2048 [1, 0] (arg1 m c) transposes_S2048x2816_S2816x2048_1_0) bitsLt_bf16_f32 : FVec Ideal S2816x2048 .bf16) := by
    show StableHlo.after _ _ _ = _
    after_results_simp
  rw [e]
  pointwise

/-- Result 0. -/
abbrev out0 : Vec Ideal S4096x2816 .f32 := (dats m 0 c).arrAt 2 cfg0.N

/-- The kernel's result at an index, over the arguments. -/
theorem kernel0_apply (r : Fin 4096) (s : Fin 2816) :
    out0 m c (ix2 r s)
      = ∑ k : Fin 2048, arg0 m c (ix2 r k) * arg1 m c (ix2 k s) := by
  have h : (∑ k : Fin 2048, arr0 m c (ix2 r k) * arr1 m c (ix2 s k) : EReal) = ∑ k : Fin 2048, arg0 m c (ix2 r k) * arg1 m c (ix2 k s) :=
    Finset.sum_congr rfl fun k _ => by rw [arr0_apply, arr1_apply]
  exact (result0 m c r s).trans h

end Cert.Kernel8Ideal.Prod

namespace Cert.Reference8Ideal.Prod

open Cert.Reference8Ideal Cert.Reference8Ideal.Gen
open Idealize.ShloMosaic Idealize.ShloMosaic.TcCoe Idealize.ShloMosaic.Tactic

/-- The reference's result as a function of its arguments. -/
def res0 (x0 : FVec Ideal S4096x2048 .f32) (x1 : FVec Ideal S2048x2816 .f32) : FVec Ideal S4096x2816 .f32 :=
  Host.dotGeneral dot_S4096x2048_S2048x2816_S4096x2816_1_0_0_1_n_n none x0 x1

/-- The reference's result at an index. -/
theorem ref0_apply (x0 : FVec Ideal S4096x2048 .f32) (x1 : FVec Ideal S2048x2816 .f32) (r : Fin 4096) (s : Fin 2816) :
    res0 x0 x1 (ix2 r s) = ∑ k : Fin 2048, x0 (ix2 r k) * x1 (ix2 k s) := by
  pointwise [res0]

end Cert.Reference8Ideal.Prod

namespace Cert.Kernel8Ideal.Prod

open Cert.Kernel8Ideal Cert.Kernel8Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference8Ideal.Prod.res0 (arg0 m c) (arg1 m c) = out0 m c := by
  funext i
  obtain ⟨r, s, rfl⟩ : ∃ (r : Fin 4096) (s : Fin 2816), i = ix2 r s := ⟨i 0, i 1, eq_ix2 i⟩
  exact (Cert.Reference8Ideal.Prod.ref0_apply (arg0 m c) (arg1 m c) r s).trans (kernel0_apply m c r s).symm

/-- Over the reals the kernel computes what the reference does, whatever the arguments. -/
theorem algebraic : Cert.algebraic_Kernel8Ideal_Reference8Ideal := by
  intro m g m' g' _ heq
  refine ⟨fun c => (dats m 0 c).arrAt 2 cfg0.N, Value.run_blocks (F := Ideal) m g, ?_⟩
  refine (θ_run Cert.Reference8Ideal.defs _ _).mono (fun r h c => ⟨(h c).1.trans ?_, (h c).2⟩) (Cert.Reference8Ideal.Value.run (F := Ideal) m' g')
  · obtain ⟨e0, e1⟩ := heq c
    refine Eq.trans ?_ (same0 m c)
    show Cert.Reference8Ideal.Prod.res0 _ _ = _
    rw [e0, e1]

end Cert.Kernel8Ideal.Prod

end
-- ==== Proof.Prod9.lean ====
/- The output projection: each point of the grid writes its own tile. -/
module

public import proofs.«01_k».proof.Proof.Gen.Kernel9Ideal.Value
public import proofs.«01_k».proof.Proof.Gen.Reference9Ideal.Run
public import proofs.«01_k».proof.Proof.Sums
public import proofs.«01_k».proof.Defs

@[expose] public section

set_option maxRecDepth 16384

noncomputable section

namespace Cert.Kernel9Ideal.Prod

open Cert.Kernel9Ideal Cert.Kernel9Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S1024x1280 .bf16) (y : Vec Ideal S1280x1024 .bf16) (a : Fin 1024) (b : Fin 1024) :
    k0_pay1 x y (ix2 a b) = ∑ k : Fin 1280, x (ix2 a k) * y (ix2 k b) := by
  pointwise [k0_pay1]

theorem zz : (![0, 0] : Fin 2 → Nat) = fun _ => 0 := by funext x; match x with | ⟨0, _⟩ => rfl | ⟨1, _⟩ => rfl

/-- What the body leaves in a result's block. -/
theorem out0_eq (c : Dev nD) (i : grid0.Coords) (r0 : Memref sig .tc .vmem S1024x1280 .bf16) (h0 : r0.IsWhole) (r1 : Memref sig .tc .vmem S1280x1024 .bf16) (h1 : r1.IsWhole) (r2 : Memref sig .tc .vmem S1024x1024 .f32) (h2 : r2.IsWhole) (r3 : Memref sig .tc .vmem S8x128 .f32) (h3 : r3.IsWhole)
    (x : Vec Ideal S1024x1280 .bf16) (y : Vec Ideal S1280x1024 .bf16) :
    out0_A_2 c i r0 h0 r1 h1 r2 h2 r3 h3 x y = k0_pay1 x y := by
  unfold out0_A_2
  rw [View.read_writes_eq_canon _ _ _ (cover0_A_2 c i r0 h0 r1 h1 r2 h2 r3 h3 x y)]
  unfold kernelRun0_A
  dsimp only
  sl_unfold_words
  rw [View.canon_unit_zero zz]
  simp only [View.readAt_eq_ld, h0.read_unread, h1.read_unread, View.ld_unit_zero (S := S1024x1280) zz, View.ld_unit_zero (S := S1280x1024) zz, View.ld_unit_zero (S := S1024x1024) zz, shapeCast_self]

/-- Each window's block at a point of the grid. -/
theorem idx_facts : ∀ t : Fin cfg0.N, win0_0.index t (0 : Fin 2) = t.val / 2
    ∧ win0_0.index t (1 : Fin 2) = 0
    ∧ win0_1.index t (0 : Fin 2) = 0
    ∧ win0_1.index t (1 : Fin 2) = t.val / 1 % 2
    ∧ win0_2.index t (0 : Fin 2) = t.val / 2
    ∧ win0_2.index t (1 : Fin 2) = t.val / 1 % 2
    ∧ win0_2.flush t = true :=
  (by decide +kernel : ∀ t : Fin grid0.N, _)

variable (m : (ℓ : Loc nD τ sig) → Buf (Elt Ideal) ℓ) (c : Dev nD)

/-- The array window 0 cuts into blocks. -/
abbrev arr0 : Vec Ideal S4096x1280 .bf16 := V m c main_v0

/-- The array window 1 cuts into blocks. -/
abbrev arr1 : Vec Ideal S1280x2048 .bf16 := V m c main_v1

theorem blk_0 (t : Fin cfg0.N) (p0 : Fin 1024) (p1 : Fin 1280) (q0 : Fin 4096) (q1 : Fin 1280)
    (h0 : q0.val = t.val / 2 * 1024 + p0.val) (h1 : q1.val = 0 * 1280 + p1.val) :
    (iblk m c 0 t : Vec Ideal S1024x1280 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 1024 + p0.val = q0.val by rw [e0, h0])
  | ⟨1, _⟩ => exact (Window.rect_emb_val _ _ _ _).trans (show win0_0.index t (1 : Fin 2) * 1280 + p1.val = q1.val by rw [e1, h1])

theorem blk_1 (t : Fin cfg0.N) (p0 : Fin 1280) (p1 : Fin 1024) (q0 : Fin 1280) (q1 : Fin 2048)
    (h0 : q0.val = 0 * 1280 + p0.val) (h1 : q1.val = t.val / 1 % 2 * 1024 + p1.val) :
    (iblk m c 1 t : Vec Ideal S1280x1024 .bf16) (ix2 p0 p1) = arr1 m c (ix2 q0 q1) := by
  obtain ⟨-, -, e0, e1, -⟩ := idx_facts t
  unfold iblk
  rw [View.read_apply]
  refine congrArg (V m c main_v1) ?_
  funext x
  apply Fin.ext
  match x with
  | ⟨0, _⟩ => exact (Window.rect_emb_val _ _ _ _).trans (show win0_1.index t (0 : Fin 2) * 1280 + p0.val = q0.val by rw [e0, h0])
  | ⟨1, _⟩ => exact (Window.rect_emb_val _ _ _ _).trans (show win0_1.index t (1 : Fin 2) * 1024 + p1.val = q1.val by rw [e1, h1])

/-- A result at an index, over the arrays the grid cuts. -/
theorem result0 (r : Fin 4096) (s : Fin 2048) :
    ((dats m 0 c).arrAt 2 cfg0.N : Vec Ideal S4096x2048 .f32) (ix2 r s)
      = ∑ k : Fin 1280, arr0 m c (ix2 r k) * arr1 m c (ix2 k s) := by
  have hr := r.isLt
  have hs := s.isLt
  let t : Fin cfg0.N := ⟨r.val / 1024 * 2 + s.val / 1024, lt_of_lt_of_eq (by omega) N_0.symm⟩
  have ht : t.val = r.val / 1024 * 2 + s.val / 1024 := rfl
  let a : Fin 1024 := ⟨r.val % 1024, Nat.mod_lt _ (by decide)⟩
  let b : Fin 1024 := ⟨s.val % 1024, Nat.mod_lt _ (by decide)⟩
  have ha : r.val = t.val / 2 * 1024 + a.val := by show _ = t.val / 2 * 1024 + r.val % 1024; omega
  have hb : s.val = t.val / 1 % 2 * 1024 + b.val := by show _ = t.val / 1 % 2 * 1024 + s.val % 1024; omega
  obtain ⟨-, -, -, -, e0, e1, hf⟩ := idx_facts t
  have h := congrFun ((Value.blocks2 m c t hf).trans (Value.flushed2_A m c t)) (ix2 a b)
  rw [View.read_apply, out0_eq] at h
  refine (congrArg ((dats m 0 c).arrAt 2 cfg0.N) ?_).trans (h.trans ?_)
  · funext x
    apply Fin.ext
    match x with
    | ⟨0, _⟩ => exact ((Window.rect_emb_val _ _ _ _).trans (show win0_2.index t (0 : Fin 2) * 1024 + a.val = r.val by rw [e0, ha])).symm
    | ⟨1, _⟩ => exact ((Window.rect_emb_val _ _ _ _).trans (show win0_2.index t (1 : Fin 2) * 1024 + b.val = s.val by rw [e1, hb])).symm
  · refine (pay_apply (iblk m c 0 t) (iblk m c 1 t) a b).trans ?_
    exact Finset.sum_congr rfl fun k _ => by
      rw [blk_0 m c t a k r k ha (by omega), blk_1 m c t k b k s (by omega) hb]

/-- Argument 0. -/
abbrev arg0 : Vec Ideal S4096x1280 .f32 := m ((c : Thread nD τ).loc main_arg0)

/-- Argument 1. -/
abbrev arg1 : Vec Ideal S1280x2048 .f32 := m ((c : Thread nD τ).loc main_arg1)

theorem arr0_apply (r : Fin 4096) (s : Fin 1280) : arr0 m c (ix2 r s) = arg0 m c (ix2 r s) := by
  have e : arr0 m c = (truncf .bf16 (arg0 m c) bitsLt_bf16_f32 : FVec Ideal S4096x1280 .bf16) := by
    show StableHlo.after _ _ _ = _
    after_results_simp
  rw [e]
  rfl

theorem arr1_apply (r : Fin 1280) (s : Fin 2048) : arr1 m c (ix2 r s) = arg1 m c (ix2 r s) := by
  have e : arr1 m c = (truncf .bf16 (arg1 m c) bitsLt_bf16_f32 : FVec Ideal S1280x2048 .bf16) := by
    show StableHlo.after _ _ _ = _
    after_results_simp
  rw [e]
  rfl

/-- Result 0. -/
abbrev out0 : Vec Ideal S4096x2048 .f32 := (dats m 0 c).arrAt 2 cfg0.N

/-- The kernel's result at an index, over the arguments. -/
theorem kernel0_apply (r : Fin 4096) (s : Fin 2048) :
    out0 m c (ix2 r s)
      = ∑ k : Fin 1280, arg0 m c (ix2 r k) * arg1 m c (ix2 k s) := by
  have h : (∑ k : Fin 1280, arr0 m c (ix2 r k) * arr1 m c (ix2 k s) : EReal) = ∑ k : Fin 1280, arg0 m c (ix2 r k) * arg1 m c (ix2 k s) :=
    Finset.sum_congr rfl fun k _ => by rw [arr0_apply, arr1_apply]
  exact (result0 m c r s).trans h

end Cert.Kernel9Ideal.Prod

namespace Cert.Reference9Ideal.Prod

open Cert.Reference9Ideal Cert.Reference9Ideal.Gen
open Idealize.ShloMosaic Idealize.ShloMosaic.TcCoe Idealize.ShloMosaic.Tactic

/-- The reference's result as a function of its arguments. -/
def res0 (x0 : FVec Ideal S4096x1280 .f32) (x1 : FVec Ideal S1280x2048 .f32) : FVec Ideal S4096x2048 .f32 :=
  Host.dotGeneral dot_S4096x1280_S1280x2048_S4096x2048_1_0_0_1_n_n none x0 x1

/-- The reference's result at an index. -/
theorem ref0_apply (x0 : FVec Ideal S4096x1280 .f32) (x1 : FVec Ideal S1280x2048 .f32) (r : Fin 4096) (s : Fin 2048) :
    res0 x0 x1 (ix2 r s) = ∑ k : Fin 1280, x0 (ix2 r k) * x1 (ix2 k s) := by
  pointwise [res0]

end Cert.Reference9Ideal.Prod

namespace Cert.Kernel9Ideal.Prod

open Cert.Kernel9Ideal Cert.Kernel9Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference9Ideal.Prod.res0 (arg0 m c) (arg1 m c) = out0 m c := by
  funext i
  obtain ⟨r, s, rfl⟩ : ∃ (r : Fin 4096) (s : Fin 2048), i = ix2 r s := ⟨i 0, i 1, eq_ix2 i⟩
  exact (Cert.Reference9Ideal.Prod.ref0_apply (arg0 m c) (arg1 m c) r s).trans (kernel0_apply m c r s).symm

/-- Over the reals the kernel computes what the reference does, whatever the arguments. -/
theorem algebraic : Cert.algebraic_Kernel9Ideal_Reference9Ideal := by
  intro m g m' g' _ heq
  refine ⟨fun c => (dats m 0 c).arrAt 2 cfg0.N, Value.run_blocks (F := Ideal) m g, ?_⟩
  refine (θ_run Cert.Reference9Ideal.defs _ _).mono (fun r h c => ⟨(h c).1.trans ?_, (h c).2⟩) (Cert.Reference9Ideal.Value.run (F := Ideal) m' g')
  · obtain ⟨e0, e1⟩ := heq c
    refine Eq.trans ?_ (same0 m c)
    show Cert.Reference9Ideal.Prod.res0 _ _ = _
    rw [e0, e1]

end Cert.Kernel9Ideal.Prod

end
-- ==== Proof.Prod10.lean ====
/- The gradient of the output projection's input: each point of the grid writes its own tile. -/
module

public import proofs.«01_k».proof.Proof.Gen.Kernel10Ideal.Value
public import proofs.«01_k».proof.Proof.Gen.Reference10Ideal.Run
public import proofs.«01_k».proof.Proof.Sums
public import proofs.«01_k».proof.Defs

@[expose] public section

set_option maxRecDepth 16384

noncomputable section

namespace Cert.Kernel10Ideal.Prod

open Cert.Kernel10Ideal Cert.Kernel10Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S1024x2048 .bf16) (y : Vec Ideal S1280x2048 .bf16) (a : Fin 1024) (b : Fin 1280) :
    k0_pay1 x y (ix2 a b) = ∑ k : Fin 2048, x (ix2 a k) * y (ix2 b k) := by
  pointwise [k0_pay1]

theorem zz : (![0, 0] : Fin 2 → Nat) = fun _ => 0 := by funext x; match x with | ⟨0, _⟩ => rfl | ⟨1, _⟩ => rfl

/-- What the body leaves in a result's block. -/
theorem out0_eq (c : Dev nD) (i : grid0.Coords) (r0 : Memref sig .tc .vmem S1024x2048 .bf16) (h0 : r0.IsWhole) (r1 : Memref sig .tc .vmem S1280x2048 .bf16) (h1 : r1.IsWhole) (r2 : Memref sig .tc .vmem S1024x1280 .bf16) (h2 : r2.IsWhole) (r3 : Memref sig .tc .vmem S8x128 .f32) (h3 : r3.IsWhole)
    (x : Vec Ideal S1024x2048 .bf16) (y : Vec Ideal S1280x2048 .bf16) :
    out0_A_2 c i r0 h0 r1 h1 r2 h2 r3 h3 x y = k0_pay1 x y := by
  unfold out0_A_2
  rw [View.read_writes_eq_canon _ _ _ (cover0_A_2 c i r0 h0 r1 h1 r2 h2 r3 h3 x y)]
  unfold kernelRun0_A
  dsimp only
  sl_unfold_words
  rw [View.canon_unit_zero zz]
  simp only [View.readAt_eq_ld, h0.read_unread, h1.read_unread, View.ld_unit_zero (S := S1024x2048) zz, View.ld_unit_zero (S := S1280x2048) zz, View.ld_unit_zero (S := S1024x1280) zz, shapeCast_self]

/-- Each window's block at a point of the grid. -/
theorem idx_facts : ∀ t : Fin cfg0.N, win0_0.index t (0 : Fin 2) = t.val / 1
    ∧ win0_0.index t (1 : Fin 2) = 0
    ∧ win0_1.index t (0 : Fin 2) = t.val / 1 % 1
    ∧ win0_1.index t (1 : Fin 2) = 0
    ∧ win0_2.index t (0 : Fin 2) = t.val / 1
    ∧ win0_2.index t (1 : Fin 2) = t.val / 1 % 1
    ∧ win0_2.flush t = true :=
  (by decide +kernel : ∀ t : Fin grid0.N, _)

variable (m : (ℓ : Loc nD τ sig) → Buf (Elt Ideal) ℓ) (c : Dev nD)

/-- The array window 0 cuts into blocks. -/
abbrev arr0 : Vec Ideal S4096x2048 .bf16 := V m c main_v0

/-- The array window 1 cuts into blocks. -/
abbrev arr1 : Vec Ideal S1280x2048 .bf16 := V m c main_v1

theorem blk_0 (t : Fin cfg0.N) (p0 : Fin 1024) (p1 : Fin 2048) (q0 : Fin 4096) (q1 : Fin 2048)
    (h0 : q0.val = t.val / 1 * 1024 + p0.val) (h1 : q1.val = 0 * 2048 + p1.val) :
    (iblk m c 0 t : Vec Ideal S1024x2048 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 1024 + p0.val = q0.val by rw [e0, h0])
  | ⟨1, _⟩ => exact (Window.rect_emb_val _ _ _ _).trans (show win0_0.index t (1 : Fin 2) * 2048 + p1.val = q1.val by rw [e1, h1])

theorem blk_1 (t : Fin cfg0.N) (p0 : Fin 1280) (p1 : Fin 2048) (q0 : Fin 1280) (q1 : Fin 2048)
    (h0 : q0.val = t.val / 1 % 1 * 1280 + p0.val) (h1 : q1.val = 0 * 2048 + p1.val) :
    (iblk m c 1 t : Vec Ideal S1280x2048 .bf16) (ix2 p0 p1) = arr1 m c (ix2 q0 q1) := by
  obtain ⟨-, -, e0, e1, -⟩ := idx_facts t
  unfold iblk
  rw [View.read_apply]
  refine congrArg (V m c main_v1) ?_
  funext x
  apply Fin.ext
  match x with
  | ⟨0, _⟩ => exact (Window.rect_emb_val _ _ _ _).trans (show win0_1.index t (0 : Fin 2) * 1280 + p0.val = q0.val by rw [e0, h0])
  | ⟨1, _⟩ => exact (Window.rect_emb_val _ _ _ _).trans (show win0_1.index t (1 : Fin 2) * 2048 + p1.val = q1.val by rw [e1, h1])

/-- A result at an index, over the arrays the grid cuts. -/
theorem result0 (r : Fin 4096) (s : Fin 1280) :
    ((dats m 0 c).arrAt 2 cfg0.N : Vec Ideal S4096x1280 .bf16) (ix2 r s)
      = ∑ k : Fin 2048, arr0 m c (ix2 r k) * arr1 m c (ix2 s k) := by
  have hr := r.isLt
  have hs := s.isLt
  let t : Fin cfg0.N := ⟨r.val / 1024 * 1 + s.val / 1280, lt_of_lt_of_eq (by omega) N_0.symm⟩
  have ht : t.val = r.val / 1024 * 1 + s.val / 1280 := rfl
  let a : Fin 1024 := ⟨r.val % 1024, Nat.mod_lt _ (by decide)⟩
  let b : Fin 1280 := ⟨s.val % 1280, Nat.mod_lt _ (by decide)⟩
  have ha : r.val = t.val / 1 * 1024 + a.val := by show _ = t.val / 1 * 1024 + r.val % 1024; omega
  have hb : s.val = t.val / 1 % 1 * 1280 + b.val := by show _ = t.val / 1 % 1 * 1280 + s.val % 1280; omega
  obtain ⟨-, -, -, -, e0, e1, hf⟩ := idx_facts t
  have h := congrFun ((Value.blocks2 m c t hf).trans (Value.flushed2_A m c t)) (ix2 a b)
  rw [View.read_apply, out0_eq] at h
  refine (congrArg ((dats m 0 c).arrAt 2 cfg0.N) ?_).trans (h.trans ?_)
  · funext x
    apply Fin.ext
    match x with
    | ⟨0, _⟩ => exact ((Window.rect_emb_val _ _ _ _).trans (show win0_2.index t (0 : Fin 2) * 1024 + a.val = r.val by rw [e0, ha])).symm
    | ⟨1, _⟩ => exact ((Window.rect_emb_val _ _ _ _).trans (show win0_2.index t (1 : Fin 2) * 1280 + b.val = s.val by rw [e1, hb])).symm
  · refine (pay_apply (iblk m c 0 t) (iblk m c 1 t) a b).trans ?_
    exact Finset.sum_congr rfl fun k _ => by
      rw [blk_0 m c t a k r k ha (by omega), blk_1 m c t b k s k hb (by omega)]

/-- Argument 0. -/
abbrev arg0 : Vec Ideal S4096x1280 .f32 := m ((c : Thread nD τ).loc main_arg0)

/-- Argument 1. -/
abbrev arg1 : Vec Ideal S1280x2048 .f32 := m ((c : Thread nD τ).loc main_arg1)

/-- Argument 2. -/
abbrev arg2 : Vec Ideal S4096x2048 .f32 := m ((c : Thread nD τ).loc main_arg2)

theorem arr0_apply (r : Fin 4096) (s : Fin 2048) : arr0 m c (ix2 r s) = arg2 m c (ix2 r s) := by
  have e : arr0 m c = (truncf .bf16 (arg2 m c) bitsLt_bf16_f32 : FVec Ideal S4096x2048 .bf16) := by
    show StableHlo.after _ _ _ = _
    after_results_simp
  rw [e]
  rfl

theorem arr1_apply (r : Fin 1280) (s : Fin 2048) : arr1 m c (ix2 r s) = arg1 m c (ix2 r s) := by
  have e : arr1 m c = (truncf .bf16 (arg1 m c) bitsLt_bf16_f32 : FVec Ideal S1280x2048 .bf16) := by
    show StableHlo.after _ _ _ = _
    after_results_simp
  rw [e]
  rfl

/-- Result 0. -/
abbrev out0 : Vec Ideal S4096x1280 .bf16 := (dats m 0 c).arrAt 2 cfg0.N

/-- The kernel's result at an index, over the arguments. -/
theorem kernel0_apply (r : Fin 4096) (s : Fin 1280) :
    out0 m c (ix2 r s)
      = ∑ k : Fin 2048, arg2 m c (ix2 r k) * arg1 m c (ix2 s k) := by
  have h : (∑ k : Fin 2048, arr0 m c (ix2 r k) * arr1 m c (ix2 s k) : EReal) = ∑ k : Fin 2048, arg2 m c (ix2 r k) * arg1 m c (ix2 s k) :=
    Finset.sum_congr rfl fun k _ => by rw [arr0_apply, arr1_apply]
  exact (result0 m c r s).trans h

end Cert.Kernel10Ideal.Prod

namespace Cert.Reference10Ideal.Prod

open Cert.Reference10Ideal Cert.Reference10Ideal.Gen
open Idealize.ShloMosaic Idealize.ShloMosaic.TcCoe Idealize.ShloMosaic.Tactic

/-- The reference's result as a function of its arguments. -/
def res0 (x0 : FVec Ideal S4096x1280 .f32) (x1 : FVec Ideal S1280x2048 .f32) (x2 : FVec Ideal S4096x2048 .f32) : FVec Ideal S4096x1280 .bf16 :=
  truncf .bf16 (Host.dotGeneral dot_S4096x2048_S1280x2048_S4096x1280_1_1_0_0_n_n none x2 x1) bitsLt_bf16_f32

/-- The reference's result at an index. -/
theorem ref0_apply (x0 : FVec Ideal S4096x1280 .f32) (x1 : FVec Ideal S1280x2048 .f32) (x2 : FVec Ideal S4096x2048 .f32) (r : Fin 4096) (s : Fin 1280) :
    res0 x0 x1 x2 (ix2 r s) = ∑ k : Fin 2048, x2 (ix2 r k) * x1 (ix2 s k) := by
  pointwise [res0]

end Cert.Reference10Ideal.Prod

namespace Cert.Kernel10Ideal.Prod

open Cert.Kernel10Ideal Cert.Kernel10Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference10Ideal.Prod.res0 (arg0 m c) (arg1 m c) (arg2 m c) = out0 m c := by
  funext i
  obtain ⟨r, s, rfl⟩ : ∃ (r : Fin 4096) (s : Fin 1280), i = ix2 r s := ⟨i 0, i 1, eq_ix2 i⟩
  exact (Cert.Reference10Ideal.Prod.ref0_apply (arg0 m c) (arg1 m c) (arg2 m c) r s).trans (kernel0_apply m c r s).symm

/-- Over the reals the kernel computes what the reference does, whatever the arguments. -/
theorem algebraic : Cert.algebraic_Kernel10Ideal_Reference10Ideal := by
  intro m g m' g' _ heq
  refine ⟨fun c => (dats m 0 c).arrAt 2 cfg0.N, Value.run_blocks (F := Ideal) m g, ?_⟩
  refine (θ_run Cert.Reference10Ideal.defs _ _).mono (fun r h c => ⟨(h c).1.trans ?_, (h c).2⟩) (Cert.Reference10Ideal.Value.run (F := Ideal) m' g')
  · obtain ⟨e0, e1, e2⟩ := heq c
    have h := same0 m c
    dsimp only [arg0, arg1, arg2] at h
    rw [← e0, ← e1, ← e2] at h
    exact h

end Cert.Kernel10Ideal.Prod

end
-- ==== Proof.Prod11.lean ====
/- The gradient of the output projection's weight: two points of the grid sum each tile, one for each half of the tokens. -/
module

public import proofs.«01_k».proof.Proof.Gen.Kernel11Ideal.Value
public import proofs.«01_k».proof.Proof.Gen.Reference11Ideal.Run
public import proofs.«01_k».proof.Proof.Sums
public import proofs.«01_k».proof.Defs

@[expose] public section

set_option maxRecDepth 16384

noncomputable section

namespace Cert.Kernel11Ideal.Prod

open Cert.Kernel11Ideal Cert.Kernel11Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S2048x640 .bf16) (y : Vec Ideal S2048x1024 .bf16) (a : Fin 640) (b : Fin 1024) :
    k0_pay1 x y (ix2 a b) = ∑ k : Fin 2048, x (ix2 k a) * y (ix2 k b) := by
  pointwise [k0_pay1]

theorem pay2_eq (x : Vec Ideal S2048x640 .bf16) (y : Vec Ideal S2048x1024 .bf16) : k0_pay2 x y = k0_pay1 x y := by
  unfold k0_pay2
  rw [shapeCast_self]

theorem pay4_apply (x : Vec Ideal S2048x640 .bf16) (y : Vec Ideal S2048x1024 .bf16) (z : Vec Ideal S640x1024 .f32) (a : Fin 640) (b : Fin 1024) :
    k0_pay4 x y z (ix2 a b) = z (ix2 a b) + k0_pay1 x y (ix2 a b) := by
  pointwise [k0_pay4, k0_pay1]

theorem zz : (![0, 0] : Fin 2 → Nat) = fun _ => 0 := by funext x; match x with | ⟨0, _⟩ => rfl | ⟨1, _⟩ => rfl

/-- The first point of a tile keeps its product. -/
theorem sum_A (c : Dev nD) (i : grid0.Coords) (r0 : Memref sig .tc .vmem S2048x640 .bf16) (h0 : r0.IsWhole) (r1 : Memref sig .tc .vmem S2048x1024 .bf16) (h1 : r1.IsWhole) (r2 : Memref sig .tc .vmem S640x1024 .bf16) (h2 : r2.IsWhole) (r3 : Memref sig .tc .vmem S640x1024 .f32) (h3 : r3.IsWhole) (hc0 : cond0_0 i) (hc1 : ¬cond0_1 i) (hc2 : ¬cond0_2 i)
    (x : Vec Ideal S2048x640 .bf16) (y : Vec Ideal S2048x1024 .bf16) :
    sout0_A_0 c i r0 h0 r1 h1 r2 h2 r3 h3 hc0 hc1 hc2 x y = k0_pay2 x y := by
  unfold sout0_A_0
  rw [View.read_writes_eq_canon _ _ _ (scover0_A_0 c i r0 h0 r1 h1 r2 h2 r3 h3 hc0 hc1 hc2 x y)]
  unfold kernelRun0_A
  dsimp only
  sl_unfold_words
  rw [View.canon_unit_zero zz]
  simp only [View.readAt_eq_ld, h0.read_unread, h1.read_unread, h3.read_unread, View.ld_unit_zero (S := S2048x640) zz, View.ld_unit_zero (S := S2048x1024) zz, View.ld_unit_zero (S := S640x1024) zz, shapeCast_self]

/-- The last point of a tile writes the sum. -/
theorem out_eq (c : Dev nD) (i : grid0.Coords) (r0 : Memref sig .tc .vmem S2048x640 .bf16) (h0 : r0.IsWhole) (r1 : Memref sig .tc .vmem S2048x1024 .bf16) (h1 : r1.IsWhole) (r2 : Memref sig .tc .vmem S640x1024 .bf16) (h2 : r2.IsWhole) (r3 : Memref sig .tc .vmem S640x1024 .f32) (h3 : r3.IsWhole) (hc0 : ¬cond0_0 i) (hc1 : ¬cond0_1 i) (hc2 : cond0_2 i)
    (x : Vec Ideal S2048x640 .bf16) (y : Vec Ideal S2048x1024 .bf16) (z : Vec Ideal S640x1024 .f32) :
    out0_B_2 c i r0 h0 r1 h1 r2 h2 r3 h3 hc0 hc1 hc2 x y z = k0_pay4 x y z := by
  unfold out0_B_2
  rw [View.read_writes_eq_canon _ _ _ (cover0_B_2 c i r0 h0 r1 h1 r2 h2 r3 h3 hc0 hc1 hc2 x y z)]
  unfold kernelRun0_B
  dsimp only
  sl_unfold_words
  rw [View.canon_unit_zero zz]
  simp only [View.readAt_eq_ld, h0.read_unread, h1.read_unread, h3.read_unread, View.ld_unit_zero (S := S2048x640) zz, View.ld_unit_zero (S := S2048x1024) zz, View.ld_unit_zero (S := S640x1024) zz, shapeCast_self]

/-- Each window's block at a point of the grid. -/
theorem idx_facts : ∀ t : Fin cfg0.N, win0_0.index t (0 : Fin 2) = t.val % 2
    ∧ win0_0.index t (1 : Fin 2) = t.val / 4
    ∧ win0_1.index t (0 : Fin 2) = t.val % 2
    ∧ win0_1.index t (1 : Fin 2) = t.val / 2 % 2 :=
  (by decide +kernel : ∀ t : Fin grid0.N, _)

variable (m : (ℓ : Loc nD τ sig) → Buf (Elt Ideal) ℓ) (c : Dev nD)

/-- The array window 0 cuts into blocks. -/
abbrev arr0 : Vec Ideal S4096x1280 .bf16 := V m c main_v0

/-- The array window 1 cuts into blocks. -/
abbrev arr1 : Vec Ideal S4096x2048 .bf16 := V m c main_v1

theorem blk_0 (t : Fin cfg0.N) (p0 : Fin 2048) (p1 : Fin 640) (q0 : Fin 4096) (q1 : Fin 1280)
    (h0 : q0.val = t.val % 2 * 2048 + p0.val) (h1 : q1.val = t.val / 4 * 640 + p1.val) :
    (iblk m c 0 t : Vec Ideal S2048x640 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 2048 + p0.val = q0.val by rw [e0, h0])
  | ⟨1, _⟩ => exact (Window.rect_emb_val _ _ _ _).trans (show win0_0.index t (1 : Fin 2) * 640 + p1.val = q1.val by rw [e1, h1])

theorem blk_1 (t : Fin cfg0.N) (p0 : Fin 2048) (p1 : Fin 1024) (q0 : Fin 4096) (q1 : Fin 2048)
    (h0 : q0.val = t.val % 2 * 2048 + p0.val) (h1 : q1.val = t.val / 2 % 2 * 1024 + p1.val) :
    (iblk m c 1 t : Vec Ideal S2048x1024 .bf16) (ix2 p0 p1) = arr1 m c (ix2 q0 q1) := by
  obtain ⟨-, -, e0, e1⟩ := idx_facts t
  unfold iblk
  rw [View.read_apply]
  refine congrArg (V m c main_v1) ?_
  funext x
  apply Fin.ext
  match x with
  | ⟨0, _⟩ => exact (Window.rect_emb_val _ _ _ _).trans (show win0_1.index t (0 : Fin 2) * 2048 + p0.val = q0.val by rw [e0, h0])
  | ⟨1, _⟩ => exact (Window.rect_emb_val _ _ _ _).trans (show win0_1.index t (1 : Fin 2) * 1024 + p1.val = q1.val by rw [e1, h1])

/-- A point's product at a place of its tile, over the arrays the grid cuts. -/
theorem prod_at (t : Fin cfg0.N) (a : Fin 640) (b : Fin 1024) (r : Fin 1280) (s : Fin 2048) (q : Nat) (hlt : q < 2)
    (hq : t.val % 2 = q) (ha : r.val = t.val / 4 * 640 + a.val) (hb : s.val = t.val / 2 % 2 * 1024 + b.val) :
    k0_pay1 (iblk m c 0 t) (iblk m c 1 t) (ix2 a b)
      = ∑ k : Fin 2048, arr0 m c (ix2 ⟨q * 2048 + k.val, by omega⟩ r) * arr1 m c (ix2 ⟨q * 2048 + k.val, by omega⟩ s) := by
  refine (pay_apply (iblk m c 0 t) (iblk m c 1 t) a b).trans (Finset.sum_congr rfl fun k _ => ?_)
  rw [blk_0 m c t k a ⟨q * 2048 + k.val, by omega⟩ r (by rw [hq]) ha, blk_1 m c t k b ⟨q * 2048 + k.val, by omega⟩ s (by rw [hq]) hb]

theorem left_A (t : Fin cfg0.N) (h : t.val % 2 = 0) :
    (outsAt0 m c t.val t.isLt).2 = k0_pay1 (iblk m c 0 t) (iblk m c 1 t) := by
  rw [outsAt0_A m c t h (by omega)]
  dsimp only
  rw [sum_A, pay2_eq]

theorem left_last (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h]
  dsimp only
  rw [out_eq]

/-- The result at an index: what the last point of its tile wrote. -/
theorem final_apply (i : S1280x2048.Idx) (h : Value.pt2Of i < cfg0.N) :
    Value.G2 m c i = (outsAt0 m c (Value.pt2Of i) h).1 (Value.loc2Of i) := by
  unfold Value.G2
  rw [dif_pos h, ← Value.outsAt0_sweep]

/-- What the last point of a tile writes at a place of it, over the arrays the grid cuts. -/
theorem tile_apply (n : Nat) (hp : ∀ q < 2, n + q < cfg0.N) (hq : ∀ q < 2, (n + q) % 2 = q) (a : Fin 640) (b : Fin 1024)
    (r : Fin 1280) (s : Fin 2048) (ha : ∀ q < 2, r.val = (n + q) / 4 * 640 + a.val)
    (hb : ∀ q < 2, s.val = (n + q) / 2 % 2 * 1024 + b.val) :
    (outsAt0 m c (n + 1) (hp 1 (by decide))).1 (ix2 a b) = ∑ k : Fin 4096, arr0 m c (ix2 k r) * arr1 m c (ix2 k s) := by
  have e : ∀ q, ∀ hlt : q < 2, k0_pay1 (iblk m c 0 ⟨n + q, hp q hlt⟩) (iblk m c 1 ⟨n + q, hp q hlt⟩) (ix2 a b) = _ := fun q hlt =>
    prod_at m c ⟨n + q, hp q hlt⟩ a b r s q hlt (hq q hlt) (ha q hlt) (hb q hlt)
  have e0 := (congrFun (left_A m c ⟨n + 0, hp 0 (by decide)⟩ (hq 0 (by decide))) (ix2 a b)).trans (e 0 (by decide))
  exact (congrFun (left_last m c ⟨n + 1, hp 1 (by decide)⟩ (hq 1 (by decide))) (ix2 a b)).trans
    ((pay4_apply _ _ _ a b).trans ((congrArg₂ (· + ·) e0 (e 1 (by decide))).trans (sum_2 fun k => arr0 m c (ix2 k r) * arr1 m c (ix2 k s)).symm))

/-- The result at an index, over the arrays the grid cuts. -/
theorem result0 (r : Fin 1280) (s : Fin 2048) :
    (Value.G2 m c : Vec Ideal S1280x2048 .bf16) (ix2 r s)
      = ∑ k : Fin 4096, arr0 m c (ix2 k r) * arr1 m c (ix2 k s) := by
  have hr := r.isLt
  have hs := s.isLt
  have N0 : cfg0.N = 8 := N_0
  obtain ⟨n, hn⟩ : ∃ n : Nat, n = (r.val / 640 * 2 + s.val / 1024) * 2 := ⟨_, rfl⟩
  have hp : ∀ q < 2, n + q < cfg0.N := fun q hq => by omega
  have hpt : Value.pt2Of (ix2 r s : S1280x2048.Idx) = n + 1 := by
    show 2 * (2 * (r.val / 640 - 0) + 1 * (s.val / 1024 - 0)) + 1 = _
    omega
  have hloc : Value.loc2Of (ix2 r s : S1280x2048.Idx) = ix2 ⟨r.val % 640, Nat.mod_lt _ (by decide)⟩ ⟨s.val % 1024, Nat.mod_lt _ (by decide)⟩ := by
    funext x
    match x with
    | ⟨0, _⟩ => rfl
    | ⟨1, _⟩ => rfl
  refine (final_apply m c _ (hpt ▸ hp 1 (by decide))).trans ?_
  rw [hloc]
  refine Eq.trans ?_ (tile_apply m c n hp (fun q hq => by omega) ⟨r.val % 640, Nat.mod_lt _ (by decide)⟩
    ⟨s.val % 1024, Nat.mod_lt _ (by decide)⟩ r s (fun q hq => by show _ = _ * 640 + r.val % 640; omega)
    (fun q hq => by show _ = _ * 1024 + s.val % 1024; omega))
  simp only [hpt]

/-- Argument 0. -/
abbrev arg0 : Vec Ideal S4096x1280 .f32 := m ((c : Thread nD τ).loc main_arg0)

/-- Argument 1. -/
abbrev arg1 : Vec Ideal S1280x2048 .f32 := m ((c : Thread nD τ).loc main_arg1)

/-- Argument 2. -/
abbrev arg2 : Vec Ideal S4096x2048 .f32 := m ((c : Thread nD τ).loc main_arg2)

theorem arr0_apply (r : Fin 4096) (s : Fin 1280) : arr0 m c (ix2 r s) = arg0 m c (ix2 r s) := by
  have e : arr0 m c = (truncf .bf16 (arg0 m c) bitsLt_bf16_f32 : FVec Ideal S4096x1280 .bf16) := by
    show StableHlo.after _ _ _ = _
    after_results_simp
  rw [e]
  rfl

theorem arr1_apply (r : Fin 4096) (s : Fin 2048) : arr1 m c (ix2 r s) = arg2 m c (ix2 r s) := by
  have e : arr1 m c = (truncf .bf16 (arg2 m c) bitsLt_bf16_f32 : FVec Ideal S4096x2048 .bf16) := by
    show StableHlo.after _ _ _ = _
    after_results_simp
  rw [e]
  rfl

/-- Result 0. -/
abbrev out0 : Vec Ideal S1280x2048 .bf16 := Value.G2 m c

/-- The kernel's result at an index, over the arguments. -/
theorem kernel0_apply (r : Fin 1280) (s : Fin 2048) :
    out0 m c (ix2 r s)
      = ∑ k : Fin 4096, arg0 m c (ix2 k r) * arg2 m c (ix2 k s) := by
  have h : (∑ k : Fin 4096, arr0 m c (ix2 k r) * arr1 m c (ix2 k s) : EReal) = ∑ k : Fin 4096, arg0 m c (ix2 k r) * arg2 m c (ix2 k s) :=
    Finset.sum_congr rfl fun k _ => by rw [arr0_apply, arr1_apply]
  exact (result0 m c r s).trans h

end Cert.Kernel11Ideal.Prod

namespace Cert.Reference11Ideal.Prod

open Cert.Reference11Ideal Cert.Reference11Ideal.Gen
open Idealize.ShloMosaic Idealize.ShloMosaic.TcCoe Idealize.ShloMosaic.Tactic

/-- The reference's result as a function of its arguments. -/
def res0 (x0 : FVec Ideal S4096x1280 .f32) (x1 : FVec Ideal S1280x2048 .f32) (x2 : FVec Ideal S4096x2048 .f32) : FVec Ideal S1280x2048 .bf16 :=
  truncf .bf16 (transpose S1280x2048 [1, 0] (Host.dotGeneral dot_S4096x2048_S4096x1280_S2048x1280_0_0_1_1_n_n none x2 x0) transposes_S2048x1280_S1280x2048_1_0) bitsLt_bf16_f32

/-- The reference's result at an index. -/
theorem ref0_apply (x0 : FVec Ideal S4096x1280 .f32) (x1 : FVec Ideal S1280x2048 .f32) (x2 : FVec Ideal S4096x2048 .f32) (r : Fin 1280) (s : Fin 2048) :
    res0 x0 x1 x2 (ix2 r s) = ∑ k : Fin 4096, x0 (ix2 k r) * x2 (ix2 k s) := by
  refine Eq.trans (b := ∑ k : Fin 4096, x2 (ix2 k s) * x0 (ix2 k r)) ?_ (Finset.sum_congr rfl fun k _ => mul_comm _ _)
  pointwise [res0]

end Cert.Reference11Ideal.Prod

namespace Cert.Kernel11Ideal.Prod

open Cert.Kernel11Ideal Cert.Kernel11Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference11Ideal.Prod.res0 (arg0 m c) (arg1 m c) (arg2 m c) = out0 m c := by
  funext i
  obtain ⟨r, s, rfl⟩ : ∃ (r : Fin 1280) (s : Fin 2048), i = ix2 r s := ⟨i 0, i 1, eq_ix2 i⟩
  exact (Cert.Reference11Ideal.Prod.ref0_apply (arg0 m c) (arg1 m c) (arg2 m c) r s).trans (kernel0_apply m c r s).symm

/-- Over the reals the kernel computes what the reference does, whatever the arguments. -/
theorem algebraic : Cert.algebraic_Kernel11Ideal_Reference11Ideal := by
  intro m g m' g' _ heq
  refine ⟨fun c => Value.G2 m c, Value.run (F := Ideal) m g, ?_⟩
  refine (θ_run Cert.Reference11Ideal.defs _ _).mono (fun r h c => ⟨(h c).1.trans ?_, (h c).2⟩) (Cert.Reference11Ideal.Value.run (F := Ideal) m' g')
  · obtain ⟨e0, e1, e2⟩ := heq c
    have h := same0 m c
    dsimp only [arg0, arg1, arg2] at h
    rw [← e0, ← e1, ← e2] at h
    exact h

end Cert.Kernel11Ideal.Prod

end
-- ==== Proof.Prod12.lean ====
/- The gradient of the input projection's input: each point of the grid writes its own tile. -/
module

public import proofs.«01_k».proof.Proof.Gen.Kernel12Ideal.Value
public import proofs.«01_k».proof.Proof.Gen.Reference12Ideal.Run
public import proofs.«01_k».proof.Proof.Sums
public import proofs.«01_k».proof.Defs

@[expose] public section

set_option maxRecDepth 16384

noncomputable section

namespace Cert.Kernel12Ideal.Prod

open Cert.Kernel12Ideal Cert.Kernel12Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S1024x2816 .bf16) (y : Vec Ideal S2816x1024 .bf16) (a : Fin 1024) (b : Fin 1024) :
    k0_pay1 x y (ix2 a b) = ∑ k : Fin 2816, x (ix2 a k) * y (ix2 k b) := by
  pointwise [k0_pay1]

theorem zz : (![0, 0] : Fin 2 → Nat) = fun _ => 0 := by funext x; match x with | ⟨0, _⟩ => rfl | ⟨1, _⟩ => rfl

/-- What the body leaves in a result's block. -/
theorem out0_eq (c : Dev nD) (i : grid0.Coords) (r0 : Memref sig .tc .vmem S1024x2816 .bf16) (h0 : r0.IsWhole) (r1 : Memref sig .tc .vmem S2816x1024 .bf16) (h1 : r1.IsWhole) (r2 : Memref sig .tc .vmem S1024x1024 .bf16) (h2 : r2.IsWhole) (r3 : Memref sig .tc .vmem S8x128 .f32) (h3 : r3.IsWhole)
    (x : Vec Ideal S1024x2816 .bf16) (y : Vec Ideal S2816x1024 .bf16) :
    out0_A_2 c i r0 h0 r1 h1 r2 h2 r3 h3 x y = k0_pay1 x y := by
  unfold out0_A_2
  rw [View.read_writes_eq_canon _ _ _ (cover0_A_2 c i r0 h0 r1 h1 r2 h2 r3 h3 x y)]
  unfold kernelRun0_A
  dsimp only
  sl_unfold_words
  rw [View.canon_unit_zero zz]
  simp only [View.readAt_eq_ld, h0.read_unread, h1.read_unread, View.ld_unit_zero (S := S1024x2816) zz, View.ld_unit_zero (S := S2816x1024) zz, View.ld_unit_zero (S := S1024x1024) zz, shapeCast_self]

/-- Each window's block at a point of the grid. -/
theorem idx_facts : ∀ t : Fin cfg0.N, win0_0.index t (0 : Fin 2) = t.val / 2
    ∧ win0_0.index t (1 : Fin 2) = 0
    ∧ win0_1.index t (0 : Fin 2) = 0
    ∧ win0_1.index t (1 : Fin 2) = t.val / 1 % 2
    ∧ win0_2.index t (0 : Fin 2) = t.val / 2
    ∧ win0_2.index t (1 : Fin 2) = t.val / 1 % 2
    ∧ win0_2.flush t = true :=
  (by decide +kernel : ∀ t : Fin grid0.N, _)

variable (m : (ℓ : Loc nD τ sig) → Buf (Elt Ideal) ℓ) (c : Dev nD)

/-- The array window 0 cuts into blocks. -/
abbrev arr0 : Vec Ideal S4096x2816 .bf16 := V m c main_v0

/-- The array window 1 cuts into blocks. -/
abbrev arr1 : Vec Ideal S2816x2048 .bf16 := V m c main_v2

theorem blk_0 (t : Fin cfg0.N) (p0 : Fin 1024) (p1 : Fin 2816) (q0 : Fin 4096) (q1 : Fin 2816)
    (h0 : q0.val = t.val / 2 * 1024 + p0.val) (h1 : q1.val = 0 * 2816 + p1.val) :
    (iblk m c 0 t : Vec Ideal S1024x2816 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 1024 + p0.val = q0.val by rw [e0, h0])
  | ⟨1, _⟩ => exact (Window.rect_emb_val _ _ _ _).trans (show win0_0.index t (1 : Fin 2) * 2816 + p1.val = q1.val by rw [e1, h1])

theorem blk_1 (t : Fin cfg0.N) (p0 : Fin 2816) (p1 : Fin 1024) (q0 : Fin 2816) (q1 : Fin 2048)
    (h0 : q0.val = 0 * 2816 + p0.val) (h1 : q1.val = t.val / 1 % 2 * 1024 + p1.val) :
    (iblk m c 1 t : Vec Ideal S2816x1024 .bf16) (ix2 p0 p1) = arr1 m c (ix2 q0 q1) := by
  obtain ⟨-, -, e0, e1, -⟩ := idx_facts t
  unfold iblk
  rw [View.read_apply]
  refine congrArg (V m c main_v2) ?_
  funext x
  apply Fin.ext
  match x with
  | ⟨0, _⟩ => exact (Window.rect_emb_val _ _ _ _).trans (show win0_1.index t (0 : Fin 2) * 2816 + p0.val = q0.val by rw [e0, h0])
  | ⟨1, _⟩ => exact (Window.rect_emb_val _ _ _ _).trans (show win0_1.index t (1 : Fin 2) * 1024 + p1.val = q1.val by rw [e1, h1])

/-- A result at an index, over the arrays the grid cuts. -/
theorem result0 (r : Fin 4096) (s : Fin 2048) :
    ((dats m 0 c).arrAt 2 cfg0.N : Vec Ideal S4096x2048 .bf16) (ix2 r s)
      = ∑ k : Fin 2816, arr0 m c (ix2 r k) * arr1 m c (ix2 k s) := by
  have hr := r.isLt
  have hs := s.isLt
  let t : Fin cfg0.N := ⟨r.val / 1024 * 2 + s.val / 1024, lt_of_lt_of_eq (by omega) N_0.symm⟩
  have ht : t.val = r.val / 1024 * 2 + s.val / 1024 := rfl
  let a : Fin 1024 := ⟨r.val % 1024, Nat.mod_lt _ (by decide)⟩
  let b : Fin 1024 := ⟨s.val % 1024, Nat.mod_lt _ (by decide)⟩
  have ha : r.val = t.val / 2 * 1024 + a.val := by show _ = t.val / 2 * 1024 + r.val % 1024; omega
  have hb : s.val = t.val / 1 % 2 * 1024 + b.val := by show _ = t.val / 1 % 2 * 1024 + s.val % 1024; omega
  obtain ⟨-, -, -, -, e0, e1, hf⟩ := idx_facts t
  have h := congrFun ((Value.blocks2 m c t hf).trans (Value.flushed2_A m c t)) (ix2 a b)
  rw [View.read_apply, out0_eq] at h
  refine (congrArg ((dats m 0 c).arrAt 2 cfg0.N) ?_).trans (h.trans ?_)
  · funext x
    apply Fin.ext
    match x with
    | ⟨0, _⟩ => exact ((Window.rect_emb_val _ _ _ _).trans (show win0_2.index t (0 : Fin 2) * 1024 + a.val = r.val by rw [e0, ha])).symm
    | ⟨1, _⟩ => exact ((Window.rect_emb_val _ _ _ _).trans (show win0_2.index t (1 : Fin 2) * 1024 + b.val = s.val by rw [e1, hb])).symm
  · refine (pay_apply (iblk m c 0 t) (iblk m c 1 t) a b).trans ?_
    exact Finset.sum_congr rfl fun k _ => by
      rw [blk_0 m c t a k r k ha (by omega), blk_1 m c t k b k s (by omega) hb]

/-- Argument 0. -/
abbrev arg0 : Vec Ideal S4096x2048 .f32 := m ((c : Thread nD τ).loc main_arg0)

/-- Argument 1. -/
abbrev arg1 : Vec Ideal S2048x2816 .f32 := m ((c : Thread nD τ).loc main_arg1)

/-- Argument 2. -/
abbrev arg2 : Vec Ideal S4096x2816 .f32 := m ((c : Thread nD τ).loc main_arg2)

theorem arr0_apply (r : Fin 4096) (s : Fin 2816) : arr0 m c (ix2 r s) = arg2 m c (ix2 r s) := by
  have e : arr0 m c = (truncf .bf16 (arg2 m c) bitsLt_bf16_f32 : FVec Ideal S4096x2816 .bf16) := by
    show StableHlo.after _ _ _ = _
    after_results_simp
  rw [e]
  rfl

theorem arr1_apply (r : Fin 2816) (s : Fin 2048) : arr1 m c (ix2 r s) = arg1 m c (ix2 s r) := by
  have e : arr1 m c = (truncf .bf16 (transpose S2816x2048 [1, 0] (arg1 m c) transposes_S2048x2816_S2816x2048_1_0) bitsLt_bf16_f32 : FVec Ideal S2816x2048 .bf16) := by
    show StableHlo.after _ _ _ = _
    after_results_simp
  rw [e]
  pointwise

/-- Result 0. -/
abbrev out0 : Vec Ideal S4096x2048 .bf16 := (dats m 0 c).arrAt 2 cfg0.N

/-- The kernel's result at an index, over the arguments. -/
theorem kernel0_apply (r : Fin 4096) (s : Fin 2048) :
    out0 m c (ix2 r s)
      = ∑ k : Fin 2816, arg2 m c (ix2 r k) * arg1 m c (ix2 s k) := by
  have h : (∑ k : Fin 2816, arr0 m c (ix2 r k) * arr1 m c (ix2 k s) : EReal) = ∑ k : Fin 2816, arg2 m c (ix2 r k) * arg1 m c (ix2 s k) :=
    Finset.sum_congr rfl fun k _ => by rw [arr0_apply, arr1_apply]
  exact (result0 m c r s).trans h

end Cert.Kernel12Ideal.Prod

namespace Cert.Reference12Ideal.Prod

open Cert.Reference12Ideal Cert.Reference12Ideal.Gen
open Idealize.ShloMosaic Idealize.ShloMosaic.TcCoe Idealize.ShloMosaic.Tactic

/-- The reference's result as a function of its arguments. -/
def res0 (x0 : FVec Ideal S4096x2048 .f32) (x1 : FVec Ideal S2048x2816 .f32) (x2 : FVec Ideal S4096x2816 .f32) : FVec Ideal S4096x2048 .bf16 :=
  truncf .bf16 (Host.dotGeneral dot_S4096x2816_S2048x2816_S4096x2048_1_1_0_0_n_n none x2 x1) bitsLt_bf16_f32

/-- The reference's result at an index. -/
theorem ref0_apply (x0 : FVec Ideal S4096x2048 .f32) (x1 : FVec Ideal S2048x2816 .f32) (x2 : FVec Ideal S4096x2816 .f32) (r : Fin 4096) (s : Fin 2048) :
    res0 x0 x1 x2 (ix2 r s) = ∑ k : Fin 2816, x2 (ix2 r k) * x1 (ix2 s k) := by
  pointwise [res0]

end Cert.Reference12Ideal.Prod

namespace Cert.Kernel12Ideal.Prod

open Cert.Kernel12Ideal Cert.Kernel12Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference12Ideal.Prod.res0 (arg0 m c) (arg1 m c) (arg2 m c) = out0 m c := by
  funext i
  obtain ⟨r, s, rfl⟩ : ∃ (r : Fin 4096) (s : Fin 2048), i = ix2 r s := ⟨i 0, i 1, eq_ix2 i⟩
  exact (Cert.Reference12Ideal.Prod.ref0_apply (arg0 m c) (arg1 m c) (arg2 m c) r s).trans (kernel0_apply m c r s).symm

/-- Over the reals the kernel computes what the reference does, whatever the arguments. -/
theorem algebraic : Cert.algebraic_Kernel12Ideal_Reference12Ideal := by
  intro m g m' g' _ heq
  refine ⟨fun c => (dats m 0 c).arrAt 2 cfg0.N, Value.run_blocks (F := Ideal) m g, ?_⟩
  refine (θ_run Cert.Reference12Ideal.defs _ _).mono (fun r h c => ⟨(h c).1.trans ?_, (h c).2⟩) (Cert.Reference12Ideal.Value.run (F := Ideal) m' g')
  · obtain ⟨e0, e1, e2⟩ := heq c
    have h := same0 m c
    dsimp only [arg0, arg1, arg2] at h
    rw [← e0, ← e1, ← e2] at h
    exact h

end Cert.Kernel12Ideal.Prod

end
-- ==== Proof.Prod13.lean ====
/- The gradient of the input projection's weight: two points of the grid sum each tile, one for each half of the tokens. -/
module

public import proofs.«01_k».proof.Proof.Gen.Kernel13Ideal.Value
public import proofs.«01_k».proof.Proof.Gen.Reference13Ideal.Run
public import proofs.«01_k».proof.Proof.Sums
public import proofs.«01_k».proof.Defs

@[expose] public section

set_option maxRecDepth 16384

noncomputable section

namespace Cert.Kernel13Ideal.Prod

open Cert.Kernel13Ideal Cert.Kernel13Ideal.Gen Cert.Sums
open Idealize.ShloMosaic Idealize.ShloMosaic.TcCoe Idealize.ShloMosaic.Tactic
open Idealize.ShloMosaic.Pipeline (Dat Cfg Window)

/-- A tile's product. -/
theorem pay_apply (x : Vec Ideal S2048x1408 .bf16) (y : Vec Ideal S2048x1024 .bf16) (a : Fin 1408) (b : Fin 1024) :
    k0_pay1 x y (ix2 a b) = ∑ k : Fin 2048, x (ix2 k a) * y (ix2 k b) := by
  pointwise [k0_pay1]

theorem pay2_eq (x : Vec Ideal S2048x1408 .bf16) (y : Vec Ideal S2048x1024 .bf16) : k0_pay2 x y = k0_pay1 x y := by
  unfold k0_pay2
  rw [shapeCast_self]

theorem pay4_apply (x : Vec Ideal S2048x1408 .bf16) (y : Vec Ideal S2048x1024 .bf16) (z : Vec Ideal S1408x1024 .f32) (a : Fin 1408) (b : Fin 1024) :
    k0_pay4 x y z (ix2 a b) = z (ix2 a b) + k0_pay1 x y (ix2 a b) := by
  pointwise [k0_pay4, k0_pay1]

theorem zz : (![0, 0] : Fin 2 → Nat) = fun _ => 0 := by funext x; match x with | ⟨0, _⟩ => rfl | ⟨1, _⟩ => rfl

/-- The first point of a tile keeps its product. -/
theorem sum_A (c : Dev nD) (i : grid0.Coords) (r0 : Memref sig .tc .vmem S2048x1408 .bf16) (h0 : r0.IsWhole) (r1 : Memref sig .tc .vmem S2048x1024 .bf16) (h1 : r1.IsWhole) (r2 : Memref sig .tc .vmem S1408x1024 .bf16) (h2 : r2.IsWhole) (r3 : Memref sig .tc .vmem S1408x1024 .f32) (h3 : r3.IsWhole) (hc0 : cond0_0 i) (hc1 : ¬cond0_1 i) (hc2 : ¬cond0_2 i)
    (x : Vec Ideal S2048x1408 .bf16) (y : Vec Ideal S2048x1024 .bf16) :
    sout0_A_0 c i r0 h0 r1 h1 r2 h2 r3 h3 hc0 hc1 hc2 x y = k0_pay2 x y := by
  unfold sout0_A_0
  rw [View.read_writes_eq_canon _ _ _ (scover0_A_0 c i r0 h0 r1 h1 r2 h2 r3 h3 hc0 hc1 hc2 x y)]
  unfold kernelRun0_A
  dsimp only
  sl_unfold_words
  rw [View.canon_unit_zero zz]
  simp only [View.readAt_eq_ld, h0.read_unread, h1.read_unread, h3.read_unread, View.ld_unit_zero (S := S2048x1408) zz, View.ld_unit_zero (S := S2048x1024) zz, View.ld_unit_zero (S := S1408x1024) zz, shapeCast_self]

/-- The last point of a tile writes the sum. -/
theorem out_eq (c : Dev nD) (i : grid0.Coords) (r0 : Memref sig .tc .vmem S2048x1408 .bf16) (h0 : r0.IsWhole) (r1 : Memref sig .tc .vmem S2048x1024 .bf16) (h1 : r1.IsWhole) (r2 : Memref sig .tc .vmem S1408x1024 .bf16) (h2 : r2.IsWhole) (r3 : Memref sig .tc .vmem S1408x1024 .f32) (h3 : r3.IsWhole) (hc0 : ¬cond0_0 i) (hc1 : ¬cond0_1 i) (hc2 : cond0_2 i)
    (x : Vec Ideal S2048x1408 .bf16) (y : Vec Ideal S2048x1024 .bf16) (z : Vec Ideal S1408x1024 .f32) :
    out0_B_2 c i r0 h0 r1 h1 r2 h2 r3 h3 hc0 hc1 hc2 x y z = k0_pay4 x y z := by
  unfold out0_B_2
  rw [View.read_writes_eq_canon _ _ _ (cover0_B_2 c i r0 h0 r1 h1 r2 h2 r3 h3 hc0 hc1 hc2 x y z)]
  unfold kernelRun0_B
  dsimp only
  sl_unfold_words
  rw [View.canon_unit_zero zz]
  simp only [View.readAt_eq_ld, h0.read_unread, h1.read_unread, h3.read_unread, View.ld_unit_zero (S := S2048x1408) zz, View.ld_unit_zero (S := S2048x1024) zz, View.ld_unit_zero (S := S1408x1024) zz, shapeCast_self]

/-- Each window's block at a point of the grid. -/
theorem idx_facts : ∀ t : Fin cfg0.N, win0_0.index t (0 : Fin 2) = t.val % 2
    ∧ win0_0.index t (1 : Fin 2) = t.val / 4
    ∧ win0_1.index t (0 : Fin 2) = t.val % 2
    ∧ win0_1.index t (1 : Fin 2) = t.val / 2 % 2 :=
  (by decide +kernel : ∀ t : Fin grid0.N, _)

variable (m : (ℓ : Loc nD τ sig) → Buf (Elt Ideal) ℓ) (c : Dev nD)

/-- The array window 0 cuts into blocks. -/
abbrev arr0 : Vec Ideal S4096x2816 .bf16 := V m c main_v0

/-- The array window 1 cuts into blocks. -/
abbrev arr1 : Vec Ideal S4096x2048 .bf16 := V m c main_v1

theorem blk_0 (t : Fin cfg0.N) (p0 : Fin 2048) (p1 : Fin 1408) (q0 : Fin 4096) (q1 : Fin 2816)
    (h0 : q0.val = t.val % 2 * 2048 + p0.val) (h1 : q1.val = t.val / 4 * 1408 + p1.val) :
    (iblk m c 0 t : Vec Ideal S2048x1408 .bf16) (ix2 p0 p1) = arr0 m c (ix2 q0 q1) := by
  obtain ⟨e0, e1, -⟩ := idx_facts t
  unfold iblk
  rw [View.read_apply]
  refine congrArg (V m c main_v0) ?_
  funext x
  apply Fin.ext
  match x with
  | ⟨0, _⟩ => exact (Window.rect_emb_val _ _ _ _).trans (show win0_0.index t (0 : Fin 2) * 2048 + p0.val = q0.val by rw [e0, h0])
  | ⟨1, _⟩ => exact (Window.rect_emb_val _ _ _ _).trans (show win0_0.index t (1 : Fin 2) * 1408 + p1.val = q1.val by rw [e1, h1])

theorem blk_1 (t : Fin cfg0.N) (p0 : Fin 2048) (p1 : Fin 1024) (q0 : Fin 4096) (q1 : Fin 2048)
    (h0 : q0.val = t.val % 2 * 2048 + p0.val) (h1 : q1.val = t.val / 2 % 2 * 1024 + p1.val) :
    (iblk m c 1 t : Vec Ideal S2048x1024 .bf16) (ix2 p0 p1) = arr1 m c (ix2 q0 q1) := by
  obtain ⟨-, -, e0, e1⟩ := idx_facts t
  unfold iblk
  rw [View.read_apply]
  refine congrArg (V m c main_v1) ?_
  funext x
  apply Fin.ext
  match x with
  | ⟨0, _⟩ => exact (Window.rect_emb_val _ _ _ _).trans (show win0_1.index t (0 : Fin 2) * 2048 + p0.val = q0.val by rw [e0, h0])
  | ⟨1, _⟩ => exact (Window.rect_emb_val _ _ _ _).trans (show win0_1.index t (1 : Fin 2) * 1024 + p1.val = q1.val by rw [e1, h1])

/-- A point's product at a place of its tile, over the arrays the grid cuts. -/
theorem prod_at (t : Fin cfg0.N) (a : Fin 1408) (b : Fin 1024) (r : Fin 2816) (s : Fin 2048) (q : Nat) (hlt : q < 2)
    (hq : t.val % 2 = q) (ha : r.val = t.val / 4 * 1408 + a.val) (hb : s.val = t.val / 2 % 2 * 1024 + b.val) :
    k0_pay1 (iblk m c 0 t) (iblk m c 1 t) (ix2 a b)
      = ∑ k : Fin 2048, arr0 m c (ix2 ⟨q * 2048 + k.val, by omega⟩ r) * arr1 m c (ix2 ⟨q * 2048 + k.val, by omega⟩ s) := by
  refine (pay_apply (iblk m c 0 t) (iblk m c 1 t) a b).trans (Finset.sum_congr rfl fun k _ => ?_)
  rw [blk_0 m c t k a ⟨q * 2048 + k.val, by omega⟩ r (by rw [hq]) ha, blk_1 m c t k b ⟨q * 2048 + k.val, by omega⟩ s (by rw [hq]) hb]

theorem left_A (t : Fin cfg0.N) (h : t.val % 2 = 0) :
    (outsAt0 m c t.val t.isLt).2 = k0_pay1 (iblk m c 0 t) (iblk m c 1 t) := by
  rw [outsAt0_A m c t h (by omega)]
  dsimp only
  rw [sum_A, pay2_eq]

theorem left_last (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h]
  dsimp only
  rw [out_eq]

/-- The result at an index: what the last point of its tile wrote. -/
theorem final_apply (i : S2816x2048.Idx) (h : Value.pt2Of i < cfg0.N) :
    Value.G2 m c i = (outsAt0 m c (Value.pt2Of i) h).1 (Value.loc2Of i) := by
  unfold Value.G2
  rw [dif_pos h, ← Value.outsAt0_sweep]

/-- What the last point of a tile writes at a place of it, over the arrays the grid cuts. -/
theorem tile_apply (n : Nat) (hp : ∀ q < 2, n + q < cfg0.N) (hq : ∀ q < 2, (n + q) % 2 = q) (a : Fin 1408) (b : Fin 1024)
    (r : Fin 2816) (s : Fin 2048) (ha : ∀ q < 2, r.val = (n + q) / 4 * 1408 + a.val)
    (hb : ∀ q < 2, s.val = (n + q) / 2 % 2 * 1024 + b.val) :
    (outsAt0 m c (n + 1) (hp 1 (by decide))).1 (ix2 a b) = ∑ k : Fin 4096, arr0 m c (ix2 k r) * arr1 m c (ix2 k s) := by
  have e : ∀ q, ∀ hlt : q < 2, k0_pay1 (iblk m c 0 ⟨n + q, hp q hlt⟩) (iblk m c 1 ⟨n + q, hp q hlt⟩) (ix2 a b) = _ := fun q hlt =>
    prod_at m c ⟨n + q, hp q hlt⟩ a b r s q hlt (hq q hlt) (ha q hlt) (hb q hlt)
  have e0 := (congrFun (left_A m c ⟨n + 0, hp 0 (by decide)⟩ (hq 0 (by decide))) (ix2 a b)).trans (e 0 (by decide))
  exact (congrFun (left_last m c ⟨n + 1, hp 1 (by decide)⟩ (hq 1 (by decide))) (ix2 a b)).trans
    ((pay4_apply _ _ _ a b).trans ((congrArg₂ (· + ·) e0 (e 1 (by decide))).trans (sum_2 fun k => arr0 m c (ix2 k r) * arr1 m c (ix2 k s)).symm))

/-- The result at an index, over the arrays the grid cuts. -/
theorem result0 (r : Fin 2816) (s : Fin 2048) :
    (Value.G2 m c : Vec Ideal S2816x2048 .bf16) (ix2 r s)
      = ∑ k : Fin 4096, arr0 m c (ix2 k r) * arr1 m c (ix2 k s) := by
  have hr := r.isLt
  have hs := s.isLt
  have N0 : cfg0.N = 8 := N_0
  obtain ⟨n, hn⟩ : ∃ n : Nat, n = (r.val / 1408 * 2 + s.val / 1024) * 2 := ⟨_, rfl⟩
  have hp : ∀ q < 2, n + q < cfg0.N := fun q hq => by omega
  have hpt : Value.pt2Of (ix2 r s : S2816x2048.Idx) = n + 1 := by
    show 2 * (2 * (r.val / 1408 - 0) + 1 * (s.val / 1024 - 0)) + 1 = _
    omega
  have hloc : Value.loc2Of (ix2 r s : S2816x2048.Idx) = ix2 ⟨r.val % 1408, Nat.mod_lt _ (by decide)⟩ ⟨s.val % 1024, Nat.mod_lt _ (by decide)⟩ := by
    funext x
    match x with
    | ⟨0, _⟩ => rfl
    | ⟨1, _⟩ => rfl
  refine (final_apply m c _ (hpt ▸ hp 1 (by decide))).trans ?_
  rw [hloc]
  refine Eq.trans ?_ (tile_apply m c n hp (fun q hq => by omega) ⟨r.val % 1408, Nat.mod_lt _ (by decide)⟩
    ⟨s.val % 1024, Nat.mod_lt _ (by decide)⟩ r s (fun q hq => by show _ = _ * 1408 + r.val % 1408; omega)
    (fun q hq => by show _ = _ * 1024 + s.val % 1024; omega))
  simp only [hpt]

/-- Argument 0. -/
abbrev arg0 : Vec Ideal S4096x2048 .f32 := m ((c : Thread nD τ).loc main_arg0)

/-- Argument 1. -/
abbrev arg1 : Vec Ideal S2048x2816 .f32 := m ((c : Thread nD τ).loc main_arg1)

/-- Argument 2. -/
abbrev arg2 : Vec Ideal S4096x2816 .f32 := m ((c : Thread nD τ).loc main_arg2)

theorem arr0_apply (r : Fin 4096) (s : Fin 2816) : arr0 m c (ix2 r s) = arg2 m c (ix2 r s) := by
  have e : arr0 m c = (truncf .bf16 (arg2 m c) bitsLt_bf16_f32 : FVec Ideal S4096x2816 .bf16) := by
    show StableHlo.after _ _ _ = _
    after_results_simp
  rw [e]
  rfl

theorem arr1_apply (r : Fin 4096) (s : Fin 2048) : arr1 m c (ix2 r s) = arg0 m c (ix2 r s) := by
  have e : arr1 m c = (truncf .bf16 (arg0 m c) bitsLt_bf16_f32 : FVec Ideal S4096x2048 .bf16) := by
    show StableHlo.after _ _ _ = _
    after_results_simp
  rw [e]
  rfl

/-- Result 0. -/
abbrev out0 : Vec Ideal S2816x2048 .bf16 := Value.G2 m c

/-- The kernel's result at an index, over the arguments. -/
theorem kernel0_apply (r : Fin 2816) (s : Fin 2048) :
    out0 m c (ix2 r s)
      = ∑ k : Fin 4096, arg2 m c (ix2 k r) * arg0 m c (ix2 k s) := by
  have h : (∑ k : Fin 4096, arr0 m c (ix2 k r) * arr1 m c (ix2 k s) : EReal) = ∑ k : Fin 4096, arg2 m c (ix2 k r) * arg0 m c (ix2 k s) :=
    Finset.sum_congr rfl fun k _ => by rw [arr0_apply, arr1_apply]
  exact (result0 m c r s).trans h

end Cert.Kernel13Ideal.Prod

namespace Cert.Reference13Ideal.Prod

open Cert.Reference13Ideal Cert.Reference13Ideal.Gen
open Idealize.ShloMosaic Idealize.ShloMosaic.TcCoe Idealize.ShloMosaic.Tactic

/-- The reference's result as a function of its arguments. -/
def res0 (x0 : FVec Ideal S4096x2048 .f32) (x1 : FVec Ideal S2048x2816 .f32) (x2 : FVec Ideal S4096x2816 .f32) : FVec Ideal S2816x2048 .bf16 :=
  truncf .bf16 (transpose S2816x2048 [1, 0] (transpose S2048x2816 [1, 0] (Host.dotGeneral dot_S4096x2816_S4096x2048_S2816x2048_0_0_1_1_n_n none x2 x0) transposes_S2816x2048_S2048x2816_1_0) transposes_S2048x2816_S2816x2048_1_0) bitsLt_bf16_f32

/-- The reference's result at an index. -/
theorem ref0_apply (x0 : FVec Ideal S4096x2048 .f32) (x1 : FVec Ideal S2048x2816 .f32) (x2 : FVec Ideal S4096x2816 .f32) (r : Fin 2816) (s : Fin 2048) :
    res0 x0 x1 x2 (ix2 r s) = ∑ k : Fin 4096, x2 (ix2 k r) * x0 (ix2 k s) := by
  pointwise [res0]

end Cert.Reference13Ideal.Prod

namespace Cert.Kernel13Ideal.Prod

open Cert.Kernel13Ideal Cert.Kernel13Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference13Ideal.Prod.res0 (arg0 m c) (arg1 m c) (arg2 m c) = out0 m c := by
  funext i
  obtain ⟨r, s, rfl⟩ : ∃ (r : Fin 2816) (s : Fin 2048), i = ix2 r s := ⟨i 0, i 1, eq_ix2 i⟩
  exact (Cert.Reference13Ideal.Prod.ref0_apply (arg0 m c) (arg1 m c) (arg2 m c) r s).trans (kernel0_apply m c r s).symm

/-- Over the reals the kernel computes what the reference does, whatever the arguments. -/
theorem algebraic : Cert.algebraic_Kernel13Ideal_Reference13Ideal := by
  intro m g m' g' _ heq
  refine ⟨fun c => Value.G2 m c, Value.run (F := Ideal) m g, ?_⟩
  refine (θ_run Cert.Reference13Ideal.defs _ _).mono (fun r h c => ⟨(h c).1.trans ?_, (h c).2⟩) (Cert.Reference13Ideal.Value.run (F := Ideal) m' g')
  · obtain ⟨e0, e1, e2⟩ := heq c
    have h := same0 m c
    dsimp only [arg0, arg1, arg2] at h
    rw [← e0, ← e1, ← e2] at h
    exact h

end Cert.Kernel13Ideal.Prod

end
-- ==== Proof.Steps.lean ====
/- The steps between the products, over the reals, one row or one entry at a time. -/
module

public import Idealize.ShloMosaic.Lib.Pointwise

@[expose] public section

noncomputable section

namespace Cert.Steps

open Idealize.ShloMosaic

/-- The logistic function. -/
def sigmoid (z : EReal) : EReal := Ideal.div 1 (1 + Ideal.exp (-z))

/-- The smooth rectifier, in its form with the hyperbolic tangent. -/
def gelu (z : EReal) : EReal :=
  z * (Ideal.ofBits .f32 0x3F000000#32 * (1 + Ideal.tanh (Ideal.ofBits .f32 0x3F4C422A#32 *
    (z + Ideal.ofBits .f32 0x3D372713#32 * (z * z * z)))))

/-- One over the root mean square of a row; `N` holds the row's length. -/
def rms {n : Nat} (N : BitVec 32) (x : Fin n → EReal) : EReal :=
  Ideal.rsqrt (Ideal.div (∑ k, x k * x k) (Ideal.ofBits .f32 N) + Ideal.ofBits .f32 0x358637BD#32)

/-- A row gated by a product of itself. -/
def gate {n : Nat} (y : Fin n → EReal) (w : Fin n → Fin n → EReal) (b : Fin n → EReal) (s : Fin n) : EReal :=
  gelu (y s) * sigmoid (∑ j, gelu (y j) * w j s + b s)

/-- The gated row, normalised. -/
def glu {n : Nat} (N : BitVec 32) (y : Fin n → EReal) (w : Fin n → Fin n → EReal) (b g : Fin n → EReal) (s : Fin n) : EReal :=
  gate y w b s * rms N (gate y w b) * g s

/-- A row normalised, scaled and shifted. -/
def prenorm {n : Nat} (N : BitVec 32) (x g sc sh : Fin n → EReal) (s : Fin n) : EReal :=
  x s * rms N x * g s * (1 + sc s) + sh s

/-- A row with a normalised and scaled row added. -/
def postmix {n : Nat} (N : BitVec 32) (x mx g gt : Fin n → EReal) (s : Fin n) : EReal :=
  x s + gt s * (mx s * rms N mx * g s)

/-- The gradient of a weight of the modulation at an entry, over the eight rows. -/
def gradMod (c d : Fin 8 → EReal) : EReal := ∑ k, c k * sigmoid (c k) * d k

/-- The optimiser's first moment. -/
def moment1 (g m : EReal) : EReal :=
  Ideal.ofBits .f32 0x3F666666#32 * m + Ideal.ofBits .f32 0x3DCCCCCD#32 * g

/-- The optimiser's second moment. -/
def moment2 (g v : EReal) : EReal :=
  Ideal.ofBits .f32 0x3F7FBE77#32 * v + Ideal.ofBits .f32 0x3A83126F#32 * (g * g)

/-- The optimiser's step. -/
def adamStep (g w m v : EReal) : EReal :=
  Ideal.ofBits .f32 0xBA83126F#32 * (Ideal.div (Ideal.div (moment1 g m) (Ideal.ofBits .f32 0x3F26BD02#32))
    (Ideal.sqrt (Ideal.div (moment2 g v) (Ideal.ofBits .f32 0x3C231ACC#32)) + Ideal.ofBits .f32 0x322BCC77#32)
      + Ideal.ofBits .f32 0x3C23D70A#32 * w)

end Cert.Steps

end
-- ==== Proof.Prod14.lean ====
/- The gated linear unit before the output projection: a row is gated by a product of itself, then normalised. -/
module

public import proofs.«01_k».proof.Proof.Gen.Kernel14Ideal.Value
public import proofs.«01_k».proof.Proof.Gen.Reference14Ideal.Run
public import proofs.«01_k».proof.Proof.Steps
public import proofs.«01_k».proof.Defs

@[expose] public section

set_option maxRecDepth 16384

noncomputable section

namespace Cert.Kernel14Ideal.Prod

open Cert.Kernel14Ideal Cert.Kernel14Ideal.Gen Cert.Steps
open Idealize.ShloMosaic Idealize.ShloMosaic.TcCoe Idealize.ShloMosaic.Tactic
open Idealize.ShloMosaic.Pipeline (Dat Cfg Window)

/-- The gated row, normalised. -/
theorem pay0_apply (x0 : Vec Ideal S256x896 .f32) (x1 : Vec Ideal S896x896 .bf16) (x2 : Vec Ideal S1x896 .f32) (x3 : Vec Ideal S1x896 .f32) (a : Fin 256) (s : Fin 896) :
    (k0_pay1 x0 x1 x2 x3) (ix2 a s) = glu 0x44600000#32 (fun k => x0 (ix2 a k)) (fun j k => x1 (ix2 j k)) (fun k => x2 (ix2 0 k)) (fun k => x3 (ix2 0 k)) s := by
  simp only [glu, gate, gelu, rms, sigmoid, prenorm, postmix, gradMod]
  pointwise [k0_pay1]
  simp only [Ideal.logistic]

theorem zz : (![0, 0] : Fin 2 → Nat) = fun _ => 0 := by funext x; match x with | ⟨0, _⟩ => rfl | ⟨1, _⟩ => rfl

/-- What the body leaves in this result's block. -/
theorem out0_eq (x0 : Vec Ideal S256x896 .f32) (x1 : Vec Ideal S896x896 .bf16) (x2 : Vec Ideal S1x896 .f32) (x3 : Vec Ideal S1x896 .f32) :
    out0_4 x0 x1 x2 x3 = k0_pay1 x0 x1 x2 x3 := by
  unfold out0_4
  rw [View.canon_unit_zero zz]
  simp only [View.ld_unit_zero (S := S256x896) zz, View.ld_unit_zero (S := S896x896) zz, View.ld_unit_zero (S := S1x896) zz]

/-- Each window's block at a point of the grid. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_4.flush t = true :=
  (by decide +kernel : ∀ t : Fin grid0.N, _)

variable (m : (ℓ : Loc nD τ sig) → Buf (Elt Ideal) ℓ) (c : Dev nD)

/-- Argument 0. -/
abbrev arg0 : Vec Ideal S4096x896 .f32 := m ((c : Thread nD τ).loc main_arg0)

/-- Argument 1. -/
abbrev arg1 : Vec Ideal S896x896 .f32 := m ((c : Thread nD τ).loc main_arg1)

/-- Argument 2. -/
abbrev arg2 : Vec Ideal S896 .f32 := m ((c : Thread nD τ).loc main_arg2)

/-- Argument 3. -/
abbrev arg3 : Vec Ideal S896 .f32 := m ((c : Thread nD τ).loc main_arg3)

/-- The array window 0 cuts into blocks. -/
abbrev arr0 : Vec Ideal S4096x896 .f32 := V m c main_arg0

theorem arr0_apply (r : Fin 4096) (s : Fin 896) : arr0 m c (ix2 r s) = arg0 m c (ix2 r s) :=
  congrFun (V_main_arg0 m c) (ix2 r s)

theorem blk_0 (t : Fin cfg0.N) (p0 : Fin 256) (p1 : Fin 896) (q0 : Fin 4096) (q1 : Fin 896)
    (h0 : q0.val = t.val * 256 + p0.val) (h1 : q1.val = 0 * 896 + p1.val) :
    (iblk m c 0 t : Vec Ideal S256x896 .f32) (ix2 p0 p1) = arr0 m c (ix2 q0 q1) := by
  obtain ⟨e0, e1, -⟩ := idx_facts t
  unfold iblk
  rw [View.read_apply]
  refine congrArg (V m c main_arg0) ?_
  funext x
  apply Fin.ext
  match x with
  | ⟨0, _⟩ => exact (Window.rect_emb_val _ _ _ _).trans (show win0_0.index t (0 : Fin 2) * 256 + p0.val = q0.val by rw [e0, h0])
  | ⟨1, _⟩ => exact (Window.rect_emb_val _ _ _ _).trans (show win0_0.index t (1 : Fin 2) * 896 + p1.val = q1.val by rw [e1, h1])

/-- The array window 1 cuts into blocks. -/
abbrev arr1 : Vec Ideal S896x896 .bf16 := V m c main_v0

theorem arr1_apply (r : Fin 896) (s : Fin 896) : arr1 m c (ix2 r s) = arg1 m c (ix2 r s) := by
  have e : arr1 m c = (truncf .bf16 (arg1 m c) bitsLt_bf16_f32 : FVec Ideal S896x896 .bf16) := by
    show StableHlo.after _ _ _ = _
    after_results_simp
  rw [e]
  rfl

theorem blk_1 (t : Fin cfg0.N) (p0 : Fin 896) (p1 : Fin 896) (q0 : Fin 896) (q1 : Fin 896)
    (h0 : q0.val = 0 * 896 + p0.val) (h1 : q1.val = 0 * 896 + p1.val) :
    (iblk m c 1 t : Vec Ideal S896x896 .bf16) (ix2 p0 p1) = arr1 m c (ix2 q0 q1) := by
  obtain ⟨-, -, e0, e1, -⟩ := idx_facts t
  unfold iblk
  rw [View.read_apply]
  refine congrArg (V m c main_v0) ?_
  funext x
  apply Fin.ext
  match x with
  | ⟨0, _⟩ => exact (Window.rect_emb_val _ _ _ _).trans (show win0_1.index t (0 : Fin 2) * 896 + p0.val = q0.val by rw [e0, h0])
  | ⟨1, _⟩ => exact (Window.rect_emb_val _ _ _ _).trans (show win0_1.index t (1 : Fin 2) * 896 + p1.val = q1.val by rw [e1, h1])

/-- The array window 2 cuts into blocks. -/
abbrev arr2 : Vec Ideal S1x896 .f32 := V m c main_v1

theorem arr2_apply (s : Fin 896) : arr2 m c (ix2 0 s) = arg2 m c (ix1 s) := by
  have e : arr2 m c = (fun i => shapeCast S1x896 (arg2 m c) shapeCasts_S896_S1x896 i : FVec Ideal S1x896 .f32) := by
    show StableHlo.after _ _ _ = _
    after_results_simp
    rfl
  rw [e]
  pointwise

theorem blk_2 (t : Fin cfg0.N) (p0 : Fin 1) (p1 : Fin 896) (q0 : Fin 1) (q1 : Fin 896)
    (h0 : q0.val = 0 * 1 + p0.val) (h1 : q1.val = 0 * 896 + p1.val) :
    (iblk m c 2 t : Vec Ideal S1x896 .f32) (ix2 p0 p1) = arr2 m c (ix2 q0 q1) := by
  obtain ⟨-, -, -, -, e0, e1, -⟩ := idx_facts t
  unfold iblk
  rw [View.read_apply]
  refine congrArg (V m c main_v1) ?_
  funext x
  apply Fin.ext
  match x with
  | ⟨0, _⟩ => exact (Window.rect_emb_val _ _ _ _).trans (show win0_2.index t (0 : Fin 2) * 1 + p0.val = q0.val by rw [e0, h0])
  | ⟨1, _⟩ => exact (Window.rect_emb_val _ _ _ _).trans (show win0_2.index t (1 : Fin 2) * 896 + p1.val = q1.val by rw [e1, h1])

/-- The array window 3 cuts into blocks. -/
abbrev arr3 : Vec Ideal S1x896 .f32 := V m c main_v2

theorem arr3_apply (s : Fin 896) : arr3 m c (ix2 0 s) = arg3 m c (ix1 s) := by
  have e : arr3 m c = (fun i => shapeCast S1x896 (arg3 m c) shapeCasts_S896_S1x896 i : FVec Ideal S1x896 .f32) := by
    show StableHlo.after _ _ _ = _
    after_results_simp
    rfl
  rw [e]
  pointwise

theorem blk_3 (t : Fin cfg0.N) (p0 : Fin 1) (p1 : Fin 896) (q0 : Fin 1) (q1 : Fin 896)
    (h0 : q0.val = 0 * 1 + p0.val) (h1 : q1.val = 0 * 896 + p1.val) :
    (iblk m c 3 t : Vec Ideal S1x896 .f32) (ix2 p0 p1) = arr3 m c (ix2 q0 q1) := by
  obtain ⟨-, -, -, -, -, -, e0, e1, -⟩ := idx_facts t
  unfold iblk
  rw [View.read_apply]
  refine congrArg (V m c main_v2) ?_
  funext x
  apply Fin.ext
  match x with
  | ⟨0, _⟩ => exact (Window.rect_emb_val _ _ _ _).trans (show win0_3.index t (0 : Fin 2) * 1 + p0.val = q0.val by rw [e0, h0])
  | ⟨1, _⟩ => exact (Window.rect_emb_val _ _ _ _).trans (show win0_3.index t (1 : Fin 2) * 896 + p1.val = q1.val by rw [e1, h1])

/-- Result 0. -/
abbrev out0 : Vec Ideal S4096x896 .bf16 := (dats m 0 c).arrAt 4 cfg0.N

/-- The kernel's result at an index, over the arguments. -/
theorem kernel0_apply (r : Fin 4096) (s : Fin 896) :
    out0 m c (ix2 r s) = glu 0x44600000#32 (fun k => arg0 m c (ix2 r k)) (fun j k => arg1 m c (ix2 j k)) (fun k => arg2 m c (ix1 k)) (fun k => arg3 m c (ix1 k)) s := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  have hs : s.val = 0 * 896 + s.val := by omega
  obtain ⟨-, -, -, -, -, -, -, -, i0, i1, hf⟩ := idx_facts t
  have h := congrFun ((Value.blocks4 m c t hf).trans (Value.flushed4 m c t)) (ix2 a s)
  rw [View.read_apply, out0_eq] at h
  refine (congrArg ((dats m 0 c).arrAt 4 cfg0.N) ?_).trans (h.trans ?_)
  · funext x
    apply Fin.ext
    match x with
    | ⟨0, _⟩ => exact ((Window.rect_emb_val _ _ _ _).trans (show win0_4.index t (0 : Fin 2) * 256 + a.val = r.val by rw [i0, ha])).symm
    | ⟨1, _⟩ => exact ((Window.rect_emb_val _ _ _ _).trans (show win0_4.index t (1 : Fin 2) * 896 + s.val = s.val by rw [i1]; omega)).symm
  · refine (pay0_apply (iblk m c 0 t) (iblk m c 1 t) (iblk m c 2 t) (iblk m c 3 t) a s).trans ?_
    have e0 : (fun k => (iblk m c 0 t : Vec Ideal S256x896 .f32) (ix2 a k)) = (fun k => arg0 m c (ix2 r k)) :=
      funext fun k => (blk_0 m c t a k r k ha (by omega)).trans (arr0_apply m c r k)
    have e1 : (fun j k => (iblk m c 1 t : Vec Ideal S896x896 .bf16) (ix2 j k)) = (fun j k => arg1 m c (ix2 j k)) :=
      funext fun j => funext fun k => (blk_1 m c t j k j k (by omega) (by omega)).trans (arr1_apply m c j k)
    have e2 : (fun k => (iblk m c 2 t : Vec Ideal S1x896 .f32) (ix2 0 k)) = (fun k => arg2 m c (ix1 k)) :=
      funext fun k => (blk_2 m c t 0 k 0 k (by omega) (by omega)).trans (arr2_apply m c k)
    have e3 : (fun k => (iblk m c 3 t : Vec Ideal S1x896 .f32) (ix2 0 k)) = (fun k => arg3 m c (ix1 k)) :=
      funext fun k => (blk_3 m c t 0 k 0 k (by omega) (by omega)).trans (arr3_apply m c k)
    rw [e0, e1, e2, e3]

end Cert.Kernel14Ideal.Prod

namespace Cert.Reference14Ideal.Prod

open Cert.Reference14Ideal Cert.Reference14Ideal.Gen Cert.Steps
open Idealize.ShloMosaic Idealize.ShloMosaic.TcCoe Idealize.ShloMosaic.Tactic

/-- The reference's result as a function of its arguments. -/
def res0 (x0 : FVec Ideal S4096x896 .f32) (x1 : FVec Ideal S896x896 .f32) (x2 : FVec Ideal S896 .f32) (x3 : FVec Ideal S896 .f32) : FVec Ideal S4096x896 .bf16 :=
  truncf .bf16 (mulf (mulf (mulf (mulf x0 (mulf (broadcastInDim S4096x896 ![] bcast_S_S4096x896 (constant S_ .f32 0x3F000000#32)) (addf (broadcastInDim S4096x896 ![] bcast_S_S4096x896 (constant S_ .f32 0x3F800000#32)) (Host.tanh (mulf (broadcastInDim S4096x896 ![] bcast_S_S4096x896 (constant S_ .f32 0x3F4C422A#32)) (addf x0 (mulf (broadcastInDim S4096x896 ![] bcast_S_S4096x896 (constant S_ .f32 0x3D372713#32)) (mulf (mulf x0 x0) x0)))))))) (Host.divf (broadcastInDim S4096x896 ![] bcast_S_S4096x896 (constant S_ .f32 0x3F800000#32)) (addf (broadcastInDim S4096x896 ![] bcast_S_S4096x896 (constant S_ .f32 0x3F800000#32)) (Host.exp (Host.negf (addf (Host.dotGeneral dot_S4096x896_S896x896_S4096x896_1_0_0_1_n_n none (mulf x0 (mulf (broadcastInDim S4096x896 ![] bcast_S_S4096x896 (constant S_ .f32 0x3F000000#32)) (addf (broadcastInDim S4096x896 ![] bcast_S_S4096x896 (constant S_ .f32 0x3F800000#32)) (Host.tanh (mulf (broadcastInDim S4096x896 ![] bcast_S_S4096x896 (constant S_ .f32 0x3F4C422A#32)) (addf x0 (mulf (broadcastInDim S4096x896 ![] bcast_S_S4096x896 (constant S_ .f32 0x3D372713#32)) (mulf (mulf x0 x0) x0)))))))) x1) (broadcastInDim S4096x896 ![0, 1] bcast_S1x896_S4096x896_0_1 (broadcastInDim S1x896 ![1] bcast_S896_S1x896_1 x2)))))))) (broadcastInDim S4096x896 ![0, 1] bcast_S4096x1_S4096x896_0_1 (Host.rsqrt (addf (Host.divf (broadcastInDim S4096x1 ![0] bcast_S4096_S4096x1_0 (Host.reduceAdd (mulf (mulf (mulf x0 (mulf (broadcastInDim S4096x896 ![] bcast_S_S4096x896 (constant S_ .f32 0x3F000000#32)) (addf (broadcastInDim S4096x896 ![] bcast_S_S4096x896 (constant S_ .f32 0x3F800000#32)) (Host.tanh (mulf (broadcastInDim S4096x896 ![] bcast_S_S4096x896 (constant S_ .f32 0x3F4C422A#32)) (addf x0 (mulf (broadcastInDim S4096x896 ![] bcast_S_S4096x896 (constant S_ .f32 0x3D372713#32)) (mulf (mulf x0 x0) x0)))))))) (Host.divf (broadcastInDim S4096x896 ![] bcast_S_S4096x896 (constant S_ .f32 0x3F800000#32)) (addf (broadcastInDim S4096x896 ![] bcast_S_S4096x896 (constant S_ .f32 0x3F800000#32)) (Host.exp (Host.negf (addf (Host.dotGeneral dot_S4096x896_S896x896_S4096x896_1_0_0_1_n_n none (mulf x0 (mulf (broadcastInDim S4096x896 ![] bcast_S_S4096x896 (constant S_ .f32 0x3F000000#32)) (addf (broadcastInDim S4096x896 ![] bcast_S_S4096x896 (constant S_ .f32 0x3F800000#32)) (Host.tanh (mulf (broadcastInDim S4096x896 ![] bcast_S_S4096x896 (constant S_ .f32 0x3F4C422A#32)) (addf x0 (mulf (broadcastInDim S4096x896 ![] bcast_S_S4096x896 (constant S_ .f32 0x3D372713#32)) (mulf (mulf x0 x0) x0)))))))) x1) (broadcastInDim S4096x896 ![0, 1] bcast_S1x896_S4096x896_0_1 (broadcastInDim S1x896 ![1] bcast_S896_S1x896_1 x2)))))))) (mulf (mulf x0 (mulf (broadcastInDim S4096x896 ![] bcast_S_S4096x896 (constant S_ .f32 0x3F000000#32)) (addf (broadcastInDim S4096x896 ![] bcast_S_S4096x896 (constant S_ .f32 0x3F800000#32)) (Host.tanh (mulf (broadcastInDim S4096x896 ![] bcast_S_S4096x896 (constant S_ .f32 0x3F4C422A#32)) (addf x0 (mulf (broadcastInDim S4096x896 ![] bcast_S_S4096x896 (constant S_ .f32 0x3D372713#32)) (mulf (mulf x0 x0) x0)))))))) (Host.divf (broadcastInDim S4096x896 ![] bcast_S_S4096x896 (constant S_ .f32 0x3F800000#32)) (addf (broadcastInDim S4096x896 ![] bcast_S_S4096x896 (constant S_ .f32 0x3F800000#32)) (Host.exp (Host.negf (addf (Host.dotGeneral dot_S4096x896_S896x896_S4096x896_1_0_0_1_n_n none (mulf x0 (mulf (broadcastInDim S4096x896 ![] bcast_S_S4096x896 (constant S_ .f32 0x3F000000#32)) (addf (broadcastInDim S4096x896 ![] bcast_S_S4096x896 (constant S_ .f32 0x3F800000#32)) (Host.tanh (mulf (broadcastInDim S4096x896 ![] bcast_S_S4096x896 (constant S_ .f32 0x3F4C422A#32)) (addf x0 (mulf (broadcastInDim S4096x896 ![] bcast_S_S4096x896 (constant S_ .f32 0x3D372713#32)) (mulf (mulf x0 x0) x0)))))))) x1) (broadcastInDim S4096x896 ![0, 1] bcast_S1x896_S4096x896_0_1 (broadcastInDim S1x896 ![1] bcast_S896_S1x896_1 x2))))))))) (constant S_ .f32 0x00000000#32) reducesTo_S4096x896_S4096_d1 h_S_)) (broadcastInDim S4096x1 ![] bcast_S_S4096x1 (constant S_ .f32 0x44600000#32))) (broadcastInDim S4096x1 ![] bcast_S_S4096x1 (constant S_ .f32 0x358637BD#32)))))) (broadcastInDim S4096x896 ![0, 1] bcast_S1x896_S4096x896_0_1 (broadcastInDim S1x896 ![1] bcast_S896_S1x896_1 x3))) bitsLt_bf16_f32

/-- The reference's result at an index. -/
theorem ref0_apply (x0 : FVec Ideal S4096x896 .f32) (x1 : FVec Ideal S896x896 .f32) (x2 : FVec Ideal S896 .f32) (x3 : FVec Ideal S896 .f32) (r : Fin 4096) (s : Fin 896) :
    res0 x0 x1 x2 x3 (ix2 r s) = glu 0x44600000#32 (fun k => x0 (ix2 r k)) (fun j k => x1 (ix2 j k)) (fun k => x2 (ix1 k)) (fun k => x3 (ix1 k)) s := by
  simp only [glu, gate, gelu, rms, sigmoid, prenorm, postmix]
  pointwise [res0]

end Cert.Reference14Ideal.Prod

namespace Cert.Kernel14Ideal.Prod

open Cert.Kernel14Ideal Cert.Kernel14Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference14Ideal.Prod.res0 (arg0 m c) (arg1 m c) (arg2 m c) (arg3 m c) = out0 m c := by
  funext i
  obtain ⟨r, s, rfl⟩ : ∃ (r : Fin 4096) (s : Fin 896), i = ix2 r s := ⟨i 0, i 1, eq_ix2 i⟩
  exact (Cert.Reference14Ideal.Prod.ref0_apply (arg0 m c) (arg1 m c) (arg2 m c) (arg3 m c) r s).trans (kernel0_apply m c r s).symm

/-- Over the reals the kernel computes what the reference does, whatever the arguments. -/
theorem algebraic : Cert.algebraic_Kernel14Ideal_Reference14Ideal := by
  intro m g m' g' _ heq
  refine ⟨fun c => (dats m 0 c).arrAt 4 cfg0.N, Value.run_blocks (F := Ideal) m g, ?_⟩
  refine (θ_run Cert.Reference14Ideal.defs _ _).mono (fun r h c => ⟨(h c).1.trans ?_, (h c).2⟩) (Cert.Reference14Ideal.Value.run (F := Ideal) m' g')
  · obtain ⟨e0, e1, e2, e3⟩ := heq c
    refine Eq.trans ?_ (same0 m c)
    show Cert.Reference14Ideal.Prod.res0 _ _ _ _ = _
    rw [e0, e1, e2, e3]

end Cert.Kernel14Ideal.Prod

end
-- ==== Proof.Prod15.lean ====
/- The update of the modulation's weight: its gradient from the modulation's, and the optimiser's step. -/
module

public import proofs.«01_k».proof.Proof.Gen.Kernel15Ideal.Value
public import proofs.«01_k».proof.Proof.Gen.Reference15Ideal.Run
public import proofs.«01_k».proof.Proof.Steps
public import proofs.«01_k».proof.Defs

@[expose] public section

set_option maxRecDepth 16384

noncomputable section

namespace Cert.Kernel15Ideal.Prod

open Cert.Kernel15Ideal Cert.Kernel15Ideal.Gen Cert.Steps
open Idealize.ShloMosaic Idealize.ShloMosaic.TcCoe Idealize.ShloMosaic.Tactic
open Idealize.ShloMosaic.Pipeline (Dat Cfg Window)

/-- The gradient. -/
theorem pay0_apply (x0 : Vec Ideal S8x256 .f32) (x1 : Vec Ideal S8x1536 .f32) (x2 : Vec Ideal S256x1536 .f32) (x3 : Vec Ideal S256x1536 .f32) (x4 : Vec Ideal S256x1536 .f32) (a : Fin 256) (s : Fin 1536) :
    (k0_pay1 x0 x1) (ix2 a s) = gradMod (fun k => x0 (ix2 k a)) (fun k => x1 (ix2 k s)) := by
  simp only [glu, gate, gelu, rms, sigmoid, prenorm, postmix, gradMod]
  pointwise [k0_pay1]
  simp only [Ideal.logistic]

/-- The step. -/
theorem pay1_apply (x0 : Vec Ideal S8x256 .f32) (x1 : Vec Ideal S8x1536 .f32) (x2 : Vec Ideal S256x1536 .f32) (x3 : Vec Ideal S256x1536 .f32) (x4 : Vec Ideal S256x1536 .f32) (a : Fin 256) (s : Fin 1536) :
    (k0_pay4 x0 x1 x2 x3 x4) (ix2 a s) = adamStep (gradMod (fun k => x0 (ix2 k a)) (fun k => x1 (ix2 k s))) (x2 (ix2 a s)) (x3 (ix2 a s)) (x4 (ix2 a s)) := by
  rw [← pay0_apply x0 x1 x2 x3 x4 a s]
  simp only [adamStep, moment1, moment2]
  pointwise [k0_pay4, k0_pay3, k0_pay2]

/-- The first moment. -/
theorem pay2_apply (x0 : Vec Ideal S8x256 .f32) (x1 : Vec Ideal S8x1536 .f32) (x2 : Vec Ideal S256x1536 .f32) (x3 : Vec Ideal S256x1536 .f32) (x4 : Vec Ideal S256x1536 .f32) (a : Fin 256) (s : Fin 1536) :
    (k0_pay2 x0 x1 x3) (ix2 a s) = moment1 (gradMod (fun k => x0 (ix2 k a)) (fun k => x1 (ix2 k s))) (x3 (ix2 a s)) := by
  rw [← pay0_apply x0 x1 x2 x3 x4 a s]
  simp only [adamStep, moment1, moment2]
  pointwise [k0_pay2]

/-- The second moment. -/
theorem pay3_apply (x0 : Vec Ideal S8x256 .f32) (x1 : Vec Ideal S8x1536 .f32) (x2 : Vec Ideal S256x1536 .f32) (x3 : Vec Ideal S256x1536 .f32) (x4 : Vec Ideal S256x1536 .f32) (a : Fin 256) (s : Fin 1536) :
    (k0_pay3 x0 x1 x4) (ix2 a s) = moment2 (gradMod (fun k => x0 (ix2 k a)) (fun k => x1 (ix2 k s))) (x4 (ix2 a s)) := by
  rw [← pay0_apply x0 x1 x2 x3 x4 a s]
  simp only [adamStep, moment1, moment2]
  pointwise [k0_pay3]

theorem zz : (![0, 0] : Fin 2 → Nat) = fun _ => 0 := by funext x; match x with | ⟨0, _⟩ => rfl | ⟨1, _⟩ => rfl

/-- What the body leaves in this result's block. -/
theorem out0_eq (x0 : Vec Ideal S8x256 .f32) (x1 : Vec Ideal S8x1536 .f32) (x2 : Vec Ideal S256x1536 .f32) (x3 : Vec Ideal S256x1536 .f32) (x4 : Vec Ideal S256x1536 .f32) :
    out0_5 x0 x1 x2 x3 x4 = k0_pay1 x0 x1 := by
  unfold out0_5
  rw [View.canon_unit_zero zz]
  simp only [View.ld_unit_zero (S := S8x256) zz, View.ld_unit_zero (S := S8x1536) zz, View.ld_unit_zero (S := S256x1536) zz]

/-- What the body leaves in this result's block. -/
theorem out1_eq (x0 : Vec Ideal S8x256 .f32) (x1 : Vec Ideal S8x1536 .f32) (x2 : Vec Ideal S256x1536 .f32) (x3 : Vec Ideal S256x1536 .f32) (x4 : Vec Ideal S256x1536 .f32) :
    out0_6 x0 x1 x2 x3 x4 = k0_pay4 x0 x1 x2 x3 x4 := by
  unfold out0_6
  rw [View.canon_unit_zero zz]
  simp only [View.ld_unit_zero (S := S8x256) zz, View.ld_unit_zero (S := S8x1536) zz, View.ld_unit_zero (S := S256x1536) zz]

/-- What the body leaves in this result's block. -/
theorem out2_eq (x0 : Vec Ideal S8x256 .f32) (x1 : Vec Ideal S8x1536 .f32) (x2 : Vec Ideal S256x1536 .f32) (x3 : Vec Ideal S256x1536 .f32) (x4 : Vec Ideal S256x1536 .f32) :
    out0_7 x0 x1 x2 x3 x4 = k0_pay2 x0 x1 x3 := by
  unfold out0_7
  rw [View.canon_unit_zero zz]
  simp only [View.ld_unit_zero (S := S8x256) zz, View.ld_unit_zero (S := S8x1536) zz, View.ld_unit_zero (S := S256x1536) zz]

/-- What the body leaves in this result's block. -/
theorem out3_eq (x0 : Vec Ideal S8x256 .f32) (x1 : Vec Ideal S8x1536 .f32) (x2 : Vec Ideal S256x1536 .f32) (x3 : Vec Ideal S256x1536 .f32) (x4 : Vec Ideal S256x1536 .f32) :
    out0_8 x0 x1 x2 x3 x4 = k0_pay3 x0 x1 x4 := by
  unfold out0_8
  rw [View.canon_unit_zero zz]
  simp only [View.ld_unit_zero (S := S8x256) zz, View.ld_unit_zero (S := S8x1536) zz, View.ld_unit_zero (S := S256x1536) zz]

/-- Each window's block at a point of the grid. -/
theorem idx_facts : ∀ t : Fin cfg0.N, win0_0.index t (0 : Fin 2) = 0
    ∧ win0_0.index t (1 : Fin 2) = t.val
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_5.flush t = true
    ∧ win0_6.index t (0 : Fin 2) = t.val
    ∧ win0_6.index t (1 : Fin 2) = 0
    ∧ win0_6.flush t = true
    ∧ win0_7.index t (0 : Fin 2) = t.val
    ∧ win0_7.index t (1 : Fin 2) = 0
    ∧ win0_7.flush t = true
    ∧ win0_8.index t (0 : Fin 2) = t.val
    ∧ win0_8.index t (1 : Fin 2) = 0
    ∧ win0_8.flush t = true :=
  (by decide +kernel : ∀ t : Fin grid0.N, _)

variable (m : (ℓ : Loc nD τ sig) → Buf (Elt Ideal) ℓ) (c : Dev nD)

/-- Argument 0. -/
abbrev arg0 : Vec Ideal S8x2048 .f32 := m ((c : Thread nD τ).loc main_arg0)

/-- Argument 1. -/
abbrev arg1 : Vec Ideal S8x1536 .f32 := m ((c : Thread nD τ).loc main_arg1)

/-- Argument 2. -/
abbrev arg2 : Vec Ideal S2048x1536 .f32 := m ((c : Thread nD τ).loc main_arg2)

/-- Argument 3. -/
abbrev arg3 : Vec Ideal S2048x1536 .f32 := m ((c : Thread nD τ).loc main_arg3)

/-- Argument 4. -/
abbrev arg4 : Vec Ideal S2048x1536 .f32 := m ((c : Thread nD τ).loc main_arg4)

/-- The array window 0 cuts into blocks. -/
abbrev arr0 : Vec Ideal S8x2048 .f32 := V m c main_arg0

theorem arr0_apply (r : Fin 8) (s : Fin 2048) : arr0 m c (ix2 r s) = arg0 m c (ix2 r s) :=
  congrFun (V_main_arg0 m c) (ix2 r s)

theorem blk_0 (t : Fin cfg0.N) (p0 : Fin 8) (p1 : Fin 256) (q0 : Fin 8) (q1 : Fin 2048)
    (h0 : q0.val = 0 * 8 + p0.val) (h1 : q1.val = t.val * 256 + p1.val) :
    (iblk m c 0 t : Vec Ideal S8x256 .f32) (ix2 p0 p1) = arr0 m c (ix2 q0 q1) := by
  obtain ⟨e0, e1, -⟩ := idx_facts t
  unfold iblk
  rw [View.read_apply]
  refine congrArg (V m c main_arg0) ?_
  funext x
  apply Fin.ext
  match x with
  | ⟨0, _⟩ => exact (Window.rect_emb_val _ _ _ _).trans (show win0_0.index t (0 : Fin 2) * 8 + p0.val = q0.val by rw [e0, h0])
  | ⟨1, _⟩ => exact (Window.rect_emb_val _ _ _ _).trans (show win0_0.index t (1 : Fin 2) * 256 + p1.val = q1.val by rw [e1, h1])

/-- The array window 1 cuts into blocks. -/
abbrev arr1 : Vec Ideal S8x1536 .f32 := V m c main_arg1

theorem arr1_apply (r : Fin 8) (s : Fin 1536) : arr1 m c (ix2 r s) = arg1 m c (ix2 r s) :=
  congrFun (V_main_arg1 m c) (ix2 r s)

theorem blk_1 (t : Fin cfg0.N) (p0 : Fin 8) (p1 : Fin 1536) (q0 : Fin 8) (q1 : Fin 1536)
    (h0 : q0.val = 0 * 8 + p0.val) (h1 : q1.val = 0 * 1536 + p1.val) :
    (iblk m c 1 t : Vec Ideal S8x1536 .f32) (ix2 p0 p1) = arr1 m c (ix2 q0 q1) := by
  obtain ⟨-, -, e0, e1, -⟩ := idx_facts t
  unfold iblk
  rw [View.read_apply]
  refine congrArg (V m c main_arg1) ?_
  funext x
  apply Fin.ext
  match x with
  | ⟨0, _⟩ => exact (Window.rect_emb_val _ _ _ _).trans (show win0_1.index t (0 : Fin 2) * 8 + p0.val = q0.val by rw [e0, h0])
  | ⟨1, _⟩ => exact (Window.rect_emb_val _ _ _ _).trans (show win0_1.index t (1 : Fin 2) * 1536 + p1.val = q1.val by rw [e1, h1])

/-- The array window 2 cuts into blocks. -/
abbrev arr2 : Vec Ideal S2048x1536 .f32 := V m c main_arg2

theorem arr2_apply (r : Fin 2048) (s : Fin 1536) : arr2 m c (ix2 r s) = arg2 m c (ix2 r s) :=
  congrFun (V_main_arg2 m c) (ix2 r s)

theorem blk_2 (t : Fin cfg0.N) (p0 : Fin 256) (p1 : Fin 1536) (q0 : Fin 2048) (q1 : Fin 1536)
    (h0 : q0.val = t.val * 256 + p0.val) (h1 : q1.val = 0 * 1536 + p1.val) :
    (iblk m c 2 t : Vec Ideal S256x1536 .f32) (ix2 p0 p1) = arr2 m c (ix2 q0 q1) := by
  obtain ⟨-, -, -, -, e0, e1, -⟩ := idx_facts t
  unfold iblk
  rw [View.read_apply]
  refine congrArg (V m c main_arg2) ?_
  funext x
  apply Fin.ext
  match x with
  | ⟨0, _⟩ => exact (Window.rect_emb_val _ _ _ _).trans (show win0_2.index t (0 : Fin 2) * 256 + p0.val = q0.val by rw [e0, h0])
  | ⟨1, _⟩ => exact (Window.rect_emb_val _ _ _ _).trans (show win0_2.index t (1 : Fin 2) * 1536 + p1.val = q1.val by rw [e1, h1])

/-- The array window 3 cuts into blocks. -/
abbrev arr3 : Vec Ideal S2048x1536 .f32 := V m c main_arg3

theorem arr3_apply (r : Fin 2048) (s : Fin 1536) : arr3 m c (ix2 r s) = arg3 m c (ix2 r s) :=
  congrFun (V_main_arg3 m c) (ix2 r s)

theorem blk_3 (t : Fin cfg0.N) (p0 : Fin 256) (p1 : Fin 1536) (q0 : Fin 2048) (q1 : Fin 1536)
    (h0 : q0.val = t.val * 256 + p0.val) (h1 : q1.val = 0 * 1536 + p1.val) :
    (iblk m c 3 t : Vec Ideal S256x1536 .f32) (ix2 p0 p1) = arr3 m c (ix2 q0 q1) := by
  obtain ⟨-, -, -, -, -, -, e0, e1, -⟩ := idx_facts t
  unfold iblk
  rw [View.read_apply]
  refine congrArg (V m c main_arg3) ?_
  funext x
  apply Fin.ext
  match x with
  | ⟨0, _⟩ => exact (Window.rect_emb_val _ _ _ _).trans (show win0_3.index t (0 : Fin 2) * 256 + p0.val = q0.val by rw [e0, h0])
  | ⟨1, _⟩ => exact (Window.rect_emb_val _ _ _ _).trans (show win0_3.index t (1 : Fin 2) * 1536 + p1.val = q1.val by rw [e1, h1])

/-- The array window 4 cuts into blocks. -/
abbrev arr4 : Vec Ideal S2048x1536 .f32 := V m c main_arg4

theorem arr4_apply (r : Fin 2048) (s : Fin 1536) : arr4 m c (ix2 r s) = arg4 m c (ix2 r s) :=
  congrFun (V_main_arg4 m c) (ix2 r s)

theorem blk_4 (t : Fin cfg0.N) (p0 : Fin 256) (p1 : Fin 1536) (q0 : Fin 2048) (q1 : Fin 1536)
    (h0 : q0.val = t.val * 256 + p0.val) (h1 : q1.val = 0 * 1536 + p1.val) :
    (iblk m c 4 t : Vec Ideal S256x1536 .f32) (ix2 p0 p1) = arr4 m c (ix2 q0 q1) := by
  obtain ⟨-, -, -, -, -, -, -, -, e0, e1, -⟩ := idx_facts t
  unfold iblk
  rw [View.read_apply]
  refine congrArg (V m c main_arg4) ?_
  funext x
  apply Fin.ext
  match x with
  | ⟨0, _⟩ => exact (Window.rect_emb_val _ _ _ _).trans (show win0_4.index t (0 : Fin 2) * 256 + p0.val = q0.val by rw [e0, h0])
  | ⟨1, _⟩ => exact (Window.rect_emb_val _ _ _ _).trans (show win0_4.index t (1 : Fin 2) * 1536 + p1.val = q1.val by rw [e1, h1])

/-- Result 0. -/
abbrev out0 : Vec Ideal S2048x1536 .f32 := (dats m 0 c).arrAt 5 cfg0.N

/-- The kernel's result at an index, over the arguments. -/
theorem kernel0_apply (r : Fin 2048) (s : Fin 1536) :
    out0 m c (ix2 r s) = gradMod (fun k => arg0 m c (ix2 k r)) (fun k => arg1 m c (ix2 k s)) := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  have hs : s.val = 0 * 1536 + s.val := by omega
  obtain ⟨-, -, -, -, -, -, -, -, -, -, i0, i1, hf, -⟩ := idx_facts t
  have h := congrFun ((Value.blocks5 m c t hf).trans (Value.flushed5 m c t)) (ix2 a s)
  rw [View.read_apply, out0_eq] at h
  refine (congrArg ((dats m 0 c).arrAt 5 cfg0.N) ?_).trans (h.trans ?_)
  · funext x
    apply Fin.ext
    match x with
    | ⟨0, _⟩ => exact ((Window.rect_emb_val _ _ _ _).trans (show win0_5.index t (0 : Fin 2) * 256 + a.val = r.val by rw [i0, ha])).symm
    | ⟨1, _⟩ => exact ((Window.rect_emb_val _ _ _ _).trans (show win0_5.index t (1 : Fin 2) * 1536 + s.val = s.val by rw [i1]; omega)).symm
  · refine (pay0_apply (iblk m c 0 t) (iblk m c 1 t) (iblk m c 2 t) (iblk m c 3 t) (iblk m c 4 t) a s).trans ?_
    have e0 : (fun k => (iblk m c 0 t : Vec Ideal S8x256 .f32) (ix2 k a)) = (fun k => arg0 m c (ix2 k r)) :=
      funext fun k => (blk_0 m c t k a k r (by omega) ha).trans (arr0_apply m c k r)
    have e1 : (fun k => (iblk m c 1 t : Vec Ideal S8x1536 .f32) (ix2 k s)) = (fun k => arg1 m c (ix2 k s)) :=
      funext fun k => (blk_1 m c t k s k s (by omega) (by omega)).trans (arr1_apply m c k s)
    rw [e0, e1]

/-- Result 1. -/
abbrev out1 : Vec Ideal S2048x1536 .f32 := (dats m 0 c).arrAt 6 cfg0.N

/-- The kernel's result at an index, over the arguments. -/
theorem kernel1_apply (r : Fin 2048) (s : Fin 1536) :
    out1 m c (ix2 r s) = adamStep (gradMod (fun k => arg0 m c (ix2 k r)) (fun k => arg1 m c (ix2 k s))) (arg2 m c (ix2 r s)) (arg3 m c (ix2 r s)) (arg4 m c (ix2 r s)) := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  have hs : s.val = 0 * 1536 + s.val := by omega
  obtain ⟨-, -, -, -, -, -, -, -, -, -, -, -, -, i0, i1, hf, -⟩ := idx_facts t
  have h := congrFun ((Value.blocks6 m c t hf).trans (Value.flushed6 m c t)) (ix2 a s)
  rw [View.read_apply, out1_eq] at h
  refine (congrArg ((dats m 0 c).arrAt 6 cfg0.N) ?_).trans (h.trans ?_)
  · funext x
    apply Fin.ext
    match x with
    | ⟨0, _⟩ => exact ((Window.rect_emb_val _ _ _ _).trans (show win0_6.index t (0 : Fin 2) * 256 + a.val = r.val by rw [i0, ha])).symm
    | ⟨1, _⟩ => exact ((Window.rect_emb_val _ _ _ _).trans (show win0_6.index t (1 : Fin 2) * 1536 + s.val = s.val by rw [i1]; omega)).symm
  · refine (pay1_apply (iblk m c 0 t) (iblk m c 1 t) (iblk m c 2 t) (iblk m c 3 t) (iblk m c 4 t) a s).trans ?_
    have e0 : (fun k => (iblk m c 0 t : Vec Ideal S8x256 .f32) (ix2 k a)) = (fun k => arg0 m c (ix2 k r)) :=
      funext fun k => (blk_0 m c t k a k r (by omega) ha).trans (arr0_apply m c k r)
    have e1 : (fun k => (iblk m c 1 t : Vec Ideal S8x1536 .f32) (ix2 k s)) = (fun k => arg1 m c (ix2 k s)) :=
      funext fun k => (blk_1 m c t k s k s (by omega) (by omega)).trans (arr1_apply m c k s)
    have e2 : ((iblk m c 2 t : Vec Ideal S256x1536 .f32) (ix2 a s)) = (arg2 m c (ix2 r s)) :=
      (blk_2 m c t a s r s ha (by omega)).trans (arr2_apply m c r s)
    have e3 : ((iblk m c 3 t : Vec Ideal S256x1536 .f32) (ix2 a s)) = (arg3 m c (ix2 r s)) :=
      (blk_3 m c t a s r s ha (by omega)).trans (arr3_apply m c r s)
    have e4 : ((iblk m c 4 t : Vec Ideal S256x1536 .f32) (ix2 a s)) = (arg4 m c (ix2 r s)) :=
      (blk_4 m c t a s r s ha (by omega)).trans (arr4_apply m c r s)
    rw [e0, e1, e2, e3, e4]

/-- Result 2. -/
abbrev out2 : Vec Ideal S2048x1536 .f32 := (dats m 0 c).arrAt 7 cfg0.N

/-- The kernel's result at an index, over the arguments. -/
theorem kernel2_apply (r : Fin 2048) (s : Fin 1536) :
    out2 m c (ix2 r s) = moment1 (gradMod (fun k => arg0 m c (ix2 k r)) (fun k => arg1 m c (ix2 k s))) (arg3 m c (ix2 r s)) := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  have hs : s.val = 0 * 1536 + s.val := by omega
  obtain ⟨-, -, -, -, -, -, -, -, -, -, -, -, -, -, -, -, i0, i1, hf, -⟩ := idx_facts t
  have h := congrFun ((Value.blocks7 m c t hf).trans (Value.flushed7 m c t)) (ix2 a s)
  rw [View.read_apply, out2_eq] at h
  refine (congrArg ((dats m 0 c).arrAt 7 cfg0.N) ?_).trans (h.trans ?_)
  · funext x
    apply Fin.ext
    match x with
    | ⟨0, _⟩ => exact ((Window.rect_emb_val _ _ _ _).trans (show win0_7.index t (0 : Fin 2) * 256 + a.val = r.val by rw [i0, ha])).symm
    | ⟨1, _⟩ => exact ((Window.rect_emb_val _ _ _ _).trans (show win0_7.index t (1 : Fin 2) * 1536 + s.val = s.val by rw [i1]; omega)).symm
  · refine (pay2_apply (iblk m c 0 t) (iblk m c 1 t) (iblk m c 2 t) (iblk m c 3 t) (iblk m c 4 t) a s).trans ?_
    have e0 : (fun k => (iblk m c 0 t : Vec Ideal S8x256 .f32) (ix2 k a)) = (fun k => arg0 m c (ix2 k r)) :=
      funext fun k => (blk_0 m c t k a k r (by omega) ha).trans (arr0_apply m c k r)
    have e1 : (fun k => (iblk m c 1 t : Vec Ideal S8x1536 .f32) (ix2 k s)) = (fun k => arg1 m c (ix2 k s)) :=
      funext fun k => (blk_1 m c t k s k s (by omega) (by omega)).trans (arr1_apply m c k s)
    have e3 : ((iblk m c 3 t : Vec Ideal S256x1536 .f32) (ix2 a s)) = (arg3 m c (ix2 r s)) :=
      (blk_3 m c t a s r s ha (by omega)).trans (arr3_apply m c r s)
    rw [e0, e1, e3]

/-- Result 3. -/
abbrev out3 : Vec Ideal S2048x1536 .f32 := (dats m 0 c).arrAt 8 cfg0.N

/-- The kernel's result at an index, over the arguments. -/
theorem kernel3_apply (r : Fin 2048) (s : Fin 1536) :
    out3 m c (ix2 r s) = moment2 (gradMod (fun k => arg0 m c (ix2 k r)) (fun k => arg1 m c (ix2 k s))) (arg4 m c (ix2 r s)) := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  have hs : s.val = 0 * 1536 + s.val := by omega
  obtain ⟨-, -, -, -, -, -, -, -, -, -, -, -, -, -, -, -, -, -, -, i0, i1, hf⟩ := idx_facts t
  have h := congrFun ((Value.blocks8 m c t hf).trans (Value.flushed8 m c t)) (ix2 a s)
  rw [View.read_apply, out3_eq] at h
  refine (congrArg ((dats m 0 c).arrAt 8 cfg0.N) ?_).trans (h.trans ?_)
  · funext x
    apply Fin.ext
    match x with
    | ⟨0, _⟩ => exact ((Window.rect_emb_val _ _ _ _).trans (show win0_8.index t (0 : Fin 2) * 256 + a.val = r.val by rw [i0, ha])).symm
    | ⟨1, _⟩ => exact ((Window.rect_emb_val _ _ _ _).trans (show win0_8.index t (1 : Fin 2) * 1536 + s.val = s.val by rw [i1]; omega)).symm
  · refine (pay3_apply (iblk m c 0 t) (iblk m c 1 t) (iblk m c 2 t) (iblk m c 3 t) (iblk m c 4 t) a s).trans ?_
    have e0 : (fun k => (iblk m c 0 t : Vec Ideal S8x256 .f32) (ix2 k a)) = (fun k => arg0 m c (ix2 k r)) :=
      funext fun k => (blk_0 m c t k a k r (by omega) ha).trans (arr0_apply m c k r)
    have e1 : (fun k => (iblk m c 1 t : Vec Ideal S8x1536 .f32) (ix2 k s)) = (fun k => arg1 m c (ix2 k s)) :=
      funext fun k => (blk_1 m c t k s k s (by omega) (by omega)).trans (arr1_apply m c k s)
    have e4 : ((iblk m c 4 t : Vec Ideal S256x1536 .f32) (ix2 a s)) = (arg4 m c (ix2 r s)) :=
      (blk_4 m c t a s r s ha (by omega)).trans (arr4_apply m c r s)
    rw [e0, e1, e4]

end Cert.Kernel15Ideal.Prod

namespace Cert.Reference15Ideal.Prod

open Cert.Reference15Ideal Cert.Reference15Ideal.Gen Cert.Steps
open Idealize.ShloMosaic Idealize.ShloMosaic.TcCoe Idealize.ShloMosaic.Tactic

/-- The reference's result as a function of its arguments. -/
def res0 (x0 : FVec Ideal S8x2048 .f32) (x1 : FVec Ideal S8x1536 .f32) (x2 : FVec Ideal S2048x1536 .f32) (x3 : FVec Ideal S2048x1536 .f32) (x4 : FVec Ideal S2048x1536 .f32) : FVec Ideal S2048x1536 .f32 :=
  transpose S2048x1536 [1, 0] (Host.dotGeneral dot_S8x1536_S8x2048_S1536x2048_0_0_1_1_n_n none x1 (mulf x0 (Host.divf (broadcastInDim S8x2048 ![] bcast_S_S8x2048 (constant S_ .f32 0x3F800000#32)) (addf (broadcastInDim S8x2048 ![] bcast_S_S8x2048 (constant S_ .f32 0x3F800000#32)) (Host.exp (Host.negf x0)))))) transposes_S1536x2048_S2048x1536_1_0

/-- The reference's result at an index. -/
theorem ref0_apply (x0 : FVec Ideal S8x2048 .f32) (x1 : FVec Ideal S8x1536 .f32) (x2 : FVec Ideal S2048x1536 .f32) (x3 : FVec Ideal S2048x1536 .f32) (x4 : FVec Ideal S2048x1536 .f32) (r : Fin 2048) (s : Fin 1536) :
    res0 x0 x1 x2 x3 x4 (ix2 r s) = gradMod (fun k => x0 (ix2 k r)) (fun k => x1 (ix2 k s)) := by
  refine Eq.trans (b := ∑ k : Fin 8, x1 (ix2 k s) * (x0 (ix2 k r) * sigmoid (x0 (ix2 k r)))) ?_ (Finset.sum_congr rfl fun k _ => mul_comm _ _)
  simp only [sigmoid]
  pointwise [res0]

/-- The reference's result as a function of its arguments. -/
def res1 (x0 : FVec Ideal S8x2048 .f32) (x1 : FVec Ideal S8x1536 .f32) (x2 : FVec Ideal S2048x1536 .f32) (x3 : FVec Ideal S2048x1536 .f32) (x4 : FVec Ideal S2048x1536 .f32) : FVec Ideal S2048x1536 .f32 :=
  mulf (broadcastInDim S2048x1536 ![] bcast_S_S2048x1536 (constant S_ .f32 0xBA83126F#32)) (addf (Host.divf (Host.divf (addf (mulf (broadcastInDim S2048x1536 ![] bcast_S_S2048x1536 (constant S_ .f32 0x3F666666#32)) x3) (mulf (broadcastInDim S2048x1536 ![] bcast_S_S2048x1536 (constant S_ .f32 0x3DCCCCCD#32)) (res0 x0 x1 x2 x3 x4))) (broadcastInDim S2048x1536 ![] bcast_S_S2048x1536 (constant S_ .f32 0x3F26BD02#32))) (addf (Host.sqrt (Host.divf (addf (mulf (broadcastInDim S2048x1536 ![] bcast_S_S2048x1536 (constant S_ .f32 0x3F7FBE77#32)) x4) (mulf (broadcastInDim S2048x1536 ![] bcast_S_S2048x1536 (constant S_ .f32 0x3A83126F#32)) (mulf (res0 x0 x1 x2 x3 x4) (res0 x0 x1 x2 x3 x4)))) (broadcastInDim S2048x1536 ![] bcast_S_S2048x1536 (constant S_ .f32 0x3C231ACC#32)))) (broadcastInDim S2048x1536 ![] bcast_S_S2048x1536 (constant S_ .f32 0x322BCC77#32)))) (mulf (broadcastInDim S2048x1536 ![] bcast_S_S2048x1536 (constant S_ .f32 0x3C23D70A#32)) x2))

/-- The reference's result at an index. -/
theorem ref1_apply (x0 : FVec Ideal S8x2048 .f32) (x1 : FVec Ideal S8x1536 .f32) (x2 : FVec Ideal S2048x1536 .f32) (x3 : FVec Ideal S2048x1536 .f32) (x4 : FVec Ideal S2048x1536 .f32) (r : Fin 2048) (s : Fin 1536) :
    res1 x0 x1 x2 x3 x4 (ix2 r s) = adamStep (gradMod (fun k => x0 (ix2 k r)) (fun k => x1 (ix2 k s))) (x2 (ix2 r s)) (x3 (ix2 r s)) (x4 (ix2 r s)) := by
  rw [← ref0_apply x0 x1 x2 x3 x4 r s]
  simp only [adamStep, moment1, moment2]
  pointwise [res1]

/-- The reference's result as a function of its arguments. -/
def res2 (x0 : FVec Ideal S8x2048 .f32) (x1 : FVec Ideal S8x1536 .f32) (x2 : FVec Ideal S2048x1536 .f32) (x3 : FVec Ideal S2048x1536 .f32) (x4 : FVec Ideal S2048x1536 .f32) : FVec Ideal S2048x1536 .f32 :=
  addf (mulf (broadcastInDim S2048x1536 ![] bcast_S_S2048x1536 (constant S_ .f32 0x3F666666#32)) x3) (mulf (broadcastInDim S2048x1536 ![] bcast_S_S2048x1536 (constant S_ .f32 0x3DCCCCCD#32)) (res0 x0 x1 x2 x3 x4))

/-- The reference's result at an index. -/
theorem ref2_apply (x0 : FVec Ideal S8x2048 .f32) (x1 : FVec Ideal S8x1536 .f32) (x2 : FVec Ideal S2048x1536 .f32) (x3 : FVec Ideal S2048x1536 .f32) (x4 : FVec Ideal S2048x1536 .f32) (r : Fin 2048) (s : Fin 1536) :
    res2 x0 x1 x2 x3 x4 (ix2 r s) = moment1 (gradMod (fun k => x0 (ix2 k r)) (fun k => x1 (ix2 k s))) (x3 (ix2 r s)) := by
  rw [← ref0_apply x0 x1 x2 x3 x4 r s]
  simp only [adamStep, moment1, moment2]
  pointwise [res2]

/-- The reference's result as a function of its arguments. -/
def res3 (x0 : FVec Ideal S8x2048 .f32) (x1 : FVec Ideal S8x1536 .f32) (x2 : FVec Ideal S2048x1536 .f32) (x3 : FVec Ideal S2048x1536 .f32) (x4 : FVec Ideal S2048x1536 .f32) : FVec Ideal S2048x1536 .f32 :=
  addf (mulf (broadcastInDim S2048x1536 ![] bcast_S_S2048x1536 (constant S_ .f32 0x3F7FBE77#32)) x4) (mulf (broadcastInDim S2048x1536 ![] bcast_S_S2048x1536 (constant S_ .f32 0x3A83126F#32)) (mulf (res0 x0 x1 x2 x3 x4) (res0 x0 x1 x2 x3 x4)))

/-- The reference's result at an index. -/
theorem ref3_apply (x0 : FVec Ideal S8x2048 .f32) (x1 : FVec Ideal S8x1536 .f32) (x2 : FVec Ideal S2048x1536 .f32) (x3 : FVec Ideal S2048x1536 .f32) (x4 : FVec Ideal S2048x1536 .f32) (r : Fin 2048) (s : Fin 1536) :
    res3 x0 x1 x2 x3 x4 (ix2 r s) = moment2 (gradMod (fun k => x0 (ix2 k r)) (fun k => x1 (ix2 k s))) (x4 (ix2 r s)) := by
  rw [← ref0_apply x0 x1 x2 x3 x4 r s]
  simp only [adamStep, moment1, moment2]
  pointwise [res3]

end Cert.Reference15Ideal.Prod

namespace Cert.Kernel15Ideal.Prod

open Cert.Kernel15Ideal Cert.Kernel15Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference15Ideal.Prod.res0 (arg0 m c) (arg1 m c) (arg2 m c) (arg3 m c) (arg4 m c) = out0 m c := by
  funext i
  obtain ⟨r, s, rfl⟩ : ∃ (r : Fin 2048) (s : Fin 1536), i = ix2 r s := ⟨i 0, i 1, eq_ix2 i⟩
  exact (Cert.Reference15Ideal.Prod.ref0_apply (arg0 m c) (arg1 m c) (arg2 m c) (arg3 m c) (arg4 m c) r s).trans (kernel0_apply m c r s).symm

/-- The reference's result is the kernel's. -/
theorem same1 (m : (ℓ : Loc nD τ sig) → Buf (Elt Ideal) ℓ) (c : Dev nD) :
    Cert.Reference15Ideal.Prod.res1 (arg0 m c) (arg1 m c) (arg2 m c) (arg3 m c) (arg4 m c) = out1 m c := by
  funext i
  obtain ⟨r, s, rfl⟩ : ∃ (r : Fin 2048) (s : Fin 1536), i = ix2 r s := ⟨i 0, i 1, eq_ix2 i⟩
  exact (Cert.Reference15Ideal.Prod.ref1_apply (arg0 m c) (arg1 m c) (arg2 m c) (arg3 m c) (arg4 m c) r s).trans (kernel1_apply m c r s).symm

/-- The reference's result is the kernel's. -/
theorem same2 (m : (ℓ : Loc nD τ sig) → Buf (Elt Ideal) ℓ) (c : Dev nD) :
    Cert.Reference15Ideal.Prod.res2 (arg0 m c) (arg1 m c) (arg2 m c) (arg3 m c) (arg4 m c) = out2 m c := by
  funext i
  obtain ⟨r, s, rfl⟩ : ∃ (r : Fin 2048) (s : Fin 1536), i = ix2 r s := ⟨i 0, i 1, eq_ix2 i⟩
  exact (Cert.Reference15Ideal.Prod.ref2_apply (arg0 m c) (arg1 m c) (arg2 m c) (arg3 m c) (arg4 m c) r s).trans (kernel2_apply m c r s).symm

/-- The reference's result is the kernel's. -/
theorem same3 (m : (ℓ : Loc nD τ sig) → Buf (Elt Ideal) ℓ) (c : Dev nD) :
    Cert.Reference15Ideal.Prod.res3 (arg0 m c) (arg1 m c) (arg2 m c) (arg3 m c) (arg4 m c) = out3 m c := by
  funext i
  obtain ⟨r, s, rfl⟩ : ∃ (r : Fin 2048) (s : Fin 1536), i = ix2 r s := ⟨i 0, i 1, eq_ix2 i⟩
  exact (Cert.Reference15Ideal.Prod.ref3_apply (arg0 m c) (arg1 m c) (arg2 m c) (arg3 m c) (arg4 m c) r s).trans (kernel3_apply m c r s).symm

/-- Over the reals the kernel computes what the reference does, whatever the arguments. -/
theorem algebraic : Cert.algebraic_Kernel15Ideal_Reference15Ideal := by
  intro m g m' g' _ heq
  refine ⟨fun c => (dats m 0 c).arrAt 5 cfg0.N, fun c => (dats m 0 c).arrAt 6 cfg0.N, fun c => (dats m 0 c).arrAt 7 cfg0.N, fun c => (dats m 0 c).arrAt 8 cfg0.N, Value.run_blocks (F := Ideal) m g, ?_⟩
  refine (θ_run Cert.Reference15Ideal.defs _ _).mono (fun r h c => ⟨(h c).1.trans ?_, (h c).2.1.trans ?_, (h c).2.2.1.trans ?_, (h c).2.2.2.1.trans ?_, (h c).2.2.2.2⟩) (Cert.Reference15Ideal.Value.run (F := Ideal) m' g')
  · obtain ⟨e0, e1, e2, e3, e4⟩ := heq c
    have h := same0 m c
    dsimp only [arg0, arg1, arg2, arg3, arg4] at h
    rw [← e0, ← e1, ← e2, ← e3, ← e4] at h
    exact h
  · obtain ⟨e0, e1, e2, e3, e4⟩ := heq c
    have h := same1 m c
    dsimp only [arg0, arg1, arg2, arg3, arg4] at h
    rw [← e0, ← e1, ← e2, ← e3, ← e4] at h
    exact h
  · obtain ⟨e0, e1, e2, e3, e4⟩ := heq c
    have h := same2 m c
    dsimp only [arg0, arg1, arg2, arg3, arg4] at h
    rw [← e0, ← e1, ← e2, ← e3, ← e4] at h
    exact h
  · obtain ⟨e0, e1, e2, e3, e4⟩ := heq c
    have h := same3 m c
    dsimp only [arg0, arg1, arg2, arg3, arg4] at h
    rw [← e0, ← e1, ← e2, ← e3, ← e4] at h
    exact h

end Cert.Kernel15Ideal.Prod

end
-- ==== Proof.Prod16.lean ====
/- The norm before the mixer: a row is normalised, scaled and shifted. -/
module

public import proofs.«01_k».proof.Proof.Gen.Kernel16Ideal.Value
public import proofs.«01_k».proof.Proof.Gen.Reference16Ideal.Run
public import proofs.«01_k».proof.Proof.Steps
public import proofs.«01_k».proof.Defs

@[expose] public section

set_option maxRecDepth 16384

noncomputable section

namespace Cert.Kernel16Ideal.Prod

open Cert.Kernel16Ideal Cert.Kernel16Ideal.Gen Cert.Steps
open Idealize.ShloMosaic Idealize.ShloMosaic.TcCoe Idealize.ShloMosaic.Tactic
open Idealize.ShloMosaic.Pipeline (Dat Cfg Window)

/-- The row normalised, scaled and shifted. -/
theorem pay0_apply (x0 : Vec Ideal S256x2048 .f32) (x1 : Vec Ideal S1x2048 .f32) (x2 : Vec Ideal S1x2048 .f32) (x3 : Vec Ideal S1x2048 .f32) (a : Fin 256) (s : Fin 2048) :
    (k0_pay1 x0 x1 x2 x3) (ix2 a s) = prenorm 0x45000000#32 (fun k => x0 (ix2 a k)) (fun k => x1 (ix2 0 k)) (fun k => x2 (ix2 0 k)) (fun k => x3 (ix2 0 k)) s := by
  simp only [glu, gate, gelu, rms, sigmoid, prenorm, postmix, gradMod]
  pointwise [k0_pay1]

theorem zz : (![0, 0] : Fin 2 → Nat) = fun _ => 0 := by funext x; match x with | ⟨0, _⟩ => rfl | ⟨1, _⟩ => rfl

/-- What the body leaves in this result's block. -/
theorem out0_eq (x0 : Vec Ideal S256x2048 .f32) (x1 : Vec Ideal S1x2048 .f32) (x2 : Vec Ideal S1x2048 .f32) (x3 : Vec Ideal S1x2048 .f32) :
    out0_4 x0 x1 x2 x3 = k0_pay1 x0 x1 x2 x3 := by
  unfold out0_4
  rw [View.canon_unit_zero zz]
  simp only [View.ld_unit_zero (S := S256x2048) zz, View.ld_unit_zero (S := S1x2048) zz]

/-- Each window's block at a point of the grid. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_4.flush t = true :=
  (by decide +kernel : ∀ t : Fin grid0.N, _)

variable (m : (ℓ : Loc nD τ sig) → Buf (Elt Ideal) ℓ) (c : Dev nD)

/-- Argument 0. -/
abbrev arg0 : Vec Ideal S4096x2048 .f32 := m ((c : Thread nD τ).loc main_arg0)

/-- Argument 1. -/
abbrev arg1 : Vec Ideal S2048 .f32 := m ((c : Thread nD τ).loc main_arg1)

/-- Argument 2. -/
abbrev arg2 : Vec Ideal S2048 .f32 := m ((c : Thread nD τ).loc main_arg2)

/-- Argument 3. -/
abbrev arg3 : Vec Ideal S2048 .f32 := m ((c : Thread nD τ).loc main_arg3)

/-- The array window 0 cuts into blocks. -/
abbrev arr0 : Vec Ideal S4096x2048 .f32 := V m c main_arg0

theorem arr0_apply (r : Fin 4096) (s : Fin 2048) : arr0 m c (ix2 r s) = arg0 m c (ix2 r s) :=
  congrFun (V_main_arg0 m c) (ix2 r s)

theorem blk_0 (t : Fin cfg0.N) (p0 : Fin 256) (p1 : Fin 2048) (q0 : Fin 4096) (q1 : Fin 2048)
    (h0 : q0.val = t.val * 256 + p0.val) (h1 : q1.val = 0 * 2048 + p1.val) :
    (iblk m c 0 t : Vec Ideal S256x2048 .f32) (ix2 p0 p1) = arr0 m c (ix2 q0 q1) := by
  obtain ⟨e0, e1, -⟩ := idx_facts t
  unfold iblk
  rw [View.read_apply]
  refine congrArg (V m c main_arg0) ?_
  funext x
  apply Fin.ext
  match x with
  | ⟨0, _⟩ => exact (Window.rect_emb_val _ _ _ _).trans (show win0_0.index t (0 : Fin 2) * 256 + p0.val = q0.val by rw [e0, h0])
  | ⟨1, _⟩ => exact (Window.rect_emb_val _ _ _ _).trans (show win0_0.index t (1 : Fin 2) * 2048 + p1.val = q1.val by rw [e1, h1])

/-- The array window 1 cuts into blocks. -/
abbrev arr1 : Vec Ideal S1x2048 .f32 := V m c main_v0

theorem arr1_apply (s : Fin 2048) : arr1 m c (ix2 0 s) = arg1 m c (ix1 s) := by
  have e : arr1 m c = (fun i => shapeCast S1x2048 (arg1 m c) shapeCasts_S2048_S1x2048 i : FVec Ideal S1x2048 .f32) := by
    show StableHlo.after _ _ _ = _
    after_results_simp
    rfl
  rw [e]
  pointwise

theorem blk_1 (t : Fin cfg0.N) (p0 : Fin 1) (p1 : Fin 2048) (q0 : Fin 1) (q1 : Fin 2048)
    (h0 : q0.val = 0 * 1 + p0.val) (h1 : q1.val = 0 * 2048 + p1.val) :
    (iblk m c 1 t : Vec Ideal S1x2048 .f32) (ix2 p0 p1) = arr1 m c (ix2 q0 q1) := by
  obtain ⟨-, -, e0, e1, -⟩ := idx_facts t
  unfold iblk
  rw [View.read_apply]
  refine congrArg (V m c main_v0) ?_
  funext x
  apply Fin.ext
  match x with
  | ⟨0, _⟩ => exact (Window.rect_emb_val _ _ _ _).trans (show win0_1.index t (0 : Fin 2) * 1 + p0.val = q0.val by rw [e0, h0])
  | ⟨1, _⟩ => exact (Window.rect_emb_val _ _ _ _).trans (show win0_1.index t (1 : Fin 2) * 2048 + p1.val = q1.val by rw [e1, h1])

/-- The array window 2 cuts into blocks. -/
abbrev arr2 : Vec Ideal S1x2048 .f32 := V m c main_v1

theorem arr2_apply (s : Fin 2048) : arr2 m c (ix2 0 s) = arg2 m c (ix1 s) := by
  have e : arr2 m c = (fun i => shapeCast S1x2048 (arg2 m c) shapeCasts_S2048_S1x2048 i : FVec Ideal S1x2048 .f32) := by
    show StableHlo.after _ _ _ = _
    after_results_simp
    rfl
  rw [e]
  pointwise

theorem blk_2 (t : Fin cfg0.N) (p0 : Fin 1) (p1 : Fin 2048) (q0 : Fin 1) (q1 : Fin 2048)
    (h0 : q0.val = 0 * 1 + p0.val) (h1 : q1.val = 0 * 2048 + p1.val) :
    (iblk m c 2 t : Vec Ideal S1x2048 .f32) (ix2 p0 p1) = arr2 m c (ix2 q0 q1) := by
  obtain ⟨-, -, -, -, e0, e1, -⟩ := idx_facts t
  unfold iblk
  rw [View.read_apply]
  refine congrArg (V m c main_v1) ?_
  funext x
  apply Fin.ext
  match x with
  | ⟨0, _⟩ => exact (Window.rect_emb_val _ _ _ _).trans (show win0_2.index t (0 : Fin 2) * 1 + p0.val = q0.val by rw [e0, h0])
  | ⟨1, _⟩ => exact (Window.rect_emb_val _ _ _ _).trans (show win0_2.index t (1 : Fin 2) * 2048 + p1.val = q1.val by rw [e1, h1])

/-- The array window 3 cuts into blocks. -/
abbrev arr3 : Vec Ideal S1x2048 .f32 := V m c main_v2

theorem arr3_apply (s : Fin 2048) : arr3 m c (ix2 0 s) = arg3 m c (ix1 s) := by
  have e : arr3 m c = (fun i => shapeCast S1x2048 (arg3 m c) shapeCasts_S2048_S1x2048 i : FVec Ideal S1x2048 .f32) := by
    show StableHlo.after _ _ _ = _
    after_results_simp
    rfl
  rw [e]
  pointwise

theorem blk_3 (t : Fin cfg0.N) (p0 : Fin 1) (p1 : Fin 2048) (q0 : Fin 1) (q1 : Fin 2048)
    (h0 : q0.val = 0 * 1 + p0.val) (h1 : q1.val = 0 * 2048 + p1.val) :
    (iblk m c 3 t : Vec Ideal S1x2048 .f32) (ix2 p0 p1) = arr3 m c (ix2 q0 q1) := by
  obtain ⟨-, -, -, -, -, -, e0, e1, -⟩ := idx_facts t
  unfold iblk
  rw [View.read_apply]
  refine congrArg (V m c main_v2) ?_
  funext x
  apply Fin.ext
  match x with
  | ⟨0, _⟩ => exact (Window.rect_emb_val _ _ _ _).trans (show win0_3.index t (0 : Fin 2) * 1 + p0.val = q0.val by rw [e0, h0])
  | ⟨1, _⟩ => exact (Window.rect_emb_val _ _ _ _).trans (show win0_3.index t (1 : Fin 2) * 2048 + p1.val = q1.val by rw [e1, h1])

/-- Result 0. -/
abbrev out0 : Vec Ideal S4096x2048 .bf16 := (dats m 0 c).arrAt 4 cfg0.N

/-- The kernel's result at an index, over the arguments. -/
theorem kernel0_apply (r : Fin 4096) (s : Fin 2048) :
    out0 m c (ix2 r s) = prenorm 0x45000000#32 (fun k => arg0 m c (ix2 r k)) (fun k => arg1 m c (ix1 k)) (fun k => arg2 m c (ix1 k)) (fun k => arg3 m c (ix1 k)) s := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  have hs : s.val = 0 * 2048 + s.val := by omega
  obtain ⟨-, -, -, -, -, -, -, -, i0, i1, hf⟩ := idx_facts t
  have h := congrFun ((Value.blocks4 m c t hf).trans (Value.flushed4 m c t)) (ix2 a s)
  rw [View.read_apply, out0_eq] at h
  refine (congrArg ((dats m 0 c).arrAt 4 cfg0.N) ?_).trans (h.trans ?_)
  · funext x
    apply Fin.ext
    match x with
    | ⟨0, _⟩ => exact ((Window.rect_emb_val _ _ _ _).trans (show win0_4.index t (0 : Fin 2) * 256 + a.val = r.val by rw [i0, ha])).symm
    | ⟨1, _⟩ => exact ((Window.rect_emb_val _ _ _ _).trans (show win0_4.index t (1 : Fin 2) * 2048 + s.val = s.val by rw [i1]; omega)).symm
  · refine (pay0_apply (iblk m c 0 t) (iblk m c 1 t) (iblk m c 2 t) (iblk m c 3 t) a s).trans ?_
    have e0 : (fun k => (iblk m c 0 t : Vec Ideal S256x2048 .f32) (ix2 a k)) = (fun k => arg0 m c (ix2 r k)) :=
      funext fun k => (blk_0 m c t a k r k ha (by omega)).trans (arr0_apply m c r k)
    have e1 : (fun k => (iblk m c 1 t : Vec Ideal S1x2048 .f32) (ix2 0 k)) = (fun k => arg1 m c (ix1 k)) :=
      funext fun k => (blk_1 m c t 0 k 0 k (by omega) (by omega)).trans (arr1_apply m c k)
    have e2 : (fun k => (iblk m c 2 t : Vec Ideal S1x2048 .f32) (ix2 0 k)) = (fun k => arg2 m c (ix1 k)) :=
      funext fun k => (blk_2 m c t 0 k 0 k (by omega) (by omega)).trans (arr2_apply m c k)
    have e3 : (fun k => (iblk m c 3 t : Vec Ideal S1x2048 .f32) (ix2 0 k)) = (fun k => arg3 m c (ix1 k)) :=
      funext fun k => (blk_3 m c t 0 k 0 k (by omega) (by omega)).trans (arr3_apply m c k)
    rw [e0, e1, e2, e3]

end Cert.Kernel16Ideal.Prod

namespace Cert.Reference16Ideal.Prod

open Cert.Reference16Ideal Cert.Reference16Ideal.Gen Cert.Steps
open Idealize.ShloMosaic Idealize.ShloMosaic.TcCoe Idealize.ShloMosaic.Tactic

/-- The reference's result as a function of its arguments. -/
def res0 (x0 : FVec Ideal S4096x2048 .f32) (x1 : FVec Ideal S2048 .f32) (x2 : FVec Ideal S2048 .f32) (x3 : FVec Ideal S2048 .f32) : FVec Ideal S4096x2048 .bf16 :=
  truncf .bf16 (addf (mulf (mulf (mulf x0 (broadcastInDim S4096x2048 ![0, 1] bcast_S4096x1_S4096x2048_0_1 (Host.rsqrt (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 x1))) (broadcastInDim S4096x2048 ![0, 1] bcast_S1x2048_S4096x2048_0_1 (broadcastInDim S1x2048 ![1] bcast_S2048_S1x2048_1 (addf (broadcastInDim S2048 ![] bcast_S_S2048 (constant S_ .f32 0x3F800000#32)) x2)))) (broadcastInDim S4096x2048 ![0, 1] bcast_S1x2048_S4096x2048_0_1 (broadcastInDim S1x2048 ![1] bcast_S2048_S1x2048_1 x3))) bitsLt_bf16_f32

/-- The reference's result at an index. -/
theorem ref0_apply (x0 : FVec Ideal S4096x2048 .f32) (x1 : FVec Ideal S2048 .f32) (x2 : FVec Ideal S2048 .f32) (x3 : FVec Ideal S2048 .f32) (r : Fin 4096) (s : Fin 2048) :
    res0 x0 x1 x2 x3 (ix2 r s) = prenorm 0x45000000#32 (fun k => x0 (ix2 r k)) (fun k => x1 (ix1 k)) (fun k => x2 (ix1 k)) (fun k => x3 (ix1 k)) s := by
  simp only [glu, gate, gelu, rms, sigmoid, prenorm, postmix]
  pointwise [res0]

end Cert.Reference16Ideal.Prod

namespace Cert.Kernel16Ideal.Prod

open Cert.Kernel16Ideal Cert.Kernel16Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference16Ideal.Prod.res0 (arg0 m c) (arg1 m c) (arg2 m c) (arg3 m c) = out0 m c := by
  funext i
  obtain ⟨r, s, rfl⟩ : ∃ (r : Fin 4096) (s : Fin 2048), i = ix2 r s := ⟨i 0, i 1, eq_ix2 i⟩
  exact (Cert.Reference16Ideal.Prod.ref0_apply (arg0 m c) (arg1 m c) (arg2 m c) (arg3 m c) r s).trans (kernel0_apply m c r s).symm

/-- Over the reals the kernel computes what the reference does, whatever the arguments. -/
theorem algebraic : Cert.algebraic_Kernel16Ideal_Reference16Ideal := by
  intro m g m' g' _ heq
  refine ⟨fun c => (dats m 0 c).arrAt 4 cfg0.N, Value.run_blocks (F := Ideal) m g, ?_⟩
  refine (θ_run Cert.Reference16Ideal.defs _ _).mono (fun r h c => ⟨(h c).1.trans ?_, (h c).2⟩) (Cert.Reference16Ideal.Value.run (F := Ideal) m' g')
  · obtain ⟨e0, e1, e2, e3⟩ := heq c
    refine Eq.trans ?_ (same0 m c)
    show Cert.Reference16Ideal.Prod.res0 _ _ _ _ = _
    rw [e0, e1, e2, e3]

end Cert.Kernel16Ideal.Prod

end
-- ==== Proof.Prod17.lean ====
/- What follows the mixer: its normalised output is added to the stream, which is normalised for the MLP. -/
module

public import proofs.«01_k».proof.Proof.Gen.Kernel17Ideal.Value
public import proofs.«01_k».proof.Proof.Gen.Reference17Ideal.Run
public import proofs.«01_k».proof.Proof.Steps
public import proofs.«01_k».proof.Defs

@[expose] public section

set_option maxRecDepth 16384

noncomputable section

namespace Cert.Kernel17Ideal.Prod

open Cert.Kernel17Ideal Cert.Kernel17Ideal.Gen Cert.Steps
open Idealize.ShloMosaic Idealize.ShloMosaic.TcCoe Idealize.ShloMosaic.Tactic
open Idealize.ShloMosaic.Pipeline (Dat Cfg Window)

/-- The stream after the mixer. -/
theorem pay0_apply (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (x6 : Vec Ideal S1x2048 .f32) (a : Fin 256) (s : Fin 2048) :
    (k0_pay2 x1 x0 x3 x2) (ix2 a s) = postmix 0x45000000#32 (fun k => x0 (ix2 a k)) (fun k => x1 (ix2 a k)) (fun k => x2 (ix2 0 k)) (fun k => x3 (ix2 0 k)) s := by
  simp only [glu, gate, gelu, rms, sigmoid, prenorm, postmix, gradMod]
  pointwise [k0_pay2]

/-- The stream normalised for the MLP. -/
theorem pay1_apply (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (x6 : Vec Ideal S1x2048 .f32) (a : Fin 256) (s : Fin 2048) :
    (k0_pay1 (k0_pay3 x1 x0 x3 x2 x4) (k0_pay4 x5) x6) (ix2 a s) = prenorm 0x45000000#32 (postmix 0x45000000#32 (fun k => x0 (ix2 a k)) (fun k => x1 (ix2 a k)) (fun k => x2 (ix2 0 k)) (fun k => x3 (ix2 0 k))) (fun k => x4 (ix2 0 k)) (fun k => x5 (ix2 0 k)) (fun k => x6 (ix2 0 k)) s := by
  have e : (postmix 0x45000000#32 (fun k => x0 (ix2 a k)) (fun k => x1 (ix2 a k)) (fun k => x2 (ix2 0 k)) (fun k => x3 (ix2 0 k))) = fun k => k0_pay2 x1 x0 x3 x2 (ix2 a k) :=
    funext fun k => (pay0_apply x0 x1 x2 x3 x4 x5 x6 a k).symm
  rw [e]
  simp only [prenorm, rms]
  pointwise [k0_pay1, k0_pay3, k0_pay4]

theorem zz : (![0, 0] : Fin 2 → Nat) = fun _ => 0 := by funext x; match x with | ⟨0, _⟩ => rfl | ⟨1, _⟩ => rfl

/-- What the body leaves in this result's block. -/
theorem out0_eq (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (x6 : Vec Ideal S1x2048 .f32) :
    out0_7 x0 x1 x2 x3 x4 x5 x6 = k0_pay2 x1 x0 x3 x2 := by
  unfold out0_7
  rw [View.canon_unit_zero zz]
  simp only [View.ld_unit_zero (S := S256x2048) zz, View.ld_unit_zero (S := S1x2048) zz]

/-- What the body leaves in this result's block. -/
theorem out1_eq (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (x6 : Vec Ideal S1x2048 .f32) :
    out0_8 x0 x1 x2 x3 x4 x5 x6 = k0_pay1 (k0_pay3 x1 x0 x3 x2 x4) (k0_pay4 x5) x6 := by
  unfold out0_8
  rw [View.canon_unit_zero zz]
  simp only [View.ld_unit_zero (S := S256x2048) zz, View.ld_unit_zero (S := S1x2048) zz]

/-- Each window's block at a point of the grid. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_7.flush t = true
    ∧ win0_8.index t (0 : Fin 2) = t.val
    ∧ win0_8.index t (1 : Fin 2) = 0
    ∧ win0_8.flush t = true :=
  (by decide +kernel : ∀ t : Fin grid0.N, _)

variable (m : (ℓ : Loc nD τ sig) → Buf (Elt Ideal) ℓ) (c : Dev nD)

/-- Argument 0. -/
abbrev arg0 : Vec Ideal S4096x2048 .f32 := m ((c : Thread nD τ).loc main_arg0)

/-- Argument 1. -/
abbrev arg1 : Vec Ideal S4096x2048 .f32 := m ((c : Thread nD τ).loc main_arg1)

/-- Argument 2. -/
abbrev arg2 : Vec Ideal S2048 .f32 := m ((c : Thread nD τ).loc main_arg2)

/-- Argument 3. -/
abbrev arg3 : Vec Ideal S2048 .f32 := m ((c : Thread nD τ).loc main_arg3)

/-- Argument 4. -/
abbrev arg4 : Vec Ideal S2048 .f32 := m ((c : Thread nD τ).loc main_arg4)

/-- Argument 5. -/
abbrev arg5 : Vec Ideal S2048 .f32 := m ((c : Thread nD τ).loc main_arg5)

/-- Argument 6. -/
abbrev arg6 : Vec Ideal S2048 .f32 := m ((c : Thread nD τ).loc main_arg6)

/-- The array window 0 cuts into blocks. -/
abbrev arr0 : Vec Ideal S4096x2048 .f32 := V m c main_arg0

theorem arr0_apply (r : Fin 4096) (s : Fin 2048) : arr0 m c (ix2 r s) = arg0 m c (ix2 r s) :=
  congrFun (V_main_arg0 m c) (ix2 r s)

theorem blk_0 (t : Fin cfg0.N) (p0 : Fin 256) (p1 : Fin 2048) (q0 : Fin 4096) (q1 : Fin 2048)
    (h0 : q0.val = t.val * 256 + p0.val) (h1 : q1.val = 0 * 2048 + p1.val) :
    (iblk m c 0 t : Vec Ideal S256x2048 .f32) (ix2 p0 p1) = arr0 m c (ix2 q0 q1) := by
  obtain ⟨e0, e1, -⟩ := idx_facts t
  unfold iblk
  rw [View.read_apply]
  refine congrArg (V m c main_arg0) ?_
  funext x
  apply Fin.ext
  match x with
  | ⟨0, _⟩ => exact (Window.rect_emb_val _ _ _ _).trans (show win0_0.index t (0 : Fin 2) * 256 + p0.val = q0.val by rw [e0, h0])
  | ⟨1, _⟩ => exact (Window.rect_emb_val _ _ _ _).trans (show win0_0.index t (1 : Fin 2) * 2048 + p1.val = q1.val by rw [e1, h1])

/-- The array window 1 cuts into blocks. -/
abbrev arr1 : Vec Ideal S4096x2048 .f32 := V m c main_arg1

theorem arr1_apply (r : Fin 4096) (s : Fin 2048) : arr1 m c (ix2 r s) = arg1 m c (ix2 r s) :=
  congrFun (V_main_arg1 m c) (ix2 r s)

theorem blk_1 (t : Fin cfg0.N) (p0 : Fin 256) (p1 : Fin 2048) (q0 : Fin 4096) (q1 : Fin 2048)
    (h0 : q0.val = t.val * 256 + p0.val) (h1 : q1.val = 0 * 2048 + p1.val) :
    (iblk m c 1 t : Vec Ideal S256x2048 .f32) (ix2 p0 p1) = arr1 m c (ix2 q0 q1) := by
  obtain ⟨-, -, e0, e1, -⟩ := idx_facts t
  unfold iblk
  rw [View.read_apply]
  refine congrArg (V m c main_arg1) ?_
  funext x
  apply Fin.ext
  match x with
  | ⟨0, _⟩ => exact (Window.rect_emb_val _ _ _ _).trans (show win0_1.index t (0 : Fin 2) * 256 + p0.val = q0.val by rw [e0, h0])
  | ⟨1, _⟩ => exact (Window.rect_emb_val _ _ _ _).trans (show win0_1.index t (1 : Fin 2) * 2048 + p1.val = q1.val by rw [e1, h1])

/-- The array window 2 cuts into blocks. -/
abbrev arr2 : Vec Ideal S1x2048 .f32 := V m c main_v0

theorem arr2_apply (s : Fin 2048) : arr2 m c (ix2 0 s) = arg2 m c (ix1 s) := by
  have e : arr2 m c = (fun i => shapeCast S1x2048 (arg2 m c) shapeCasts_S2048_S1x2048 i : FVec Ideal S1x2048 .f32) := by
    show StableHlo.after _ _ _ = _
    after_results_simp
    rfl
  rw [e]
  pointwise

theorem blk_2 (t : Fin cfg0.N) (p0 : Fin 1) (p1 : Fin 2048) (q0 : Fin 1) (q1 : Fin 2048)
    (h0 : q0.val = 0 * 1 + p0.val) (h1 : q1.val = 0 * 2048 + p1.val) :
    (iblk m c 2 t : Vec Ideal S1x2048 .f32) (ix2 p0 p1) = arr2 m c (ix2 q0 q1) := by
  obtain ⟨-, -, -, -, e0, e1, -⟩ := idx_facts t
  unfold iblk
  rw [View.read_apply]
  refine congrArg (V m c main_v0) ?_
  funext x
  apply Fin.ext
  match x with
  | ⟨0, _⟩ => exact (Window.rect_emb_val _ _ _ _).trans (show win0_2.index t (0 : Fin 2) * 1 + p0.val = q0.val by rw [e0, h0])
  | ⟨1, _⟩ => exact (Window.rect_emb_val _ _ _ _).trans (show win0_2.index t (1 : Fin 2) * 2048 + p1.val = q1.val by rw [e1, h1])

/-- The array window 3 cuts into blocks. -/
abbrev arr3 : Vec Ideal S1x2048 .f32 := V m c main_v1

theorem arr3_apply (s : Fin 2048) : arr3 m c (ix2 0 s) = arg3 m c (ix1 s) := by
  have e : arr3 m c = (fun i => shapeCast S1x2048 (arg3 m c) shapeCasts_S2048_S1x2048 i : FVec Ideal S1x2048 .f32) := by
    show StableHlo.after _ _ _ = _
    after_results_simp
    rfl
  rw [e]
  pointwise

theorem blk_3 (t : Fin cfg0.N) (p0 : Fin 1) (p1 : Fin 2048) (q0 : Fin 1) (q1 : Fin 2048)
    (h0 : q0.val = 0 * 1 + p0.val) (h1 : q1.val = 0 * 2048 + p1.val) :
    (iblk m c 3 t : Vec Ideal S1x2048 .f32) (ix2 p0 p1) = arr3 m c (ix2 q0 q1) := by
  obtain ⟨-, -, -, -, -, -, e0, e1, -⟩ := idx_facts t
  unfold iblk
  rw [View.read_apply]
  refine congrArg (V m c main_v1) ?_
  funext x
  apply Fin.ext
  match x with
  | ⟨0, _⟩ => exact (Window.rect_emb_val _ _ _ _).trans (show win0_3.index t (0 : Fin 2) * 1 + p0.val = q0.val by rw [e0, h0])
  | ⟨1, _⟩ => exact (Window.rect_emb_val _ _ _ _).trans (show win0_3.index t (1 : Fin 2) * 2048 + p1.val = q1.val by rw [e1, h1])

/-- The array window 4 cuts into blocks. -/
abbrev arr4 : Vec Ideal S1x2048 .f32 := V m c main_v2

theorem arr4_apply (s : Fin 2048) : arr4 m c (ix2 0 s) = arg4 m c (ix1 s) := by
  have e : arr4 m c = (fun i => shapeCast S1x2048 (arg4 m c) shapeCasts_S2048_S1x2048 i : FVec Ideal S1x2048 .f32) := by
    show StableHlo.after _ _ _ = _
    after_results_simp
    rfl
  rw [e]
  pointwise

theorem blk_4 (t : Fin cfg0.N) (p0 : Fin 1) (p1 : Fin 2048) (q0 : Fin 1) (q1 : Fin 2048)
    (h0 : q0.val = 0 * 1 + p0.val) (h1 : q1.val = 0 * 2048 + p1.val) :
    (iblk m c 4 t : Vec Ideal S1x2048 .f32) (ix2 p0 p1) = arr4 m c (ix2 q0 q1) := by
  obtain ⟨-, -, -, -, -, -, -, -, e0, e1, -⟩ := idx_facts t
  unfold iblk
  rw [View.read_apply]
  refine congrArg (V m c main_v2) ?_
  funext x
  apply Fin.ext
  match x with
  | ⟨0, _⟩ => exact (Window.rect_emb_val _ _ _ _).trans (show win0_4.index t (0 : Fin 2) * 1 + p0.val = q0.val by rw [e0, h0])
  | ⟨1, _⟩ => exact (Window.rect_emb_val _ _ _ _).trans (show win0_4.index t (1 : Fin 2) * 2048 + p1.val = q1.val by rw [e1, h1])

/-- The array window 5 cuts into blocks. -/
abbrev arr5 : Vec Ideal S1x2048 .f32 := V m c main_v3

theorem arr5_apply (s : Fin 2048) : arr5 m c (ix2 0 s) = arg5 m c (ix1 s) := by
  have e : arr5 m c = (fun i => shapeCast S1x2048 (arg5 m c) shapeCasts_S2048_S1x2048 i : FVec Ideal S1x2048 .f32) := by
    show StableHlo.after _ _ _ = _
    after_results_simp
    rfl
  rw [e]
  pointwise

theorem blk_5 (t : Fin cfg0.N) (p0 : Fin 1) (p1 : Fin 2048) (q0 : Fin 1) (q1 : Fin 2048)
    (h0 : q0.val = 0 * 1 + p0.val) (h1 : q1.val = 0 * 2048 + p1.val) :
    (iblk m c 5 t : Vec Ideal S1x2048 .f32) (ix2 p0 p1) = arr5 m c (ix2 q0 q1) := by
  obtain ⟨-, -, -, -, -, -, -, -, -, -, e0, e1, -⟩ := idx_facts t
  unfold iblk
  rw [View.read_apply]
  refine congrArg (V m c main_v3) ?_
  funext x
  apply Fin.ext
  match x with
  | ⟨0, _⟩ => exact (Window.rect_emb_val _ _ _ _).trans (show win0_5.index t (0 : Fin 2) * 1 + p0.val = q0.val by rw [e0, h0])
  | ⟨1, _⟩ => exact (Window.rect_emb_val _ _ _ _).trans (show win0_5.index t (1 : Fin 2) * 2048 + p1.val = q1.val by rw [e1, h1])

/-- The array window 6 cuts into blocks. -/
abbrev arr6 : Vec Ideal S1x2048 .f32 := V m c main_v4

theorem arr6_apply (s : Fin 2048) : arr6 m c (ix2 0 s) = arg6 m c (ix1 s) := by
  have e : arr6 m c = (fun i => shapeCast S1x2048 (arg6 m c) shapeCasts_S2048_S1x2048 i : FVec Ideal S1x2048 .f32) := by
    show StableHlo.after _ _ _ = _
    after_results_simp
    rfl
  rw [e]
  pointwise

theorem blk_6 (t : Fin cfg0.N) (p0 : Fin 1) (p1 : Fin 2048) (q0 : Fin 1) (q1 : Fin 2048)
    (h0 : q0.val = 0 * 1 + p0.val) (h1 : q1.val = 0 * 2048 + p1.val) :
    (iblk m c 6 t : Vec Ideal S1x2048 .f32) (ix2 p0 p1) = arr6 m c (ix2 q0 q1) := by
  obtain ⟨-, -, -, -, -, -, -, -, -, -, -, -, e0, e1, -⟩ := idx_facts t
  unfold iblk
  rw [View.read_apply]
  refine congrArg (V m c main_v4) ?_
  funext x
  apply Fin.ext
  match x with
  | ⟨0, _⟩ => exact (Window.rect_emb_val _ _ _ _).trans (show win0_6.index t (0 : Fin 2) * 1 + p0.val = q0.val by rw [e0, h0])
  | ⟨1, _⟩ => exact (Window.rect_emb_val _ _ _ _).trans (show win0_6.index t (1 : Fin 2) * 2048 + p1.val = q1.val by rw [e1, h1])

/-- Result 0. -/
abbrev out0 : Vec Ideal S4096x2048 .f32 := (dats m 0 c).arrAt 7 cfg0.N

/-- The kernel's result at an index, over the arguments. -/
theorem kernel0_apply (r : Fin 4096) (s : Fin 2048) :
    out0 m c (ix2 r s) = postmix 0x45000000#32 (fun k => arg0 m c (ix2 r k)) (fun k => arg1 m c (ix2 r k)) (fun k => arg2 m c (ix1 k)) (fun k => arg3 m c (ix1 k)) s := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  have hs : s.val = 0 * 2048 + s.val := by omega
  obtain ⟨-, -, -, -, -, -, -, -, -, -, -, -, -, -, i0, i1, hf, -⟩ := idx_facts t
  have h := congrFun ((Value.blocks7 m c t hf).trans (Value.flushed7 m c t)) (ix2 a s)
  rw [View.read_apply, out0_eq] at h
  refine (congrArg ((dats m 0 c).arrAt 7 cfg0.N) ?_).trans (h.trans ?_)
  · funext x
    apply Fin.ext
    match x with
    | ⟨0, _⟩ => exact ((Window.rect_emb_val _ _ _ _).trans (show win0_7.index t (0 : Fin 2) * 256 + a.val = r.val by rw [i0, ha])).symm
    | ⟨1, _⟩ => exact ((Window.rect_emb_val _ _ _ _).trans (show win0_7.index t (1 : Fin 2) * 2048 + s.val = s.val by rw [i1]; omega)).symm
  · refine (pay0_apply (iblk m c 0 t) (iblk m c 1 t) (iblk m c 2 t) (iblk m c 3 t) (iblk m c 4 t) (iblk m c 5 t) (iblk m c 6 t) a s).trans ?_
    have e0 : (fun k => (iblk m c 0 t : Vec Ideal S256x2048 .f32) (ix2 a k)) = (fun k => arg0 m c (ix2 r k)) :=
      funext fun k => (blk_0 m c t a k r k ha (by omega)).trans (arr0_apply m c r k)
    have e1 : (fun k => (iblk m c 1 t : Vec Ideal S256x2048 .f32) (ix2 a k)) = (fun k => arg1 m c (ix2 r k)) :=
      funext fun k => (blk_1 m c t a k r k ha (by omega)).trans (arr1_apply m c r k)
    have e2 : (fun k => (iblk m c 2 t : Vec Ideal S1x2048 .f32) (ix2 0 k)) = (fun k => arg2 m c (ix1 k)) :=
      funext fun k => (blk_2 m c t 0 k 0 k (by omega) (by omega)).trans (arr2_apply m c k)
    have e3 : (fun k => (iblk m c 3 t : Vec Ideal S1x2048 .f32) (ix2 0 k)) = (fun k => arg3 m c (ix1 k)) :=
      funext fun k => (blk_3 m c t 0 k 0 k (by omega) (by omega)).trans (arr3_apply m c k)
    rw [e0, e1, e2, e3]

/-- Result 1. -/
abbrev out1 : Vec Ideal S4096x2048 .bf16 := (dats m 0 c).arrAt 8 cfg0.N

/-- The kernel's result at an index, over the arguments. -/
theorem kernel1_apply (r : Fin 4096) (s : Fin 2048) :
    out1 m c (ix2 r s) = prenorm 0x45000000#32 (postmix 0x45000000#32 (fun k => arg0 m c (ix2 r k)) (fun k => arg1 m c (ix2 r k)) (fun k => arg2 m c (ix1 k)) (fun k => arg3 m c (ix1 k))) (fun k => arg4 m c (ix1 k)) (fun k => arg5 m c (ix1 k)) (fun k => arg6 m c (ix1 k)) s := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  have hs : s.val = 0 * 2048 + s.val := by omega
  obtain ⟨-, -, -, -, -, -, -, -, -, -, -, -, -, -, -, -, -, i0, i1, hf⟩ := idx_facts t
  have h := congrFun ((Value.blocks8 m c t hf).trans (Value.flushed8 m c t)) (ix2 a s)
  rw [View.read_apply, out1_eq] at h
  refine (congrArg ((dats m 0 c).arrAt 8 cfg0.N) ?_).trans (h.trans ?_)
  · funext x
    apply Fin.ext
    match x with
    | ⟨0, _⟩ => exact ((Window.rect_emb_val _ _ _ _).trans (show win0_8.index t (0 : Fin 2) * 256 + a.val = r.val by rw [i0, ha])).symm
    | ⟨1, _⟩ => exact ((Window.rect_emb_val _ _ _ _).trans (show win0_8.index t (1 : Fin 2) * 2048 + s.val = s.val by rw [i1]; omega)).symm
  · refine (pay1_apply (iblk m c 0 t) (iblk m c 1 t) (iblk m c 2 t) (iblk m c 3 t) (iblk m c 4 t) (iblk m c 5 t) (iblk m c 6 t) a s).trans ?_
    have e0 : (fun k => (iblk m c 0 t : Vec Ideal S256x2048 .f32) (ix2 a k)) = (fun k => arg0 m c (ix2 r k)) :=
      funext fun k => (blk_0 m c t a k r k ha (by omega)).trans (arr0_apply m c r k)
    have e1 : (fun k => (iblk m c 1 t : Vec Ideal S256x2048 .f32) (ix2 a k)) = (fun k => arg1 m c (ix2 r k)) :=
      funext fun k => (blk_1 m c t a k r k ha (by omega)).trans (arr1_apply m c r k)
    have e2 : (fun k => (iblk m c 2 t : Vec Ideal S1x2048 .f32) (ix2 0 k)) = (fun k => arg2 m c (ix1 k)) :=
      funext fun k => (blk_2 m c t 0 k 0 k (by omega) (by omega)).trans (arr2_apply m c k)
    have e3 : (fun k => (iblk m c 3 t : Vec Ideal S1x2048 .f32) (ix2 0 k)) = (fun k => arg3 m c (ix1 k)) :=
      funext fun k => (blk_3 m c t 0 k 0 k (by omega) (by omega)).trans (arr3_apply m c k)
    have e4 : (fun k => (iblk m c 4 t : Vec Ideal S1x2048 .f32) (ix2 0 k)) = (fun k => arg4 m c (ix1 k)) :=
      funext fun k => (blk_4 m c t 0 k 0 k (by omega) (by omega)).trans (arr4_apply m c k)
    have e5 : (fun k => (iblk m c 5 t : Vec Ideal S1x2048 .f32) (ix2 0 k)) = (fun k => arg5 m c (ix1 k)) :=
      funext fun k => (blk_5 m c t 0 k 0 k (by omega) (by omega)).trans (arr5_apply m c k)
    have e6 : (fun k => (iblk m c 6 t : Vec Ideal S1x2048 .f32) (ix2 0 k)) = (fun k => arg6 m c (ix1 k)) :=
      funext fun k => (blk_6 m c t 0 k 0 k (by omega) (by omega)).trans (arr6_apply m c k)
    rw [e0, e1, e2, e3, e4, e5, e6]

end Cert.Kernel17Ideal.Prod

namespace Cert.Reference17Ideal.Prod

open Cert.Reference17Ideal Cert.Reference17Ideal.Gen Cert.Steps
open Idealize.ShloMosaic Idealize.ShloMosaic.TcCoe Idealize.ShloMosaic.Tactic

/-- The reference's result as a function of its arguments. -/
def res0 (x0 : FVec Ideal S4096x2048 .f32) (x1 : FVec Ideal S4096x2048 .f32) (x2 : FVec Ideal S2048 .f32) (x3 : FVec Ideal S2048 .f32) (x4 : FVec Ideal S2048 .f32) (x5 : FVec Ideal S2048 .f32) (x6 : FVec Ideal S2048 .f32) : FVec Ideal S4096x2048 .f32 :=
  addf x0 (mulf (broadcastInDim S4096x2048 ![0, 1] bcast_S1x2048_S4096x2048_0_1 (broadcastInDim S1x2048 ![1] bcast_S2048_S1x2048_1 x3)) (mulf (mulf x1 (broadcastInDim S4096x2048 ![0, 1] bcast_S4096x1_S4096x2048_0_1 (Host.rsqrt (addf (Host.divf (broadcastInDim S4096x1 ![0] bcast_S4096_S4096x1_0 (Host.reduceAdd (mulf x1 x1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 x2))))

/-- The reference's result at an index. -/
theorem ref0_apply (x0 : FVec Ideal S4096x2048 .f32) (x1 : FVec Ideal S4096x2048 .f32) (x2 : FVec Ideal S2048 .f32) (x3 : FVec Ideal S2048 .f32) (x4 : FVec Ideal S2048 .f32) (x5 : FVec Ideal S2048 .f32) (x6 : FVec Ideal S2048 .f32) (r : Fin 4096) (s : Fin 2048) :
    res0 x0 x1 x2 x3 x4 x5 x6 (ix2 r s) = postmix 0x45000000#32 (fun k => x0 (ix2 r k)) (fun k => x1 (ix2 r k)) (fun k => x2 (ix1 k)) (fun k => x3 (ix1 k)) s := by
  simp only [glu, gate, gelu, rms, sigmoid, prenorm, postmix]
  pointwise [res0]

/-- The reference's result as a function of its arguments. -/
def res1 (x0 : FVec Ideal S4096x2048 .f32) (x1 : FVec Ideal S4096x2048 .f32) (x2 : FVec Ideal S2048 .f32) (x3 : FVec Ideal S2048 .f32) (x4 : FVec Ideal S2048 .f32) (x5 : FVec Ideal S2048 .f32) (x6 : FVec Ideal S2048 .f32) : FVec Ideal S4096x2048 .bf16 :=
  truncf .bf16 (addf (mulf (mulf (mulf (res0 x0 x1 x2 x3 x4 x5 x6) (broadcastInDim S4096x2048 ![0, 1] bcast_S4096x1_S4096x2048_0_1 (Host.rsqrt (addf (Host.divf (broadcastInDim S4096x1 ![0] bcast_S4096_S4096x1_0 (Host.reduceAdd (mulf (res0 x0 x1 x2 x3 x4 x5 x6) (res0 x0 x1 x2 x3 x4 x5 x6)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 x4))) (broadcastInDim S4096x2048 ![0, 1] bcast_S1x2048_S4096x2048_0_1 (broadcastInDim S1x2048 ![1] bcast_S2048_S1x2048_1 (addf (broadcastInDim S2048 ![] bcast_S_S2048 (constant S_ .f32 0x3F800000#32)) x5)))) (broadcastInDim S4096x2048 ![0, 1] bcast_S1x2048_S4096x2048_0_1 (broadcastInDim S1x2048 ![1] bcast_S2048_S1x2048_1 x6))) bitsLt_bf16_f32

/-- The reference's result at an index. -/
theorem ref1_apply (x0 : FVec Ideal S4096x2048 .f32) (x1 : FVec Ideal S4096x2048 .f32) (x2 : FVec Ideal S2048 .f32) (x3 : FVec Ideal S2048 .f32) (x4 : FVec Ideal S2048 .f32) (x5 : FVec Ideal S2048 .f32) (x6 : FVec Ideal S2048 .f32) (r : Fin 4096) (s : Fin 2048) :
    res1 x0 x1 x2 x3 x4 x5 x6 (ix2 r s) = prenorm 0x45000000#32 (postmix 0x45000000#32 (fun k => x0 (ix2 r k)) (fun k => x1 (ix2 r k)) (fun k => x2 (ix1 k)) (fun k => x3 (ix1 k))) (fun k => x4 (ix1 k)) (fun k => x5 (ix1 k)) (fun k => x6 (ix1 k)) s := by
  have e : (postmix 0x45000000#32 (fun k => x0 (ix2 r k)) (fun k => x1 (ix2 r k)) (fun k => x2 (ix1 k)) (fun k => x3 (ix1 k))) = fun k => res0 x0 x1 x2 x3 x4 x5 x6 (ix2 r k) :=
    funext fun k => (ref0_apply x0 x1 x2 x3 x4 x5 x6 r k).symm
  rw [e]
  simp only [prenorm, rms]
  pointwise [res1]

end Cert.Reference17Ideal.Prod

namespace Cert.Kernel17Ideal.Prod

open Cert.Kernel17Ideal Cert.Kernel17Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference17Ideal.Prod.res0 (arg0 m c) (arg1 m c) (arg2 m c) (arg3 m c) (arg4 m c) (arg5 m c) (arg6 m c) = out0 m c := by
  funext i
  obtain ⟨r, s, rfl⟩ : ∃ (r : Fin 4096) (s : Fin 2048), i = ix2 r s := ⟨i 0, i 1, eq_ix2 i⟩
  exact (Cert.Reference17Ideal.Prod.ref0_apply (arg0 m c) (arg1 m c) (arg2 m c) (arg3 m c) (arg4 m c) (arg5 m c) (arg6 m c) r s).trans (kernel0_apply m c r s).symm

/-- The reference's result is the kernel's. -/
theorem same1 (m : (ℓ : Loc nD τ sig) → Buf (Elt Ideal) ℓ) (c : Dev nD) :
    Cert.Reference17Ideal.Prod.res1 (arg0 m c) (arg1 m c) (arg2 m c) (arg3 m c) (arg4 m c) (arg5 m c) (arg6 m c) = out1 m c := by
  funext i
  obtain ⟨r, s, rfl⟩ : ∃ (r : Fin 4096) (s : Fin 2048), i = ix2 r s := ⟨i 0, i 1, eq_ix2 i⟩
  exact (Cert.Reference17Ideal.Prod.ref1_apply (arg0 m c) (arg1 m c) (arg2 m c) (arg3 m c) (arg4 m c) (arg5 m c) (arg6 m c) r s).trans (kernel1_apply m c r s).symm

/-- Over the reals the kernel computes what the reference does, whatever the arguments. -/
theorem algebraic : Cert.algebraic_Kernel17Ideal_Reference17Ideal := by
  intro m g m' g' _ heq
  refine ⟨fun c => (dats m 0 c).arrAt 7 cfg0.N, fun c => (dats m 0 c).arrAt 8 cfg0.N, Value.run_blocks (F := Ideal) m g, ?_⟩
  refine (θ_run Cert.Reference17Ideal.defs _ _).mono (fun r h c => ⟨(h c).1.trans ?_, (h c).2.1.trans ?_, (h c).2.2⟩) (Cert.Reference17Ideal.Value.run (F := Ideal) m' g')
  · obtain ⟨e0, e1, e2, e3, e4, e5, e6⟩ := heq c
    have h := same0 m c
    dsimp only [arg0, arg1, arg2, arg3, arg4, arg5, arg6] at h
    rw [← e0, ← e1, ← e2, ← e3, ← e4, ← e5, ← e6] at h
    exact h
  · obtain ⟨e0, e1, e2, e3, e4, e5, e6⟩ := heq c
    have h := same1 m c
    dsimp only [arg0, arg1, arg2, arg3, arg4, arg5, arg6] at h
    rw [← e0, ← e1, ← e2, ← e3, ← e4, ← e5, ← e6] at h
    exact h

end Cert.Kernel17Ideal.Prod

end
-- ==== Proof.Prod18.lean ====
/- The update of the small weights, packed: the sum of eight partial gradients, and the step of the optimiser. -/
module

public import proofs.«01_k».proof.Proof.Gen.Kernel18Ideal.Value
public import proofs.«01_k».proof.Proof.Gen.Reference18Ideal.Run
public import proofs.«01_k».proof.Proof.Steps
public import proofs.«01_k».proof.Defs

@[expose] public section

set_option maxRecDepth 16384

noncomputable section

namespace Cert.Kernel18Ideal.Prod

open Cert.Kernel18Ideal Cert.Kernel18Ideal.Gen Cert.Steps
open Idealize.ShloMosaic Idealize.ShloMosaic.TcCoe Idealize.ShloMosaic.Tactic
open Idealize.ShloMosaic.Pipeline (Dat Cfg Window)

/-- Partial gradient 0. -/
theorem part0 (x : Vec Ideal S8x1944x128 .f32) (r : Fin 1944) (s : Fin 128) : View.ld x r0_0 (ix3 0 r s) = x (ix3 0 r s) := by
  refine congrArg x (funext fun d => Fin.ext ?_)
  match d with
  | ⟨0, _⟩ => rfl
  | ⟨1, _⟩ => show 0 + 1 * r.val = r.val; omega
  | ⟨2, _⟩ => show 0 + 1 * s.val = s.val; omega

/-- Partial gradient 1. -/
theorem part1 (x : Vec Ideal S8x1944x128 .f32) (r : Fin 1944) (s : Fin 128) : View.ld x r0_1 (ix3 0 r s) = x (ix3 1 r s) := by
  refine congrArg x (funext fun d => Fin.ext ?_)
  match d with
  | ⟨0, _⟩ => rfl
  | ⟨1, _⟩ => show 0 + 1 * r.val = r.val; omega
  | ⟨2, _⟩ => show 0 + 1 * s.val = s.val; omega

/-- Partial gradient 2. -/
theorem part2 (x : Vec Ideal S8x1944x128 .f32) (r : Fin 1944) (s : Fin 128) : View.ld x r0_2 (ix3 0 r s) = x (ix3 2 r s) := by
  refine congrArg x (funext fun d => Fin.ext ?_)
  match d with
  | ⟨0, _⟩ => rfl
  | ⟨1, _⟩ => show 0 + 1 * r.val = r.val; omega
  | ⟨2, _⟩ => show 0 + 1 * s.val = s.val; omega

/-- Partial gradient 3. -/
theorem part3 (x : Vec Ideal S8x1944x128 .f32) (r : Fin 1944) (s : Fin 128) : View.ld x r0_3 (ix3 0 r s) = x (ix3 3 r s) := by
  refine congrArg x (funext fun d => Fin.ext ?_)
  match d with
  | ⟨0, _⟩ => rfl
  | ⟨1, _⟩ => show 0 + 1 * r.val = r.val; omega
  | ⟨2, _⟩ => show 0 + 1 * s.val = s.val; omega

/-- Partial gradient 4. -/
theorem part4 (x : Vec Ideal S8x1944x128 .f32) (r : Fin 1944) (s : Fin 128) : View.ld x r0_4 (ix3 0 r s) = x (ix3 4 r s) := by
  refine congrArg x (funext fun d => Fin.ext ?_)
  match d with
  | ⟨0, _⟩ => rfl
  | ⟨1, _⟩ => show 0 + 1 * r.val = r.val; omega
  | ⟨2, _⟩ => show 0 + 1 * s.val = s.val; omega

/-- Partial gradient 5. -/
theorem part5 (x : Vec Ideal S8x1944x128 .f32) (r : Fin 1944) (s : Fin 128) : View.ld x r0_5 (ix3 0 r s) = x (ix3 5 r s) := by
  refine congrArg x (funext fun d => Fin.ext ?_)
  match d with
  | ⟨0, _⟩ => rfl
  | ⟨1, _⟩ => show 0 + 1 * r.val = r.val; omega
  | ⟨2, _⟩ => show 0 + 1 * s.val = s.val; omega

/-- Partial gradient 6. -/
theorem part6 (x : Vec Ideal S8x1944x128 .f32) (r : Fin 1944) (s : Fin 128) : View.ld x r0_6 (ix3 0 r s) = x (ix3 6 r s) := by
  refine congrArg x (funext fun d => Fin.ext ?_)
  match d with
  | ⟨0, _⟩ => rfl
  | ⟨1, _⟩ => show 0 + 1 * r.val = r.val; omega
  | ⟨2, _⟩ => show 0 + 1 * s.val = s.val; omega

/-- Partial gradient 7. -/
theorem part7 (x : Vec Ideal S8x1944x128 .f32) (r : Fin 1944) (s : Fin 128) : View.ld x r0_7 (ix3 0 r s) = x (ix3 7 r s) := by
  refine congrArg x (funext fun d => Fin.ext ?_)
  match d with
  | ⟨0, _⟩ => rfl
  | ⟨1, _⟩ => show 0 + 1 * r.val = r.val; omega
  | ⟨2, _⟩ => show 0 + 1 * s.val = s.val; omega

theorem zz : (![0, 0] : Fin 2 → Nat) = fun _ => 0 := by funext x; match x with | ⟨0, _⟩ => rfl | ⟨1, _⟩ => rfl

/-- The decayed first moment. -/
theorem part_m (x0 : Vec Ideal S8x1944x128 .f32) (x1 : Vec Ideal S1944x128 .f32) (x2 : Vec Ideal S1944x128 .f32) (x3 : Vec Ideal S1944x128 .f32) (r : Fin 1944) (s : Fin 128) :
    k0_pay7 x0 x1 x2 x3 (ix2 r s) = Ideal.ofBits .f32 0x3F666666#32 * x2 (ix2 r s) := by
  unfold k0_pay7
  rw [View.ld_unit_zero (S := S1944x128) zz]
  pointwise [k0_pay5]

/-- The sum of the partial gradients. -/
theorem pay0_apply (x0 : Vec Ideal S8x1944x128 .f32) (x1 : Vec Ideal S1944x128 .f32) (x2 : Vec Ideal S1944x128 .f32) (x3 : Vec Ideal S1944x128 .f32) (r : Fin 1944) (s : Fin 128) :
    Value.G4 x0 x1 x2 x3 (ix2 r s) = ∑ k : Fin 8, x0 (ix3 k r s) := by
  rw [Fin.sum_univ_eight, ← part0 x0 r s, ← part1 x0 r s, ← part2 x0 r s, ← part3 x0 r s, ← part4 x0 r s, ← part5 x0 r s, ← part6 x0 r s, ← part7 x0 r s]
  pointwise [k0_pay6, k0_pay4]

/-- The step. -/
theorem pay1_apply (x0 : Vec Ideal S8x1944x128 .f32) (x1 : Vec Ideal S1944x128 .f32) (x2 : Vec Ideal S1944x128 .f32) (x3 : Vec Ideal S1944x128 .f32) (r : Fin 1944) (s : Fin 128) :
    Value.G5 x0 x1 x2 x3 (ix2 r s) = adamStep (∑ k : Fin 8, x0 (ix3 k r s)) (x1 (ix2 r s)) (x2 (ix2 r s)) (x3 (ix2 r s)) := by
  rw [← pay0_apply x0 x1 x2 x3 r s]
  simp only [adamStep, moment1, moment2]
  pointwise [k0_pay3, k0_pay1, k0_pay2]
  rw [part_m x0 x1 x2 x3 r s]

/-- The first moment. -/
theorem pay2_apply (x0 : Vec Ideal S8x1944x128 .f32) (x1 : Vec Ideal S1944x128 .f32) (x2 : Vec Ideal S1944x128 .f32) (x3 : Vec Ideal S1944x128 .f32) (r : Fin 1944) (s : Fin 128) :
    Value.G6 x0 x1 x2 x3 (ix2 r s) = moment1 (∑ k : Fin 8, x0 (ix3 k r s)) (x2 (ix2 r s)) := by
  rw [← pay0_apply x0 x1 x2 x3 r s]
  simp only [adamStep, moment1, moment2]
  pointwise [k0_pay1]
  rw [part_m x0 x1 x2 x3 r s]

/-- The second moment. -/
theorem pay3_apply (x0 : Vec Ideal S8x1944x128 .f32) (x1 : Vec Ideal S1944x128 .f32) (x2 : Vec Ideal S1944x128 .f32) (x3 : Vec Ideal S1944x128 .f32) (r : Fin 1944) (s : Fin 128) :
    Value.G7 x0 x1 x2 x3 (ix2 r s) = moment2 (∑ k : Fin 8, x0 (ix3 k r s)) (x3 (ix2 r s)) := by
  rw [← pay0_apply x0 x1 x2 x3 r s]
  simp only [adamStep, moment1, moment2]
  pointwise [k0_pay2]

variable (m : (ℓ : Loc nD τ sig) → Buf (Elt Ideal) ℓ) (c : Dev nD)

/-- Argument 0. -/
abbrev arg0 : Vec Ideal S8x1944x128 .f32 := m ((c : Thread nD τ).loc main_arg0)

/-- Argument 1. -/
abbrev arg1 : Vec Ideal S1944x128 .f32 := m ((c : Thread nD τ).loc main_arg1)

/-- Argument 2. -/
abbrev arg2 : Vec Ideal S1944x128 .f32 := m ((c : Thread nD τ).loc main_arg2)

/-- Argument 3. -/
abbrev arg3 : Vec Ideal S1944x128 .f32 := m ((c : Thread nD τ).loc main_arg3)

/-- Result 0. -/
abbrev out0 : Vec Ideal S1944x128 .f32 := Value.G4 (arg0 m c) (arg1 m c) (arg2 m c) (arg3 m c)

/-- The kernel's result at an index, over the arguments. -/
theorem kernel0_apply (r : Fin 1944) (s : Fin 128) :
    out0 m c (ix2 r s) = ∑ k : Fin 8, arg0 m c (ix3 k r s) :=
  pay0_apply (arg0 m c) (arg1 m c) (arg2 m c) (arg3 m c) r s

/-- Result 1. -/
abbrev out1 : Vec Ideal S1944x128 .f32 := Value.G5 (arg0 m c) (arg1 m c) (arg2 m c) (arg3 m c)

/-- The kernel's result at an index, over the arguments. -/
theorem kernel1_apply (r : Fin 1944) (s : Fin 128) :
    out1 m c (ix2 r s) = adamStep (∑ k : Fin 8, arg0 m c (ix3 k r s)) (arg1 m c (ix2 r s)) (arg2 m c (ix2 r s)) (arg3 m c (ix2 r s)) :=
  pay1_apply (arg0 m c) (arg1 m c) (arg2 m c) (arg3 m c) r s

/-- Result 2. -/
abbrev out2 : Vec Ideal S1944x128 .f32 := Value.G6 (arg0 m c) (arg1 m c) (arg2 m c) (arg3 m c)

/-- The kernel's result at an index, over the arguments. -/
theorem kernel2_apply (r : Fin 1944) (s : Fin 128) :
    out2 m c (ix2 r s) = moment1 (∑ k : Fin 8, arg0 m c (ix3 k r s)) (arg2 m c (ix2 r s)) :=
  pay2_apply (arg0 m c) (arg1 m c) (arg2 m c) (arg3 m c) r s

/-- Result 3. -/
abbrev out3 : Vec Ideal S1944x128 .f32 := Value.G7 (arg0 m c) (arg1 m c) (arg2 m c) (arg3 m c)

/-- The kernel's result at an index, over the arguments. -/
theorem kernel3_apply (r : Fin 1944) (s : Fin 128) :
    out3 m c (ix2 r s) = moment2 (∑ k : Fin 8, arg0 m c (ix3 k r s)) (arg3 m c (ix2 r s)) :=
  pay3_apply (arg0 m c) (arg1 m c) (arg2 m c) (arg3 m c) r s

end Cert.Kernel18Ideal.Prod

namespace Cert.Reference18Ideal.Prod

open Cert.Reference18Ideal Cert.Reference18Ideal.Gen Cert.Steps
open Idealize.ShloMosaic Idealize.ShloMosaic.TcCoe Idealize.ShloMosaic.Tactic

/-- The reference's result as a function of its arguments. -/
def res0 (x0 : FVec Ideal S8x1944x128 .f32) (x1 : FVec Ideal S1944x128 .f32) (x2 : FVec Ideal S1944x128 .f32) (x3 : FVec Ideal S1944x128 .f32) : FVec Ideal S1944x128 .f32 :=
  Host.reduceAdd x0 (constant S_ .f32 0x00000000#32) reducesTo_S8x1944x128_S1944x128_d0 h_S_

/-- The reference's result at an index. -/
theorem ref0_apply (x0 : FVec Ideal S8x1944x128 .f32) (x1 : FVec Ideal S1944x128 .f32) (x2 : FVec Ideal S1944x128 .f32) (x3 : FVec Ideal S1944x128 .f32) (r : Fin 1944) (s : Fin 128) :
    res0 x0 x1 x2 x3 (ix2 r s) = ∑ k : Fin 8, x0 (ix3 k r s) := by
  pointwise [res0]

/-- The reference's result as a function of its arguments. -/
def res1 (x0 : FVec Ideal S8x1944x128 .f32) (x1 : FVec Ideal S1944x128 .f32) (x2 : FVec Ideal S1944x128 .f32) (x3 : FVec Ideal S1944x128 .f32) : FVec Ideal S1944x128 .f32 :=
  mulf (broadcastInDim S1944x128 ![] bcast_S_S1944x128 (constant S_ .f32 0xBA83126F#32)) (addf (Host.divf (Host.divf (addf (mulf (broadcastInDim S1944x128 ![] bcast_S_S1944x128 (constant S_ .f32 0x3F666666#32)) x2) (mulf (broadcastInDim S1944x128 ![] bcast_S_S1944x128 (constant S_ .f32 0x3DCCCCCD#32)) (res0 x0 x1 x2 x3))) (broadcastInDim S1944x128 ![] bcast_S_S1944x128 (constant S_ .f32 0x3F26BD02#32))) (addf (Host.sqrt (Host.divf (addf (mulf (broadcastInDim S1944x128 ![] bcast_S_S1944x128 (constant S_ .f32 0x3F7FBE77#32)) x3) (mulf (broadcastInDim S1944x128 ![] bcast_S_S1944x128 (constant S_ .f32 0x3A83126F#32)) (mulf (res0 x0 x1 x2 x3) (res0 x0 x1 x2 x3)))) (broadcastInDim S1944x128 ![] bcast_S_S1944x128 (constant S_ .f32 0x3C231ACC#32)))) (broadcastInDim S1944x128 ![] bcast_S_S1944x128 (constant S_ .f32 0x322BCC77#32)))) (mulf (broadcastInDim S1944x128 ![] bcast_S_S1944x128 (constant S_ .f32 0x3C23D70A#32)) x1))

/-- The reference's result at an index. -/
theorem ref1_apply (x0 : FVec Ideal S8x1944x128 .f32) (x1 : FVec Ideal S1944x128 .f32) (x2 : FVec Ideal S1944x128 .f32) (x3 : FVec Ideal S1944x128 .f32) (r : Fin 1944) (s : Fin 128) :
    res1 x0 x1 x2 x3 (ix2 r s) = adamStep (∑ k : Fin 8, x0 (ix3 k r s)) (x1 (ix2 r s)) (x2 (ix2 r s)) (x3 (ix2 r s)) := by
  rw [← ref0_apply x0 x1 x2 x3 r s]
  simp only [adamStep, moment1, moment2]
  pointwise [res1]

/-- The reference's result as a function of its arguments. -/
def res2 (x0 : FVec Ideal S8x1944x128 .f32) (x1 : FVec Ideal S1944x128 .f32) (x2 : FVec Ideal S1944x128 .f32) (x3 : FVec Ideal S1944x128 .f32) : FVec Ideal S1944x128 .f32 :=
  addf (mulf (broadcastInDim S1944x128 ![] bcast_S_S1944x128 (constant S_ .f32 0x3F666666#32)) x2) (mulf (broadcastInDim S1944x128 ![] bcast_S_S1944x128 (constant S_ .f32 0x3DCCCCCD#32)) (res0 x0 x1 x2 x3))

/-- The reference's result at an index. -/
theorem ref2_apply (x0 : FVec Ideal S8x1944x128 .f32) (x1 : FVec Ideal S1944x128 .f32) (x2 : FVec Ideal S1944x128 .f32) (x3 : FVec Ideal S1944x128 .f32) (r : Fin 1944) (s : Fin 128) :
    res2 x0 x1 x2 x3 (ix2 r s) = moment1 (∑ k : Fin 8, x0 (ix3 k r s)) (x2 (ix2 r s)) := by
  rw [← ref0_apply x0 x1 x2 x3 r s]
  simp only [adamStep, moment1, moment2]
  pointwise [res2]

/-- The reference's result as a function of its arguments. -/
def res3 (x0 : FVec Ideal S8x1944x128 .f32) (x1 : FVec Ideal S1944x128 .f32) (x2 : FVec Ideal S1944x128 .f32) (x3 : FVec Ideal S1944x128 .f32) : FVec Ideal S1944x128 .f32 :=
  addf (mulf (broadcastInDim S1944x128 ![] bcast_S_S1944x128 (constant S_ .f32 0x3F7FBE77#32)) x3) (mulf (broadcastInDim S1944x128 ![] bcast_S_S1944x128 (constant S_ .f32 0x3A83126F#32)) (mulf (res0 x0 x1 x2 x3) (res0 x0 x1 x2 x3)))

/-- The reference's result at an index. -/
theorem ref3_apply (x0 : FVec Ideal S8x1944x128 .f32) (x1 : FVec Ideal S1944x128 .f32) (x2 : FVec Ideal S1944x128 .f32) (x3 : FVec Ideal S1944x128 .f32) (r : Fin 1944) (s : Fin 128) :
    res3 x0 x1 x2 x3 (ix2 r s) = moment2 (∑ k : Fin 8, x0 (ix3 k r s)) (x3 (ix2 r s)) := by
  rw [← ref0_apply x0 x1 x2 x3 r s]
  simp only [adamStep, moment1, moment2]
  pointwise [res3]

end Cert.Reference18Ideal.Prod

namespace Cert.Kernel18Ideal.Prod

open Cert.Kernel18Ideal Cert.Kernel18Ideal.Gen
open Idealize.ShloMosaic Idealize.ShloMosaic.TcCoe Idealize.SL.Sem

/-- The reference's result is the kernel's. -/
theorem same0 (m : (ℓ : Loc nD τ sig) → Buf (Elt Ideal) ℓ) (c : Dev nD) :
    Cert.Reference18Ideal.Prod.res0 (arg0 m c) (arg1 m c) (arg2 m c) (arg3 m c) = out0 m c := by
  funext i
  obtain ⟨r, s, rfl⟩ : ∃ (r : Fin 1944) (s : Fin 128), i = ix2 r s := ⟨i 0, i 1, eq_ix2 i⟩
  exact (Cert.Reference18Ideal.Prod.ref0_apply (arg0 m c) (arg1 m c) (arg2 m c) (arg3 m c) r s).trans (kernel0_apply m c r s).symm

/-- The reference's result is the kernel's. -/
theorem same1 (m : (ℓ : Loc nD τ sig) → Buf (Elt Ideal) ℓ) (c : Dev nD) :
    Cert.Reference18Ideal.Prod.res1 (arg0 m c) (arg1 m c) (arg2 m c) (arg3 m c) = out1 m c := by
  funext i
  obtain ⟨r, s, rfl⟩ : ∃ (r : Fin 1944) (s : Fin 128), i = ix2 r s := ⟨i 0, i 1, eq_ix2 i⟩
  exact (Cert.Reference18Ideal.Prod.ref1_apply (arg0 m c) (arg1 m c) (arg2 m c) (arg3 m c) r s).trans (kernel1_apply m c r s).symm

/-- The reference's result is the kernel's. -/
theorem same2 (m : (ℓ : Loc nD τ sig) → Buf (Elt Ideal) ℓ) (c : Dev nD) :
    Cert.Reference18Ideal.Prod.res2 (arg0 m c) (arg1 m c) (arg2 m c) (arg3 m c) = out2 m c := by
  funext i
  obtain ⟨r, s, rfl⟩ : ∃ (r : Fin 1944) (s : Fin 128), i = ix2 r s := ⟨i 0, i 1, eq_ix2 i⟩
  exact (Cert.Reference18Ideal.Prod.ref2_apply (arg0 m c) (arg1 m c) (arg2 m c) (arg3 m c) r s).trans (kernel2_apply m c r s).symm

/-- The reference's result is the kernel's. -/
theorem same3 (m : (ℓ : Loc nD τ sig) → Buf (Elt Ideal) ℓ) (c : Dev nD) :
    Cert.Reference18Ideal.Prod.res3 (arg0 m c) (arg1 m c) (arg2 m c) (arg3 m c) = out3 m c := by
  funext i
  obtain ⟨r, s, rfl⟩ : ∃ (r : Fin 1944) (s : Fin 128), i = ix2 r s := ⟨i 0, i 1, eq_ix2 i⟩
  exact (Cert.Reference18Ideal.Prod.ref3_apply (arg0 m c) (arg1 m c) (arg2 m c) (arg3 m c) r s).trans (kernel3_apply m c r s).symm

/-- Over the reals the kernel computes what the reference does, whatever the arguments. -/
theorem algebraic : Cert.algebraic_Kernel18Ideal_Reference18Ideal := by
  intro m g m' g' _ heq
  refine ⟨fun c => out0 m c, fun c => out1 m c, fun c => out2 m c, fun c => out3 m c, Value.run (F := Ideal) m g, ?_⟩
  refine (θ_run Cert.Reference18Ideal.defs _ _).mono (fun r h c => ⟨(h c).1.trans ?_, (h c).2.1.trans ?_, (h c).2.2.1.trans ?_, (h c).2.2.2.1.trans ?_, (h c).2.2.2.2⟩) (Cert.Reference18Ideal.Value.run (F := Ideal) m' g')
  · obtain ⟨e0, e1, e2, e3⟩ := heq c
    have h := same0 m c
    dsimp only [arg0, arg1, arg2, arg3] at h
    rw [← e0, ← e1, ← e2, ← e3] at h
    exact h
  · obtain ⟨e0, e1, e2, e3⟩ := heq c
    have h := same1 m c
    dsimp only [arg0, arg1, arg2, arg3] at h
    rw [← e0, ← e1, ← e2, ← e3] at h
    exact h
  · obtain ⟨e0, e1, e2, e3⟩ := heq c
    have h := same2 m c
    dsimp only [arg0, arg1, arg2, arg3] at h
    rw [← e0, ← e1, ← e2, ← e3] at h
    exact h
  · obtain ⟨e0, e1, e2, e3⟩ := heq c
    have h := same3 m c
    dsimp only [arg0, arg1, arg2, arg3] at h
    rw [← e0, ← e1, ← e2, ← e3] at h
    exact h

end Cert.Kernel18Ideal.Prod

end
-- ==== Proof.NormBwd.lean ====
/- The gradient of a row's normalisation: the closed form is what the chain rule gives, on real rows. -/
module

public import proofs.«01_k».proof.Proof.Steps
public import Idealize.ShloMosaic.PureOps.Ideal

@[expose] public section

noncomputable section

namespace Cert.Steps

open Idealize.ShloMosaic

/-- The gradient of a normalised row in closed form; `u` is the gradient of the normalised row. -/
def rmsBwd {n : Nat} (N : BitVec 32) (u x : Fin n → EReal) (s : Fin n) : EReal :=
  rms N x * (u s - x s * rms N x * Ideal.div (∑ k, u k * (x k * rms N x)) (Ideal.ofBits .f32 N))

/-- The part of the gradient that goes through the mean of the squares, by the chain rule. -/
def rmsThrough {n : Nat} (N : BitVec 32) (u x : Fin n → EReal) : EReal :=
  Ideal.div ((∑ k, x k * u k) * (Ideal.ofBits .f32 0xBF000000#32 *
    Ideal.div (rms N x) (Ideal.div (∑ k, x k * x k) (Ideal.ofBits .f32 N) + Ideal.ofBits .f32 0x358637BD#32))) (Ideal.ofBits .f32 N)

/-- The gradient of a normalised row by the chain rule. -/
def rmsVjp {n : Nat} (N : BitVec 32) (u x : Fin n → EReal) (s : Fin n) : EReal :=
  u s * rms N x + (x s * rmsThrough N u x + rmsThrough N u x * x s)

/-- The word of minus a half. -/
theorem neg_half : Ideal.ofBits .f32 0xBF000000#32 = ((-(1/2) : ℝ) : EReal) := by
  simp [Ideal.ofBits, Ideal.ieee]
  rw [← EReal.coe_mul]
  norm_num

/-- The word of 2048. -/
theorem word2048 : Ideal.ofBits .f32 0x45000000#32 = ((2048 : ℝ) : EReal) := by
  simp [Ideal.ofBits, Ideal.ieee]
  rw [← EReal.coe_mul]
  norm_num

/-- The word added to the mean of the squares is a positive real. -/
theorem eps_pos : ∃ e : ℝ, 0 < e ∧ Ideal.ofBits .f32 0x358637BD#32 = (e : EReal) := by
  refine ⟨_, ?_, by simp [Ideal.ofBits, Ideal.ieee]; rfl⟩
  positivity

theorem coe_sum {n : Nat} (f : Fin n → ℝ) : (∑ k, (f k : EReal)) = ((∑ k, f k : ℝ) : EReal) :=
  (map_sum (⟨⟨Real.toEReal, EReal.coe_zero⟩, EReal.coe_add⟩ : ℝ →+ EReal) f Finset.univ).symm

theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem rsqrt_real (v : ℝ) (h : 0 < v) : Ideal.rsqrt (v : EReal) = (((Real.sqrt v)⁻¹ : ℝ) : EReal) := by
  show (if v < 0 then (⊥ : EReal) else if v = 0 then ⊤ else (((Real.sqrt v)⁻¹ : ℝ) : EReal)) = _
  rw [if_neg (not_lt.2 h.le), if_neg h.ne']

/-- On real rows the closed form is the chain rule's. -/
theorem rmsBwd_eq_vjp {n : Nat} (N : BitVec 32) (w : ℝ) (hw : 0 < w) (hN : Ideal.ofBits .f32 N = (w : EReal)) (u x : Fin n → ℝ) (s : Fin n) :
    rmsBwd N (fun k => (u k : EReal)) (fun k => (x k : EReal)) s = rmsVjp N (fun k => (u k : EReal)) (fun k => (x k : EReal)) s := by
  obtain ⟨e, he, hE⟩ := eps_pos
  have hv : (0 : ℝ) < (∑ k, x k * x k) / w + e :=
    add_pos_of_nonneg_of_pos (div_nonneg (Finset.sum_nonneg fun k _ => mul_self_nonneg _) hw.le) he
  have hvar : Ideal.div (∑ k, (x k : EReal) * (x k : EReal)) (Ideal.ofBits .f32 N) + Ideal.ofBits .f32 0x358637BD#32
      = (((∑ k, x k * x k) / w + e : ℝ) : EReal) := by
    simp only [← EReal.coe_mul, coe_sum, hN, hE, div_real _ _ hw.ne', ← EReal.coe_add]
  generalize hV : (∑ k, x k * x k) / w + e = v at hv hvar
  have hr : rms N (fun k => (x k : EReal)) = (((Real.sqrt v)⁻¹ : ℝ) : EReal) := by
    unfold rms; rw [hvar, rsqrt_real v hv]
  have hs : 0 < Real.sqrt v := Real.sqrt_pos.2 hv
  have hq : Real.sqrt v * Real.sqrt v = v := Real.mul_self_sqrt hv.le
  unfold rmsBwd rmsVjp rmsThrough
  rw [hr, hvar, hN, neg_half]
  simp only [← EReal.coe_mul, coe_sum, div_real _ _ hw.ne', div_real _ _ hv.ne', ← EReal.coe_sub, ← EReal.coe_add]
  norm_cast
  have h1 : ∑ k, u k * (x k * (Real.sqrt v)⁻¹) = (∑ k, x k * u k) * (Real.sqrt v)⁻¹ := by
    rw [Finset.sum_mul]; exact Finset.sum_congr rfl fun k _ => by ring
  rw [h1]
  clear h1 hr hvar hV
  generalize Real.sqrt v = q at hs hq
  subst hq
  generalize (∑ k, x k * u k) = S
  field_simp
  ring

end Cert.Steps

end
-- ==== Proof.Finite.lean ====
/- The claim's precondition: every number of the arguments is a real. -/
module

public import proofs.«01_k».proof.Proof.Gen.Pre_finite
public import Idealize.ShloMosaic.Lib.Pointwise
public import Idealize.ShloMosaic.PureOps.Ideal

@[expose] public section

noncomputable section

namespace Cert.Pre_finite.Attn

open Cert.Pre_finite Cert.Pre_finite.Gen
open Idealize.ShloMosaic Idealize.ShloMosaic.TcCoe

theorem bit_and (x y : BitVec 1) (h : x &&& y = 1#1) : x = 1#1 ∧ y = 1#1 := by
  revert x y; decide

theorem top_word : Ideal.ofBits .f32 0x7F800000#32 = ⊤ := by simp [Ideal.ofBits, Ideal.ieee]

/-- The comparison with +∞ is true of reals alone. -/
theorem real_of (x : Ideal .f32) (h : BitVec.ofBool (decide (FloatOps.absf x < Ideal.ofBits .f32 0x7F800000#32)) = 1#1) :
    (EReal.toReal x : EReal) = x := by
  have hx : max (x : EReal) (-x) < ⊤ := by
    by_contra hn
    rw [top_word] at h
    have h' : decide (FloatOps.absf x < (⊤ : EReal)) = false := decide_eq_false hn
    rw [h'] at h
    exact absurd h (by decide)
  refine EReal.coe_toReal (fun e => ?_) (fun e => ?_)
  · rw [e] at hx; simp at hx
  · rw [e] at hx; simp at hx

/-- Where the precondition holds, each number of the arguments is a real. -/
theorem all_real (q k v g : FVec Ideal S1x4096x6x64 .f32) (l : FVec Ideal S1x4096x6 .f32) (h : fn (F := Ideal) q k v g l = fun _ => 1#1)
    (ρ : Fin 4096) (n : Fin 6) (e : Fin 64) :
    ((q (ix4 0 ρ n e)).toReal : EReal) = q (ix4 0 ρ n e) ∧ ((k (ix4 0 ρ n e)).toReal : EReal) = k (ix4 0 ρ n e)
      ∧ ((v (ix4 0 ρ n e)).toReal : EReal) = v (ix4 0 ρ n e) ∧ ((g (ix4 0 ρ n e)).toReal : EReal) = g (ix4 0 ρ n e)
      ∧ ((l (ix3 0 ρ n)).toReal : EReal) = l (ix3 0 ρ n) := by
  have h0 := congrFun h (ix4 0 ρ n e)
  revert h0
  pointwise [fn, fn_part1]
  intro h0
  obtain ⟨h0, hl⟩ := bit_and _ _ h0
  obtain ⟨h0, hg⟩ := bit_and _ _ h0
  obtain ⟨h0, hv⟩ := bit_and _ _ h0
  obtain ⟨hq, hk⟩ := bit_and _ _ h0
  exact ⟨real_of _ hq, real_of _ hk, real_of _ hv, real_of _ hg, real_of _ hl⟩

end Cert.Pre_finite.Attn
-- ==== Proof.Prod19.lean ====
/- The gradient of the norm before the mixer with respect to its row. -/
module

public import proofs.«01_k».proof.Proof.Gen.Kernel19Ideal.Value
public import proofs.«01_k».proof.Proof.Gen.Reference19Ideal.Run
public import proofs.«01_k».proof.Proof.Gen.Pre_finite19
public import proofs.«01_k».proof.Proof.NormBwd
public import proofs.«01_k».proof.Proof.Finite
public import proofs.«01_k».proof.Defs

@[expose] public section

set_option maxRecDepth 16384

noncomputable section

namespace Cert.Kernel19Ideal.Prod

open Cert.Kernel19Ideal Cert.Kernel19Ideal.Gen Cert.Steps
open Idealize.ShloMosaic Idealize.ShloMosaic.TcCoe Idealize.ShloMosaic.Tactic
open Idealize.ShloMosaic.Pipeline (Dat Cfg Window)

/-- What a point computes from its blocks. -/
abbrev tile (x0 : Vec Ideal S256x2048 .f32) (x1 : Vec Ideal S256x2048 .bf16) (x2 : Vec Ideal S256x2048 .f32) (x3 x4 : Vec Ideal S1x2048 .f32) : Vec Ideal S256x2048 .f32 :=
  k0_pay3 (k0_pay10 x2) (k0_pay11 x2) (k0_pay12 x1) x4 x0 x3

/-- The gradient so far, with the gradient through the norm added. -/
theorem tile_apply (x0 : Vec Ideal S256x2048 .f32) (x1 : Vec Ideal S256x2048 .bf16) (x2 : Vec Ideal S256x2048 .f32) (x3 x4 : Vec Ideal S1x2048 .f32) (a : Fin 256) (s : Fin 2048) :
    tile x0 x1 x2 x3 x4 (ix2 a s) = x0 (ix2 a s) + rmsBwd 0x45000000#32 (fun k => x1 (ix2 a k) * (1 + x4 (ix2 0 k)) * x3 (ix2 0 k)) (fun k => x2 (ix2 a k)) s := by
  simp only [rms, rmsBwd]
  pointwise [tile, k0_pay1, k0_pay3, k0_pay10, k0_pay11, k0_pay12]

theorem zz : (![0, 0] : Fin 2 → Nat) = fun _ => 0 := by funext x; match x with | ⟨0, _⟩ => rfl | ⟨1, _⟩ => rfl

/-- The first point writes that. -/
theorem out_A (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x2048 .f32) (harg9 : arg9.IsWhole) (hc0 : cond0_0 i) (hc1 : ¬cond0_1 i)
    (x0 : Vec Ideal S256x2048 .f32) (x1 : Vec Ideal S256x2048 .bf16) (x2 : Vec Ideal S256x2048 .f32) (x3 : Vec Ideal S1x2048 .f32) (x4 : Vec Ideal S1x2048 .f32) :
    out0_A_5 c i arg1 harg1 arg2 harg2 arg3 harg3 arg4 harg4 arg5 harg5 arg6 harg6 arg7 harg7 arg8 harg8 arg9 harg9 hc0 hc1 x0 x1 x2 x3 x4 = tile x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero zz]
  simp only [View.readAt_eq_ld, harg1.read_unread, harg2.read_unread, harg3.read_unread, harg4.read_unread, harg5.read_unread, View.ld_unit_zero (S := S256x2048) zz, View.ld_unit_zero (S := S1x2048) zz, shapeCast_self]

/-- So does a middle point. -/
theorem out_B (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x2048 .f32) (harg9 : arg9.IsWhole) (hc0 : ¬cond0_0 i) (hc1 : ¬cond0_1 i)
    (x0 : Vec Ideal S256x2048 .f32) (x1 : Vec Ideal S256x2048 .bf16) (x2 : Vec Ideal S256x2048 .f32) (x3 : Vec Ideal S1x2048 .f32) (x4 : Vec Ideal S1x2048 .f32) (xo6 : Vec Ideal S8x2048 .f32) (xo7 : Vec Ideal S8x2048 .f32) (xo8 : Vec Ideal S8x2048 .f32) :
    out0_B_5 c i arg1 harg1 arg2 harg2 arg3 harg3 arg4 harg4 arg5 harg5 arg6 harg6 arg7 harg7 arg8 harg8 arg9 harg9 hc0 hc1 x0 x1 x2 x3 x4 xo6 xo7 xo8 = tile x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xo6 xo7 xo8)]
  unfold kernelRun0_B
  dsimp only
  sl_unfold_words
  rw [View.canon_unit_zero zz]
  simp only [View.readAt_eq_ld, harg1.read_unread, harg2.read_unread, harg3.read_unread, harg4.read_unread, harg5.read_unread, View.ld_unit_zero (S := S256x2048) zz, View.ld_unit_zero (S := S1x2048) zz, shapeCast_self]

/-- So does the last. -/
theorem out_C (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x2048 .f32) (harg9 : arg9.IsWhole) (hc0 : ¬cond0_0 i) (hc1 : cond0_1 i)
    (x0 : Vec Ideal S256x2048 .f32) (x1 : Vec Ideal S256x2048 .bf16) (x2 : Vec Ideal S256x2048 .f32) (x3 : Vec Ideal S1x2048 .f32) (x4 : Vec Ideal S1x2048 .f32) (xo6 : Vec Ideal S8x2048 .f32) (xo7 : Vec Ideal S8x2048 .f32) (xo8 : Vec Ideal S8x2048 .f32) :
    out0_C_5 c i arg1 harg1 arg2 harg2 arg3 harg3 arg4 harg4 arg5 harg5 arg6 harg6 arg7 harg7 arg8 harg8 arg9 harg9 hc0 hc1 x0 x1 x2 x3 x4 xo6 xo7 xo8 = tile x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xo6 xo7 xo8)]
  unfold kernelRun0_C
  dsimp only
  sl_unfold_words
  rw [View.canon_unit_zero zz]
  simp only [View.readAt_eq_ld, harg1.read_unread, harg2.read_unread, harg3.read_unread, harg4.read_unread, harg5.read_unread, View.ld_unit_zero (S := S256x2048) zz, View.ld_unit_zero (S := S1x2048) zz, shapeCast_self]

/-- Each window's block at a point of the grid. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_5.flush t = true :=
  (by decide +kernel : ∀ t : Fin grid0.N, _)

variable (m : (ℓ : Loc nD τ sig) → Buf (Elt Ideal) ℓ) (c : Dev nD)

/-- Argument 0. -/
abbrev arg0 : Vec Ideal S4096x2048 .f32 := m ((c : Thread nD τ).loc main_arg0)

/-- Argument 1. -/
abbrev arg1 : Vec Ideal S4096x2048 .f32 := m ((c : Thread nD τ).loc main_arg1)

/-- Argument 2. -/
abbrev arg2 : Vec Ideal S4096x2048 .f32 := m ((c : Thread nD τ).loc main_arg2)

/-- Argument 3. -/
abbrev arg3 : Vec Ideal S2048 .f32 := m ((c : Thread nD τ).loc main_arg3)

/-- Argument 4. -/
abbrev arg4 : Vec Ideal S2048 .f32 := m ((c : Thread nD τ).loc main_arg4)

/-- The array window 0 cuts into blocks. -/
abbrev arr0 : Vec Ideal S4096x2048 .f32 := V m c main_arg0

theorem arr0_apply (r : Fin 4096) (s : Fin 2048) : arr0 m c (ix2 r s) = arg0 m c (ix2 r s) :=
  congrFun (V_main_arg0 m c) (ix2 r s)

theorem blk_0 (t : Fin cfg0.N) (p0 : Fin 256) (p1 : Fin 2048) (q0 : Fin 4096) (q1 : Fin 2048)
    (h0 : q0.val = t.val * 256 + p0.val) (h1 : q1.val = 0 * 2048 + p1.val) :
    (iblk m c 0 t : Vec Ideal S256x2048 .f32) (ix2 p0 p1) = arr0 m c (ix2 q0 q1) := by
  obtain ⟨e0, e1, -⟩ := idx_facts t
  unfold iblk
  rw [View.read_apply]
  refine congrArg (V m c main_arg0) ?_
  funext x
  apply Fin.ext
  match x with
  | ⟨0, _⟩ => exact (Window.rect_emb_val _ _ _ _).trans (show win0_0.index t (0 : Fin 2) * 256 + p0.val = q0.val by rw [e0, h0])
  | ⟨1, _⟩ => exact (Window.rect_emb_val _ _ _ _).trans (show win0_0.index t (1 : Fin 2) * 2048 + p1.val = q1.val by rw [e1, h1])

/-- The array window 1 cuts into blocks. -/
abbrev arr1 : Vec Ideal S4096x2048 .bf16 := V m c main_v0

theorem arr1_apply (r : Fin 4096) (s : Fin 2048) : arr1 m c (ix2 r s) = arg1 m c (ix2 r s) := by
  have e : arr1 m c = (truncf .bf16 (arg1 m c) bitsLt_bf16_f32 : FVec Ideal S4096x2048 .bf16) := by
    show StableHlo.after _ _ _ = _
    after_results_simp
  rw [e]
  rfl

theorem blk_1 (t : Fin cfg0.N) (p0 : Fin 256) (p1 : Fin 2048) (q0 : Fin 4096) (q1 : Fin 2048)
    (h0 : q0.val = t.val * 256 + p0.val) (h1 : q1.val = 0 * 2048 + p1.val) :
    (iblk m c 1 t : Vec Ideal S256x2048 .bf16) (ix2 p0 p1) = arr1 m c (ix2 q0 q1) := by
  obtain ⟨-, -, e0, e1, -⟩ := idx_facts t
  unfold iblk
  rw [View.read_apply]
  refine congrArg (V m c main_v0) ?_
  funext x
  apply Fin.ext
  match x with
  | ⟨0, _⟩ => exact (Window.rect_emb_val _ _ _ _).trans (show win0_1.index t (0 : Fin 2) * 256 + p0.val = q0.val by rw [e0, h0])
  | ⟨1, _⟩ => exact (Window.rect_emb_val _ _ _ _).trans (show win0_1.index t (1 : Fin 2) * 2048 + p1.val = q1.val by rw [e1, h1])

/-- The array window 2 cuts into blocks. -/
abbrev arr2 : Vec Ideal S4096x2048 .f32 := V m c main_arg2

theorem arr2_apply (r : Fin 4096) (s : Fin 2048) : arr2 m c (ix2 r s) = arg2 m c (ix2 r s) :=
  congrFun (V_main_arg2 m c) (ix2 r s)

theorem blk_2 (t : Fin cfg0.N) (p0 : Fin 256) (p1 : Fin 2048) (q0 : Fin 4096) (q1 : Fin 2048)
    (h0 : q0.val = t.val * 256 + p0.val) (h1 : q1.val = 0 * 2048 + p1.val) :
    (iblk m c 2 t : Vec Ideal S256x2048 .f32) (ix2 p0 p1) = arr2 m c (ix2 q0 q1) := by
  obtain ⟨-, -, -, -, e0, e1, -⟩ := idx_facts t
  unfold iblk
  rw [View.read_apply]
  refine congrArg (V m c main_arg2) ?_
  funext x
  apply Fin.ext
  match x with
  | ⟨0, _⟩ => exact (Window.rect_emb_val _ _ _ _).trans (show win0_2.index t (0 : Fin 2) * 256 + p0.val = q0.val by rw [e0, h0])
  | ⟨1, _⟩ => exact (Window.rect_emb_val _ _ _ _).trans (show win0_2.index t (1 : Fin 2) * 2048 + p1.val = q1.val by rw [e1, h1])

/-- The array window 3 cuts into blocks. -/
abbrev arr3 : Vec Ideal S1x2048 .f32 := V m c main_v1

theorem arr3_apply (s : Fin 2048) : arr3 m c (ix2 0 s) = arg3 m c (ix1 s) := by
  have e : arr3 m c = (fun i => shapeCast S1x2048 (arg3 m c) shapeCasts_S2048_S1x2048 i : FVec Ideal S1x2048 .f32) := by
    show StableHlo.after _ _ _ = _
    after_results_simp
    rfl
  rw [e]
  pointwise

theorem blk_3 (t : Fin cfg0.N) (p0 : Fin 1) (p1 : Fin 2048) (q0 : Fin 1) (q1 : Fin 2048)
    (h0 : q0.val = 0 * 1 + p0.val) (h1 : q1.val = 0 * 2048 + p1.val) :
    (iblk m c 3 t : Vec Ideal S1x2048 .f32) (ix2 p0 p1) = arr3 m c (ix2 q0 q1) := by
  obtain ⟨-, -, -, -, -, -, e0, e1, -⟩ := idx_facts t
  unfold iblk
  rw [View.read_apply]
  refine congrArg (V m c main_v1) ?_
  funext x
  apply Fin.ext
  match x with
  | ⟨0, _⟩ => exact (Window.rect_emb_val _ _ _ _).trans (show win0_3.index t (0 : Fin 2) * 1 + p0.val = q0.val by rw [e0, h0])
  | ⟨1, _⟩ => exact (Window.rect_emb_val _ _ _ _).trans (show win0_3.index t (1 : Fin 2) * 2048 + p1.val = q1.val by rw [e1, h1])

/-- The array window 4 cuts into blocks. -/
abbrev arr4 : Vec Ideal S1x2048 .f32 := V m c main_v2

theorem arr4_apply (s : Fin 2048) : arr4 m c (ix2 0 s) = arg4 m c (ix1 s) := by
  have e : arr4 m c = (fun i => shapeCast S1x2048 (arg4 m c) shapeCasts_S2048_S1x2048 i : FVec Ideal S1x2048 .f32) := by
    show StableHlo.after _ _ _ = _
    after_results_simp
    rfl
  rw [e]
  pointwise

theorem blk_4 (t : Fin cfg0.N) (p0 : Fin 1) (p1 : Fin 2048) (q0 : Fin 1) (q1 : Fin 2048)
    (h0 : q0.val = 0 * 1 + p0.val) (h1 : q1.val = 0 * 2048 + p1.val) :
    (iblk m c 4 t : Vec Ideal S1x2048 .f32) (ix2 p0 p1) = arr4 m c (ix2 q0 q1) := by
  obtain ⟨-, -, -, -, -, -, -, -, e0, e1, -⟩ := idx_facts t
  unfold iblk
  rw [View.read_apply]
  refine congrArg (V m c main_v2) ?_
  funext x
  apply Fin.ext
  match x with
  | ⟨0, _⟩ => exact (Window.rect_emb_val _ _ _ _).trans (show win0_4.index t (0 : Fin 2) * 1 + p0.val = q0.val by rw [e0, h0])
  | ⟨1, _⟩ => exact (Window.rect_emb_val _ _ _ _).trans (show win0_4.index t (1 : Fin 2) * 2048 + p1.val = q1.val by rw [e1, h1])

/-- What a point leaves in the first result's block. -/
theorem left (t : Fin cfg0.N) : (outsAt0 m c t.val t.isLt).1 = tile (iblk m c 0 t) (iblk m c 1 t) (iblk m c 2 t) (iblk m c 3 t) (iblk m c 4 t) := by
  by_cases h0 : t.val % 16 = 0
  · rw [outsAt0_A m c t h0 (by omega)]
    dsimp only
    rw [out_A]
  · by_cases h1 : t.val % 16 = 15
    · rw [outsAt0_C m c t h0 h1]
      dsimp only
      rw [out_C]
    · rw [outsAt0_B m c t h0 h1]
      dsimp only
      rw [out_B]

/-- Result 0. -/
abbrev out0 : Vec Ideal S4096x2048 .f32 := (dats m 0 c).arrAt 5 cfg0.N

/-- The kernel's result at an index, over the arguments. -/
theorem kernel0_apply (r : Fin 4096) (s : Fin 2048) :
    out0 m c (ix2 r s) = arg0 m c (ix2 r s) + rmsBwd 0x45000000#32
      (fun k => arg1 m c (ix2 r k) * (1 + arg4 m c (ix1 k)) * arg3 m c (ix1 k)) (fun k => arg2 m c (ix2 r k)) s := by
  have hr := r.isLt
  let t : Fin cfg0.N := ⟨r.val / 256, lt_of_lt_of_eq (by omega) N_0.symm⟩
  let a : Fin 256 := ⟨r.val % 256, Nat.mod_lt _ (by decide)⟩
  have ha : r.val = t.val * 256 + a.val := by show _ = r.val / 256 * 256 + r.val % 256; omega
  obtain ⟨-, -, -, -, -, -, -, -, -, -, i0, i1, hf⟩ := idx_facts t
  have h := congrFun ((Value.blocks5 m c t hf).trans (Value.flushed5 m c t)) (ix2 a s)
  rw [View.read_apply, left] at h
  refine (congrArg ((dats m 0 c).arrAt 5 cfg0.N) ?_).trans (h.trans ?_)
  · funext x
    apply Fin.ext
    match x with
    | ⟨0, _⟩ => exact ((Window.rect_emb_val _ _ _ _).trans (show win0_5.index t (0 : Fin 2) * 256 + a.val = r.val by rw [i0, ha])).symm
    | ⟨1, _⟩ => exact ((Window.rect_emb_val _ _ _ _).trans (show win0_5.index t (1 : Fin 2) * 2048 + s.val = s.val by rw [i1]; omega)).symm
  · refine (tile_apply (iblk m c 0 t) (iblk m c 1 t) (iblk m c 2 t) (iblk m c 3 t) (iblk m c 4 t) a s).trans ?_
    have e0 := (blk_0 m c t a s r s ha (by omega)).trans (arr0_apply m c r s)
    have e1 : ∀ k, (iblk m c 1 t : Vec Ideal S256x2048 .bf16) (ix2 a k) = arg1 m c (ix2 r k) :=
      fun k => (blk_1 m c t a k r k ha (by omega)).trans (arr1_apply m c r k)
    have e2 : ∀ k, (iblk m c 2 t : Vec Ideal S256x2048 .f32) (ix2 a k) = arg2 m c (ix2 r k) :=
      fun k => (blk_2 m c t a k r k ha (by omega)).trans (arr2_apply m c r k)
    have e3 : ∀ k, (iblk m c 3 t : Vec Ideal S1x2048 .f32) (ix2 0 k) = arg3 m c (ix1 k) :=
      fun k => (blk_3 m c t 0 k 0 k (by omega) (by omega)).trans (arr3_apply m c k)
    have e4 : ∀ k, (iblk m c 4 t : Vec Ideal S1x2048 .f32) (ix2 0 k) = arg4 m c (ix1 k) :=
      fun k => (blk_4 m c t 0 k 0 k (by omega) (by omega)).trans (arr4_apply m c k)
    exact congrArg₂ (· + ·) e0 (congrArg₂ (fun u x => rmsBwd 0x45000000#32 u x s)
      (funext fun k => by rw [e1, e3, e4]) (funext fun k => e2 k))

end Cert.Kernel19Ideal.Prod

namespace Cert.Reference19Ideal.Prod

open Cert.Reference19Ideal Cert.Reference19Ideal.Gen Cert.Steps
open Idealize.ShloMosaic Idealize.ShloMosaic.TcCoe Idealize.ShloMosaic.Tactic

/-- The mean of a row's squares, with a small number added. -/
abbrev var (x2 : FVec Ideal S4096x2048 .f32) : FVec Ideal S4096x1 .f32 :=
  addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- The gradient of the normalised row. -/
abbrev up (x1 : FVec Ideal S4096x2048 .f32) (x3 x4 : FVec Ideal S2048 .f32) : FVec Ideal S4096x2048 .f32 :=
  mulf (mulf x1 (broadcastInDim S4096x2048 ![0, 1] bcast_S1x2048_S4096x2048_0_1 (broadcastInDim S1x2048 ![1] bcast_S2048_S1x2048_1 (addf (broadcastInDim S2048 ![] bcast_S_S2048 (constant S_ .f32 0x3F800000#32)) x4)))) (broadcastInDim S4096x2048 ![0, 1] bcast_S1x2048_S4096x2048_0_1 (broadcastInDim S1x2048 ![1] bcast_S2048_S1x2048_1 x3))

/-- What goes through the mean of the squares. -/
abbrev thru (x1 x2 : FVec Ideal S4096x2048 .f32) (x3 x4 : FVec Ideal S2048 .f32) : FVec Ideal S4096x2048 .f32 :=
  broadcastInDim S4096x2048 ![0] bcast_S4096_S4096x2048_0 (Host.reduceAdd (Host.divf (mulf (shapeCast _ (Host.reduceAdd (mulf x2 (up x1 x3 x4)) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (var x2)) (var x2)))) (broadcastInDim S4096x1 ![] bcast_S_S4096x1 (constant S_ .f32 0x45000000#32))) (constant S_ .f32 0x00000000#32) reducesTo_S4096x1_S4096_d1 h_S_)

/-- The reference's result as a function of its arguments. -/
def res0 (x0 x1 x2 : FVec Ideal S4096x2048 .f32) (x3 x4 : FVec Ideal S2048 .f32) : FVec Ideal S4096x2048 .f32 :=
  addf x0 (addf (addf (mulf (up x1 x3 x4) (broadcastInDim S4096x2048 ![0, 1] bcast_S4096x1_S4096x2048_0_1 (Host.rsqrt (var x2)))) (mulf x2 (thru x1 x2 x3 x4))) (mulf (thru x1 x2 x3 x4) x2))

theorem var_apply (x2 : FVec Ideal S4096x2048 .f32) (r : Fin 4096) (z : Fin 1) :
    var x2 (ix2 r z) = Ideal.div (∑ k : Fin 2048, x2 (ix2 r k) * x2 (ix2 r k)) (Ideal.ofBits .f32 0x45000000#32) + Ideal.ofBits .f32 0x358637BD#32 := by
  pointwise

theorem up_apply (x1 : FVec Ideal S4096x2048 .f32) (x3 x4 : FVec Ideal S2048 .f32) (r : Fin 4096) (k : Fin 2048) :
    up x1 x3 x4 (ix2 r k) = x1 (ix2 r k) * (1 + x4 (ix1 k)) * x3 (ix1 k) := by
  pointwise

theorem thru_apply (x1 x2 : FVec Ideal S4096x2048 .f32) (x3 x4 : FVec Ideal S2048 .f32) (r : Fin 4096) (k : Fin 2048) :
    thru x1 x2 x3 x4 (ix2 r k) = rmsThrough 0x45000000#32 (fun k => x1 (ix2 r k) * (1 + x4 (ix1 k)) * x3 (ix1 k)) (fun k => x2 (ix2 r k)) := by
  simp only [rms, rmsThrough]
  pointwise
  exact Fin.sum_univ_one _

/-- The reference's result at an index. -/
theorem ref0_apply (x0 x1 x2 : FVec Ideal S4096x2048 .f32) (x3 x4 : FVec Ideal S2048 .f32) (r : Fin 4096) (s : Fin 2048) :
    res0 x0 x1 x2 x3 x4 (ix2 r s) = x0 (ix2 r s) + rmsVjp 0x45000000#32
      (fun k => x1 (ix2 r k) * (1 + x4 (ix1 k)) * x3 (ix1 k)) (fun k => x2 (ix2 r k)) s := by
  have h := thru_apply x1 x2 x3 x4 r s
  revert h
  unfold res0
  generalize thru x1 x2 x3 x4 = z
  intro h
  simp only [rmsVjp]
  rw [← h]
  simp only [rms]
  pointwise
  rw [add_assoc (_ * _)]

end Cert.Reference19Ideal.Prod

namespace Cert.Pre_finite19.Prod

open Cert.Pre_finite19 Cert.Pre_finite19.Gen
open Idealize.ShloMosaic Idealize.ShloMosaic.TcCoe Idealize.ShloMosaic.Tactic

/-- Where the precondition holds, each number of every argument but the first is a real. -/
theorem all_real (x0 x1 x2 : FVec Ideal S4096x2048 .f32) (x3 x4 : FVec Ideal S2048 .f32) (h : fn (F := Ideal) x0 x1 x2 x3 x4 = fun _ => 1#1) (r : Fin 4096) (k : Fin 2048) :
    ((x1 (ix2 r k)).toReal : EReal) = x1 (ix2 r k) ∧ ((x2 (ix2 r k)).toReal : EReal) = x2 (ix2 r k)
      ∧ ((x3 (ix1 k)).toReal : EReal) = x3 (ix1 k) ∧ ((x4 (ix1 k)).toReal : EReal) = x4 (ix1 k) := by
  have h0 := congrFun h (ix2 r k)
  revert h0
  pointwise [fn]
  intro h0
  obtain ⟨h0, h4⟩ := Cert.Pre_finite.Attn.bit_and _ _ h0
  obtain ⟨h0, h3⟩ := Cert.Pre_finite.Attn.bit_and _ _ h0
  obtain ⟨h1, h2⟩ := Cert.Pre_finite.Attn.bit_and _ _ h0
  exact ⟨Cert.Pre_finite.Attn.real_of _ h1, Cert.Pre_finite.Attn.real_of _ h2, Cert.Pre_finite.Attn.real_of _ h3, Cert.Pre_finite.Attn.real_of _ h4⟩

end Cert.Pre_finite19.Prod

namespace Cert.Kernel19Ideal.Prod

open Cert.Kernel19Ideal Cert.Kernel19Ideal.Gen Cert.Steps
open Idealize.ShloMosaic Idealize.ShloMosaic.TcCoe Idealize.SL.Sem

/-- The reference's result is the kernel's where the precondition holds. -/
theorem same0 (m : (ℓ : Loc nD τ sig) → Buf (Elt Ideal) ℓ) (c : Dev nD)
    (hp : Cert.Pre_finite19.fn (F := Ideal) (arg0 m c) (arg1 m c) (arg2 m c) (arg3 m c) (arg4 m c) = fun _ => 1#1) :
    Cert.Reference19Ideal.Prod.res0 (arg0 m c) (arg1 m c) (arg2 m c) (arg3 m c) (arg4 m c) = out0 m c := by
  funext i
  obtain ⟨r, s, rfl⟩ : ∃ (r : Fin 4096) (s : Fin 2048), i = ix2 r s := ⟨i 0, i 1, eq_ix2 i⟩
  refine (Cert.Reference19Ideal.Prod.ref0_apply (arg0 m c) (arg1 m c) (arg2 m c) (arg3 m c) (arg4 m c) r s).trans ((kernel0_apply m c r s).trans ?_).symm
  have h := Cert.Pre_finite19.Prod.all_real _ _ _ _ _ hp r
  have eu : (fun k => arg1 m c (ix2 r k) * (1 + arg4 m c (ix1 k)) * arg3 m c (ix1 k))
      = fun k => (((arg1 m c (ix2 r k)).toReal * (1 + (arg4 m c (ix1 k)).toReal) * (arg3 m c (ix1 k)).toReal : ℝ) : EReal) := funext fun k => by
    obtain ⟨h1, -, h3, h4⟩ := h k
    rw [EReal.coe_mul, EReal.coe_mul, EReal.coe_add, h1, h3, h4, EReal.coe_one]
  have ex : (fun k => arg2 m c (ix2 r k)) = fun k => (((arg2 m c (ix2 r k)).toReal : ℝ) : EReal) := funext fun k => (h k).2.1.symm
  rw [eu, ex, rmsBwd_eq_vjp 0x45000000#32 2048 (by norm_num) word2048]

/-- Over the reals the kernel computes what the reference does, where the precondition holds. -/
theorem algebraic : Cert.algebraic_Kernel19Ideal_Reference19Ideal_pre_finite19 := by
  intro m g m' g' hp heq
  refine ⟨fun c => (dats m 0 c).arrAt 5 cfg0.N, (θ_run defs _ _).mono (fun r h c => ⟨(h c).1, (h c).2.2.2.2⟩) (Value.run_blocks (F := Ideal) m g), ?_⟩
  refine (θ_run Cert.Reference19Ideal.defs _ _).mono (fun r h c => ⟨(h c).1.trans ?_, (h c).2⟩) (Cert.Reference19Ideal.Value.run (F := Ideal) m' g')
  · obtain ⟨e0, e1, e2, e3, e4⟩ := heq c
    refine Eq.trans ?_ (same0 m c (hp c))
    show Cert.Reference19Ideal.Prod.res0 _ _ _ _ _ = _
    rw [e0, e1, e2, e3, e4]

end Cert.Kernel19Ideal.Prod

end
-- ==== Proof.Prod20.lean ====
/- The gradients of the gate's matrix, its offset and its norm's gain, summed over the rows. -/
module

public import proofs.«01_k».proof.Proof.Gen.Kernel20Ideal.Value
public import proofs.«01_k».proof.Proof.Gen.Reference20Ideal.Run
public import proofs.«01_k».proof.Proof.Gen.Pre_finite20
public import proofs.«01_k».proof.Proof.NormBwd
public import proofs.«01_k».proof.Proof.Finite
public import proofs.«01_k».proof.Proof.Sums
public import proofs.«01_k».proof.Defs
public import Idealize.ShloMosaic.Lib.Pipeline.ValueKit.Acc
public import Idealize.ShloMosaic.Lib.Pipeline.ValueKit.Geometry
public import Idealize.ShloMosaic.Lib.Pipeline.ValueKit.Tiles

@[expose] public section

set_option maxRecDepth 16384

noncomputable section

namespace Cert.Steps

open Idealize.ShloMosaic

/-- The gate of a row, the factor alone. -/
def factor {n : Nat} (y : Fin n → EReal) (w : Fin n → Fin n → EReal) (b : Fin n → EReal) (s : Fin n) : EReal :=
  sigmoid (∑ j, gelu (y j) * w j s + b s)

/-- The gradient before the logistic function, `ds` the gated row's gradient. -/
def gateBwd {n : Nat} (ds y : Fin n → EReal) (w : Fin n → Fin n → EReal) (b : Fin n → EReal) (s : Fin n) : EReal :=
  ds s * gelu (y s) * (factor y w b s * (1 - factor y w b s))

end Cert.Steps

namespace Cert.Kernel20Ideal.Prod

open Cert.Kernel20Ideal Cert.Kernel20Ideal.Gen Cert.Steps
open Idealize.ShloMosaic Idealize.ShloMosaic.TcCoe Idealize.ShloMosaic.Tactic
open Idealize.ShloMosaic.Pipeline (Dat Cfg Window)

section Tile

variable (x0 : Vec Ideal S256x896 .f32) (x1 : Vec Ideal S256x1280 .bf16) (x2 : Vec Ideal S896x896 .bf16) (x3 x4 : Vec Ideal S1x896 .f32)

/-- The rows of a block, the matrix and the vectors at their entries. -/
abbrev yr (a : Fin 256) (k : Fin 896) : EReal := x0 (ix2 a k)
abbrev dr (a : Fin 256) (k : Fin 896) : EReal := x1 (ix2 a ⟨384 + k.val, by omega⟩)
abbrev wr (j k : Fin 896) : EReal := x2 (ix2 j k)
abbrev vr (v : Vec Ideal S1x896 .f32) (k : Fin 896) : EReal := v (ix2 0 k)

/-- The activation at an entry of the block. -/
theorem gelu_apply (a : Fin 256) (k : Fin 896) : k0_pay8 x0 (ix2 a k) = gelu (yr x0 a k) := by
  simp only [gelu]
  pointwise [k0_pay8, k0_pay7]

/-- The gate's factor at an entry. -/
theorem factor_apply (a : Fin 256) (k : Fin 896) : k0_pay10 x0 x2 x3 (ix2 a k) = factor (yr x0 a) (wr x2) (vr x3) k := by
  have h := gelu_apply x0 a
  simp only [factor, sigmoid]
  rw [funext fun j => congrArg (· * wr x2 j k) (h j).symm]
  pointwise [k0_pay10, k0_pay9]
  simp only [Ideal.logistic]

/-- The gated row at an entry. -/
theorem gate_apply (a : Fin 256) (k : Fin 896) : k0_pay11 x0 x2 x3 (ix2 a k) = gate (yr x0 a) (wr x2) (vr x3) k := by
  have h : k0_pay11 x0 x2 x3 (ix2 a k) = k0_pay8 x0 (ix2 a k) * k0_pay10 x0 x2 x3 (ix2 a k) := by pointwise [k0_pay11]
  rw [h, gelu_apply, factor_apply]
  rfl

/-- The inverse root mean square of a gated row. -/
theorem rms_apply (a : Fin 256) (z : Fin 1) : k0_pay12 x0 x2 x3 (ix2 a z) = rms 0x44600000#32 (gate (yr x0 a) (wr x2) (vr x3)) := by
  simp only [rms, ← gate_apply]
  pointwise [k0_pay12]

/-- The normalised row at an entry. -/
theorem norm_apply (a : Fin 256) (k : Fin 896) : k0_pay13 x0 x2 x3 (ix2 a k) = gate (yr x0 a) (wr x2) (vr x3) k * rms 0x44600000#32 (gate (yr x0 a) (wr x2) (vr x3)) := by
  have h : k0_pay13 x0 x2 x3 (ix2 a k) = k0_pay11 x0 x2 x3 (ix2 a k) * k0_pay12 x0 x2 x3 (ix2 a 0) := by pointwise [k0_pay13]
  rw [h, gate_apply, rms_apply]

/-- The gradient's last columns, as loaded. -/
abbrev ld1 : Vec Ideal S256x896 .f32 := k0_pay14 (View.ld x1 (Rect.unit ![0, 384] ![256, 896] inb_S256x1280_S256x896_0_384))

/-- The part of the cotangent's row that is read. -/
theorem ld1_apply (a : Fin 256) (k : Fin 896) : ld1 x1 (ix2 a k) = dr x1 a k := by
  unfold ld1 k0_pay14
  rw [shapeCast_self]
  refine View.ld_unit_apply_of x1 _ _ _ _ _ fun x => ?_
  match x with
  | ⟨0, _⟩ => exact (Nat.zero_add _).symm
  | ⟨1, _⟩ => rfl

/-- A row's gradient before the logistic function. -/
abbrev dz (y d : Fin 896 → EReal) (w : Fin 896 → Fin 896 → EReal) (b g : Fin 896 → EReal) (s : Fin 896) : EReal :=
  gateBwd (rmsBwd 0x44600000#32 (fun k => d k * g k) (gate y w b)) y w b s

/-- The gated row's gradient at an entry. -/
theorem ds_apply (a : Fin 256) (s : Fin 896) :
    k0_pay16 (k0_pay12 x0 x2 x3) (k0_pay13 x0 x2 x3) (ld1 x1) x4 (ix2 a s)
      = rmsBwd 0x44600000#32 (fun k => dr x1 a k * vr x4 k) (gate (yr x0 a) (wr x2) (vr x3)) s := by
  have h : ∀ (p : FVec Ideal S256x1 .f32) (q l : FVec Ideal S256x896 .f32), k0_pay16 p q l x4 (ix2 a s)
      = p (ix2 a 0) * (l (ix2 a s) * x4 (ix2 0 s) - q (ix2 a s) * Ideal.div (∑ k, l (ix2 a k) * x4 (ix2 0 k) * q (ix2 a k)) (Ideal.ofBits .f32 0x44600000#32)) :=
    fun p q l => by pointwise [k0_pay16]
  rw [h]
  simp only [rms_apply, norm_apply, ld1_apply]
  rfl

/-- The gradient before the logistic function at an entry. -/
theorem dz_apply (a : Fin 256) (s : Fin 896) :
    k0_pay17 (k0_pay8 x0) (k0_pay10 x0 x2 x3) (k0_pay12 x0 x2 x3) (k0_pay13 x0 x2 x3) (ld1 x1) x4 (ix2 a s)
      = dz (yr x0 a) (dr x1 a) (wr x2) (vr x3) (vr x4) s := by
  have h := ds_apply x0 x1 x2 x3 x4 a s
  unfold dz gateBwd
  rw [← h, ← gelu_apply, ← factor_apply]
  pointwise [k0_pay17]

/-- What a point adds to the matrix's gradient. -/
theorem dw_apply (v : Vec Ideal S896x896 .f32) (i j : Fin 896) :
    k0_pay20 (k0_pay8 x0) (k0_pay9 x0) (k0_pay10 x0 x2 x3) (k0_pay12 x0 x2 x3) (k0_pay13 x0 x2 x3) (ld1 x1) x4 v (ix2 i j)
      = v (ix2 i j) + ∑ a : Fin 256, gelu (yr x0 a i) * dz (yr x0 a) (dr x1 a) (wr x2) (vr x3) (vr x4) j := by
  simp only [← dz_apply, ← gelu_apply]
  pointwise [k0_pay20, k0_pay18, k0_pay9]

/-- What a point adds to the offset's gradient. -/
theorem db_apply (v : Vec Ideal S8x896 .f32) (e : Fin 8) (j : Fin 896) :
    k0_pay19 (k0_pay8 x0) (k0_pay10 x0 x2 x3) (k0_pay12 x0 x2 x3) (k0_pay13 x0 x2 x3) (ld1 x1) x4 v (ix2 e j)
      = v (ix2 e j) + ∑ q : Fin 32, dz (yr x0 ⟨q.val * 8 + e.val, by omega⟩) (dr x1 ⟨q.val * 8 + e.val, by omega⟩) (wr x2) (vr x3) (vr x4) j := by
  simp only [← dz_apply]
  pointwise [k0_pay19]

/-- What a point adds to the gain's gradient. -/
theorem dg_apply (v : Vec Ideal S8x896 .f32) (e : Fin 8) (j : Fin 896) :
    k0_pay15 (k0_pay13 x0 x2 x3) (ld1 x1) v (ix2 e j)
      = v (ix2 e j) + ∑ q : Fin 32, dr x1 ⟨q.val * 8 + e.val, by omega⟩ j * (gate (yr x0 ⟨q.val * 8 + e.val, by omega⟩) (wr x2) (vr x3) j
          * rms 0x44600000#32 (gate (yr x0 ⟨q.val * 8 + e.val, by omega⟩) (wr x2) (vr x3))) := by
  have h : ∀ q l : FVec Ideal S256x896 .f32, k0_pay15 q l v (ix2 e j)
      = v (ix2 e j) + ∑ k : Fin 32, l (ix2 ⟨k.val * 8 + e.val, by omega⟩ j) * q (ix2 ⟨k.val * 8 + e.val, by omega⟩ j) :=
    fun q l => by pointwise [k0_pay15]
  rw [h]
  simp only [norm_apply, ld1_apply]

end Tile

/-- The last point adds up the eight rows of the offset's gradient. -/
theorem fold2_apply (v : Vec Ideal S8x896 .f32) (e : Fin 8) (j : Fin 896) : k0_pay2 v (ix2 e j) = ∑ q : Fin 8, v (ix2 q j) := by
  pointwise [k0_pay2]

/-- The last point adds up the eight rows of the gain's gradient. -/
theorem fold3_apply (v : Vec Ideal S8x896 .f32) (e : Fin 8) (j : Fin 896) : k0_pay3 v (ix2 e j) = ∑ q : Fin 8, v (ix2 q j) := by
  pointwise [k0_pay3]

/-- A point before the last. -/
abbrev pt (p : Fin 15) : Fin cfg0.N := ⟨p.val, lt_of_lt_of_eq (by omega) N_0.symm⟩

variable (m : (ℓ : Loc nD τ sig) → Buf (Elt Ideal) ℓ) (c : Dev nD)

/-- What point `p` adds to the matrix's gradient at an entry. -/
abbrev partW (p : Fin cfg0.N) (y : S896x896.Idx) : EReal :=
  ∑ a : Fin 256, gelu (yr (iblk m c 0 p) a (y 0)) * dz (yr (iblk m c 0 p) a) (dr (iblk m c 1 p) a) (wr (iblk m c 2 p)) (vr (iblk m c 3 p)) (vr (iblk m c 4 p)) (y 1)

/-- The last point leaves the sum of what the points add. -/
theorem sumW (y : S896x896.Idx) : (outsAt0 m c t0_15.val t0_15.isLt).2.1 y = ∑ p, partW m c p y := by
  rw [Pipeline.eq_sum_fin_of_reset_step_apply_last (fun n h => (outsAt0 m c n h).2.1) 16 (fun _ => 0) (partW m c)
    (fun t h y => by
      obtain ⟨i, j, rfl⟩ : ∃ (i j : Fin 896), y = ix2 i j := ⟨y 0, y 1, eq_ix2 y⟩
      rw [outsAt0_A m c t h (by omega)]; frame_out
      refine (dw_apply _ _ _ _ _ _ i j).trans ?_
      refine congrArg (· + _) ?_
      pointwise [k0_pay4])
    (fun t h y => by
      obtain ⟨i, j, rfl⟩ : ∃ (i j : Fin 896), y = ix2 i j := ⟨y 0, y 1, eq_ix2 y⟩
      by_cases h1 : t.val % 16 = 15
      · rw [outsAt0_C m c t h h1]; frame_out
        exact dw_apply _ _ _ _ _ _ i j
      · rw [outsAt0_B m c t h h1]; frame_out
        exact dw_apply _ _ _ _ _ _ i j)
    (le_of_eq N_0) t0_15 rfl y, zero_add]

/-- What point `p` adds to the offset's gradient at an entry of the eight rows. -/
abbrev partB (p : Fin cfg0.N) (e : Fin 8) (j : Fin 896) : EReal :=
  ∑ q : Fin 32, dz (yr (iblk m c 0 p) ⟨q.val * 8 + e.val, by omega⟩) (dr (iblk m c 1 p) ⟨q.val * 8 + e.val, by omega⟩) (wr (iblk m c 2 p)) (vr (iblk m c 3 p)) (vr (iblk m c 4 p)) j

/-- What the first fifteen points leave of the offset's gradient. -/
def accB (n : Nat) (h : n < 15) : Vec Ideal S8x896 .f32 := (outsAt0 m c n (lt_of_lt_of_eq (by omega) N_0.symm)).2.2.1

/-- Before the last point the offset's gradient is the sum of the parts so far. -/
theorem accB_eq (n : Nat) (h : n < 15) (hn : n + 1 = 15) (e : Fin 8) (j : Fin 896) : accB m c n h (ix2 e j)
    = ∑ p : Fin 15, partB m c (pt p) e j := by
  have hs := Pipeline.eq_sum_fin_of_reset_step_apply_last (accB m c) 15 (fun _ => 0)
    (fun p y => partB m c (pt p) (y 0) (y 1))
    (fun t h y => by
      obtain ⟨i, j, rfl⟩ : ∃ (i : Fin 8) (j : Fin 896), y = ix2 i j := ⟨y 0, y 1, eq_ix2 y⟩
      unfold accB
      rw [outsAt0_A m c ⟨t.val, lt_of_lt_of_eq (by omega) N_0.symm⟩ (show t.val % 16 = 0 by omega) (show ¬t.val % 16 = 15 by omega)]; frame_out
      refine (db_apply _ _ _ _ _ _ i j).trans ?_
      refine congrArg (· + _) ?_
      pointwise [k0_pay5])
    (fun t h y => by
      obtain ⟨i, j, rfl⟩ : ∃ (i : Fin 8) (j : Fin 896), y = ix2 i j := ⟨y 0, y 1, eq_ix2 y⟩
      unfold accB
      rw [outsAt0_B m c ⟨t.val, lt_of_lt_of_eq (by omega) N_0.symm⟩ (show ¬t.val % 16 = 0 by omega) (show ¬t.val % 16 = 15 by omega)]; frame_out
      exact db_apply _ _ _ _ _ _ i j)
    (le_refl _) ⟨n, h⟩ hn (ix2 e j)
  rw [zero_add] at hs
  exact hs

/-- The name stands for what a point leaves. -/
theorem accB_of (n : Nat) (h : n < cfg0.N) (hn : n < 15) : (outsAt0 m c n h).2.2.1 = accB m c n hn := rfl

/-- The last point adds its part and folds the eight rows. -/
theorem sumB (e : Fin 8) (j : Fin 896) : (outsAt0 m c t0_15.val t0_15.isLt).2.2.1 (ix2 e j)
    = ∑ q : Fin 8, (∑ p : Fin 15, partB m c (pt p) q j + partB m c t0_15 q j) := by
  rw [outsAt0_C m c t0_15 (by decide) (by decide)]; frame_out
  rw [accB_of m c (t0_15.val - 1) _ (by decide)]
  refine (fold2_apply _ e j).trans (Finset.sum_congr rfl fun q _ => ?_)
  rw [← accB_eq m c (t0_15.val - 1) (by decide) (by decide)]
  exact db_apply _ _ _ _ _ _ q j

/-- What point `p` adds to the gain's gradient at an entry of the eight rows. -/
abbrev partG (p : Fin cfg0.N) (e : Fin 8) (j : Fin 896) : EReal :=
  ∑ q : Fin 32, dr (iblk m c 1 p) ⟨q.val * 8 + e.val, by omega⟩ j * (gate (yr (iblk m c 0 p) ⟨q.val * 8 + e.val, by omega⟩) (wr (iblk m c 2 p)) (vr (iblk m c 3 p)) j * rms 0x44600000#32 (gate (yr (iblk m c 0 p) ⟨q.val * 8 + e.val, by omega⟩) (wr (iblk m c 2 p)) (vr (iblk m c 3 p))))

/-- What the first fifteen points leave of the gain's gradient. -/
def accG (n : Nat) (h : n < 15) : Vec Ideal S8x896 .f32 := (outsAt0 m c n (lt_of_lt_of_eq (by omega) N_0.symm)).2.2.2

/-- Before the last point the gain's gradient is the sum of the parts so far. -/
theorem accG_eq (n : Nat) (h : n < 15) (hn : n + 1 = 15) (e : Fin 8) (j : Fin 896) : accG m c n h (ix2 e j)
    = ∑ p : Fin 15, partG m c (pt p) e j := by
  have hs := Pipeline.eq_sum_fin_of_reset_step_apply_last (accG m c) 15 (fun _ => 0)
    (fun p y => partG m c (pt p) (y 0) (y 1))
    (fun t h y => by
      obtain ⟨i, j, rfl⟩ : ∃ (i : Fin 8) (j : Fin 896), y = ix2 i j := ⟨y 0, y 1, eq_ix2 y⟩
      unfold accG
      rw [outsAt0_A m c ⟨t.val, lt_of_lt_of_eq (by omega) N_0.symm⟩ (show t.val % 16 = 0 by omega) (show ¬t.val % 16 = 15 by omega)]; frame_out
      refine (dg_apply _ _ _ _ _ i j).trans ?_
      refine congrArg (· + _) ?_
      pointwise [k0_pay6])
    (fun t h y => by
      obtain ⟨i, j, rfl⟩ : ∃ (i : Fin 8) (j : Fin 896), y = ix2 i j := ⟨y 0, y 1, eq_ix2 y⟩
      unfold accG
      rw [outsAt0_B m c ⟨t.val, lt_of_lt_of_eq (by omega) N_0.symm⟩ (show ¬t.val % 16 = 0 by omega) (show ¬t.val % 16 = 15 by omega)]; frame_out
      exact dg_apply _ _ _ _ _ i j)
    (le_refl _) ⟨n, h⟩ hn (ix2 e j)
  rw [zero_add] at hs
  exact hs

/-- The name stands for what a point leaves. -/
theorem accG_of (n : Nat) (h : n < cfg0.N) (hn : n < 15) : (outsAt0 m c n h).2.2.2 = accG m c n hn := rfl

/-- The last point adds its part and folds the eight rows. -/
theorem sumG (e : Fin 8) (j : Fin 896) : (outsAt0 m c t0_15.val t0_15.isLt).2.2.2 (ix2 e j)
    = ∑ q : Fin 8, (∑ p : Fin 15, partG m c (pt p) q j + partG m c t0_15 q j) := by
  rw [outsAt0_C m c t0_15 (by decide) (by decide)]; frame_out
  rw [accG_of m c (t0_15.val - 1) _ (by decide)]
  refine (fold3_apply _ e j).trans (Finset.sum_congr rfl fun q _ => ?_)
  rw [← accG_eq m c (t0_15.val - 1) (by decide) (by decide)]
  exact dg_apply _ _ _ _ _ q j

/-- Which blocks a point reads. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0 :=
  (by decide +kernel : ∀ t : Fin grid0.N, _)

/-- Argument 0. -/
abbrev arg0 : Vec Ideal S4096x896 .f32 := m ((c : Thread nD τ).loc main_arg0)

/-- Argument 1. -/
abbrev arg1 : Vec Ideal S4096x1280 .f32 := m ((c : Thread nD τ).loc main_arg1)

/-- Argument 2. -/
abbrev arg2 : Vec Ideal S896x896 .f32 := m ((c : Thread nD τ).loc main_arg2)

/-- Argument 3. -/
abbrev arg3 : Vec Ideal S896 .f32 := m ((c : Thread nD τ).loc main_arg3)

/-- Argument 4. -/
abbrev arg4 : Vec Ideal S896 .f32 := m ((c : Thread nD τ).loc main_arg4)

/-- The array window 0 cuts into blocks. -/
abbrev arr0 : Vec Ideal S4096x896 .f32 := V m c main_arg0

/-- It is argument 0. -/
theorem arr0_apply (r : Fin 4096) (s : Fin 896) : arr0 m c (ix2 r s) = arg0 m c (ix2 r s) :=
  congrFun (V_main_arg0 m c) (ix2 r s)

/-- The block of window 0 a point reads. -/
theorem blk_0 (t : Fin cfg0.N) (p0 : Fin 256) (p1 : Fin 896) (q0 : Fin 4096) (h0 : q0.val = t.val * 256 + p0.val) :
    (iblk m c 0 t : Vec Ideal S256x896 .f32) (ix2 p0 p1) = arr0 m c (ix2 q0 p1) := by
  obtain ⟨e0, e1, -⟩ := idx_facts t
  unfold iblk
  rw [View.read_apply]
  refine congrArg (V m c main_arg0) ?_
  funext x
  apply Fin.ext
  match x with
  | ⟨0, _⟩ => exact (Window.rect_emb_val _ _ _ _).trans (show win0_0.index t (0 : Fin 2) * 256 + p0.val = q0.val by rw [e0, h0])
  | ⟨1, _⟩ => exact (Window.rect_emb_val _ _ _ _).trans (show win0_0.index t (1 : Fin 2) * 896 + p1.val = p1.val by rw [e1]; omega)

/-- The array window 1 cuts into blocks. -/
abbrev arr1 : Vec Ideal S4096x1280 .bf16 := V m c main_v0

/-- It is argument 1. -/
theorem arr1_apply (r : Fin 4096) (s : Fin 1280) : arr1 m c (ix2 r s) = arg1 m c (ix2 r s) := by
  have e : arr1 m c = (truncf .bf16 (arg1 m c) bitsLt_bf16_f32 : FVec Ideal S4096x1280 .bf16) := by
    show StableHlo.after _ _ _ = _
    after_results_simp
  rw [e]
  rfl

/-- The block of window 1 a point reads. -/
theorem blk_1 (t : Fin cfg0.N) (p0 : Fin 256) (p1 : Fin 1280) (q0 : Fin 4096) (h0 : q0.val = t.val * 256 + p0.val) :
    (iblk m c 1 t : Vec Ideal S256x1280 .bf16) (ix2 p0 p1) = arr1 m c (ix2 q0 p1) := by
  obtain ⟨-, -, e0, e1, -⟩ := idx_facts t
  unfold iblk
  rw [View.read_apply]
  refine congrArg (V m c main_v0) ?_
  funext x
  apply Fin.ext
  match x with
  | ⟨0, _⟩ => exact (Window.rect_emb_val _ _ _ _).trans (show win0_1.index t (0 : Fin 2) * 256 + p0.val = q0.val by rw [e0, h0])
  | ⟨1, _⟩ => exact (Window.rect_emb_val _ _ _ _).trans (show win0_1.index t (1 : Fin 2) * 1280 + p1.val = p1.val by rw [e1]; omega)

/-- The array window 2 cuts into blocks. -/
abbrev arr2 : Vec Ideal S896x896 .bf16 := V m c main_v1

/-- It is argument 2. -/
theorem arr2_apply (r : Fin 896) (s : Fin 896) : arr2 m c (ix2 r s) = arg2 m c (ix2 r s) := by
  have e : arr2 m c = (truncf .bf16 (arg2 m c) bitsLt_bf16_f32 : FVec Ideal S896x896 .bf16) := by
    show StableHlo.after _ _ _ = _
    after_results_simp
  rw [e]
  rfl

/-- The block of window 2 a point reads. -/
theorem blk_2 (t : Fin cfg0.N) (p0 : Fin 896) (p1 : Fin 896) (q0 : Fin 896) (h0 : q0.val = 0 * 896 + p0.val) :
    (iblk m c 2 t : Vec Ideal S896x896 .bf16) (ix2 p0 p1) = arr2 m c (ix2 q0 p1) := by
  obtain ⟨-, -, -, -, e0, e1, -⟩ := idx_facts t
  unfold iblk
  rw [View.read_apply]
  refine congrArg (V m c main_v1) ?_
  funext x
  apply Fin.ext
  match x with
  | ⟨0, _⟩ => exact (Window.rect_emb_val _ _ _ _).trans (show win0_2.index t (0 : Fin 2) * 896 + p0.val = q0.val by rw [e0, h0])
  | ⟨1, _⟩ => exact (Window.rect_emb_val _ _ _ _).trans (show win0_2.index t (1 : Fin 2) * 896 + p1.val = p1.val by rw [e1]; omega)

/-- The array window 3 cuts into blocks. -/
abbrev arr3 : Vec Ideal S1x896 .f32 := V m c main_v2

/-- It is argument 3 as a row. -/
theorem arr3_apply (s : Fin 896) : arr3 m c (ix2 0 s) = arg3 m c (ix1 s) := by
  have e : arr3 m c = (fun i => shapeCast S1x896 (arg3 m c) shapeCasts_S896_S1x896 i : FVec Ideal S1x896 .f32) := by
    show StableHlo.after _ _ _ = _
    after_results_simp
    rfl
  rw [e]
  pointwise

/-- The block of window 3 a point reads. -/
theorem blk_3 (t : Fin cfg0.N) (p0 : Fin 1) (p1 : Fin 896) (q0 : Fin 1) (h0 : q0.val = 0 * 1 + p0.val) :
    (iblk m c 3 t : Vec Ideal S1x896 .f32) (ix2 p0 p1) = arr3 m c (ix2 q0 p1) := by
  obtain ⟨-, -, -, -, -, -, e0, e1, -⟩ := idx_facts t
  unfold iblk
  rw [View.read_apply]
  refine congrArg (V m c main_v2) ?_
  funext x
  apply Fin.ext
  match x with
  | ⟨0, _⟩ => exact (Window.rect_emb_val _ _ _ _).trans (show win0_3.index t (0 : Fin 2) * 1 + p0.val = q0.val by rw [e0, h0])
  | ⟨1, _⟩ => exact (Window.rect_emb_val _ _ _ _).trans (show win0_3.index t (1 : Fin 2) * 896 + p1.val = p1.val by rw [e1]; omega)

/-- The array window 4 cuts into blocks. -/
abbrev arr4 : Vec Ideal S1x896 .f32 := V m c main_v3

/-- It is argument 4 as a row. -/
theorem arr4_apply (s : Fin 896) : arr4 m c (ix2 0 s) = arg4 m c (ix1 s) := by
  have e : arr4 m c = (fun i => shapeCast S1x896 (arg4 m c) shapeCasts_S896_S1x896 i : FVec Ideal S1x896 .f32) := by
    show StableHlo.after _ _ _ = _
    after_results_simp
    rfl
  rw [e]
  pointwise

/-- The block of window 4 a point reads. -/
theorem blk_4 (t : Fin cfg0.N) (p0 : Fin 1) (p1 : Fin 896) (q0 : Fin 1) (h0 : q0.val = 0 * 1 + p0.val) :
    (iblk m c 4 t : Vec Ideal S1x896 .f32) (ix2 p0 p1) = arr4 m c (ix2 q0 p1) := by
  obtain ⟨-, -, -, -, -, -, -, -, e0, e1⟩ := idx_facts t
  unfold iblk
  rw [View.read_apply]
  refine congrArg (V m c main_v3) ?_
  funext x
  apply Fin.ext
  match x with
  | ⟨0, _⟩ => exact (Window.rect_emb_val _ _ _ _).trans (show win0_4.index t (0 : Fin 2) * 1 + p0.val = q0.val by rw [e0, h0])
  | ⟨1, _⟩ => exact (Window.rect_emb_val _ _ _ _).trans (show win0_4.index t (1 : Fin 2) * 896 + p1.val = p1.val by rw [e1]; omega)

/-- A row of the array, `p` its block. -/
abbrev at_ (p : Fin cfg0.N) (a : Fin 256) : Fin 4096 := ⟨p.val * 256 + a.val, by have := lt_of_lt_of_eq p.isLt N_0; omega⟩

/-- The rows, the matrix and the vectors of the arguments. -/
abbrev yR (r : Fin 4096) (k : Fin 896) : EReal := arg0 m c (ix2 r k)
abbrev dR (r : Fin 4096) (k : Fin 896) : EReal := arg1 m c (ix2 r ⟨384 + k.val, by omega⟩)
abbrev wR (j k : Fin 896) : EReal := arg2 m c (ix2 j k)
abbrev bR (k : Fin 896) : EReal := arg3 m c (ix1 k)
abbrev gR (k : Fin 896) : EReal := arg4 m c (ix1 k)

/-- What a point reads, in the arguments. -/
theorem yr_eq (p : Fin cfg0.N) (a : Fin 256) : yr (iblk m c 0 p) a = yR m c (at_ p a) :=
  funext fun k => (blk_0 m c p a k (at_ p a) rfl).trans (arr0_apply m c _ k)

/-- The cotangent's rows likewise. -/
theorem dr_eq (p : Fin cfg0.N) (a : Fin 256) : dr (iblk m c 1 p) a = dR m c (at_ p a) :=
  funext fun k => (blk_1 m c p a _ (at_ p a) rfl).trans (arr1_apply m c _ _)

/-- The matrix likewise. -/
theorem wr_eq (p : Fin cfg0.N) : wr (iblk m c 2 p) = wR m c :=
  funext fun j => funext fun k => (blk_2 m c p j k j (by omega)).trans (arr2_apply m c j k)

/-- The offset likewise. -/
theorem br_eq (p : Fin cfg0.N) : vr (iblk m c 3 p) = bR m c :=
  funext fun k => (blk_3 m c p 0 k 0 (by omega)).trans (arr3_apply m c k)

/-- The gain likewise. -/
theorem gr_eq (p : Fin cfg0.N) : vr (iblk m c 4 p) = gR m c :=
  funext fun k => (blk_4 m c p 0 k 0 (by omega)).trans (arr4_apply m c k)

/-- The sum over the points and a block's rows is the sum over all rows. -/
theorem sum_points (f : Fin 4096 → EReal) : ∑ p : Fin cfg0.N, ∑ a : Fin 256, f (at_ p a) = ∑ r, f r :=
  (Fintype.sum_equiv (finCongr N_0) _ (fun p : Fin 16 => ∑ a : Fin 256, f ⟨p.val * 256 + a.val, by omega⟩) (fun p => rfl)).trans
    (Cert.Sums.sum_parts 16 256 f).symm

/-- So is the sum over the eight rows kept, of the points and the rows folded into each. -/
theorem sum_fold (f : Fin 4096 → EReal) :
    ∑ q : Fin 8, (∑ p : Fin 15, ∑ k : Fin 32, f (at_ (pt p) ⟨k.val * 8 + q.val, by omega⟩)
      + ∑ k : Fin 32, f (at_ t0_15 ⟨k.val * 8 + q.val, by omega⟩)) = ∑ r, f r := by
  have e : ∀ q : Fin 8, (∑ p : Fin 15, ∑ k : Fin 32, f (at_ (pt p) ⟨k.val * 8 + q.val, by omega⟩)
      + ∑ k : Fin 32, f (at_ t0_15 ⟨k.val * 8 + q.val, by omega⟩))
      = ∑ p : Fin 16, ∑ k : Fin 32, f ⟨p.val * 256 + (k.val * 8 + q.val), by omega⟩ := fun q =>
    (Fin.sum_univ_castSucc (fun p : Fin 16 => ∑ k : Fin 32, f ⟨p.val * 256 + (k.val * 8 + q.val), by omega⟩)).symm
  rw [Finset.sum_congr rfl fun q _ => e q, Finset.sum_comm]
  refine Eq.trans (Finset.sum_congr rfl fun p _ => ?_) (Cert.Sums.sum_parts 16 256 f).symm
  rw [Finset.sum_comm]
  exact (Cert.Sums.sum_parts 32 8 (fun a : Fin 256 => f ⟨p.val * 256 + a.val, by omega⟩)).symm

/-- The results. -/
abbrev out0 : Vec Ideal S896x896 .f32 := (dats m 0 c).arrAt 6 cfg0.N
abbrev out1 : Vec Ideal S8x896 .f32 := (dats m 0 c).arrAt 7 cfg0.N
abbrev out2 : Vec Ideal S8x896 .f32 := (dats m 0 c).arrAt 8 cfg0.N

/-- The matrix's gradient is what the last point leaves. -/
theorem out0_eq : out0 m c = (outsAt0 m c t0_15.val t0_15.isLt).2.1 := by
  funext i
  refine ((dats m 0 c).arrAt_emb_eq_after_last 6 t0_15 (by decide +kernel) i).trans ?_
  rw [after0_6]
  rfl

/-- The offset's gradient is what the last point leaves. -/
theorem out1_eq : out1 m c = (outsAt0 m c t0_15.val t0_15.isLt).2.2.1 := by
  funext i
  refine ((dats m 0 c).arrAt_emb_eq_after_last 7 t0_15 (by decide +kernel) i).trans ?_
  rw [after0_7]
  rfl

/-- The gain's gradient is what the last point leaves. -/
theorem out2_eq : out2 m c = (outsAt0 m c t0_15.val t0_15.isLt).2.2.2 := by
  funext i
  refine ((dats m 0 c).arrAt_emb_eq_after_last 8 t0_15 (by decide +kernel) i).trans ?_
  rw [after0_8]
  rfl

/-- The gradient before the logistic function, of a row. -/
abbrev dzR (r : Fin 4096) (s : Fin 896) : EReal := dz (yR m c r) (dR m c r) (wR m c) (bR m c) (gR m c) s

/-- The gradient of the matrix, over the arguments. -/
theorem kernel0_apply (i j : Fin 896) : out0 m c (ix2 i j) = ∑ r : Fin 4096, gelu (yR m c r i) * dzR m c r j := by
  rw [out0_eq, sumW]
  refine Eq.trans (Finset.sum_congr rfl fun p _ => Finset.sum_congr rfl fun a _ => ?_) (sum_points _)
  rw [yr_eq, dr_eq, wr_eq, br_eq, gr_eq]
  rfl

/-- The gradient of the offset, over the arguments. -/
theorem kernel1_apply (e : Fin 8) (j : Fin 896) : out1 m c (ix2 e j) = ∑ r : Fin 4096, dzR m c r j := by
  rw [out1_eq, sumB]
  have h : ∀ (p : Fin cfg0.N) (q : Fin 8), partB m c p q j = ∑ k : Fin 32, dzR m c (at_ p ⟨k.val * 8 + q.val, by omega⟩) j := fun p q =>
    Finset.sum_congr rfl fun k _ => by rw [yr_eq, dr_eq, wr_eq, br_eq, gr_eq]
  simp only [h]
  exact sum_fold fun r => dzR m c r j

/-- The cotangent times the normalised gated row. -/
abbrev dnR (r : Fin 4096) (j : Fin 896) : EReal :=
  dR m c r j * (gate (yR m c r) (wR m c) (bR m c) j * rms 0x44600000#32 (gate (yR m c r) (wR m c) (bR m c)))

/-- The gradient of the gain, over the arguments. -/
theorem kernel2_apply (e : Fin 8) (j : Fin 896) : out2 m c (ix2 e j) = ∑ r : Fin 4096, dnR m c r j := by
  rw [out2_eq, sumG]
  have h : ∀ (p : Fin cfg0.N) (q : Fin 8), partG m c p q j = ∑ k : Fin 32, dnR m c (at_ p ⟨k.val * 8 + q.val, by omega⟩) j := fun p q =>
    Finset.sum_congr rfl fun k _ => by rw [yr_eq, dr_eq, wr_eq, br_eq]
  simp only [h]
  exact sum_fold fun r => dnR m c r j

end Cert.Kernel20Ideal.Prod

namespace Cert.Reference20Ideal.Prod

open Cert.Reference20Ideal Cert.Reference20Ideal.Gen Cert.Steps
open Idealize.ShloMosaic Idealize.ShloMosaic.TcCoe Idealize.ShloMosaic.Tactic

/-- The activation. -/
def act (x0 : FVec Ideal S4096x896 .f32) : FVec Ideal S4096x896 .f32 :=
  mulf x0 (mulf (broadcastInDim S4096x896 ![] bcast_S_S4096x896 (constant S_ .f32 0x3F000000#32)) (addf (broadcastInDim S4096x896 ![] bcast_S_S4096x896 (constant S_ .f32 0x3F800000#32)) (Host.tanh (mulf (broadcastInDim S4096x896 ![] bcast_S_S4096x896 (constant S_ .f32 0x3F4C422A#32)) (addf x0 (mulf (broadcastInDim S4096x896 ![] bcast_S_S4096x896 (constant S_ .f32 0x3D372713#32)) (mulf (mulf x0 x0) x0)))))))

/-- The gate of an activation, the factor alone. -/
def fac (z : FVec Ideal S4096x896 .f32) (x2 : FVec Ideal S896x896 .f32) (x3 : FVec Ideal S896 .f32) : FVec Ideal S4096x896 .f32 :=
  Host.divf (broadcastInDim S4096x896 ![] bcast_S_S4096x896 (constant S_ .f32 0x3F800000#32)) (addf (broadcastInDim S4096x896 ![] bcast_S_S4096x896 (constant S_ .f32 0x3F800000#32)) (Host.exp (Host.negf (addf (Host.dotGeneral dot_S4096x896_S896x896_S4096x896_1_0_0_1_n_n none z x2) (broadcastInDim S4096x896 ![0, 1] bcast_S1x896_S4096x896_0_1 (broadcastInDim S1x896 ![1] bcast_S896_S1x896_1 x3))))))

/-- The gradient given, times the gain. -/
def up (x1 : FVec Ideal S4096x1280 .f32) (x4 : FVec Ideal S896 .f32) : FVec Ideal S4096x896 .f32 :=
  mulf (extractStridedSlice S4096x896 ![0, 384] x1 slices_S4096x1280_S4096x896_0_384) (broadcastInDim S4096x896 ![0, 1] bcast_S1x896_S4096x896_0_1 (broadcastInDim S1x896 ![1] bcast_S896_S1x896_1 x4))

/-- The mean of a row's squares, with a small number added. -/
def var (s : FVec Ideal S4096x896 .f32) : FVec Ideal S4096x1 .f32 :=
  addf (Host.divf (broadcastInDim S4096x1 ![0] bcast_S4096_S4096x1_0 (Host.reduceAdd (mulf s s) (constant S_ .f32 0x00000000#32) reducesTo_S4096x896_S4096_d1 h_S_)) (broadcastInDim S4096x1 ![] bcast_S_S4096x1 (constant S_ .f32 0x44600000#32))) (broadcastInDim S4096x1 ![] bcast_S_S4096x1 (constant S_ .f32 0x358637BD#32))

/-- What goes through the mean of the squares. -/
def thru (s u : FVec Ideal S4096x896 .f32) : FVec Ideal S4096x896 .f32 :=
  broadcastInDim S4096x896 ![0] bcast_S4096_S4096x896_0 (Host.reduceAdd (Host.divf (mulf (shapeCast _ (Host.reduceAdd (mulf s u) (constant S_ .f32 0x00000000#32) reducesTo_S4096x896_S4096_d1 h_S_) shapeCasts_S4096_S4096x1) (mulf (broadcastInDim S4096x1 ![] bcast_S_S4096x1 (constant S_ .f32 0xBF000000#32)) (Host.divf (Host.rsqrt (var s)) (var s)))) (broadcastInDim S4096x1 ![] bcast_S_S4096x1 (constant S_ .f32 0x44600000#32))) (constant S_ .f32 0x00000000#32) reducesTo_S4096x1_S4096_d1 h_S_)

/-- The gated row's gradient. -/
def back (s u : FVec Ideal S4096x896 .f32) : FVec Ideal S4096x896 .f32 :=
  addf (addf (mulf u (broadcastInDim S4096x896 ![0, 1] bcast_S4096x1_S4096x896_0_1 (Host.rsqrt (var s)))) (mulf s (thru s u))) (mulf (thru s u) s)

/-- The gradient before the logistic function; `z` the activation, `f` the factor, `u` the gradient of the normalised row. -/
def pre (z f u : FVec Ideal S4096x896 .f32) : FVec Ideal S4096x896 .f32 :=
  mulf (mulf z (back (mulf z f) u)) (mulf f (subf (broadcastInDim S4096x896 ![] bcast_S_S4096x896 (constant S_ .f32 0x3F800000#32)) f))

/-- The gradient of the matrix. -/
def res0 (x0 : FVec Ideal S4096x896 .f32) (x1 : FVec Ideal S4096x1280 .f32) (x2 : FVec Ideal S896x896 .f32) (x3 x4 : FVec Ideal S896 .f32) : FVec Ideal S896x896 .f32 :=
  transpose S896x896 [1, 0] (Host.dotGeneral dot_S4096x896_S4096x896_S896x896_0_0_1_1_n_n none (pre (act x0) (fac (act x0) x2 x3) (up x1 x4)) (act x0)) transposes_S896x896_S896x896_1_0

/-- The gradient of the offset, in each of eight rows. -/
def res1 (x0 : FVec Ideal S4096x896 .f32) (x1 : FVec Ideal S4096x1280 .f32) (x2 : FVec Ideal S896x896 .f32) (x3 x4 : FVec Ideal S896 .f32) : FVec Ideal S8x896 .f32 :=
  broadcastInDim S8x896 ![1] bcast_S896_S8x896_1 (Host.reduceAdd (shapeCast _ (Host.reduceAdd (pre (act x0) (fac (act x0) x2 x3) (up x1 x4)) (constant S_ .f32 0x00000000#32) reducesTo_S4096x896_S896_d0 h_S_) shapeCasts_S896_S1x896) (constant S_ .f32 0x00000000#32) reducesTo_S1x896_S896_d0 h_S_)

/-- The gradient of the gain, in each of eight rows. -/
def res2 (x0 : FVec Ideal S4096x896 .f32) (x1 : FVec Ideal S4096x1280 .f32) (x2 : FVec Ideal S896x896 .f32) (x3 : FVec Ideal S896 .f32) : FVec Ideal S8x896 .f32 :=
  broadcastInDim S8x896 ![1] bcast_S896_S8x896_1 (Host.reduceAdd (shapeCast _ (Host.reduceAdd (mulf (mulf (mulf (act x0) (fac (act x0) x2 x3)) (broadcastInDim S4096x896 ![0, 1] bcast_S4096x1_S4096x896_0_1 (Host.rsqrt (var (mulf (act x0) (fac (act x0) x2 x3)))))) (extractStridedSlice S4096x896 ![0, 384] x1 slices_S4096x1280_S4096x896_0_384)) (constant S_ .f32 0x00000000#32) reducesTo_S4096x896_S896_d0 h_S_) shapeCasts_S896_S1x896) (constant S_ .f32 0x00000000#32) reducesTo_S1x896_S896_d0 h_S_)

/-- The activation at an index. -/
theorem act_apply (x0 : FVec Ideal S4096x896 .f32) (r : Fin 4096) (k : Fin 896) : act x0 (ix2 r k) = gelu (x0 (ix2 r k)) := by
  simp only [gelu]
  pointwise [act]

/-- The factor at an index. -/
theorem fac_apply (z : FVec Ideal S4096x896 .f32) (x2 : FVec Ideal S896x896 .f32) (x3 : FVec Ideal S896 .f32) (r : Fin 4096) (k : Fin 896) :
    fac z x2 x3 (ix2 r k) = sigmoid (∑ j : Fin 896, z (ix2 r j) * x2 (ix2 j k) + x3 (ix1 k)) := by
  simp only [sigmoid]
  pointwise [fac]

/-- The gradient of the normalised row at an index. -/
theorem up_apply (x1 : FVec Ideal S4096x1280 .f32) (x4 : FVec Ideal S896 .f32) (r : Fin 4096) (k : Fin 896) :
    up x1 x4 (ix2 r k) = x1 (ix2 r ⟨384 + k.val, by omega⟩) * x4 (ix1 k) := by
  pointwise [up]

/-- The inverse root mean square of a row. -/
theorem inv_apply (s : FVec Ideal S4096x896 .f32) (r : Fin 4096) (z : Fin 1) :
    Host.rsqrt (var s) (ix2 r z) = rms 0x44600000#32 (fun k : Fin 896 => s (ix2 r k)) := by
  simp only [rms]
  pointwise [var]

/-- What goes through the mean of the squares, at an index. -/
theorem thru_apply (s u : FVec Ideal S4096x896 .f32) (r : Fin 4096) (k : Fin 896) :
    thru s u (ix2 r k) = rmsThrough 0x44600000#32 (fun k : Fin 896 => u (ix2 r k)) (fun k : Fin 896 => s (ix2 r k)) := by
  simp only [rms, rmsThrough]
  pointwise [thru, var]
  exact Fin.sum_univ_one _

/-- The gated row's gradient is the chain rule's. -/
theorem back_apply (s u : FVec Ideal S4096x896 .f32) (r : Fin 4096) (k : Fin 896) :
    back s u (ix2 r k) = rmsVjp 0x44600000#32 (fun k : Fin 896 => u (ix2 r k)) (fun k : Fin 896 => s (ix2 r k)) k := by
  have h := thru_apply s u r k
  have h' := inv_apply s r 0
  simp only [rmsVjp]
  rw [← h, ← h']
  unfold back
  generalize thru s u = z
  generalize Host.rsqrt (var s) = v
  pointwise
  rw [add_assoc (_ * _)]

/-- The gradient before the logistic function at an index. -/
theorem pre_apply (z f u : FVec Ideal S4096x896 .f32) (r : Fin 4096) (k : Fin 896) :
    pre z f u (ix2 r k) = z (ix2 r k) * rmsVjp 0x44600000#32 (fun k : Fin 896 => u (ix2 r k)) (fun k : Fin 896 => z (ix2 r k) * f (ix2 r k)) k
      * (f (ix2 r k) * (1 - f (ix2 r k))) := by
  have h : ∀ b : FVec Ideal S4096x896 .f32, mulf (mulf z b) (mulf f (subf (broadcastInDim S4096x896 ![] bcast_S_S4096x896 (constant S_ .f32 0x3F800000#32)) f)) (ix2 r k)
      = z (ix2 r k) * b (ix2 r k) * (f (ix2 r k) * (1 - f (ix2 r k))) := fun b => by pointwise
  unfold pre
  rw [h, back_apply]
  rfl

section Rows

variable (x0 : FVec Ideal S4096x896 .f32) (x1 : FVec Ideal S4096x1280 .f32) (x2 : FVec Ideal S896x896 .f32) (x3 x4 : FVec Ideal S896 .f32)

/-- The rows, the matrix and the vectors of the arguments. -/
abbrev yR (r : Fin 4096) (k : Fin 896) : EReal := x0 (ix2 r k)
abbrev dR (r : Fin 4096) (k : Fin 896) : EReal := x1 (ix2 r ⟨384 + k.val, by omega⟩)
abbrev wR (j k : Fin 896) : EReal := x2 (ix2 j k)
abbrev bR (k : Fin 896) : EReal := x3 (ix1 k)

/-- The factor of a row of the arguments. -/
theorem facR (r : Fin 4096) (k : Fin 896) : fac (act x0) x2 x3 (ix2 r k) = factor (yR x0 r) (wR x2) (bR x3) k := by
  rw [fac_apply]
  simp only [act_apply]
  rfl

/-- The gated row of the arguments. -/
theorem gateR (r : Fin 4096) : (fun k : Fin 896 => act x0 (ix2 r k) * fac (act x0) x2 x3 (ix2 r k)) = gate (yR x0 r) (wR x2) (bR x3) :=
  funext fun k => by rw [facR, act_apply]; rfl

/-- The gradient before the logistic function, of a row. -/
abbrev dzR (r : Fin 4096) (s : Fin 896) : EReal :=
  gateBwd (rmsVjp 0x44600000#32 (fun k => dR x1 r k * bR x4 k) (gate (yR x0 r) (wR x2) (bR x3))) (yR x0 r) (wR x2) (bR x3) s

/-- The gradient before the logistic function, of the arguments. -/
theorem preR (r : Fin 4096) (k : Fin 896) : pre (act x0) (fac (act x0) x2 x3) (up x1 x4) (ix2 r k) = dzR x0 x1 x2 x3 x4 r k := by
  rw [pre_apply, gateR, funext fun k => up_apply x1 x4 r k, facR, act_apply, mul_comm (gelu _)]
  rfl

/-- The gradient of the matrix at an index. -/
theorem ref0_apply (i j : Fin 896) : res0 x0 x1 x2 x3 x4 (ix2 i j) = ∑ r : Fin 4096, gelu (yR x0 r i) * dzR x0 x1 x2 x3 x4 r j := by
  have h : ∀ d z : FVec Ideal S4096x896 .f32, transpose S896x896 [1, 0] (Host.dotGeneral dot_S4096x896_S4096x896_S896x896_0_0_1_1_n_n none d z) transposes_S896x896_S896x896_1_0 (ix2 i j)
      = ∑ r : Fin 4096, d (ix2 r j) * z (ix2 r i) := fun d z => by pointwise
  unfold res0
  rw [h]
  exact Finset.sum_congr rfl fun r _ => by rw [preR, act_apply, mul_comm]

/-- A sum over the rows, in each of eight rows. -/
theorem rows_apply (d : FVec Ideal S4096x896 .f32) (e : Fin 8) (j : Fin 896) :
    (broadcastInDim S8x896 ![1] bcast_S896_S8x896_1 (Host.reduceAdd (shapeCast _ (Host.reduceAdd (d) (constant S_ .f32 0x00000000#32) reducesTo_S4096x896_S896_d0 h_S_) shapeCasts_S896_S1x896) (constant S_ .f32 0x00000000#32) reducesTo_S1x896_S896_d0 h_S_) : FVec Ideal S8x896 .f32) (ix2 e j) = ∑ r : Fin 4096, d (ix2 r j) := by
  pointwise
  exact Fin.sum_univ_one _

/-- The gradient of the offset at an index. -/
theorem ref1_apply (e : Fin 8) (j : Fin 896) : res1 x0 x1 x2 x3 x4 (ix2 e j) = ∑ r : Fin 4096, dzR x0 x1 x2 x3 x4 r j := by
  unfold res1
  rw [rows_apply]
  exact Finset.sum_congr rfl fun r _ => preR x0 x1 x2 x3 x4 r j

/-- The gradient of the gain at an index. -/
theorem ref2_apply (e : Fin 8) (j : Fin 896) : res2 x0 x1 x2 x3 (ix2 e j) = ∑ r : Fin 4096, dR x1 r j *
    (gate (yR x0 r) (wR x2) (bR x3) j * rms 0x44600000#32 (gate (yR x0 r) (wR x2) (bR x3))) := by
  unfold res2
  rw [rows_apply]
  refine Finset.sum_congr rfl fun r _ => ?_
  have h := inv_apply (mulf (act x0) (fac (act x0) x2 x3)) r 0
  have hs : (fun k : Fin 896 => mulf (act x0) (fac (act x0) x2 x3) (ix2 r k)) = gate (yR x0 r) (wR x2) (bR x3) := gateR x0 x2 x3 r
  rw [hs] at h
  rw [← h, ← congrFun hs j, mul_comm]
  generalize mulf (act x0) (fac (act x0) x2 x3) = s
  generalize Host.rsqrt (var s) = v
  pointwise

end Rows

end Cert.Reference20Ideal.Prod

namespace Cert.Pre_finite20.Prod

open Cert.Pre_finite20 Cert.Pre_finite20.Gen
open Idealize.ShloMosaic Idealize.ShloMosaic.TcCoe Idealize.ShloMosaic.Tactic

/-- Where the precondition holds, each number of the arguments it names is a real. -/
theorem all_real (x0 : FVec Ideal S4096x896 .f32) (x1 : FVec Ideal S4096x1280 .f32) (x2 : FVec Ideal S896x896 .f32) (x3 x4 : FVec Ideal S896 .f32) (h : fn (F := Ideal) x0 x1 x2 x3 x4 = fun _ => 1#1) (r : Fin 4096) (k : Fin 896) :
    ((x0 (ix2 r k)).toReal : EReal) = x0 (ix2 r k) ∧ ((x1 (ix2 r ⟨384 + k.val, by omega⟩)).toReal : EReal) = x1 (ix2 r ⟨384 + k.val, by omega⟩)
      ∧ ((x4 (ix1 k)).toReal : EReal) = x4 (ix1 k) := by
  have h0 := congrFun h (ix2 r k)
  revert h0
  pointwise [fn]
  intro h0
  obtain ⟨h0, h4⟩ := Cert.Pre_finite.Attn.bit_and _ _ h0
  obtain ⟨h1, h2⟩ := Cert.Pre_finite.Attn.bit_and _ _ h0
  exact ⟨Cert.Pre_finite.Attn.real_of _ h1, Cert.Pre_finite.Attn.real_of _ h2, Cert.Pre_finite.Attn.real_of _ h4⟩

end Cert.Pre_finite20.Prod

namespace Cert.Steps

open Idealize.ShloMosaic

/-- The word of 896. -/
theorem word896 : Ideal.ofBits .f32 0x44600000#32 = ((896 : ℝ) : EReal) := by
  simp [Ideal.ofBits, Ideal.ieee]
  rw [← EReal.coe_mul]
  norm_num

/-- The activation of a real is a real. -/
theorem gelu_real (y : ℝ) : ∃ z : ℝ, gelu (y : EReal) = (z : EReal) := by
  have h : ∃ e : ℝ, Ideal.ofBits .f32 0x3F000000#32 = (e : EReal) := ⟨_, by simp [Ideal.ofBits, Ideal.ieee]; rfl⟩
  have h1 : ∃ e : ℝ, Ideal.ofBits .f32 0x3F4C422A#32 = (e : EReal) := ⟨_, by simp [Ideal.ofBits, Ideal.ieee]; rfl⟩
  have h2 : ∃ e : ℝ, Ideal.ofBits .f32 0x3D372713#32 = (e : EReal) := ⟨_, by simp [Ideal.ofBits, Ideal.ieee]; rfl⟩
  obtain ⟨a, ha⟩ := h
  obtain ⟨b, hb⟩ := h1
  obtain ⟨d, hd⟩ := h2
  have ht : ∀ t : ℝ, Ideal.tanh (t : EReal) = ((Real.tanh t : ℝ) : EReal) := fun _ => rfl
  unfold gelu
  rw [ha, hb, hd, ← EReal.coe_one]
  simp only [← EReal.coe_mul, ← EReal.coe_add, ht]
  exact ⟨_, rfl⟩

/-- The logistic function's value is a real, at the infinities too. -/
theorem sigmoid_real (z : EReal) : ∃ x : ℝ, sigmoid z = (x : EReal) := by
  unfold sigmoid
  induction z using EReal.rec with
  | bot =>
    refine ⟨0, ?_⟩
    show Ideal.div 1 (1 + (⊤ : EReal)) = _
    rw [show (1 : EReal) + ⊤ = ⊤ from EReal.add_top_of_ne_bot (EReal.coe_ne_bot 1)]
    simp [Ideal.div]
  | top =>
    refine ⟨1, ?_⟩
    show Ideal.div 1 (1 + (0 : EReal)) = _
    simp [Ideal.div]
  | coe r =>
    refine ⟨1 / (1 + Real.exp (-r)), ?_⟩
    have h : Ideal.exp (-(r : EReal)) = ((Real.exp (-r) : ℝ) : EReal) := rfl
    rw [h, ← EReal.coe_one, ← EReal.coe_add, div_real _ _ (by positivity)]

/-- A real row gated is a real row, whatever the gate's matrix and offset. -/
theorem gate_real {n : Nat} (y : Fin n → ℝ) (w : Fin n → Fin n → EReal) (b : Fin n → EReal) :
    ∃ x : Fin n → ℝ, gate (fun k => (y k : EReal)) w b = fun k => (x k : EReal) := by
  have h : ∀ k, ∃ x : ℝ, gate (fun k => (y k : EReal)) w b k = (x : EReal) := fun k => by
    obtain ⟨p, hp⟩ := gelu_real (y k)
    obtain ⟨q, hq⟩ := sigmoid_real (∑ j, gelu (y j : EReal) * w j k + b k)
    exact ⟨p * q, by unfold gate; rw [hp, hq, EReal.coe_mul]⟩
  choose x hx using h
  exact ⟨x, funext hx⟩

end Cert.Steps

namespace Cert.Kernel20Ideal.Prod

open Cert.Kernel20Ideal Cert.Kernel20Ideal.Gen Cert.Steps
open Idealize.ShloMosaic Idealize.ShloMosaic.TcCoe Idealize.SL.Sem

section Same

variable (m : (ℓ : Loc nD τ sig) → Buf (Elt Ideal) ℓ) (c : Dev nD)

/-- The gradient before the logistic function is the reference's where the precondition holds. -/
theorem dz_same (hp : Cert.Pre_finite20.fn (F := Ideal) (arg0 m c) (arg1 m c) (arg2 m c) (arg3 m c) (arg4 m c) = fun _ => 1#1) (r : Fin 4096) (s : Fin 896) :
    dzR m c r s = Cert.Reference20Ideal.Prod.dzR (arg0 m c) (arg1 m c) (arg2 m c) (arg3 m c) (arg4 m c) r s := by
  have h := Cert.Pre_finite20.Prod.all_real _ _ _ _ _ hp r
  have eu : (fun k => dR m c r k * gR m c k) = fun k => (((dR m c r k).toReal * (gR m c k).toReal : ℝ) : EReal) := funext fun k => by
    obtain ⟨-, h1, h4⟩ := h k
    rw [EReal.coe_mul, h1, h4]
  have ey : yR m c r = fun k => (((yR m c r k).toReal : ℝ) : EReal) := funext fun k => (h k).1.symm
  obtain ⟨x, hx⟩ := gate_real (fun k => (yR m c r k).toReal) (wR m c) (bR m c)
  rw [← ey] at hx
  have e : ∀ k, rmsBwd 0x44600000#32 (fun k => dR m c r k * gR m c k) (gate (yR m c r) (wR m c) (bR m c)) k
      = rmsVjp 0x44600000#32 (fun k => dR m c r k * gR m c k) (gate (yR m c r) (wR m c) (bR m c)) k := fun k => by
    rw [eu, hx]
    exact rmsBwd_eq_vjp 0x44600000#32 896 (by norm_num) word896 _ x k
  exact congrArg (fun f => gateBwd f (yR m c r) (wR m c) (bR m c) s) (funext e)

/-- The reference's gradient of the matrix is the kernel's where the precondition holds. -/
theorem same0
    (hp : Cert.Pre_finite20.fn (F := Ideal) (arg0 m c) (arg1 m c) (arg2 m c) (arg3 m c) (arg4 m c) = fun _ => 1#1) :
    Cert.Reference20Ideal.Prod.res0 (arg0 m c) (arg1 m c) (arg2 m c) (arg3 m c) (arg4 m c) = out0 m c := by
  funext i
  obtain ⟨r, s, rfl⟩ : ∃ (r : Fin 896) (s : Fin 896), i = ix2 r s := ⟨i 0, i 1, eq_ix2 i⟩
  refine (Cert.Reference20Ideal.Prod.ref0_apply (arg0 m c) (arg1 m c) (arg2 m c) (arg3 m c) (arg4 m c) r s).trans ((kernel0_apply m c r s).trans ?_).symm
  exact Finset.sum_congr rfl fun r _ => by rw [dz_same m c hp]

/-- The reference's gradient of the offset is the kernel's where the precondition holds. -/
theorem same1
    (hp : Cert.Pre_finite20.fn (F := Ideal) (arg0 m c) (arg1 m c) (arg2 m c) (arg3 m c) (arg4 m c) = fun _ => 1#1) :
    Cert.Reference20Ideal.Prod.res1 (arg0 m c) (arg1 m c) (arg2 m c) (arg3 m c) (arg4 m c) = out1 m c := by
  funext i
  obtain ⟨r, s, rfl⟩ : ∃ (r : Fin 8) (s : Fin 896), i = ix2 r s := ⟨i 0, i 1, eq_ix2 i⟩
  refine (Cert.Reference20Ideal.Prod.ref1_apply (arg0 m c) (arg1 m c) (arg2 m c) (arg3 m c) (arg4 m c) r s).trans ((kernel1_apply m c r s).trans ?_).symm
  exact Finset.sum_congr rfl fun r _ => dz_same m c hp r s

/-- The reference's gradient of the gain is the kernel's. -/
theorem same2 :
    Cert.Reference20Ideal.Prod.res2 (arg0 m c) (arg1 m c) (arg2 m c) (arg3 m c) = out2 m c := by
  funext i
  obtain ⟨r, s, rfl⟩ : ∃ (r : Fin 8) (s : Fin 896), i = ix2 r s := ⟨i 0, i 1, eq_ix2 i⟩
  refine (Cert.Reference20Ideal.Prod.ref2_apply (arg0 m c) (arg1 m c) (arg2 m c) (arg3 m c) r s).trans ((kernel2_apply m c r s).trans ?_).symm
  rfl

end Same

/-- Over the reals the kernel computes what the reference does, where the precondition holds. -/
theorem algebraic : Cert.algebraic_Kernel20Ideal_Reference20Ideal_pre_finite20 := by
  intro m g m' g' hp heq
  refine ⟨fun c => (dats m 0 c).arrAt 6 cfg0.N, fun c => (dats m 0 c).arrAt 7 cfg0.N, fun c => (dats m 0 c).arrAt 8 cfg0.N, (θ_run defs _ _).mono (fun r h c => (h c).2) (Value.run_blocks (F := Ideal) m g), ?_⟩
  refine (θ_run Cert.Reference20Ideal.defs _ _).mono (fun r h c => ⟨(h c).1.trans ?_, (h c).2.1.trans ?_, (h c).2.2.1.trans ?_, (h c).2.2.2⟩) (Cert.Reference20Ideal.Value.run (F := Ideal) m' g')
  · obtain ⟨e0, e1, e2, e3, e4⟩ := heq c
    refine Eq.trans ?_ (same0 m c (hp c))
    show Cert.Reference20Ideal.Prod.res0 _ _ _ _ _ = _
    rw [e0, e1, e2, e3, e4]
  · obtain ⟨e0, e1, e2, e3, e4⟩ := heq c
    refine Eq.trans ?_ (same1 m c (hp c))
    show Cert.Reference20Ideal.Prod.res1 _ _ _ _ _ = _
    rw [e0, e1, e2, e3, e4]
  · obtain ⟨e0, e1, e2, e3, e4⟩ := heq c
    refine Eq.trans ?_ (same2 m c)
    show Cert.Reference20Ideal.Prod.res2 _ _ _ _ = _
    rw [e0, e1, e2, e3]

end Cert.Kernel20Ideal.Prod

end
-- ==== Proof.FwdBody.lean ====
/- The forward attention call's body: what one grid point computes, head by head, and the body's triple.

   A block holds 128 tokens of one residue class by 384 = 6·64 columns, six heads side by side. The body reads the
   query block and, for keys and for values, the previous block and the current one, and leaves the block's output
   and its log-sum-exp (each row's value repeated along its head's 64 columns). -/
module

public import proofs.«01_k».proof.Proof.Gen.KernelIdeal.Skeleton
public import proofs.«01_k».proof.Proof.Gen.KernelIdeal.Points
public import Idealize.ShloMosaic.Lib.Exec
public import Idealize.ShloMosaic.Lib.VecWindow
public import Idealize.ShloMosaic.Lib.Pipeline.FrameBody
public import Idealize.ShloMosaic.Lib.Tactic

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A head's 64 columns lie inside a block's 384. -/
theorem col_inb (h : Fin 6) : ∀ a, (![0, 64 * h.val] : Fin 2 → ℕ) a + S128x64.size a ≤ S128x384.size a := by
  intro a
  have := h.isLt
  fin_cases a
  · show 0 + 128 ≤ 128; omega
  · show 64 * h.val + 64 ≤ 384; omega

/-- Head `h`'s 64 columns of a block. -/
def col {e : EltTy} (x : Vec F S128x384 e) (h : Fin 6) : Vec F S128x64 e :=
  VecWindow.window x ![0, 64 * h.val] S128x64.size (col_inb h)

/-- Head `h`'s 256 rows of keys (or values): the previous block's over the current one's. -/
def pair (x y : Vec F S128x384 .bf16) (h : Fin 6) : FVec F S256x64 .bf16 := k0_pay3 (col x h) (col y h)

/-- Six heads' 64 columns, side by side. -/
def join6 (f : Fin 6 → FVec F S128x64 .f32) : FVec F S128x384 .f32 :=
  concatenate S128x384 1 [⟨S128x64, f 0⟩, ⟨S128x64, f 1⟩, ⟨S128x64, f 2⟩, ⟨S128x64, f 3⟩, ⟨S128x64, f 4⟩, ⟨S128x64, f 5⟩]
    concatenates_S128x64_S128x64_S128x64_S128x64_S128x64_S128x64_S128x384_d1

/-- Head `h`'s row maxima of the masked scores at grid point `i`. -/
def fwdMax (i : grid0.Coords) (q kp kc : Vec F S128x384 .bf16) (h : Fin 6) : FVec F S128x1 .f32 :=
  k0_pay23 (k0_pay2 i) (pair kp kc h) (col q h)

/-- Head `h`'s exponentials of the masked scores less their row's maximum. -/
def fwdExp (i : grid0.Coords) (q kp kc : Vec F S128x384 .bf16) (h : Fin 6) : FVec F S128x256 .f32 :=
  k0_pay24 (k0_pay2 i) (pair kp kc h) (col q h)

/-- Head `h`'s attention output. -/
def fwdHead (i : grid0.Coords) (q kp kc vp vc : Vec F S128x384 .bf16) (h : Fin 6) : FVec F S128x64 .f32 :=
  divf (matmul dot_S128x256_S256x64_S128x64_1_0_0_1_n_n none (k0_pay26 (fwdExp i q kp kc h)) (pair vp vc h)
      (constant S128x64 .f32 0x00000000#32))
    (broadcastTo S128x64 (k0_pay25 (fwdExp i q kp kc h)) broadcasts_S128x1_S128x64)

/-- Head `h`'s log-sum-exp, repeated along its columns. -/
def fwdLse (i : grid0.Coords) (q kp kc : Vec F S128x384 .bf16) (h : Fin 6) : FVec F S128x64 .f32 :=
  k0_pay27 (fwdMax i q kp kc h) (fwdExp i q kp kc h)

/-- The output block. -/
def fwdO (i : grid0.Coords) (q kp kc vp vc : Vec F S128x384 .bf16) : FVec F S128x384 .f32 :=
  join6 (fwdHead i q kp kc vp vc)

/-- The log-sum-exp block. -/
def fwdL (i : grid0.Coords) (q kp kc : Vec F S128x384 .bf16) : FVec F S128x384 .f32 :=
  join6 (fwdLse i q kp kc)

set_option maxHeartbeats 4000000 in
/-- The body on whole staging buffers, the inputs' at `q kp kc vp vc` and the outputs' at anything: it leaves the
    inputs' as they were and the outputs' at `fwdO` and `fwdL` of them. -/
theorem fwd_body (c : Dev nD) (E : Set ℕ) (i : grid0.Coords)
    (arg1 : Memref sig .tc .vmem S128x384 .bf16) (harg1 : arg1.IsWhole) (arg2 : Memref sig .tc .vmem S128x384 .bf16) (harg2 : arg2.IsWhole)
    (arg3 : Memref sig .tc .vmem S128x384 .bf16) (harg3 : arg3.IsWhole) (arg4 : Memref sig .tc .vmem S128x384 .bf16) (harg4 : arg4.IsWhole)
    (arg5 : Memref sig .tc .vmem S128x384 .bf16) (harg5 : arg5.IsWhole) (arg6 : Memref sig .tc .vmem S128x384 .f32) (harg6 : arg6.IsWhole)
    (arg7 : Memref sig .tc .vmem S128x384 .f32) (harg7 : arg7.IsWhole)
    (q kp kc vp vc : Vec F S128x384 .bf16) (K : PUnit → sProp 𝕄) :
    iprop(owns c arg1 fullShare q ∗ owns c arg2 fullShare kp ∗ owns c arg3 fullShare kc ∗ owns c arg4 fullShare vp
        ∗ owns c arg5 fullShare vc ∗ (∃ d, owns c arg6 fullShare d) ∗ (∃ d, owns c arg7 fullShare d)
        ∗ (iprop(owns c arg1 fullShare q ∗ owns c arg2 fullShare kp ∗ owns c arg3 fullShare kc ∗ owns c arg4 fullShare vp
            ∗ owns c arg5 fullShare vc ∗ owns c arg6 fullShare (fwdO i q kp kc vp vc) ∗ owns c arg7 fullShare (fwdL i q kp kc)) -∗ K ⟨⟩))
      ⊢ wp frame (wpE (defs₀ (F := F)) Variants.none c none) E
          (cc0_attn_fwd_d4 i arg1 harg1 arg2 harg2 arg3 harg3 arg4 harg4 arg5 harg5 arg6 harg6 arg7 harg7) K := by
  simp only [cc0_attn_fwd_d4_eq_skeleton]; unfold cc0_attn_fwd_d4_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists _
    isplitr
    swap
    · iexact H5
    ipureintro
    exact (View.read_writes_full _ _ _ _ _).trans rfl
  · iexists _
    isplitr
    swap
    · iexact H6
    ipureintro
    exact (View.read_writes_full _ _ _ _ _).trans rfl

end Cert.KernelIdeal.Attn
-- ==== Proof.BwdBody.lean ====
/- The backward attention call's body: what one grid point computes, head by head, and the body's triple.

   The body reads the point's query, key and value blocks, the forward call's output and log-sum-exp and their two
   cotangents; it leaves the block of the query's gradient, and adds the block's 256 rows of the key's and of the value's
   gradient into two arrays held through the whole grid: the first 128 rows where the previous block's keys lie, the last
   128 where its own lie. The first point sets both arrays to zero before it adds. -/
module

public import proofs.«01_k».proof.Proof.FwdBody

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first of a head's columns lies inside a block. -/
theorem lead_inb (h : Fin 6) : ∀ a, (![0, 64 * h.val] : Fin 2 → ℕ) a + S128x1.size a ≤ S128x384.size a := by
  intro a
  have := h.isLt
  fin_cases a
  · show 0 + 128 ≤ 128; omega
  · show 64 * h.val + 1 ≤ 384; omega

/-- The first of head `h`'s columns of a block. -/
def lead (x : Vec F S128x384 .f32) (h : Fin 6) : Vec F S128x1 .f32 :=
  VecWindow.window x ![0, 64 * h.val] S128x1.size (lead_inb h)

/-- Head `h`'s attention weights, from the scores and the saved log-sum-exp. -/
def bwdP (i : grid1.Coords) (q kp kc : Vec F S128x384 .bf16) (l : Vec F S128x384 .f32) (h : Fin 6) : FVec F S128x256 .f32 :=
  k1_pay46 (k1_pay4 i) (k1_pay5 (col q h)) (k1_pay11 (col kp h) (col kc h)) (lead l h)

/-- Head `h`'s gradient of the scores. -/
def bwdS (i : grid1.Coords) (q kp kc vp vc : Vec F S128x384 .bf16) (o l g gl : Vec F S128x384 .f32) (h : Fin 6) :
    FVec F S128x256 .bf16 :=
  k1_pay48 (k1_pay23 (col g h)) (k1_pay40 (k1_pay11 (col vp h) (col vc h)) (k1_pay23 (col g h)))
    (bwdP i q kp kc l h) (col o h) (lead gl h)

/-- Head `h`'s gradient of the queries, before its scale. -/
def bwdQ (i : grid1.Coords) (q kp kc vp vc : Vec F S128x384 .bf16) (o l g gl : Vec F S128x384 .f32) (h : Fin 6) :
    FVec F S128x64 .f32 :=
  k1_pay66 (k1_pay11 (col kp h) (col kc h)) (bwdS i q kp kc vp vc o l g gl h)

/-- Head `h`'s gradient of its 256 keys. -/
def bwdK (i : grid1.Coords) (q kp kc vp vc : Vec F S128x384 .bf16) (o l g gl : Vec F S128x384 .f32) (h : Fin 6) :
    FVec F S256x64 .f32 :=
  k1_pay72 (k1_pay5 (col q h)) (bwdS i q kp kc vp vc o l g gl h)

/-- Head `h`'s gradient of its 256 values. -/
def bwdV (i : grid1.Coords) (q kp kc : Vec F S128x384 .bf16) (l g : Vec F S128x384 .f32) (h : Fin 6) : FVec F S256x64 .f32 :=
  matmul dot_S128x256_S128x64_S256x64_0_0_1_1_n_n none (k1_pay47 (bwdP i q kp kc l h)) (k1_pay29 (k1_pay23 (col g h)))
    (constant S256x64 .f32 0x00000000#32)

/-- Six heads' 64 columns of 256 rows, side by side. -/
def tall6 (f : Fin 6 → FVec F S256x64 .f32) : FVec F S256x384 .f32 :=
  concatenate S256x384 1 [⟨S256x64, f 0⟩, ⟨S256x64, f 1⟩, ⟨S256x64, f 2⟩, ⟨S256x64, f 3⟩, ⟨S256x64, f 4⟩, ⟨S256x64, f 5⟩]
    concatenates_S256x64_S256x64_S256x64_S256x64_S256x64_S256x64_S256x384_d1

/-- Six blocks that are the six heads', side by side. -/
theorem tall6_of (f : Fin 6 → FVec F S256x64 .f32) {a0 a1 a2 a3 a4 a5 : FVec F S256x64 .f32} (h0 : a0 = f 0) (h1 : a1 = f 1)
    (h2 : a2 = f 2) (h3 : a3 = f 3) (h4 : a4 = f 4) (h5 : a5 = f 5) :
    concatenate S256x384 1 [⟨S256x64, a0⟩, ⟨S256x64, a1⟩, ⟨S256x64, a2⟩, ⟨S256x64, a3⟩, ⟨S256x64, a4⟩, ⟨S256x64, a5⟩]
      concatenates_S256x64_S256x64_S256x64_S256x64_S256x64_S256x64_S256x384_d1 = tall6 f := by
  subst h0 h1 h2 h3 h4 h5; rfl

/-- The block of the queries' gradient. -/
def dqBlk (i : grid1.Coords) (q kp kc vp vc : Vec F S128x384 .bf16) (o l g gl : Vec F S128x384 .f32) : FVec F S128x384 .f32 :=
  mulf (join6 (bwdQ i q kp kc vp vc o l g gl)) (broadcast S128x384 (Scalar.ofBits .f32 0x3E000000#32))

/-- The block's 256 rows of the keys' gradient. -/
def dkBlk (i : grid1.Coords) (q kp kc vp vc : Vec F S128x384 .bf16) (o l g gl : Vec F S128x384 .f32) : FVec F S256x384 .f32 :=
  tall6 (bwdK i q kp kc vp vc o l g gl)

/-- The block's 256 rows of the values' gradient. -/
def dvBlk (i : grid1.Coords) (q kp kc : Vec F S128x384 .bf16) (l g : Vec F S128x384 .f32) : FVec F S256x384 .f32 :=
  tall6 (bwdV i q kp kc l g)

/-- The first 128 rows of `d` added to `w`. -/
def addUp (d : FVec F S256x384 .f32) (w : Vec F S128x384 .f32) : FVec F S128x384 .f32 :=
  addf (shapeCast S128x384 w shapeCasts_S128x384_S128x384) (extractStridedSlice S128x384 ![0, 0] d slices_S256x384_o0_0_S128x384)

/-- The last 128 rows of `d` added to `w`. -/
def addLo (d : FVec F S256x384 .f32) (w : Vec F S128x384 .f32) : FVec F S128x384 .f32 :=
  addf (shapeCast S128x384 w shapeCasts_S128x384_S128x384) (extractStridedSlice S128x384 ![128, 0] d slices_S256x384_o128_0_S128x384)

/-- The array after the first of the two additions. -/
def accUp (i : grid1.Coords) (d : FVec F S256x384 .f32) (x : Vec F S4096x384 .f32) : Vec F S4096x384 .f32 :=
  VecWindow.put x (k1_off1 i) S128x384.size (addUp d (VecWindow.window x (k1_off1 i) S128x384.size (k1_off1_inb i)))

/-- The array after both additions. -/
def acc (i : grid1.Coords) (d : FVec F S256x384 .f32) (x : Vec F S4096x384 .f32) : Vec F S4096x384 .f32 :=
  VecWindow.put (accUp i d x) (k1_off2 i) S128x384.size
    (addLo d (VecWindow.window (accUp i d x) (k1_off2 i) S128x384.size (k1_off2_inb i)))

/-- The body's test that the point is the grid's first. -/
abbrev isFirst (i : grid1.Coords) : Prop :=
  Scalar.cmpi .ne (Scalar.extui (Scalar.cmpi .eq (BitVec.ofNat 32 (i 0).val) 0#32) : BitVec 32) 0#32 = 1#1

/-- The keys' gradient the point starts from. -/
def startK (i : grid1.Coords) (x : Vec F S4096x384 .f32) : Vec F S4096x384 .f32 := if isFirst i then k1_pay2 else x

/-- The values' gradient the point starts from. -/
def startV (i : grid1.Coords) (x : Vec F S4096x384 .f32) : Vec F S4096x384 .f32 := if isFirst i then k1_pay3 else x

/-- The row at which the point's first addition starts. -/
def row1 (i : grid1.Coords) : ℕ := k1_off1 i 0

/-- The row at which the point's second addition starts. -/
def row2 (i : grid1.Coords) : ℕ := k1_off2 i 0

theorem off1_eq (i : grid1.Coords) : k1_off1 i = ![row1 i, 0] := by
  funext a; fin_cases a <;> rfl

theorem off2_eq (i : grid1.Coords) : k1_off2 i = ![row2 i, 0] := by
  funext a; fin_cases a <;> rfl

instance closedOff1 (i : grid1.Coords) : ClosedOff (k1_off1 i) := ⟨![row1 i, 0], off1_eq i⟩

instance closedOff2 (i : grid1.Coords) : ClosedOff (k1_off2 i) := ⟨![row2 i, 0], off2_eq i⟩

/-- The rows the first addition reads and writes. -/
abbrev rect1 (i : grid1.Coords) : Rect S4096x384 := Rect.unit (s := S4096x384) (k1_off1 i) S128x384.size (k1_off1_inb i)

/-- The rows the second addition reads and writes. -/
abbrev rect2 (i : grid1.Coords) : Rect S4096x384 := Rect.unit (s := S4096x384) (k1_off2 i) S128x384.size (k1_off2_inb i)

/-- The two read–add–store steps on contents `f` after the stores `L`, where those read `x`: they leave `acc` of `x`. -/
theorem acc_run {sp : Space} (v : View sig .tc sp S4096x384 .f32) (f : v.ty.Contents (Elt F))
    (L : List (View.Piece (Elt F) S4096x384 .f32)) (i : grid1.Coords) (d : FVec F S256x384 .f32) {d' : FVec F S256x384 .f32}
    (hd : d = d') (x : Vec F S4096x384 .f32) (hL : v.read (Elt F) (v.writes (Elt F) f L) = x) :
    v.read (Elt F) (v.writes (Elt F) f
      (⟨rect2 i, addLo d (v.readAt (Elt F) (rect2 i).toLoadRect
          (v.writes (Elt F) f (⟨rect1 i, addUp d (v.readAt (Elt F)
            (rect1 i).toLoadRect (v.writes (Elt F) f L))⟩ :: L)))⟩
        :: ⟨rect1 i, addUp d (v.readAt (Elt F)
            (rect1 i).toLoadRect (v.writes (Elt F) f L))⟩ :: L)) = acc i d' x := by
  subst hd
  have h1 : v.read (Elt F) (v.writes (Elt F) f (⟨rect1 i, addUp d (v.readAt (Elt F)
            (rect1 i).toLoadRect (v.writes (Elt F) f L))⟩ :: L)) = accUp i d x := by
    rw [View.read_writes_cons_put v f (k1_off1_inb i) _ L rfl, View.readAt_unit v _ (k1_off1_inb i) rfl (k1_off1_inb i), hL]; rfl
  rw [View.read_writes_cons_put v f (k1_off2_inb i) _ _ rfl, View.readAt_unit v _ (k1_off2_inb i) rfl (k1_off2_inb i), h1]; rfl

set_option maxHeartbeats 4000000 in
/-- The body on whole staging buffers, the inputs' at read contents, the queries' gradient's at anything and the two
    arrays' at `x` and `y`. -/
theorem bwd_body (c : Dev nD) (E : Set ℕ) (i : grid1.Coords)
    (arg1 : Memref sig .tc .vmem S128x384 .bf16) (harg1 : arg1.IsWhole) (arg2 : Memref sig .tc .vmem S128x384 .bf16) (harg2 : arg2.IsWhole)
    (arg3 : Memref sig .tc .vmem S128x384 .bf16) (harg3 : arg3.IsWhole) (arg4 : Memref sig .tc .vmem S128x384 .bf16) (harg4 : arg4.IsWhole)
    (arg5 : Memref sig .tc .vmem S128x384 .bf16) (harg5 : arg5.IsWhole) (arg6 : Memref sig .tc .vmem S128x384 .f32) (harg6 : arg6.IsWhole)
    (arg7 : Memref sig .tc .vmem S128x384 .f32) (harg7 : arg7.IsWhole) (arg8 : Memref sig .tc .vmem S128x384 .f32) (harg8 : arg8.IsWhole)
    (arg9 : Memref sig .tc .vmem S128x384 .f32) (harg9 : arg9.IsWhole) (arg10 : Memref sig .tc .vmem S128x384 .f32) (harg10 : arg10.IsWhole)
    (arg11 : Memref sig .tc .vmem S4096x384 .f32) (harg11 : arg11.IsWhole) (arg12 : Memref sig .tc .vmem S4096x384 .f32) (harg12 : arg12.IsWhole)
    (q kp kc vp vc : Vec F S128x384 .bf16) (o l g gl : Vec F S128x384 .f32) (x y : Vec F S4096x384 .f32) (K : PUnit → sProp 𝕄) :
    iprop(owns c arg1 fullShare q ∗ owns c arg2 fullShare kp ∗ owns c arg3 fullShare kc ∗ owns c arg4 fullShare vp
        ∗ owns c arg5 fullShare vc ∗ owns c arg6 fullShare o ∗ owns c arg7 fullShare l ∗ owns c arg8 fullShare g
        ∗ owns c arg9 fullShare gl ∗ (∃ d, owns c arg10 fullShare d) ∗ owns c arg11 fullShare x ∗ owns c arg12 fullShare y
        ∗ (iprop(owns c arg1 fullShare q ∗ owns c arg2 fullShare kp ∗ owns c arg3 fullShare kc ∗ owns c arg4 fullShare vp
            ∗ owns c arg5 fullShare vc ∗ owns c arg6 fullShare o ∗ owns c arg7 fullShare l ∗ owns c arg8 fullShare g
            ∗ owns c arg9 fullShare gl ∗ owns c arg10 fullShare (dqBlk i q kp kc vp vc o l g gl)
            ∗ owns c arg11 fullShare (acc i (dkBlk i q kp kc vp vc o l g gl) (startK i x))
            ∗ owns c arg12 fullShare (acc i (dvBlk i q kp kc l g) (startV i y))) -∗ K ⟨⟩))
      ⊢ wp frame (wpE (defs₀ (F := F)) Variants.none c none) E
          (cc1_attn_bwd_d4 i arg1 harg1 arg2 harg2 arg3 harg3 arg4 harg4 arg5 harg5 arg6 harg6 arg7 harg7 arg8 harg8 arg9 harg9
            arg10 harg10 arg11 harg11 arg12 harg12) K := by
  simp only [cc1_attn_bwd_d4_eq_skeleton]; unfold cc1_attn_bwd_d4_skel
  simp only [k1_part1_eq_skeleton, k1_part2_eq_skeleton, k1_part3_eq_skeleton, k1_part4_eq_skeleton, k1_part5_eq_skeleton,
    k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%f10, %hf10, H10⟩, ⟨%f11, %hf11, H11⟩, Hk⟩
  subst hf0 hf1 hf2 hf3 hf4 hf5 hf6 hf7 hf8 hf10 hf11
  by_cases hc : isFirst i
  all_goals
    sl_exec (disch := sl_exact hc)
    sl_step
    iapply Hk
    isplitl [H0]
    · iexists f0; isplitr
      · ipureintro; rfl
      · iexact H0
    isplitl [H1]
    · iexists f1; isplitr
      · ipureintro; rfl
      · iexact H1
    isplitl [H2]
    · iexists f2; isplitr
      · ipureintro; rfl
      · iexact H2
    isplitl [H3]
    · iexists f3; isplitr
      · ipureintro; rfl
      · iexact H3
    isplitl [H4]
    · iexists f4; isplitr
      · ipureintro; rfl
      · iexact H4
    isplitl [H5]
    · iexists f5; isplitr
      · ipureintro; rfl
      · iexact H5
    isplitl [H6]
    · iexists f6; isplitr
      · ipureintro; rfl
      · iexact H6
    isplitl [H7]
    · iexists f7; isplitr
      · ipureintro; rfl
      · iexact H7
    isplitl [H8]
    · iexists f8; isplitr
      · ipureintro; rfl
      · iexact H8
    isplitl [H9]
    · iexists _
      isplitr
      swap
      · iexact H9
      ipureintro
      exact (View.read_writes_full _ _ _ _ _).trans rfl
  · have hK : startK i (View.read (Elt F) arg11.view f10) = k1_pay2 := if_pos hc
    have hV : startV i (View.read (Elt F) arg12.view f11) = k1_pay3 := if_pos hc
    rw [hK, hV]
    isplitl [H10]
    · iexists _
      isplitr
      swap
      · iexact H10
      ipureintro
      refine acc_run _ _ [_] i (k1_pay76 _ _ _ _ _ _ _ _ _) ?_ _ (View.read_writes_full _ _ _ _ _)
      refine tall6_of _ ?_ ?_ ?_ ?_ ?_ ?_ <;> rfl
    · iexists _
      isplitr
      swap
      · iexact H11
      ipureintro
      refine acc_run _ _ [_] i (k1_pay77 _ _ _ _ _ _ _ _ _ _ _ _) ?_ _ (View.read_writes_full _ _ _ _ _)
      refine tall6_of _ ?_ ?_ ?_ ?_ ?_ ?_ <;> rfl
  · have hK : startK i (View.read (Elt F) arg11.view f10) = View.read (Elt F) arg11.view f10 := if_neg hc
    have hV : startV i (View.read (Elt F) arg12.view f11) = View.read (Elt F) arg12.view f11 := if_neg hc
    rw [hK, hV]
    isplitl [H10]
    · iexists _
      isplitr
      swap
      · iexact H10
      ipureintro
      refine acc_run _ _ [] i (k1_pay76 _ _ _ _ _ _ _ _ _) ?_ _ rfl
      refine tall6_of _ ?_ ?_ ?_ ?_ ?_ ?_ <;> rfl
    · iexists _
      isplitr
      swap
      · iexact H11
      ipureintro
      refine acc_run _ _ [] i (k1_pay77 _ _ _ _ _ _ _ _ _ _ _ _) ?_ _ rfl
      refine tall6_of _ ?_ ?_ ?_ ?_ ?_ ?_ <;> rfl

end Cert.KernelIdeal.Attn
-- ==== Proof.Data.lean ====
/- What each region finds and leaves: its input windows' blocks, its output blocks, and the two accumulated arrays
   after each grid point; and the body obligation of both regions. -/
module

public import proofs.«01_k».proof.Proof.BwdBody
public import proofs.«01_k».proof.Proof.Gen.KernelIdeal.Launch
public import proofs.«01_k».proof.Proof.Gen.KernelIdeal.Regions
public import Idealize.ShloMosaic.Lib.Pipeline.Frame
public import Idealize.ShloMosaic.Lib.Pipeline.RegionsLoop

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A core's buffers as a region finds them. -/
abbrev Bufs : Type := (c : Dev nD) → (b : Ref sig .tc) → Buf (Elt F) ((c : Thread nD τ).loc b)

variable (V : Bufs (F := F))

/-- The block of the forward call's window `w` at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of the backward call's window `w` at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `t` of the backward call adds to the keys' gradient. -/
def dkAt (c : Dev nD) (t : Fin cfg1.N) : Vec F S256x384 .f32 :=
  dkBlk (grid1.coords t) (blk1 V c 0 t) (blk1 V c 1 t) (blk1 V c 2 t) (blk1 V c 3 t) (blk1 V c 4 t) (blk1 V c 5 t) (blk1 V c 6 t)
    (blk1 V c 7 t) (blk1 V c 8 t)

/-- What point `t` of the backward call adds to the values' gradient. -/
def dvAt (c : Dev nD) (t : Fin cfg1.N) : Vec F S256x384 .f32 :=
  dvBlk (grid1.coords t) (blk1 V c 0 t) (blk1 V c 1 t) (blk1 V c 2 t) (blk1 V c 6 t) (blk1 V c 7 t)

/-- The keys' gradient after the first `n` points (zero before the first). -/
def accK (c : Dev nD) : ℕ → Vec F S4096x384 .f32
  | 0 => k1_pay2
  | n + 1 => if h : n < cfg1.N then acc (grid1.coords ⟨n, h⟩) (dkAt V c ⟨n, h⟩) (startK (grid1.coords ⟨n, h⟩) (accK c n)) else accK c n

/-- The values' gradient after the first `n` points (zero before the first). -/
def accV (c : Dev nD) : ℕ → Vec F S4096x384 .f32
  | 0 => k1_pay3
  | n + 1 => if h : n < cfg1.N then acc (grid1.coords ⟨n, h⟩) (dvAt V c ⟨n, h⟩) (startV (grid1.coords ⟨n, h⟩) (accV c n)) else accV c n

theorem accK_succ (c : Dev nD) (t : Fin cfg1.N) :
    accK V c (t.val + 1) = acc (grid1.coords t) (dkAt V c t) (startK (grid1.coords t) (accK V c t.val)) := by
  rw [accK, dif_pos t.isLt]

theorem accV_succ (c : Dev nD) (t : Fin cfg1.N) :
    accV V c (t.val + 1) = acc (grid1.coords t) (dvAt V c t) (startV (grid1.coords t) (accV V c t.val)) := by
  rw [accV, dif_pos t.isLt]

/-- The first grid point is the one at which the two arrays are set to zero. -/
theorem isFirst_zero (t : Fin cfg1.N) (h : t.val = 0) : isFirst (grid1.coords t) := by
  have h0 : isFirst (grid1.coords (⟨0, by decide⟩ : Fin grid1.N)) := by decide
  have e : t = (⟨0, by decide⟩ : Fin grid1.N) := Fin.ext h
  rw [e]; exact h0

/-- Region 0's proof data at entry contents `V`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => fwdO (grid0.coords t) (blk0 V c 0 t) (blk0 V c 1 t) (blk0 V c 2 t) (blk0 V c 3 t) (blk0 V c 4 t)
    | ⟨6, _⟩ => fwdL (grid0.coords t) (blk0 V c 0 t) (blk0 V c 1 t) (blk0 V c 2 t)
    | ⟨_ + 7, h⟩ => absurd h (Nat.not_lt.2 (Nat.le_add_left _ _))
  Φ _ := Pipeline.ΦA spec0 c
  q w := Pipeline.shareOf spec0 w
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = fwdO (grid0.coords t) (blk0 V c 0 t) (blk0 V c 1 t) (blk0 V c 2 t) (blk0 V c 3 t) (blk0 V c 4 t) := by dsimp only [dat0]
theorem after0_6 (c : Dev nD) (t : Fin cfg0.N) : (dat0 V c).after 6 t = fwdL (grid0.coords t) (blk0 V c 0 t) (blk0 V c 1 t) (blk0 V c 2 t) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [A_eq0]; try rfl) t d).trans
    (by unfold Dat.fetched Dat.blockOf blk0; rw [A_eq0]; try rfl)

/-- Region 1's proof data at entry contents `V`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => dqBlk (grid1.coords t) (blk1 V c 0 t) (blk1 V c 1 t) (blk1 V c 2 t) (blk1 V c 3 t) (blk1 V c 4 t) (blk1 V c 5 t) (blk1 V c 6 t) (blk1 V c 7 t) (blk1 V c 8 t)
    | ⟨10, _⟩ => accK V c (t.val + 1)
    | ⟨11, _⟩ => accV V c (t.val + 1)
    | ⟨_ + 12, h⟩ => absurd h (Nat.not_lt.2 (Nat.le_add_left _ _))
  Φ _ := Pipeline.ΦA spec1 c
  q w := Pipeline.shareOf spec1 w
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = dqBlk (grid1.coords t) (blk1 V c 0 t) (blk1 V c 1 t) (blk1 V c 2 t) (blk1 V c 3 t) (blk1 V c 4 t) (blk1 V c 5 t) (blk1 V c 6 t) (blk1 V c 7 t) (blk1 V c 8 t) := by dsimp only [dat1]
theorem after1_10 (c : Dev nD) (t : Fin cfg1.N) : (dat1 V c).after 10 t = accK V c (t.val + 1) := by dsimp only [dat1]
theorem after1_11 (c : Dev nD) (t : Fin cfg1.N) : (dat1 V c).after 11 t = accV V c (t.val + 1) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [A_eq1]; try rfl) t d).trans
    (by unfold Dat.fetched Dat.blockOf blk1; rw [A_eq1]; try rfl)
theorem before1_7 (c : Dev nD) (t : Fin cfg1.N) (d) : (dat1 V c).before 7 t d = blk1 V c 7 t :=
  ((dat1 V c).before_in_eq_fetched 7 rfl (fun _ => rfl) (fun _ _ _ => rfl)
    (fun t => by rw [after1_7]; unfold Dat.blockOf blk1; rw [A_eq1]; try rfl) t d).trans
    (by unfold Dat.fetched Dat.blockOf blk1; rw [A_eq1]; try rfl)
theorem before1_8 (c : Dev nD) (t : Fin cfg1.N) (d) : (dat1 V c).before 8 t d = blk1 V c 8 t :=
  ((dat1 V c).before_in_eq_fetched 8 rfl (fun _ => rfl) (fun _ _ _ => rfl)
    (fun t => by rw [after1_8]; unfold Dat.blockOf blk1; rw [A_eq1]; try rfl) t d).trans
    (by unfold Dat.fetched Dat.blockOf blk1; rw [A_eq1]; try rfl)

/-- After the first point, window 10's buffer holds what the points so far have added up. -/
theorem before1_10 (c : Dev nD) (t : Fin cfg1.N) (ht : t.val ≠ 0) (d) : (dat1 V c).before 10 t d = accK V c t.val := by
  have hN : t.val < 32 := lt_of_lt_of_eq t.isLt N_1
  have hfl : (cfg1.win 10).flush ⟨t.val - 1, Nat.lt_of_le_of_lt (Nat.sub_le _ _) t.isLt⟩ = false := by
    rw [Bool.eq_false_iff]; intro h
    have := (flush1_10 _).mp h
    simp only at this; omega
  rw [(dat1 V c).before_out_kept 10 rfl t ht hfl (fun _ => rfl) (fun _ _ => rfl), after1_10]
  show accK V c (t.val - 1 + 1) = _
  rw [Nat.sub_add_cancel (Nat.one_le_iff_ne_zero.mpr ht)]

/-- After the first point, window 11's buffer holds what the points so far have added up. -/
theorem before1_11 (c : Dev nD) (t : Fin cfg1.N) (ht : t.val ≠ 0) (d) : (dat1 V c).before 11 t d = accV V c t.val := by
  have hN : t.val < 32 := lt_of_lt_of_eq t.isLt N_1
  have hfl : (cfg1.win 11).flush ⟨t.val - 1, Nat.lt_of_le_of_lt (Nat.sub_le _ _) t.isLt⟩ = false := by
    rw [Bool.eq_false_iff]; intro h
    have := (flush1_11 _).mp h
    simp only at this; omega
  rw [(dat1 V c).before_out_kept 11 rfl t ht hfl (fun _ => rfl) (fun _ _ => rfl), after1_11]
  show accV V c (t.val - 1 + 1) = _
  rw [Nat.sub_add_cancel (Nat.one_le_iff_ne_zero.mpr ht)]

/-- What region 0's body is handed at point `t`. -/
def bodyPre0 (c : Dev nD) (t : Fin cfg0.N) : sProp 𝕄 :=
  iprop((dat0 V c).Φ t.castSucc ∗ (dat0 V c).owesAt () t.castSucc
    ∗ (∃ d, owns c (st0_0 t) fullShare ((dat0 V c).before 0 t d))
    ∗ (∃ d, owns c (st0_1 t) fullShare ((dat0 V c).before 1 t d))
    ∗ (∃ d, owns c (st0_2 t) fullShare ((dat0 V c).before 2 t d))
    ∗ (∃ d, owns c (st0_3 t) fullShare ((dat0 V c).before 3 t d))
    ∗ (∃ d, owns c (st0_4 t) fullShare ((dat0 V c).before 4 t d))
    ∗ (∃ d, owns c (st0_5 t) fullShare ((dat0 V c).before 5 t d))
    ∗ (∃ d, owns c (st0_6 t) fullShare ((dat0 V c).before 6 t d)))

/-- What region 0's body hands back at point `t`. -/
def bodyPost0 (c : Dev nD) (t : Fin cfg0.N) : sProp 𝕄 :=
  iprop((dat0 V c).Φ t.succ ∗ (dat0 V c).owesAt () t.succ
    ∗ owns c (st0_0 t) fullShare ((dat0 V c).after 0 t)
    ∗ owns c (st0_1 t) fullShare ((dat0 V c).after 1 t)
    ∗ owns c (st0_2 t) fullShare ((dat0 V c).after 2 t)
    ∗ owns c (st0_3 t) fullShare ((dat0 V c).after 3 t)
    ∗ owns c (st0_4 t) fullShare ((dat0 V c).after 4 t)
    ∗ owns c (st0_5 t) fullShare ((dat0 V c).after 5 t)
    ∗ owns c (st0_6 t) fullShare ((dat0 V c).after 6 t))

set_option maxHeartbeats 2000000 in
/-- The forward body, from what it is handed to what it hands back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4]
  rw [show (dat0 V c).Φ t.succ = (dat0 V c).Φ t.castSucc from rfl, show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (fwd_body c Set.univ (grid0.coords t) _ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The forward call's row of the bodies is its body at the point. -/
theorem row0 (t : Fin cfg0.N) : defs₀ (F := F) .tc cfg0.body (cfg0.bodyArgs t (cfg0.slots t)) = bodyAt0 t := by
  unfold defs₀; rw [Defs.onTc_tc]

/-- The forward call's body obligation. -/
theorem obligation0 (c : Dev nD) : BodyObligation (dat0 V c) (defs₀ (F := F)) Variants.none () Set.univ := fun t => by
  rw [bigSep_W0, bigSep_W0, row0]
  exact triple_restated (sound_body0 V c t) rfl .rfl fun _ => .rfl

/-- What region 1's body is handed at point `t`. -/
def bodyPre1 (c : Dev nD) (t : Fin cfg1.N) : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d))
    ∗ (∃ d, owns c (st1_6 t) fullShare ((dat1 V c).before 6 t d))
    ∗ (∃ d, owns c (st1_7 t) fullShare ((dat1 V c).before 7 t d))
    ∗ (∃ d, owns c (st1_8 t) fullShare ((dat1 V c).before 8 t d))
    ∗ (∃ d, owns c (st1_9 t) fullShare ((dat1 V c).before 9 t d))
    ∗ (∃ d, owns c (st1_10 t) fullShare ((dat1 V c).before 10 t d))
    ∗ (∃ d, owns c (st1_11 t) fullShare ((dat1 V c).before 11 t d)))

/-- What region 1's body hands back at point `t`. -/
def bodyPost1 (c : Dev nD) (t : Fin cfg1.N) : sProp 𝕄 :=
  iprop((dat1 V c).Φ t.succ ∗ (dat1 V c).owesAt () t.succ
    ∗ owns c (st1_0 t) fullShare ((dat1 V c).after 0 t)
    ∗ owns c (st1_1 t) fullShare ((dat1 V c).after 1 t)
    ∗ owns c (st1_2 t) fullShare ((dat1 V c).after 2 t)
    ∗ owns c (st1_3 t) fullShare ((dat1 V c).after 3 t)
    ∗ owns c (st1_4 t) fullShare ((dat1 V c).after 4 t)
    ∗ owns c (st1_5 t) fullShare ((dat1 V c).after 5 t)
    ∗ owns c (st1_6 t) fullShare ((dat1 V c).after 6 t)
    ∗ owns c (st1_7 t) fullShare ((dat1 V c).after 7 t)
    ∗ owns c (st1_8 t) fullShare ((dat1 V c).after 8 t)
    ∗ owns c (st1_9 t) fullShare ((dat1 V c).after 9 t)
    ∗ owns c (st1_10 t) fullShare ((dat1 V c).after 10 t)
    ∗ owns c (st1_11 t) fullShare ((dat1 V c).after 11 t))

/-- Whatever the two arrays' buffers hold at the first point, the body leaves them at `accK` and `accV`. -/
theorem sound_body1_of (c : Dev nD) (t : Fin cfg1.N) (x y : Vec F S4096x384 .f32)
    (hx : startK (grid1.coords t) x = startK (grid1.coords t) (accK V c t.val))
    (hy : startV (grid1.coords t) y = startV (grid1.coords t) (accV V c t.val)) :
    iprop((dat1 V c).Φ t.castSucc ∗ (dat1 V c).owesAt () t.castSucc
      ∗ owns c (st1_0 t) fullShare (blk1 V c 0 t) ∗ owns c (st1_1 t) fullShare (blk1 V c 1 t)
      ∗ owns c (st1_2 t) fullShare (blk1 V c 2 t) ∗ owns c (st1_3 t) fullShare (blk1 V c 3 t)
      ∗ owns c (st1_4 t) fullShare (blk1 V c 4 t) ∗ owns c (st1_5 t) fullShare (blk1 V c 5 t)
      ∗ owns c (st1_6 t) fullShare (blk1 V c 6 t) ∗ owns c (st1_7 t) fullShare (blk1 V c 7 t)
      ∗ owns c (st1_8 t) fullShare (blk1 V c 8 t) ∗ (∃ d, owns c (st1_9 t) fullShare d)
      ∗ owns c (st1_10 t) fullShare x ∗ owns c (st1_11 t) fullShare y)
    ⊢ wp frame (wpE (defs₀ (F := F)) Variants.none c none) Set.univ (bodyAt1 t) (fun _ => bodyPost1 V c t) := by
  unfold bodyPost1
  rw [show (dat1 V c).Φ t.succ = (dat1 V c).Φ t.castSucc from rfl, show (dat1 V c).owesAt () t.succ = (dat1 V c).owesAt () t.castSucc from rfl,
    after1_0, after1_1, after1_2, after1_3, after1_4, after1_5, after1_6, after1_7, after1_8, after1_9, after1_10, after1_11,
    accK_succ, accV_succ, ← hx, ← hy]
  iintro ⟨HΦ, Ho, H0, H1, H2, H3, H4, H5, H6, H7, H8, ⟨%d9, H9⟩, H10, H11⟩
  iapply (bwd_body c Set.univ (grid1.coords t) _ _ _ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t) (blk1 V c 8 t) x y _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The backward body, from what it is handed to what it hands back. -/
theorem sound_body1 (c : Dev nD) (t : Fin cfg1.N) :
    bodyPre1 V c t ⊢ wp frame (wpE (defs₀ (F := F)) Variants.none c none) Set.univ (bodyAt1 t) (fun _ => bodyPost1 V c t) := by
  have key : ∀ d10 d11, startK (grid1.coords t) ((dat1 V c).before 10 t d10) = startK (grid1.coords t) (accK V c t.val)
      ∧ startV (grid1.coords t) ((dat1 V c).before 11 t d11) = startV (grid1.coords t) (accV V c t.val) := by
    intro d10 d11
    by_cases h0 : t.val = 0
    · have hf := isFirst_zero t h0
      unfold startK startV
      rw [if_pos hf, if_pos hf, if_pos hf, if_pos hf]
      exact ⟨rfl, rfl⟩
    · rw [before1_10 V c t h0, before1_11 V c t h0]
      exact ⟨rfl, rfl⟩
  unfold bodyPre1
  simp only [before1_0, before1_1, before1_2, before1_3, before1_4, before1_5, before1_6, before1_7, before1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_body1_of V c t _ _ (key d10 d11).1 (key d10 d11).2)
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iexact H11

/-- The backward call's row of the bodies is its body at the point. -/
theorem row1_eq (t : Fin cfg1.N) : defs₀ (F := F) .tc cfg1.body (cfg1.bodyArgs t (cfg1.slots t)) = bodyAt1 t := by
  unfold defs₀; rw [Defs.onTc_tc]

/-- The backward call's body obligation. -/
theorem obligation1 (c : Dev nD) : BodyObligation (dat1 V c) (defs₀ (F := F)) Variants.none () Set.univ := fun t => by
  rw [bigSep_W1, bigSep_W1, row1_eq]
  exact triple_restated (sound_body1 V c t) rfl .rfl fun _ => .rfl

end Cert.KernelIdeal.Attn
-- ==== Proof.Run.lean ====
/- The whole run: the buffers' contents at every boundary, the two regions' records, and the launch. Every final state
   has the arguments as launched, every semaphore counter at zero, and the three results at what the backward call's
   write-backs leave. -/
module

public import proofs.«01_k».proof.Proof.Data
public import proofs.«01_k».proof.Proof.Gen.KernelIdeal.Launch
public import proofs.«01_k».proof.Proof.Gen.KernelIdeal.Regions
public import Idealize.ShloMosaic.Lib.Pipeline.Frame
public import Idealize.ShloMosaic.Lib.Pipeline.RegionsLoop

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The contents at the boundaries -/

/-- What the forward call finds. -/
def ent0 : Bufs (F := F) := fun c b => V1 m c b

/-- The buffers after the forward call: its two results at what its write-backs leave. -/
def fin0 (c : Dev nD) : Valuation τ sig (Elt F) :=
  Function.update (Function.update (V1 m c) main_v11_0 ((dat0 (ent0 m) c).arrAt 5 cfg0.N)) main_v11_1 ((dat0 (ent0 m) c).arrAt 6 cfg0.N)

/-- The forward call's results, as the boundaries' contents take them. -/
def outs2 : Outs (F := F) := fun _ r c => fin0 m c r

/-- What the backward call finds. -/
def ent1 : Bufs (F := F) := fun c b => V3 m (outs2 m) c b

/-- The buffers after the backward call: its three results at what its write-backs leave. -/
def fin1 (c : Dev nD) : Valuation τ sig (Elt F) :=
  Function.update (Function.update (Function.update (V3 m (outs2 m) c) main_v25_0 ((dat1 (ent1 m) c).arrAt 9 cfg1.N))
    main_v25_1 ((dat1 (ent1 m) c).arrAt 10 cfg1.N)) main_v25_2 ((dat1 (ent1 m) c).arrAt 11 cfg1.N)

/-- Both calls' results, as the boundaries' contents take them. -/
def outs : Outs (F := F) := fun n r c => if n = 2 then fin0 m c r else fin1 m c r

theorem outs_two (r : Ref sig .tc) (c : Dev nD) : outs m 2 r c = fin0 m c r := if_pos rfl
theorem outs_four (r : Ref sig .tc) (c : Dev nD) : outs m 4 r c = fin1 m c r := if_neg (by decide)

theorem fin0_v11_1 (c : Dev nD) : fin0 m c main_v11_1 = (dat0 (ent0 m) c).arrAt 6 cfg0.N := by
  unfold fin0; exact Function.update_self ..
theorem fin0_v11_0 (c : Dev nD) : fin0 m c main_v11_0 = (dat0 (ent0 m) c).arrAt 5 cfg0.N := by
  unfold fin0
  rw [Function.update_of_ne (StableHlo.devRef_ne_of_ne (by decide : main_v11_0 ≠ main_v11_1))]
  exact Function.update_self ..
theorem fin1_v25_2 (c : Dev nD) : fin1 m c main_v25_2 = (dat1 (ent1 m) c).arrAt 11 cfg1.N := by
  unfold fin1; exact Function.update_self ..
theorem fin1_v25_1 (c : Dev nD) : fin1 m c main_v25_1 = (dat1 (ent1 m) c).arrAt 10 cfg1.N := by
  unfold fin1
  rw [Function.update_of_ne (StableHlo.devRef_ne_of_ne (by decide : main_v25_1 ≠ main_v25_2))]
  exact Function.update_self ..
theorem fin1_v25_0 (c : Dev nD) : fin1 m c main_v25_0 = (dat1 (ent1 m) c).arrAt 9 cfg1.N := by
  unfold fin1
  rw [Function.update_of_ne (StableHlo.devRef_ne_of_ne (by decide : main_v25_0 ≠ main_v25_2)),
    Function.update_of_ne (StableHlo.devRef_ne_of_ne (by decide : main_v25_0 ≠ main_v25_1))]
  exact Function.update_self ..

theorem V2_v11_1 (c : Dev nD) : V2 m (outs m) c main_v11_1 = (dat0 (ent0 m) c).arrAt 6 cfg0.N := by
  rw [← fin0_v11_1, ← outs_two]; exact Function.update_self ..
theorem V2_v11_0 (c : Dev nD) : V2 m (outs m) c main_v11_0 = (dat0 (ent0 m) c).arrAt 5 cfg0.N := by
  rw [← fin0_v11_0, ← outs_two]
  exact (Function.update_of_ne (StableHlo.devRef_ne_of_ne (by decide : main_v11_0 ≠ main_v11_1)) _ _).trans (Function.update_self ..)

/-- The backward call finds the same contents whichever of the two families names the forward call's results. -/
theorem V2_outs (c : Dev nD) : V2 m (outs m) c = V2 m (outs2 m) c := by
  simp only [V2, outs_two]; rfl
theorem V3_outs (c : Dev nD) : V3 m (outs m) c = V3 m (outs2 m) c := by
  show StableHlo.after hostOps1 (V2 m (outs m) c) = StableHlo.after hostOps1 (V2 m (outs2 m) c)
  rw [V2_outs]

theorem V4_v25_2 (c : Dev nD) : V4 m (outs m) c main_v25_2 = (dat1 (ent1 m) c).arrAt 11 cfg1.N := by
  rw [← fin1_v25_2, ← outs_four]; exact Function.update_self ..
theorem V4_v25_1 (c : Dev nD) : V4 m (outs m) c main_v25_1 = (dat1 (ent1 m) c).arrAt 10 cfg1.N := by
  rw [← fin1_v25_1, ← outs_four]
  exact (Function.update_of_ne (StableHlo.devRef_ne_of_ne (by decide : main_v25_1 ≠ main_v25_2)) _ _).trans (Function.update_self ..)
theorem V4_v25_0 (c : Dev nD) : V4 m (outs m) c main_v25_0 = (dat1 (ent1 m) c).arrAt 9 cfg1.N := by
  rw [← fin1_v25_0, ← outs_four]
  exact (Function.update_of_ne (StableHlo.devRef_ne_of_ne (by decide : main_v25_0 ≠ main_v25_2)) _ _).trans
    ((Function.update_of_ne (StableHlo.devRef_ne_of_ne (by decide : main_v25_0 ≠ main_v25_1)) _ _).trans (Function.update_self ..))

/-! ## The regions' records -/

/-- Both regions' proof data. -/
def pdats : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨_ + 2, h⟩ => absurd h (Nat.not_lt.2 (Nat.le_add_left _ _))

/-- What rides beside the buffers: the core's generator register, and that it owes nothing. -/
def rest (c : Dev nD) : sProp 𝕄 := iprop((∃ r, prngReg c r) ∗ ∃ W, owes (c : Thread nD τ) (0 : CellTallies nD τ sig Unit) W)

/-- No bounds on waits are needed: nothing is owed. -/
abbrev noLev : GSem nD τ sig → Finset Unit := fun _ => ∅
abbrev zeroLev : GSem nD τ sig → Unit → ℕ := fun _ _ => 0

theorem leaves0 (c : Dev nD) : ∀ w, (dat0 (ent0 m) c).arrAt w cfg0.N = V2 m (outs m) c (Pipeline.arrRef spec0 w)
  | ⟨0, _⟩ | ⟨1, _⟩ | ⟨2, _⟩ | ⟨3, _⟩ | ⟨4, _⟩ =>
    ((dat0 (ent0 m) c).arrAt_in _ rfl _).trans ((A_eq0 (ent0 m) c _).trans (V2_of m (outs m) c main_v10 (by decide)).symm)
  | ⟨5, _⟩ => (V2_v11_0 m c).symm
  | ⟨6, _⟩ => (V2_v11_1 m c).symm
  | ⟨_ + 7, h⟩ => absurd h (Nat.not_lt.2 (Nat.le_add_left _ _))

theorem leaves1 (c : Dev nD) : ∀ w, (dat1 (ent1 m) c).arrAt w cfg1.N = V4 m (outs m) c (Pipeline.arrRef spec1 w)
  | ⟨0, _⟩ | ⟨1, _⟩ | ⟨2, _⟩ | ⟨3, _⟩ | ⟨4, _⟩ =>
    ((dat1 (ent1 m) c).arrAt_in _ rfl _).trans ((A_eq1 (ent1 m) c _).trans ((V4_of m (outs m) c main_v20 (by decide)).trans
      (congrFun (V3_outs m c) _)).symm)
  | ⟨5, _⟩ => ((dat1 (ent1 m) c).arrAt_in _ rfl _).trans ((A_eq1 (ent1 m) c _).trans ((V4_of m (outs m) c main_v21 (by decide)).trans
      (congrFun (V3_outs m c) _)).symm)
  | ⟨6, _⟩ => ((dat1 (ent1 m) c).arrAt_in _ rfl _).trans ((A_eq1 (ent1 m) c _).trans ((V4_of m (outs m) c main_v22 (by decide)).trans
      (congrFun (V3_outs m c) _)).symm)
  | ⟨7, _⟩ => ((dat1 (ent1 m) c).arrAt_in _ rfl _).trans ((A_eq1 (ent1 m) c _).trans ((V4_of m (outs m) c main_v23 (by decide)).trans
      (congrFun (V3_outs m c) _)).symm)
  | ⟨8, _⟩ => ((dat1 (ent1 m) c).arrAt_in _ rfl _).trans ((A_eq1 (ent1 m) c _).trans ((V4_of m (outs m) c main_v24 (by decide)).trans
      (congrFun (V3_outs m c) _)).symm)
  | ⟨9, _⟩ => (V4_v25_0 m c).symm
  | ⟨10, _⟩ => (V4_v25_1 m c).symm
  | ⟨11, _⟩ => (V4_v25_2 m c).symm
  | ⟨_ + 12, h⟩ => absurd h (Nat.not_lt.2 (Nat.le_add_left _ _))

theorem others0 (c : Dev nD) (b : Ref sig .tc) (hb : b ∉ Finset.univ.image (Pipeline.arrRef spec0)) : V2 m (outs m) c b = ent0 m c b := by
  refine V2_of m (outs m) c b fun h => hb ?_
  rcases List.mem_cons.mp h with rfl | h
  · exact Finset.mem_image.mpr ⟨5, Finset.mem_univ _, rfl⟩
  · rcases List.mem_cons.mp h with rfl | h
    · exact Finset.mem_image.mpr ⟨6, Finset.mem_univ _, rfl⟩
    · exact absurd h (List.not_mem_nil)

theorem others1 (c : Dev nD) (b : Ref sig .tc) (hb : b ∉ Finset.univ.image (Pipeline.arrRef spec1)) : V4 m (outs m) c b = ent1 m c b := by
  refine (V4_of m (outs m) c b fun h => hb ?_).trans (congrFun (V3_outs m c) _)
  rcases List.mem_cons.mp h with rfl | h
  · exact Finset.mem_image.mpr ⟨9, Finset.mem_univ _, rfl⟩
  · rcases List.mem_cons.mp h with rfl | h
    · exact Finset.mem_image.mpr ⟨10, Finset.mem_univ _, rfl⟩
    · rcases List.mem_cons.mp h with rfl | h
      · exact Finset.mem_image.mpr ⟨11, Finset.mem_univ _, rfl⟩
      · exact absurd h (List.not_mem_nil)

set_option backward.isDefEq.respectTransparency.types false in
/-- Region 0's record: entered with every unscoped buffer at `V1 m`, left with them at `V2 m (outs m)`. -/
def reg0 : RegionSeg (pcfgs (F := F)) adm (pdats m) () defs₀ Variants.none noLev zeroLev 0 where
  win := launch₀0.win
  block_pos := launch₀0.block_pos
  stage_whole := launch₀0.stage_whole
  K := PEmpty
  osem k := k.elim
  ho := Pipeline.OwnSemFacts.none _
  hbody c := (obligation0 (ent0 m) c).loose
  hwaits := Pipeline.hwaits_of_owed_zero _ _ _ _ noLev zeroLev 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs_shared (p := 0) (pcfgs (F := F)) adm (pdats m) launch₀0.win launch₀0.sharedIn
      launch₀0.arr_whole c (fun _ _ => rfl) (ent0 m c) (A_eq0 (ent0 m) c)
    have hheld : (unscopedBufs c (ent0 m c) : sProp 𝕄) = StableHlo.held (c : Thread nD τ) (Pipeline.ucRefs τ sig) (V1 m c) :=
      Pipeline.unscopedBufs_held c (V1 m c)
    rw [hheld] at hsplit
    unfold rest
    iintro ⟨⟨Hub, Hp, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W
      isplitr
      · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ)
      (Lvl := ℕ) launch₀0.win launch₀0.sharedIn launch₀0.arr_whole c (pdats m) (fun _ _ => rfl) (ent0 m c) (fun b => V2 m (outs m) c b)
      ((pdats m 0 c).arrAt · cfg0.N) (leaves0 m c) (others0 m c)
    have hheld : (unscopedBufs c (fun b => V2 m (outs m) c b) : sProp 𝕄) = StableHlo.held (c : Thread nD τ) (Pipeline.ucRefs τ sig) (V2 m (outs m) c) :=
      Pipeline.unscopedBufs_held c (V2 m (outs m) c)
    rw [hheld] at hjoin
    unfold rest
    iintro ⟨Ha, HO, HY, Hrest⟩
    imodintro
    isplitl [Ha Hrest]
    · iapply hjoin
      isplitl [Ha] <;> iassumption
    isplitl [HY]; · iexact HY
    unfold Pipeline.Dat.owesAt Pipeline.owesWithin
    icases HO with ⟨%W, -, HO⟩
    iexists W
    iexact HO

set_option backward.isDefEq.respectTransparency.types false in
/-- Region 1's record: entered with every unscoped buffer at `V3 m (outs2 m)`, left with them at `V4 m (outs m)`. -/
def reg1 : RegionSeg (pcfgs (F := F)) adm (pdats m) () defs₀ Variants.none noLev zeroLev 1 where
  win := launch₀1.win
  block_pos := launch₀1.block_pos
  stage_whole := launch₀1.stage_whole
  K := PEmpty
  osem k := k.elim
  ho := Pipeline.OwnSemFacts.none _
  hbody c := (obligation1 (ent1 m) c).loose
  hwaits := Pipeline.hwaits_of_owed_zero _ _ _ _ noLev zeroLev 1 fun _ _ => rfl
  pre c := iprop(StableHlo.held (c : Thread nD τ) (Pipeline.ucRefs τ sig) (V3 m (outs2 m) c) ∗ rest c)
  post c := iprop(StableHlo.held (c : Thread nD τ) (Pipeline.ucRefs τ sig) (V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs_shared (p := 1) (pcfgs (F := F)) adm (pdats m) launch₀1.win launch₀1.sharedIn
      launch₀1.arr_whole c (fun _ _ => rfl) (ent1 m c) (A_eq1 (ent1 m) c)
    have hheld : (unscopedBufs c (ent1 m c) : sProp 𝕄) = StableHlo.held (c : Thread nD τ) (Pipeline.ucRefs τ sig) (V3 m (outs2 m) c) :=
      Pipeline.unscopedBufs_held c (V3 m (outs2 m) c)
    rw [hheld] at hsplit
    unfold rest
    iintro ⟨⟨Hub, Hp, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W
      isplitr
      · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ)
      (Lvl := ℕ) launch₀1.win launch₀1.sharedIn launch₀1.arr_whole c (pdats m) (fun _ _ => rfl) (ent1 m c) (fun b => V4 m (outs m) c b)
      ((pdats m 1 c).arrAt · cfg1.N) (leaves1 m c) (others1 m c)
    have hheld : (unscopedBufs c (fun b => V4 m (outs m) c b) : sProp 𝕄) = StableHlo.held (c : Thread nD τ) (Pipeline.ucRefs τ sig) (V4 m (outs m) c) :=
      Pipeline.unscopedBufs_held c (V4 m (outs m) c)
    rw [hheld] at hjoin
    unfold rest
    iintro ⟨Ha, HO, HY, Hrest⟩
    imodintro
    isplitl [Ha Hrest]
    · iapply hjoin
      isplitl [Ha] <;> iassumption
    isplitl [HY]; · iexact HY
    unfold Pipeline.Dat.owesAt Pipeline.owesWithin
    icases HO with ⟨%W, -, HO⟩
    iexists W
    iexact HO

/-! ## The launch -/

/-- What a final state holds on core `c`: the arguments as launched, and the results at what the backward call leaves. -/
def Ends (c : Dev nD) (s : MemSt nD τ sig (Elt F)) : Prop :=
s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v25_0) = (dat1 (ent1 m) c).arrAt 9 cfg1.N
    ∧ s.mem ((c.tc : Thread nD τ).loc main_v25_1) = (dat1 (ent1 m) c).arrAt 10 cfg1.N
    ∧ s.mem ((c.tc : Thread nD τ).loc main_v25_2) = (dat1 (ent1 m) c).arrAt 11 cfg1.N

/-- An unscoped buffer is among those held between the regions. -/
theorem mem_held (b : Ref sig .tc) (h : b.isScoped = false) : Proc.devRef .tc b ∈ Pipeline.ucRefs τ sig :=
  Finset.mem_filter.mpr ⟨StableHlo.devRef_mem_tcRefs b, by simpa using h⟩

set_option backward.isDefEq.respectTransparency.types false in
/-- Every weakly fair execution ends, with the arguments as launched, the results at what the backward call leaves, and
    every semaphore counter at zero. -/
theorem run_ends (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj emb₁ defs₀ Variants.none noLev zeroLev m ρ main
    (segs m (outs m) Variants.none noLev zeroLev (fun _ => rest) () (pdats m) (reg0 m) (reg1 m))
    (fun c Q => by
      rewrite [main_chain c, Seg.run_eq_chain,
        show (segs m (outs m) Variants.none noLev zeroLev (fun _ => rest) () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V4 m (outs m) c))
    (hch := fun c => ⟨.rfl, .rfl, .rfl, ?_, ?_⟩)
    (hinit := ?_) (QY := Ends m)
    (hfin := fun c s' => ?_) (hQ := fun _ h hz => ⟨h, funext fun g => hz g (.inr (regions_no_unscoped g.2))⟩)
  · show iprop(StableHlo.held (c : Thread nD τ) (Pipeline.ucRefs τ sig) (V3 m (outs m) c) ∗ rest c)
      ⊢ iprop(StableHlo.held (c : Thread nD τ) (Pipeline.ucRefs τ sig) (V3 m (outs2 m) c) ∗ rest c)
    rw [V3_outs]
  · show iprop(StableHlo.held (c : Thread nD τ) (Pipeline.ucRefs τ sig) (V4 m (outs m) c) ∗ rest c)
      ⊢ iprop(StableHlo.held (c : Thread nD τ) (Pipeline.ucRefs τ sig) (V4 m (outs m) c)
        ∗ ∃ W, owes (c : Thread nD τ) (0 : CellTallies nD τ sig Unit) W)
    unfold rest
    iintro ⟨Hh, -, HO⟩
    isplitl [Hh]; · iexact Hh
    iexact HO
  · refine Pipeline.initEach noLev zeroLev fun c => ?_
    rw [show unscopedBufs c (fun b => m ((c : Thread nD τ).loc b)) = StableHlo.held (c : Thread nD τ) (Pipeline.ucRefs τ sig) (V0 m c)
      from Pipeline.unscopedBufs_held c (V0 m c)]
    unfold rest
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_arg0) (mem_held main_arg0 (by decide))).trans (V4_main_arg0 m (outs m) c),
        (h (Proc.devRef .tc main_arg1) (mem_held main_arg1 (by decide))).trans (V4_main_arg1 m (outs m) c),
        (h (Proc.devRef .tc main_arg2) (mem_held main_arg2 (by decide))).trans (V4_main_arg2 m (outs m) c),
        (h (Proc.devRef .tc main_arg3) (mem_held main_arg3 (by decide))).trans (V4_main_arg3 m (outs m) c),
        (h (Proc.devRef .tc main_arg4) (mem_held main_arg4 (by decide))).trans (V4_main_arg4 m (outs m) c),
        (h (Proc.devRef .tc main_v25_0) (mem_held main_v25_0 (by decide))).trans (V4_v25_0 m c),
        (h (Proc.devRef .tc main_v25_1) (mem_held main_v25_1 (by decide))).trans (V4_v25_1 m c),
        (h (Proc.devRef .tc main_v25_2) (mem_held main_v25_2 (by decide))).trans (V4_v25_2 m c)⟩
    · iexact HSI

end Cert.KernelIdeal.Attn
-- ==== Proof.Rows.lean ====
/- The mathematics of one block of 128 rows of one head, over the reals: the weights of a masked softmax, the gradient of
   its scores and the three gradients made of that, and how the two ways of computing them on the extended reals (with the
   output and the log-sum-exp saved, or by differentiating the softmax in place) give these same reals. -/
module

public import Idealize.ShloMosaic.PureOps.Ideal
public import Idealize.ShloMosaic.PureOps.Ideal.Laws

@[expose] public section

noncomputable section

namespace Cert.Rows

open Idealize.ShloMosaic

/-- A finite sum of reals, read in the extended reals. -/
theorem sum_coe {ι : Type*} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

section Row

variable {n : ℕ} (vis : Fin n → Prop) [DecidablePred vis] (σ : Fin n → ℝ)

/-- A row's sum of exponentials over its visible keys. -/
def total : ℝ := ∑ j, if vis j then Real.exp (σ j) else 0

/-- A row's softmax weight of key `j`: zero where the key is masked. -/
def weight (j : Fin n) : ℝ := if vis j then Real.exp (σ j) / total vis σ else 0

/-- A row's score of key `j`: −∞ where the key is masked. -/
def score (j : Fin n) : EReal := if vis j then (σ j : EReal) else ⊥

theorem total_pos (h : ∃ j, vis j) : 0 < total vis σ := by
  obtain ⟨j, hj⟩ := h
  refine Finset.sum_pos' (fun i _ => ?_) ⟨j, Finset.mem_univ j, ?_⟩
  · split
    · exact (Real.exp_pos _).le
    · exact le_rfl
  · rw [if_pos hj]; exact Real.exp_pos _

/-- The exponential of a score less a real. -/
theorem exp_score (M : ℝ) (j : Fin n) :
    Ideal.exp (score vis σ j - (M : EReal)) = ((if vis j then Real.exp (σ j - M) else 0 : ℝ) : EReal) := by
  unfold score
  split
  · rw [← EReal.coe_sub, Ideal.exp_coe]
  · rw [EReal.bot_sub, Ideal.exp_bot, EReal.coe_zero]

/-- The sum of a row's exponentials less a real. -/
theorem sum_exp (M : ℝ) : ∑ j, Ideal.exp (score vis σ j - (M : EReal)) = ((total vis σ * Real.exp (-M) : ℝ) : EReal) := by
  rw [Finset.sum_congr rfl fun j _ => exp_score vis σ M j, sum_coe, total, Finset.sum_mul]
  congr 1
  refine Finset.sum_congr rfl fun j _ => ?_
  split
  · rw [sub_eq_add_neg, Real.exp_add]
  · rw [zero_mul]

/-- The log-sum-exp of a row does not depend on the real it is shifted by. -/
theorem log_sum (h : ∃ j, vis j) (M : ℝ) :
    Ideal.log ((total vis σ * Real.exp (-M) : ℝ) : EReal) + (M : EReal) = ((Real.log (total vis σ) : ℝ) : EReal) := by
  have ht := total_pos vis σ h
  rw [Ideal.log_coe, if_neg (not_le.2 (mul_pos ht (Real.exp_pos _))), ← EReal.coe_add,
    Real.log_mul ht.ne' (Real.exp_pos _).ne', Real.log_exp, neg_add_cancel_right]

/-- The exponential of a score less the log-sum-exp is the weight. -/
theorem exp_lse (h : ∃ j, vis j) (j : Fin n) :
    Ideal.exp (score vis σ j - ((Real.log (total vis σ) : ℝ) : EReal)) = (weight vis σ j : EReal) := by
  rw [exp_score, weight]
  split
  · rw [Real.exp_sub, Real.exp_log (total_pos vis σ h)]
  · rfl

/-- A shifted exponential over the shifted sum is the weight. -/
theorem quot (h : ∃ j, vis j) (M : ℝ) (j : Fin n) :
    (if vis j then Real.exp (σ j - M) else 0 : ℝ) * (1 / (total vis σ * Real.exp (-M))) = weight vis σ j := by
  have ht := (total_pos vis σ h).ne'
  rw [weight]
  split
  · rw [sub_eq_add_neg, Real.exp_add]; field_simp
  · rw [zero_mul]

/-- A row's maximum, taken from −∞ up, is a real where some key is visible. -/
theorem max_real (h : ∃ j, vis j) : ∃ M : ℝ, (Finset.univ : Finset (Fin n)).fold max ⊥ (score vis σ) = (M : EReal) := by
  obtain ⟨j, hj⟩ := h
  have h1 : (Finset.univ : Finset (Fin n)).fold max ⊥ (score vis σ) < ⊤ := by
    rw [Finset.fold_max_lt]
    refine ⟨bot_lt_top, fun i _ => ?_⟩
    unfold score; split
    · exact EReal.coe_lt_top _
    · exact bot_lt_top
  have h2 : ⊥ < (Finset.univ : Finset (Fin n)).fold max ⊥ (score vis σ) := by
    rw [Finset.lt_fold_max]
    refine Or.inr ⟨j, Finset.mem_univ j, ?_⟩
    unfold score; rw [if_pos hj]; exact EReal.bot_lt_coe _
  exact ⟨_, (EReal.coe_toReal h1.ne h2.ne').symm⟩

/-- A product of a weight and a value that is known where the key is visible. -/
theorem weight_mul (x : Fin n → EReal) (y : Fin n → ℝ) (hx : ∀ j, vis j → x j = (y j : EReal)) (j : Fin n) :
    (weight vis σ j : EReal) * x j = ((weight vis σ j * y j : ℝ) : EReal) := by
  by_cases hj : vis j
  · rw [hx j hj, EReal.coe_mul]
  · have : weight vis σ j = 0 := if_neg hj
    rw [this, EReal.coe_zero, zero_mul, zero_mul, EReal.coe_zero]

/-- The output saved by the forward pass: the weighted sum of the values. -/
theorem out_eq (h : ∃ j, vis j) (M : ℝ) (x : Fin n → EReal) (y : Fin n → ℝ) (hx : ∀ j, vis j → x j = (y j : EReal)) :
    Ideal.div (∑ j, Ideal.exp (score vis σ j - (M : EReal)) * x j) (∑ j, Ideal.exp (score vis σ j - (M : EReal)))
      = ((∑ j, weight vis σ j * y j : ℝ) : EReal) := by
  have ht := total_pos vis σ h
  have e : ∀ j, Ideal.exp (score vis σ j - (M : EReal)) * x j
      = (((if vis j then Real.exp (σ j - M) else 0) * y j : ℝ) : EReal) := by
    intro j
    rw [exp_score]
    by_cases hj : vis j
    · rw [hx j hj, EReal.coe_mul]
    · rw [if_neg hj, EReal.coe_zero, zero_mul, zero_mul, EReal.coe_zero]
  rw [sum_exp, Finset.sum_congr rfl fun j _ => e j, sum_coe, Ideal.div_coe (mul_pos ht (Real.exp_pos _)).ne', ← EReal.coe_mul,
    Finset.sum_mul]
  congr 1
  refine Finset.sum_congr rfl fun j _ => ?_
  rw [mul_right_comm, quot vis σ h]

/-- The scores' gradient of a row, from the values' products `δ` with the output's gradient and the log-sum-exp's
    gradient `l`. -/
def slope (δ : Fin n → ℝ) (l : ℝ) (j : Fin n) : ℝ :=
  weight vis σ j * (δ j - (∑ i, weight vis σ i * δ i) + l)

theorem slope_masked (δ : Fin n → ℝ) (l : ℝ) (j : Fin n) (hj : ¬ vis j) : slope vis σ δ l j = 0 := by
  rw [slope, weight, if_neg hj, zero_mul]

/-- The scores' gradient with the row's total `∑ w δ` given. -/
theorem slope_saved (x : Fin n → EReal) (δ : Fin n → ℝ) (hx : ∀ j, vis j → x j = (δ j : EReal)) (l : ℝ) (j : Fin n) :
    (weight vis σ j : EReal) * (x j - ((∑ i, weight vis σ i * δ i : ℝ) : EReal) + (l : EReal)) = (slope vis σ δ l j : EReal) := by
  by_cases hj : vis j
  · rw [hx j hj, slope, EReal.coe_mul, EReal.coe_add, EReal.coe_sub]
  · rw [slope_masked vis σ δ l j hj, weight, if_neg hj, EReal.coe_zero, zero_mul]

/-- The scores' gradient as the derivative of the log-sum-exp gives it. -/
theorem slope_diff (h : ∃ j, vis j) (M : ℝ) (x : Fin n → EReal) (δ : Fin n → ℝ) (hx : ∀ j, vis j → x j = (δ j : EReal)) (l : ℝ)
    (j : Fin n) :
    x j * (weight vis σ j : EReal)
        + Ideal.div ((l : EReal) + ∑ i, -(x i * (weight vis σ i : EReal))) (∑ i, Ideal.exp (score vis σ i - (M : EReal)))
          * Ideal.exp (score vis σ j - (M : EReal)) = (slope vis σ δ l j : EReal) := by
  have ht := total_pos vis σ h
  have e : ∀ i, x i * (weight vis σ i : EReal) = ((weight vis σ i * δ i : ℝ) : EReal) := fun i => by
    rw [mul_comm]; exact weight_mul vis σ x δ hx i
  have e' : ∀ i, -(x i * (weight vis σ i : EReal)) = ((-(weight vis σ i * δ i) : ℝ) : EReal) := fun i => by
    rw [e, EReal.coe_neg]
  rw [Finset.sum_congr rfl fun i _ => e' i, sum_coe, e, sum_exp, Ideal.div_coe (mul_pos ht (Real.exp_pos _)).ne', exp_score,
    ← EReal.coe_add, ← EReal.coe_mul, ← EReal.coe_mul, ← EReal.coe_add]
  congr 1
  rw [mul_assoc, mul_comm (1 / _), quot vis σ h, Finset.sum_neg_distrib, slope]
  ring

end Row

section Block

variable {m n d : ℕ} (vis : Fin m → Fin n → Prop) [∀ i, DecidablePred (vis i)]
  (q g : Fin m → Fin d → ℝ) (k v : Fin n → Fin d → ℝ) (l : Fin m → ℝ)

/-- The scores of a block, scaled by an eighth. -/
def sc (i : Fin m) (j : Fin n) : ℝ := (∑ e, q i e * k j e) * (1 / 8)

/-- The weights of a block. -/
def wt (i : Fin m) (j : Fin n) : ℝ := weight (vis i) (sc q k i) j

/-- The output's gradient against the values. -/
def gv (i : Fin m) (j : Fin n) : ℝ := ∑ e, g i e * v j e

/-- The scores' gradient of a block. -/
def dS (i : Fin m) (j : Fin n) : ℝ := slope (vis i) (sc q k i) (gv g v i) (l i) j

/-- The queries' gradient of a block. -/
def dQ (i : Fin m) (e : Fin d) : ℝ := (∑ j, dS vis q g k v l i j * k j e) * (1 / 8)

/-- What a block adds to its keys' gradient. -/
def dK (j : Fin n) (e : Fin d) : ℝ := (∑ i, dS vis q g k v l i j * q i e) * (1 / 8)

/-- What a block adds to its values' gradient. -/
def dV (j : Fin n) (e : Fin d) : ℝ := ∑ i, wt vis q k i j * g i e

theorem dS_masked {i : Fin m} {j : Fin n} (h : ¬ vis i j) : dS vis q g k v l i j = 0 := slope_masked _ _ _ _ _ h

theorem wt_masked {i : Fin m} {j : Fin n} (h : ¬ vis i j) : wt vis q k i j = 0 := if_neg h

theorem dK_masked (j : Fin n) (h : ∀ i, ¬ vis i j) (e : Fin d) : dK vis q g k v l j e = 0 := by
  rw [dK, Finset.sum_eq_zero fun i _ => by rw [dS_masked _ _ _ _ _ _ (h i), zero_mul], zero_mul]

theorem dV_masked (j : Fin n) (h : ∀ i, ¬ vis i j) (e : Fin d) : dV vis q g k j e = 0 := by
  rw [dV, Finset.sum_eq_zero fun i _ => by rw [wt_masked _ _ _ (h i), zero_mul]]

variable (hv : ∀ i, ∃ j, vis i j) (k' v' : Fin n → Fin d → EReal)
  (hk : ∀ i j, vis i j → ∀ e, k' j e = (k j e : EReal)) (hvv : ∀ i j, vis i j → ∀ e, v' j e = (v j e : EReal))

include hk in
/-- The scores computed from queries scaled beforehand. -/
theorem score_pre (i : Fin m) (j : Fin n) :
    (if vis i j then ∑ e, (q i e : EReal) * ((1 / 8 : ℝ) : EReal) * k' j e else ⊥) = score (vis i) (sc q k i) j := by
  unfold score
  split
  case isTrue h =>
    rw [Finset.sum_congr rfl fun e _ => by rw [hk i j h e, ← EReal.coe_mul, ← EReal.coe_mul], sum_coe, sc, Finset.sum_mul]
    congr 1
    exact Finset.sum_congr rfl fun e _ => by ring
  case isFalse h => rfl

include hk in
/-- The scores divided by eight afterwards. -/
theorem score_post (i : Fin m) (j : Fin n) :
    (if vis i j then Ideal.div (∑ e, (q i e : EReal) * k' j e) ((8 : ℝ) : EReal) else ⊥) = score (vis i) (sc q k i) j := by
  unfold score
  split
  case isTrue h =>
    rw [Finset.sum_congr rfl fun e _ => by rw [hk i j h e, ← EReal.coe_mul], sum_coe, Ideal.div_coe (by norm_num), ← EReal.coe_mul,
      sc]
  case isFalse h => rfl

include hvv in
theorem gv_eq (i : Fin m) (j : Fin n) (h : vis i j) : ∑ e, (g i e : EReal) * v' j e = (gv g v i j : EReal) := by
  rw [Finset.sum_congr rfl fun e _ => by rw [hvv i j h e, ← EReal.coe_mul], sum_coe, gv]

include hv hvv in
/-- The row's product of the output with its gradient is the total of the weights with the values' products. -/
theorem delta_eq (i : Fin m) (M : ℝ) :
    ∑ e, (g i e : EReal) * Ideal.div (∑ j, Ideal.exp (score (vis i) (sc q k i) j - (M : EReal)) * v' j e)
        (∑ j, Ideal.exp (score (vis i) (sc q k i) j - (M : EReal)))
      = ((∑ j, weight (vis i) (sc q k i) j * gv g v i j : ℝ) : EReal) := by
  rw [Finset.sum_congr rfl fun e _ => by
    rw [out_eq (vis i) (sc q k i) (hv i) M (fun j => v' j e) (fun j => v j e) (fun j h => hvv i j h e), ← EReal.coe_mul], sum_coe]
  congr 1
  simp only [gv, Finset.mul_sum]
  rw [Finset.sum_comm]
  exact Finset.sum_congr rfl fun j _ => Finset.sum_congr rfl fun e _ => by ring

include hk in
/-- The queries' gradient, scaled after the product. -/
theorem dQ_post (i : Fin m) (e : Fin d) :
    (∑ j, (dS vis q g k v l i j : EReal) * k' j e) * ((1 / 8 : ℝ) : EReal) = (dQ vis q g k v l i e : EReal) := by
  have : ∀ j, (dS vis q g k v l i j : EReal) * k' j e = ((dS vis q g k v l i j * k j e : ℝ) : EReal) := fun j => by
    by_cases h : vis i j
    · rw [hk i j h, EReal.coe_mul]
    · rw [dS_masked _ _ _ _ _ _ h, EReal.coe_zero, zero_mul, zero_mul, EReal.coe_zero]
  rw [Finset.sum_congr rfl fun j _ => this j, sum_coe, ← EReal.coe_mul, dQ]

include hk in
/-- The queries' gradient, the scores' gradient divided by eight before the product. -/
theorem dQ_pre (i : Fin m) (e : Fin d) :
    ∑ j, Ideal.div (dS vis q g k v l i j : EReal) ((8 : ℝ) : EReal) * k' j e = (dQ vis q g k v l i e : EReal) := by
  have : ∀ j, Ideal.div (dS vis q g k v l i j : EReal) ((8 : ℝ) : EReal) * k' j e
      = ((dS vis q g k v l i j * k j e * (1 / 8) : ℝ) : EReal) := fun j => by
    rw [Ideal.div_coe (by norm_num)]
    by_cases h : vis i j
    · rw [hk i j h, ← EReal.coe_mul, ← EReal.coe_mul]; congr 1; ring
    · rw [dS_masked _ _ _ _ _ _ h, EReal.coe_zero, zero_mul, zero_mul, zero_mul, zero_mul, EReal.coe_zero]
  rw [Finset.sum_congr rfl fun j _ => this j, sum_coe, dQ, Finset.sum_mul]

/-- The keys' gradient, from queries scaled beforehand. -/
theorem dK_pre (j : Fin n) (e : Fin d) :
    ∑ i, (dS vis q g k v l i j : EReal) * ((q i e : EReal) * ((1 / 8 : ℝ) : EReal)) = (dK vis q g k v l j e : EReal) := by
  rw [Finset.sum_congr rfl fun i _ => by rw [← EReal.coe_mul, ← EReal.coe_mul], sum_coe, dK, Finset.sum_mul]
  congr 1
  exact Finset.sum_congr rfl fun i _ => by ring

/-- The keys' gradient, the scores' gradient divided by eight. -/
theorem dK_post (j : Fin n) (e : Fin d) :
    ∑ i, Ideal.div (dS vis q g k v l i j : EReal) ((8 : ℝ) : EReal) * (q i e : EReal) = (dK vis q g k v l j e : EReal) := by
  rw [Finset.sum_congr rfl fun i _ => by rw [Ideal.div_coe (by norm_num), ← EReal.coe_mul, ← EReal.coe_mul], sum_coe, dK, Finset.sum_mul]
  congr 1
  exact Finset.sum_congr rfl fun i _ => by ring

theorem dV_eq (j : Fin n) (e : Fin d) : ∑ i, (wt vis q k i j : EReal) * (g i e : EReal) = (dV vis q g k j e : EReal) := by
  rw [Finset.sum_congr rfl fun i _ => by rw [← EReal.coe_mul], sum_coe, dV]

end Block

end Cert.Rows
-- ==== Proof.Layout.lean ====
/- The rows of the whole array: 32 blocks of 128 rows, eight blocks to a sequence; which keys a row sees, the data of a
   block cut out of the whole, and the three gradients of the whole array made of the blocks'. -/
module

public import proofs.«01_k».proof.Proof.Rows

@[expose] public section

noncomputable section

namespace Cert.Rows

/-- Key `j` of the 256 is seen by row `a` of block `b`: at most 128 rows back, and not before the sequence's start. -/
def vis (b : ℕ) (a : Fin 128) (j : Fin 256) : Prop := a.val ≤ j.val ∧ j.val ≤ a.val + 128 ∧ (128 ≤ j.val ∨ b % 8 ≠ 0)

instance (b : ℕ) (a : Fin 128) : DecidablePred (vis b a) := fun j => inferInstanceAs (Decidable (_ ∧ _ ∧ (_ ∨ _)))

/-- A row sees its own token. -/
theorem vis_self (b : ℕ) (a : Fin 128) : ∃ j, vis b a j :=
  ⟨⟨a.val + 128, by have := a.isLt; omega⟩, by have := a.isLt; exact ⟨by simp, le_rfl, Or.inl (by simp)⟩⟩

/-- Row `a` of block `b`. -/
def row (b : Fin 32) (a : Fin 128) : Fin 4096 := ⟨128 * b.val + a.val, by have := b.isLt; have := a.isLt; omega⟩

/-- The row of key `j` of block `b`: the block before and the block itself. -/
def key (b : Fin 32) (j : Fin 256) : Fin 4096 := ⟨128 * b.val + j.val - 128, by have := b.isLt; have := j.isLt; omega⟩

/-- Block `n` of residue `r`. -/
def blk (r : Fin 4) (n : Fin 8) : Fin 32 := ⟨8 * r.val + n.val, by have := r.isLt; have := n.isLt; omega⟩

/-- The token of a re-laid row. -/
def src (ρ : Fin 4096) : Fin 4096 := ⟨ρ.val % 1024 * 4 + ρ.val / 1024, by have := ρ.isLt; omega⟩

theorem src_row (r : Fin 4) (n : Fin 8) (a : Fin 128) (p) : (⟨(n.val * 128 + a.val) * 4 + r.val, p⟩ : Fin 4096) = src (row (blk r n) a) := by
  have := r.isLt; have := n.isLt; have := a.isLt
  exact Fin.ext (show (n.val * 128 + a.val) * 4 + r.val = (128 * (8 * r.val + n.val) + a.val) % 1024 * 4 + (128 * (8 * r.val + n.val) + a.val) / 1024 by omega)

/-- An array's rows of six heads. -/
abbrev Arr : Type := Fin 4096 → Fin 6 → Fin 64 → ℝ

variable (q k v g : Arr) (l : Fin 4096 → Fin 6 → ℝ)

def rowsOf (x : Arr) (b : Fin 32) (h : Fin 6) (a : Fin 128) (e : Fin 64) : ℝ := x (row b a) h e
def keysOf (x : Arr) (b : Fin 32) (h : Fin 6) (j : Fin 256) (e : Fin 64) : ℝ := x (key b j) h e

/-- Block `b`'s gradient of head `h`'s queries. -/
def gradQ (b : Fin 32) (h : Fin 6) (a : Fin 128) (e : Fin 64) : ℝ :=
  dQ (vis b.val) (rowsOf q b h) (rowsOf g b h) (keysOf k b h) (keysOf v b h) (fun a => l (row b a) h) a e

/-- What block `b` adds to head `h`'s gradient of the keys. -/
def gradK (b : Fin 32) (h : Fin 6) (j : Fin 256) (e : Fin 64) : ℝ :=
  dK (vis b.val) (rowsOf q b h) (rowsOf g b h) (keysOf k b h) (keysOf v b h) (fun a => l (row b a) h) j e

/-- What block `b` adds to head `h`'s gradient of the values. -/
def gradV (b : Fin 32) (h : Fin 6) (j : Fin 256) (e : Fin 64) : ℝ :=
  dV (vis b.val) (rowsOf q b h) (rowsOf g b h) (keysOf k b h) j e

theorem gradK_start (b : Fin 32) (hb : b.val % 8 = 0) (h : Fin 6) (j : Fin 256) (hj : j.val < 128) (e : Fin 64) :
    gradK q k v g l b h j e = 0 :=
  dK_masked _ _ _ _ _ _ _ (fun i hi => by rcases hi.2.2 with h1 | h1 <;> omega) _

theorem gradV_start (b : Fin 32) (hb : b.val % 8 = 0) (h : Fin 6) (j : Fin 256) (hj : j.val < 128) (e : Fin 64) :
    gradV q k g b h j e = 0 :=
  dV_masked _ _ _ _ _ (fun i hi => by rcases hi.2.2 with h1 | h1 <;> omega) _

/-- Keys' contributions put together: a row is a later key of its own block and, but in a sequence's last block, an earlier
    key of the next. -/
def gather (f : Fin 32 → Fin 6 → Fin 256 → Fin 64 → ℝ) (b : Fin 32) (h : Fin 6) (a : Fin 128) (e : Fin 64) : ℝ :=
  f b h ⟨128 + a.val, by have := a.isLt; omega⟩ e
    + if hb : b.val % 8 ≠ 7 then f ⟨b.val + 1, by have := b.isLt; omega⟩ h ⟨a.val, by have := a.isLt; omega⟩ e else 0

end Cert.Rows
-- ==== Proof.Words.lean ====
/- Words the two programs test and start from: the window's and the sequence's tests as bits, the constants as reals. -/
module

public import proofs.«01_k».proof.Proof.Layout
public import Idealize.ShloMosaic.Lib.Pointwise

@[expose] public section

noncomputable section

namespace Cert.Rows

open Idealize.ShloMosaic

/-- The difference of a row's position and a key's, as a signed word. -/
theorem diff_toInt {a j : ℕ} (ha : a < 128) (hj : j < 256) :
    (IntOp.subi (IntOp.addi (BitVec.ofNat 32 a) 128#32) (BitVec.ofNat 32 j)).toInt = (a : ℤ) + 128 - j := by
  show (BitVec.ofNat 32 a + 128#32 - BitVec.ofNat 32 j).toInt = _
  rw [BitVec.toInt_eq_toNat_cond, BitVec.toNat_sub, BitVec.toNat_add, BitVec.toNat_ofNat, BitVec.toNat_ofNat, BitVec.toNat_ofNat]
  split <;> omega

theorem and_bits (p q : Prop) [Decidable p] [Decidable q] :
    BitVec.ofBool (decide p) &&& BitVec.ofBool (decide q) = BitVec.ofBool (decide (p ∧ q)) := by
  by_cases hp : p <;> by_cases hq : q <;> simp [hp, hq]

theorem or_bits (p q : Prop) [Decidable p] [Decidable q] :
    BitVec.ofBool (decide p) ||| BitVec.ofBool (decide q) = BitVec.ofBool (decide (p ∨ q)) := by
  by_cases hp : p <;> by_cases hq : q <;> simp [hp, hq]

/-- The window's test of a row and a key. -/
theorem near_bit {a j : ℕ} (ha : a < 128) (hj : j < 256) :
    IntOp.andi (IntOp.cmpi .sge (IntOp.subi (IntOp.addi (BitVec.ofNat 32 a) 128#32) (BitVec.ofNat 32 j)) 0#32)
        (IntOp.cmpi .sle (IntOp.subi (IntOp.addi (BitVec.ofNat 32 a) 128#32) (BitVec.ofNat 32 j)) 128#32)
      = BitVec.ofBool (decide (a ≤ j ∧ j ≤ a + 128)) := by
  show BitVec.ofBool (decide _) &&& BitVec.ofBool (decide _) = _
  rw [diff_toInt ha hj, BitVec.toInt_zero, show (128#32 : BitVec 32).toInt = 128 from by decide, and_bits]
  congr 1
  exact decide_eq_decide.2 (by omega)

/-- The two tests together say that the key is visible. -/
theorem vis_bits {b : ℕ} (a : Fin 128) (j : Fin 256) :
    IntOp.andi (BitVec.ofBool (decide (a.val ≤ j.val ∧ j.val ≤ a.val + 128))) (BitVec.ofBool (decide (128 ≤ j.val ∨ b % 8 ≠ 0)))
      = BitVec.ofBool (decide (vis b a j)) := by
  show BitVec.ofBool _ &&& BitVec.ofBool _ = _
  rw [and_bits]
  congr 1
  exact decide_eq_decide.2 (by unfold vis; rw [and_assoc])

/-- A choice by a bit that says whether `p`. -/
theorem select_bit {α : Type} (p : Prop) [Decidable p] (x y : α) :
    Scalar.select (BitVec.ofBool (decide p)) x y = if p then x else y := by
  unfold Scalar.select
  by_cases h : p <;> simp [h]

/-- The word of −∞. -/
theorem ninf : Ideal.ofBits .f32 0xFF800000#32 = ⊥ := by simp [Ideal.ofBits, Ideal.ieee]

/-- The word of an eighth. -/
theorem eighth : Ideal.ofBits .f32 0x3E000000#32 = ((1 / 8 : ℝ) : EReal) := by
  simp [Ideal.ofBits, Ideal.ieee]
  rw [← EReal.coe_mul]
  norm_num

/-- The word of eight. -/
theorem eight : Ideal.ofBits .f32 0x41000000#32 = ((8 : ℝ) : EReal) := by
  simp [Ideal.ofBits, Ideal.ieee]
  rw [← EReal.coe_mul]
  norm_num

/-- Only a block's place in its sequence counts. -/
theorem vis_mod (b : ℕ) (a : Fin 128) (j : Fin 256) : vis (b % 8) a j ↔ vis b a j := by
  unfold vis; rw [Nat.mod_mod]

/-- The test that a key's position is not before the sequence's start. -/
theorem place_bit {n j : ℕ} (hn : n < 8) (hj : j < 256) :
    IntOp.cmpi .sge (IntOp.addi (IntOp.subi (IntOp.muli (BitVec.ofNat 32 n) 128#32) 128#32) (BitVec.ofNat 32 j)) 0#32
      = BitVec.ofBool (decide (128 ≤ j ∨ n % 8 ≠ 0)) := by
  show BitVec.ofBool (decide _) = _
  congr 1
  refine decide_eq_decide.2 ?_
  show (0#32 : BitVec 32).toInt ≤ (BitVec.ofNat 32 n * 128#32 - 128#32 + BitVec.ofNat 32 j).toInt ↔ _
  rw [BitVec.toInt_zero, BitVec.toInt_eq_toNat_cond, BitVec.toNat_add, BitVec.toNat_sub, BitVec.toNat_mul, BitVec.toNat_ofNat,
    BitVec.toNat_ofNat, BitVec.toNat_ofNat]
  split <;> omega

end Cert.Rows
-- ==== Proof.BlockReads.lean ====
/- The blocks of both calls, read at an index over the extended reals. -/
module

public import proofs.«01_k».proof.Proof.BwdBody
public import proofs.«01_k».proof.Proof.Words
public import Idealize.ShloMosaic.Lib.Pointwise

@[expose] public section

noncomputable section

namespace Cert.KernelIdeal.Attn

open Cert.KernelIdeal Cert.KernelIdeal.Gen
open Idealize.ShloMosaic Idealize.ShloMosaic.TcCoe
open Cert.Rows (vis and_bits or_bits near_bit vis_bits select_bit ninf eighth)

/-- Column `e` of head `h`. -/
def cc (h : Fin 6) (e : Fin 64) : Fin 384 := ⟨64 * h.val + e.val, by have := h.isLt; have := e.isLt; omega⟩

/-- A head's columns, at an index. -/
theorem col_apply {t : EltTy} (x : Vec Ideal S128x384 t) (h : Fin 6) (i : Fin 128) (e : Fin 64) :
    col x h (ix2 i e) = x (ix2 i (cc h e)) := by
  unfold col VecWindow.window
  congr 1
  funext a
  match a with
  | ⟨0, _⟩ => exact Fin.ext (show 0 + 1 * i.val = i.val by omega)
  | ⟨1, _⟩ => exact Fin.ext (show 64 * h.val + 1 * e.val = 64 * h.val + e.val by omega)

/-- A head's first column, at a row. -/
theorem lead_apply (x : Vec Ideal S128x384 .f32) (h : Fin 6) (i : Fin 128) :
    lead x h (ix2 i 0) = x (ix2 i (cc h 0)) := by
  unfold lead VecWindow.window
  congr 1
  funext a
  match a with
  | ⟨0, _⟩ => exact Fin.ext (show 0 + 1 * i.val = i.val by omega)
  | ⟨1, _⟩ => exact Fin.ext (show 64 * h.val + 1 * 0 = 64 * h.val + 0 by omega)

/-- Six heads side by side, at a head's column. -/
theorem join6_apply (f : Fin 6 → FVec Ideal S128x64 .f32) (h : Fin 6) (i : Fin 128) (e : Fin 64) :
    join6 f (ix2 i (cc h e)) = f h (ix2 i e) := by
  have he := e.isLt
  unfold join6
  fin_cases h <;>
  [refine concatenate_apply_piece (t := S128x384) 1 _ _ (ix2 i (cc _ e)) 0 (by simp) S128x64 (f 0) rfl rfl 0 rfl (ix2 i e) ?_ ?_;
   refine concatenate_apply_piece (t := S128x384) 1 _ _ (ix2 i (cc _ e)) 1 (by simp) S128x64 (f 1) rfl rfl 64 rfl (ix2 i e) ?_ ?_;
   refine concatenate_apply_piece (t := S128x384) 1 _ _ (ix2 i (cc _ e)) 2 (by simp) S128x64 (f 2) rfl rfl 128 rfl (ix2 i e) ?_ ?_;
   refine concatenate_apply_piece (t := S128x384) 1 _ _ (ix2 i (cc _ e)) 3 (by simp) S128x64 (f 3) rfl rfl 192 rfl (ix2 i e) ?_ ?_;
   refine concatenate_apply_piece (t := S128x384) 1 _ _ (ix2 i (cc _ e)) 4 (by simp) S128x64 (f 4) rfl rfl 256 rfl (ix2 i e) ?_ ?_;
   refine concatenate_apply_piece (t := S128x384) 1 _ _ (ix2 i (cc _ e)) 5 (by simp) S128x64 (f 5) rfl rfl 320 rfl (ix2 i e) ?_ ?_]
  all_goals first
    | rfl
    | (intro b hb; match b with
        | ⟨0, _⟩ => rfl
        | ⟨1, _⟩ => exact absurd rfl hb)

/-- Six heads of 256 rows side by side, at a head's column. -/
theorem tall6_apply (f : Fin 6 → FVec Ideal S256x64 .f32) (h : Fin 6) (i : Fin 256) (e : Fin 64) :
    tall6 f (ix2 i (cc h e)) = f h (ix2 i e) := by
  have he := e.isLt
  unfold tall6
  fin_cases h <;>
  [refine concatenate_apply_piece (t := S256x384) 1 _ _ (ix2 i (cc _ e)) 0 (by simp) S256x64 (f 0) rfl rfl 0 rfl (ix2 i e) ?_ ?_;
   refine concatenate_apply_piece (t := S256x384) 1 _ _ (ix2 i (cc _ e)) 1 (by simp) S256x64 (f 1) rfl rfl 64 rfl (ix2 i e) ?_ ?_;
   refine concatenate_apply_piece (t := S256x384) 1 _ _ (ix2 i (cc _ e)) 2 (by simp) S256x64 (f 2) rfl rfl 128 rfl (ix2 i e) ?_ ?_;
   refine concatenate_apply_piece (t := S256x384) 1 _ _ (ix2 i (cc _ e)) 3 (by simp) S256x64 (f 3) rfl rfl 192 rfl (ix2 i e) ?_ ?_;
   refine concatenate_apply_piece (t := S256x384) 1 _ _ (ix2 i (cc _ e)) 4 (by simp) S256x64 (f 4) rfl rfl 256 rfl (ix2 i e) ?_ ?_;
   refine concatenate_apply_piece (t := S256x384) 1 _ _ (ix2 i (cc _ e)) 5 (by simp) S256x64 (f 5) rfl rfl 320 rfl (ix2 i e) ?_ ?_]
  all_goals first
    | rfl
    | (intro b hb; match b with
        | ⟨0, _⟩ => rfl
        | ⟨1, _⟩ => exact absurd rfl hb)

/-- Two blocks of 128 rows, one over the other. -/
def stack (x y : Fin 128 → EReal) (j : Fin 256) : EReal :=
  if h : j.val < 128 then x ⟨j.val, h⟩ else y ⟨j.val - 128, by have := j.isLt; omega⟩

theorem pair_apply (x y : Vec Ideal S128x384 .bf16) (h : Fin 6) (j : Fin 256) (e : Fin 64) :
    pair x y h (ix2 j e) = stack (fun a => x (ix2 a (cc h e))) (fun a => y (ix2 a (cc h e))) j := by
  unfold pair stack
  pointwise [k0_pay3, col_apply]

theorem pair'_apply (x y : Vec Ideal S128x384 .bf16) (h : Fin 6) (j : Fin 256) (e : Fin 64) :
    k1_pay11 (col x h) (col y h) (ix2 j e) = stack (fun a => x (ix2 a (cc h e))) (fun a => y (ix2 a (cc h e))) j := by
  unfold stack
  pointwise [k1_pay11, col_apply]

/-- The two calls' test of a key against the sequence's start. -/
theorem start_bit {b j : ℕ} (hb : b < 32) (hj : j < 256) :
    IntOp.ori (IntOp.cmpi .sge (BitVec.ofNat 32 j) 128#32)
        (Scalar.xori (Scalar.cmpi .eq (Scalar.andi (BitVec.ofNat 32 b) 7#32) 0#32) 1#1)
      = BitVec.ofBool (decide (128 ≤ j ∨ b % 8 ≠ 0)) := by
  have h1 : IntOp.cmpi .sge (BitVec.ofNat 32 j) 128#32 = BitVec.ofBool (decide (128 ≤ j)) := by
    show BitVec.ofBool (decide _) = _
    congr 1
    refine decide_eq_decide.2 ?_
    rw [show (128#32 : BitVec 32).toInt = 128 from by decide, BitVec.toInt_eq_toNat_cond, BitVec.toNat_ofNat]
    split <;> omega
  have h2 : ∀ b : Fin 32, Scalar.xori (Scalar.cmpi .eq (Scalar.andi (BitVec.ofNat 32 b.val) 7#32) 0#32) 1#1
      = BitVec.ofBool (decide (b.val % 8 ≠ 0)) := by decide
  rw [h1, h2 ⟨b, hb⟩]
  show BitVec.ofBool _ ||| BitVec.ofBool _ = _
  rw [or_bits]

theorem mask0 (i : grid0.Coords) (a : Fin 128) (j : Fin 256) :
    k0_pay2 i (ix2 a j) = BitVec.ofBool (decide (vis (i 0).val a j)) := by
  have hb : (i 0).val < 32 := (i 0).isLt
  pointwise [k0_pay2]
  rw [near_bit a.isLt j.isLt, start_bit hb j.isLt, vis_bits]

theorem mask1 (i : grid1.Coords) (a : Fin 128) (j : Fin 256) :
    k1_pay4 i (ix2 a j) = BitVec.ofBool (decide (vis (i 0).val a j)) := by
  have hb : (i 0).val < 32 := (i 0).isLt
  pointwise [k1_pay4]
  rw [near_bit a.isLt j.isLt, start_bit hb j.isLt, vis_bits]

/-- −∞, the mask's named value. -/
theorem mask_val : (Named.named κ "mask" 0xF149F2CA#32 : Ideal .f32) = (⊥ : EReal) := rfl

/-- Head `h`'s masked scores. -/
theorem fwdScore_apply (i : grid0.Coords) (q kp kc : Vec Ideal S128x384 .bf16) (h : Fin 6) (a : Fin 128) (j : Fin 256) :
    k0_pay22 (k0_pay2 i) (pair kp kc h) (col q h) (ix2 a j)
      = if vis (i 0).val a j then ∑ e : Fin 64, q (ix2 a (cc h e)) * stack (fun a => kp (ix2 a (cc h e))) (fun a => kc (ix2 a (cc h e))) j
        else (⊥ : EReal) := by
  pointwise [k0_pay22, mask0, select_bit, mask_val, col_apply, pair_apply, dot_S128x64_S256x64_S128x256_1_1_0_0_n_n]

theorem fwdMax_apply (i : grid0.Coords) (q kp kc : Vec Ideal S128x384 .bf16) (h : Fin 6) (a : Fin 128) :
    fwdMax i q kp kc h (ix2 a 0)
      = (Finset.univ : Finset (Fin 256)).fold max ⊥ fun j => k0_pay22 (k0_pay2 i) (pair kp kc h) (col q h) (ix2 a j) := by
  pointwise [fwdMax, k0_pay23]
  rw [ninf]

theorem fwdExp_apply (i : grid0.Coords) (q kp kc : Vec Ideal S128x384 .bf16) (h : Fin 6) (a : Fin 128) (j : Fin 256) :
    fwdExp i q kp kc h (ix2 a j)
      = Ideal.exp (k0_pay22 (k0_pay2 i) (pair kp kc h) (col q h) (ix2 a j) - fwdMax i q kp kc h (ix2 a 0)) := by
  pointwise [fwdExp, k0_pay24]
  rfl

theorem fwdHead_apply (i : grid0.Coords) (q kp kc vp vc : Vec Ideal S128x384 .bf16) (h : Fin 6) (a : Fin 128) (e : Fin 64) :
    fwdHead i q kp kc vp vc h (ix2 a e)
      = Ideal.div (∑ j : Fin 256, fwdExp i q kp kc h (ix2 a j) * stack (fun a => vp (ix2 a (cc h e))) (fun a => vc (ix2 a (cc h e))) j)
          (∑ j : Fin 256, fwdExp i q kp kc h (ix2 a j)) := by
  pointwise [fwdHead, k0_pay25, k0_pay26, pair_apply, dot_S128x256_S256x64_S128x64_1_0_0_1_n_n]

theorem fwdLse_apply (i : grid0.Coords) (q kp kc : Vec Ideal S128x384 .bf16) (h : Fin 6) (a : Fin 128) (e : Fin 64) :
    fwdLse i q kp kc h (ix2 a e)
      = fwdMax i q kp kc h (ix2 a 0) + Ideal.log (∑ j : Fin 256, fwdExp i q kp kc h (ix2 a j)) := by
  pointwise [fwdLse, k0_pay27, k0_pay25]

theorem bwdP_apply (i : grid1.Coords) (q kp kc : Vec Ideal S128x384 .bf16) (l : Vec Ideal S128x384 .f32) (h : Fin 6) (a : Fin 128)
    (j : Fin 256) :
    bwdP i q kp kc l h (ix2 a j)
      = Ideal.exp ((if vis (i 0).val a j then
            ∑ e : Fin 64, q (ix2 a (cc h e)) * stack (fun a => kp (ix2 a (cc h e))) (fun a => kc (ix2 a (cc h e))) j else (⊥ : EReal))
          - l (ix2 a (cc h 0))) := by
  pointwise [bwdP, k1_pay46, k1_pay5, mask1, select_bit, mask_val, col_apply, lead_apply, pair'_apply,
    dot_S128x64_S256x64_S128x256_1_1_0_0_n_n]

theorem bwdS_apply (i : grid1.Coords) (q kp kc vp vc : Vec Ideal S128x384 .bf16) (o l g gl : Vec Ideal S128x384 .f32) (h : Fin 6)
    (a : Fin 128) (j : Fin 256) :
    bwdS i q kp kc vp vc o l g gl h (ix2 a j)
      = bwdP i q kp kc l h (ix2 a j)
        * ((∑ e : Fin 64, g (ix2 a (cc h e)) * stack (fun a => vp (ix2 a (cc h e))) (fun a => vc (ix2 a (cc h e))) j)
            - (∑ e : Fin 64, g (ix2 a (cc h e)) * o (ix2 a (cc h e))) + gl (ix2 a (cc h 0))) := by
  pointwise [bwdS, k1_pay48, k1_pay23, k1_pay40, k1_pay29, col_apply, lead_apply, pair'_apply,
    dot_S128x64_S256x64_S128x256_1_1_0_0_n_n]

theorem bwdQ_apply (i : grid1.Coords) (q kp kc vp vc : Vec Ideal S128x384 .bf16) (o l g gl : Vec Ideal S128x384 .f32) (h : Fin 6)
    (a : Fin 128) (e : Fin 64) :
    bwdQ i q kp kc vp vc o l g gl h (ix2 a e)
      = ∑ j : Fin 256, bwdS i q kp kc vp vc o l g gl h (ix2 a j)
          * stack (fun a => kp (ix2 a (cc h e))) (fun a => kc (ix2 a (cc h e))) j := by
  pointwise [bwdQ, k1_pay66, pair'_apply, dot_S128x256_S256x64_S128x64_1_0_0_1_n_n]

theorem bwdK_apply (i : grid1.Coords) (q kp kc vp vc : Vec Ideal S128x384 .bf16) (o l g gl : Vec Ideal S128x384 .f32) (h : Fin 6)
    (j : Fin 256) (e : Fin 64) :
    bwdK i q kp kc vp vc o l g gl h (ix2 j e)
      = ∑ a : Fin 128, bwdS i q kp kc vp vc o l g gl h (ix2 a j) * q (ix2 a (cc h e)) := by
  pointwise [bwdK, k1_pay72, k1_pay5, col_apply, dot_S128x256_S128x64_S256x64_0_0_1_1_n_n]

theorem bwdV_apply (i : grid1.Coords) (q kp kc : Vec Ideal S128x384 .bf16) (l g : Vec Ideal S128x384 .f32) (h : Fin 6)
    (j : Fin 256) (e : Fin 64) :
    bwdV i q kp kc l g h (ix2 j e) = ∑ a : Fin 128, bwdP i q kp kc l h (ix2 a j) * g (ix2 a (cc h e)) := by
  pointwise [bwdV, k1_pay47, k1_pay29, k1_pay23, col_apply, dot_S128x256_S128x64_S256x64_0_0_1_1_n_n]

/-- The queries' block, at a head's column. -/
theorem dqBlk_apply (i : grid1.Coords) (q kp kc vp vc : Vec Ideal S128x384 .bf16) (o l g gl : Vec Ideal S128x384 .f32) (h : Fin 6)
    (a : Fin 128) (e : Fin 64) :
    dqBlk i q kp kc vp vc o l g gl (ix2 a (cc h e)) = bwdQ i q kp kc vp vc o l g gl h (ix2 a e) * ((1 / 8 : ℝ) : EReal) := by
  pointwise [dqBlk, join6_apply, eighth]

/-- The keys' block, at a head's column. -/
theorem dkBlk_apply (i : grid1.Coords) (q kp kc vp vc : Vec Ideal S128x384 .bf16) (o l g gl : Vec Ideal S128x384 .f32) (h : Fin 6)
    (j : Fin 256) (e : Fin 64) :
    dkBlk i q kp kc vp vc o l g gl (ix2 j (cc h e)) = bwdK i q kp kc vp vc o l g gl h (ix2 j e) := tall6_apply _ h j e

/-- The values' block, at a head's column. -/
theorem dvBlk_apply (i : grid1.Coords) (q kp kc : Vec Ideal S128x384 .bf16) (l g : Vec Ideal S128x384 .f32) (h : Fin 6)
    (j : Fin 256) (e : Fin 64) : dvBlk i q kp kc l g (ix2 j (cc h e)) = bwdV i q kp kc l g h (ix2 j e) := tall6_apply _ h j e

end Cert.KernelIdeal.Attn
-- ==== Proof.BlockValue.lean ====
/- One grid point of both calls over the extended reals, for inputs that are finite: the three blocks the backward call
   makes are the gradients of `Rows`. -/
module

public import proofs.«01_k».proof.Proof.BlockReads

@[expose] public section

noncomputable section

namespace Cert.KernelIdeal.Attn

open Cert.KernelIdeal Cert.KernelIdeal.Gen
open Idealize.ShloMosaic Idealize.ShloMosaic.TcCoe
open Cert.Rows (vis vis_self)

section

variable (b : ℕ) (h : Fin 6) (q g : Fin 128 → Fin 64 → ℝ) (k v : Fin 256 → Fin 64 → ℝ) (l : Fin 128 → ℝ)
  (q' kp kc vp vc : Vec Ideal S128x384 .bf16) (o' l' g' gl : Vec Ideal S128x384 .f32)
  (hq : ∀ a e, q' (ix2 a (cc h e)) = (q a e : EReal) * ((1 / 8 : ℝ) : EReal))
  (hk : ∀ a j, vis b a j → ∀ e, stack (fun a => kp (ix2 a (cc h e))) (fun a => kc (ix2 a (cc h e))) j = (k j e : EReal))
  (hv : ∀ a j, vis b a j → ∀ e, stack (fun a => vp (ix2 a (cc h e))) (fun a => vc (ix2 a (cc h e))) j = (v j e : EReal))

include hq hk in
/-- The scores of a grid point of the forward call. -/
theorem fwdScore_eq (i : grid0.Coords) (hi : (i 0).val = b) (a : Fin 128) (j : Fin 256) :
    k0_pay22 (k0_pay2 i) (pair kp kc h) (col q' h) (ix2 a j) = Rows.score (vis b a) (Rows.sc q k a) j := by
  subst hi
  rw [fwdScore_apply, ← Rows.score_pre (vis (i 0).val) q k _ hk a j]
  simp only [hq]

include hq hk in
/-- A row's maximum in the forward call is a real. -/
theorem fwdMax_real (i : grid0.Coords) (hi : (i 0).val = b) (a : Fin 128) :
    ∃ M : ℝ, fwdMax i q' kp kc h (ix2 a 0) = (M : EReal) := by
  obtain ⟨M, hM⟩ := Rows.max_real (vis b a) (Rows.sc q k a) (vis_self b a)
  refine ⟨M, ?_⟩
  rw [fwdMax_apply, ← hM]
  congr 1
  exact funext fun j => fwdScore_eq b h q k q' kp kc hq hk i hi a j

include hq hk in
/-- The saved log-sum-exp of a row. -/
theorem fwdL_eq (i : grid0.Coords) (hi : (i 0).val = b) (a : Fin 128) (e : Fin 64) :
    fwdL i q' kp kc (ix2 a (cc h e)) = ((Real.log (Rows.total (vis b a) (Rows.sc q k a)) : ℝ) : EReal) := by
  obtain ⟨M, hM⟩ := fwdMax_real b h q k q' kp kc hq hk i hi a
  rw [fwdL, join6_apply, fwdLse_apply, hM, add_comm,
    Finset.sum_congr rfl fun j _ => by rw [fwdExp_apply, hM, fwdScore_eq b h q k q' kp kc hq hk i hi a j],
    Rows.sum_exp, Rows.log_sum _ _ (vis_self b a)]

include hq hk in
/-- The saved output of a row. -/
theorem fwdO_eq (i : grid0.Coords) (hi : (i 0).val = b) (a : Fin 128) : ∃ M : ℝ, ∀ e : Fin 64,
    fwdO i q' kp kc vp vc (ix2 a (cc h e))
      = Ideal.div (∑ j, Ideal.exp (Rows.score (vis b a) (Rows.sc q k a) j - (M : EReal))
            * stack (fun a => vp (ix2 a (cc h e))) (fun a => vc (ix2 a (cc h e))) j)
          (∑ j, Ideal.exp (Rows.score (vis b a) (Rows.sc q k a) j - (M : EReal))) := by
  obtain ⟨M, hM⟩ := fwdMax_real b h q k q' kp kc hq hk i hi a
  refine ⟨M, fun e => ?_⟩
  have he : ∀ j, fwdExp i q' kp kc h (ix2 a j) = Ideal.exp (Rows.score (vis b a) (Rows.sc q k a) j - (M : EReal)) := fun j => by
    rw [fwdExp_apply, hM, fwdScore_eq b h q k q' kp kc hq hk i hi a j]
  rw [fwdO, join6_apply, fwdHead_apply]
  simp only [he]

variable (i0 : grid0.Coords) (hi0 : (i0 0).val = b) (i : grid1.Coords) (hi : (i 0).val = b)
  (ho : ∀ a e, o' (ix2 a (cc h e)) = fwdO i0 q' kp kc vp vc (ix2 a (cc h e)))
  (hl : ∀ a, l' (ix2 a (cc h 0)) = fwdL i0 q' kp kc (ix2 a (cc h 0)))
  (hg : ∀ a e, g' (ix2 a (cc h e)) = (g a e : EReal)) (hgl : ∀ a, gl (ix2 a (cc h 0)) = (l a : EReal))

include hq hk hi0 hi hl in
/-- The weights recomputed by the backward call. -/
theorem bwdP_eq (a : Fin 128) (j : Fin 256) : bwdP i q' kp kc l' h (ix2 a j) = (Rows.wt (vis b) q k a j : EReal) := by
  rw [bwdP_apply, hi, hl, fwdL_eq b h q k q' kp kc hq hk i0 hi0 a 0, Rows.wt, ← Rows.exp_lse _ _ (vis_self b a),
    ← Rows.score_pre (vis b) q k _ hk a j]
  simp only [hq]

include hq hk hv hi0 hi ho hl hg hgl in
/-- The scores' gradient. -/
theorem bwdS_eq (a : Fin 128) (j : Fin 256) :
    bwdS i q' kp kc vp vc o' l' g' gl h (ix2 a j) = (Rows.dS (vis b) q g k v l a j : EReal) := by
  obtain ⟨M, hM⟩ := fwdO_eq b h q k q' kp kc vp vc hq hk i0 hi0 a
  rw [bwdS_apply, bwdP_eq b h q k q' kp kc l' hq hk i0 hi0 i hi hl a j, hgl]
  simp only [hg, ho, hM]
  rw [Rows.delta_eq (vis b) q g k v (vis_self b) _ hv a M]
  exact Rows.slope_saved (vis b a) (Rows.sc q k a) _ (Rows.gv g v a) (fun j hj => Rows.gv_eq (vis b) g v _ hv a j hj) (l a) j

include hq hk hv hi0 hi ho hl hg hgl in
/-- The queries' gradient of a grid point. -/
theorem dqBlk_eq (a : Fin 128) (e : Fin 64) :
    dqBlk i q' kp kc vp vc o' l' g' gl (ix2 a (cc h e)) = (Rows.dQ (vis b) q g k v l a e : EReal) := by
  rw [dqBlk_apply, bwdQ_apply, ← Rows.dQ_post (vis b) q g k v l _ hk a e]
  congr 1
  refine Finset.sum_congr rfl fun j _ => ?_
  rw [bwdS_eq b h q g k v l q' kp kc vp vc o' l' g' gl hq hk hv i0 hi0 i hi ho hl hg hgl a j]

include hq hk hv hi0 hi ho hl hg hgl in
/-- What a grid point adds to the keys' gradient. -/
theorem dkBlk_eq (j : Fin 256) (e : Fin 64) :
    dkBlk i q' kp kc vp vc o' l' g' gl (ix2 j (cc h e)) = (Rows.dK (vis b) q g k v l j e : EReal) := by
  rw [dkBlk_apply, bwdK_apply, ← Rows.dK_pre (vis b) q g k v l j e]
  refine Finset.sum_congr rfl fun a _ => ?_
  rw [bwdS_eq b h q g k v l q' kp kc vp vc o' l' g' gl hq hk hv i0 hi0 i hi ho hl hg hgl a j, hq]

include hq hk hi0 hi hl hg in
/-- What a grid point adds to the values' gradient. -/
theorem dvBlk_eq (j : Fin 256) (e : Fin 64) :
    dvBlk i q' kp kc l' g' (ix2 j (cc h e)) = (Rows.dV (vis b) q g k j e : EReal) := by
  rw [dvBlk_apply, bwdV_apply, ← Rows.dV_eq (vis b) q g k j e]
  refine Finset.sum_congr rfl fun a _ => ?_
  rw [bwdP_eq b h q k q' kp kc l' hq hk i0 hi0 i hi hl a j, hg]

end

end Cert.KernelIdeal.Attn
-- ==== Proof.Arrays.lean ====
/- What the two regions find: the arrays the host code prepares, read at an index over the extended reals. -/
module

public import proofs.«01_k».proof.Proof.Run
public import proofs.«01_k».proof.Proof.BlockValue

@[expose] public section

noncomputable section

namespace Cert.KernelIdeal.Attn

open Cert.KernelIdeal Cert.KernelIdeal.Gen
open Idealize.ShloMosaic Idealize.ShloMosaic.TcCoe
open Idealize.ShloMosaic.Tactic
open Cert.Rows (vis row src eighth)

/-- An array of tokens re-laid by residue, its heads side by side. -/
def relaid (x : FVec Ideal S1x4096x6x64 .f32) : FVec Ideal S4x1024x384 .f32 :=
  transpose S4x1024x384 [1, 0, 2] (fun i => shapeCast S1024x4x384 x shapeCasts_S1x4096x6x64_S1024x4x384 i)
    transposes_S1024x4x384_S4x1024x384_1_0_2

/-- The scaled queries, the keys and the values side by side. -/
def packed (q k v : FVec Ideal S1x4096x6x64 .f32) : FVec Ideal S4x1024x1152 .bf16 :=
  truncf .bf16 (concatenate S4x1024x1152 2
    [⟨S4x1024x384, mulf (relaid q) (broadcastInDim S4x1024x384 ![] bcast_S_S4x1024x384 (constant S_ .f32 0x3E000000#32))⟩,
      ⟨S4x1024x384, relaid k⟩, ⟨S4x1024x384, relaid v⟩]
    concatenates_S4x1024x384_S4x1024x384_S4x1024x384_S4x1024x1152_d2) bitsLt_bf16_f32

/-- The rows the two regions cut into blocks. -/
def packedRows (q k v : FVec Ideal S1x4096x6x64 .f32) : FVec Ideal S4096x1152 .bf16 :=
  fun i => shapeCast S4096x1152 (packed q k v) shapeCasts_S4x1024x1152_S4096x1152 i

/-- A re-laid array's rows. -/
def rowsAll (x : FVec Ideal S1x4096x6x64 .f32) : FVec Ideal S4096x384 .f32 :=
  fun i => shapeCast S4096x384 (relaid x) shapeCasts_S4x1024x384_S4096x384 i

/-- A row's number once for each of a head's columns, re-laid. -/
def spread (l : FVec Ideal S1x4096x6 .f32) : FVec Ideal S1x4096x6x64 .f32 := broadcastInDim S1x4096x6x64 ![0, 1, 2] bcast_S1x4096x6_S1x4096x6x64_0_1_2 l

/-- A row's number in each of a head's columns, re-laid by residue: the rows of the last argument of the second region. -/
def rowsSpread (l : FVec Ideal S1x4096x6 .f32) : FVec Ideal S4096x384 .f32 :=
  fun i => shapeCast S4096x384 (transpose S4x1024x384 [1, 0, 2] (fun i => shapeCast S1024x4x384
      (fun i => shapeCast S1x4096x384 (spread l) shapeCasts_S1x4096x6x64_S1x4096x384 i) shapeCasts_S1x4096x384_S1024x4x384 i)
    transposes_S1024x4x384_S4x1024x384_1_0_2) shapeCasts_S4x1024x384_S4096x384 i

/-- An array's rows cut by residue and put together again. -/
def cutJoin (x : FVec Ideal S4096x384 .f32) : FVec Ideal S4096x384 .f32 :=
  fun i => shapeCast S4096x384 (fun i => shapeCast S4x1024x384 x shapeCasts_S4096x384_S4x1024x384 i) shapeCasts_S4x1024x384_S4096x384 i

theorem cc_div (h : Fin 6) (e : Fin 64) (p) : (⟨(cc h e).val / 64, p⟩ : Fin 6) = h :=
  Fin.ext (show (64 * h.val + e.val) / 64 = h.val by have := e.isLt; omega)
theorem cc_mod (h : Fin 6) (e : Fin 64) (p) : (⟨(cc h e).val % 64, p⟩ : Fin 64) = e :=
  Fin.ext (show (64 * h.val + e.val) % 64 = e.val by have := e.isLt; omega)

theorem relaid_apply (x : FVec Ideal S1x4096x6x64 .f32) (r : Fin 4) (p : Fin 1024) (h : Fin 6) (e : Fin 64) :
    relaid x (ix3 r p (cc h e)) = x (ix4 0 ⟨p.val * 4 + r.val, by omega⟩ h e) := by
  pointwise [relaid]
  rw [cc_div, cc_mod]

theorem rowsAll_apply (x : FVec Ideal S1x4096x6x64 .f32) (ρ : Fin 4096) (h : Fin 6) (e : Fin 64) :
    rowsAll x (ix2 ρ (cc h e)) = x (ix4 0 (src ρ) h e) := by
  pointwise [rowsAll]
  rw [relaid_apply]
  rfl

theorem cutJoin_apply (x : FVec Ideal S4096x384 .f32) (ρ : Fin 4096) (j : Fin 384) : cutJoin x (ix2 ρ j) = x (ix2 ρ j) := by
  pointwise [cutJoin]

theorem rowsSpread_apply (l : FVec Ideal S1x4096x6 .f32) (ρ : Fin 4096) (h : Fin 6) (e : Fin 64) :
    rowsSpread l (ix2 ρ (cc h e)) = l (ix3 0 (src ρ) h) := by
  pointwise [rowsSpread, spread]
  rw [cc_div]
  rfl

theorem packedRows_q (q k v : FVec Ideal S1x4096x6x64 .f32) (ρ : Fin 4096) (h : Fin 6) (e : Fin 64) :
    packedRows q k v (ix2 ρ ⟨(cc h e).val, by have := (cc h e).isLt; omega⟩) = q (ix4 0 (src ρ) h e) * (((1 / 8 : ℝ)) : EReal) := by
  pointwise [packedRows, packed, id]
  rw [relaid_apply, eighth]
  rfl

theorem packedRows_k (q k v : FVec Ideal S1x4096x6x64 .f32) (ρ : Fin 4096) (h : Fin 6) (e : Fin 64) :
    packedRows q k v (ix2 ρ ⟨384 + (cc h e).val, by have := (cc h e).isLt; omega⟩) = k (ix4 0 (src ρ) h e) := by
  pointwise [packedRows, packed, id]
  rw [relaid_apply]
  rfl

theorem packedRows_v (q k v : FVec Ideal S1x4096x6x64 .f32) (ρ : Fin 4096) (h : Fin 6) (e : Fin 64) :
    packedRows q k v (ix2 ρ ⟨768 + (cc h e).val, by have := (cc h e).isLt; omega⟩) = v (ix4 0 (src ρ) h e) := by
  pointwise [packedRows, packed, id]
  rw [dif_neg (by omega), dif_neg (by omega)]
  have e0 : ∀ p, (⟨768 + (cc h e).val - 384 - 384, p⟩ : Fin 384) = cc h e := fun p => Fin.ext (by show 768 + (cc h e).val - 384 - 384 = (cc h e).val; omega)
  rw [e0, relaid_apply]
  rfl

variable (m : (ℓ : Loc nD τ sig) → Buf (Elt Ideal) ℓ) (c : Dev nD)

theorem V1_v9 : V1 m c main_v9 = packed (m ((c : Thread nD τ).loc main_arg0)) (m ((c : Thread nD τ).loc main_arg1)) (m ((c : Thread nD τ).loc main_arg2)) := by
  unfold V1
  after_results_simp <;> rfl

theorem ent0_v10 : ent0 m c main_v10
    = packedRows (m ((c : Thread nD τ).loc main_arg0)) (m ((c : Thread nD τ).loc main_arg1)) (m ((c : Thread nD τ).loc main_arg2)) := by
  unfold ent0 V1
  after_results_simp <;> rfl

/-- The forward call leaves the packed array and the cotangents as they were. -/
theorem V2_arg (r : Ref sig .tc) (h2 : r ∉ ([main_v11_0, main_v11_1] : List (Ref sig .tc))) (h1 : r ∉ hostOps0_W) :
    V2 m (outs2 m) c r = m ((c : Thread nD τ).loc r) := (V2_of m (outs2 m) c r h2).trans (V1_of m c r h1)

theorem found_lse : V2 m (outs2 m) c main_v11_1 = (dat0 (ent0 m) c).arrAt 6 cfg0.N := by
  unfold V2
  exact (Function.update_self ..).trans (fin0_v11_1 m c)

theorem found_o : V2 m (outs2 m) c main_v11_0 = (dat0 (ent0 m) c).arrAt 5 cfg0.N := by
  unfold V2
  rw [Function.update_of_ne (StableHlo.devRef_ne_of_ne (by decide : main_v11_0 ≠ main_v11_1))]
  exact (Function.update_self ..).trans (fin0_v11_0 m c)

theorem ent1_v20 : ent1 m c main_v20
    = packedRows (m ((c : Thread nD τ).loc main_arg0)) (m ((c : Thread nD τ).loc main_arg1)) (m ((c : Thread nD τ).loc main_arg2)) := by
  unfold ent1 V3
  after_results_simp
  rw [V2_of m (outs2 m) c main_v9 (by decide), V1_v9]
  rfl

theorem ent1_v21 : ent1 m c main_v21 = cutJoin ((dat0 (ent0 m) c).arrAt 5 cfg0.N) := by
  unfold ent1 V3
  after_results_simp
  rw [found_o]
  rfl

theorem ent1_v22 : ent1 m c main_v22 = cutJoin ((dat0 (ent0 m) c).arrAt 6 cfg0.N) := by
  unfold ent1 V3
  after_results_simp
  rw [found_lse]
  rfl

theorem ent1_v23 : ent1 m c main_v23 = rowsAll (m ((c : Thread nD τ).loc main_arg3)) := by
  unfold ent1 V3
  after_results_simp
  rw [V2_arg m c main_arg3 (by decide) (by decide)]
  rfl

theorem ent1_v24 : ent1 m c main_v24 = rowsSpread (m ((c : Thread nD τ).loc main_arg4)) := by
  unfold ent1 V3
  after_results_simp
  rw [V2_arg m c main_arg4 (by decide) (by decide)]
  rfl

end Cert.KernelIdeal.Attn
-- ==== Proof.Blocks.lean ====
/- The windows' blocks at an index, and the outputs the points write back, each to rows of its own. -/
module

public import proofs.«01_k».proof.Proof.Arrays
public import Idealize.ShloMosaic.Lib.Pipeline.Value

@[expose] public section

noncomputable section

namespace Cert.KernelIdeal.Attn

open Cert.KernelIdeal Cert.KernelIdeal.Gen
open Idealize.ShloMosaic Idealize.ShloMosaic.TcCoe
open Idealize.ShloMosaic.Pipeline (Dat Cfg Window BodyObligation cellOf)
open Cert.Rows (vis row)

/-- The block before block `b` (the first block's is itself). -/
def prev (b : Fin 32) : Fin 32 := ⟨b.val - 1, by have := b.isLt; omega⟩

theorem coords0 : ∀ t : Fin grid0.N, (grid0.coords t 0).val = t.val := by decide
theorem coords1 : ∀ t : Fin grid1.N, (grid1.coords t 0).val = t.val := by decide

/-- Point `b` of each call. -/
def pt0 (b : Fin 32) : Fin cfg0.N := ⟨b.val, b.isLt⟩
def pt1 (b : Fin 32) : Fin cfg1.N := ⟨b.val, b.isLt⟩

variable (V : Bufs (F := Ideal)) (c : Dev nD)

theorem idx0_0_0 : ∀ b : Fin 32, (cfg0.win 0).index (pt0 b) (0 : Fin 2) = b.val := by decide
theorem idx0_0_1 : ∀ b : Fin 32, (cfg0.win 0).index (pt0 b) (1 : Fin 2) = 0 := by decide

theorem emb0_0 (b : Fin 32) (a : Fin 128) (j : Fin 384) :
    ((cfg0.win 0).rect (pt0 b)).emb (ix2 a j) = ix2 (row b a) (⟨j.val, by have := j.isLt; omega⟩ : Fin 1152) := by
  funext x
  apply Fin.ext
  match x with
  | ⟨0, _⟩ =>
    refine (Window.rect_emb_val _ _ _ _).trans ?_
    show (cfg0.win 0).index (pt0 b) (0 : Fin 2) * 128 + a.val = 128 * (b.val) + a.val
    rw [idx0_0_0]; omega
  | ⟨1, _⟩ =>
    refine (Window.rect_emb_val _ _ _ _).trans ?_
    show (cfg0.win 0).index (pt0 b) (1 : Fin 2) * 384 + j.val = j.val
    rw [idx0_0_1]; omega

theorem blk0_0 (b : Fin 32) (a : Fin 128) (j : Fin 384) :
    (blk0 V c 0 (pt0 b) : Vec Ideal S128x384 .bf16) (ix2 a j) = (V c main_v10 : Vec Ideal S4096x1152 .bf16) (ix2 (row b a) (⟨j.val, by have := j.isLt; omega⟩ : Fin 1152)) := by
  unfold blk0
  rw [View.read_apply]
  exact congrArg (V c main_v10) (emb0_0 b a j)

theorem idx0_1_0 : ∀ b : Fin 32, (cfg0.win 1).index (pt0 b) (0 : Fin 2) = b.val - 1 := by decide
theorem idx0_1_1 : ∀ b : Fin 32, (cfg0.win 1).index (pt0 b) (1 : Fin 2) = 1 := by decide

theorem emb0_1 (b : Fin 32) (a : Fin 128) (j : Fin 384) :
    ((cfg0.win 1).rect (pt0 b)).emb (ix2 a j) = ix2 (row (prev b) a) (⟨384 + j.val, by have := j.isLt; omega⟩ : Fin 1152) := by
  funext x
  apply Fin.ext
  match x with
  | ⟨0, _⟩ =>
    refine (Window.rect_emb_val _ _ _ _).trans ?_
    show (cfg0.win 1).index (pt0 b) (0 : Fin 2) * 128 + a.val = 128 * (b.val - 1) + a.val
    rw [idx0_1_0]; omega
  | ⟨1, _⟩ =>
    refine (Window.rect_emb_val _ _ _ _).trans ?_
    show (cfg0.win 1).index (pt0 b) (1 : Fin 2) * 384 + j.val = 384 + j.val
    rw [idx0_1_1]

theorem blk0_1 (b : Fin 32) (a : Fin 128) (j : Fin 384) :
    (blk0 V c 1 (pt0 b) : Vec Ideal S128x384 .bf16) (ix2 a j) = (V c main_v10 : Vec Ideal S4096x1152 .bf16) (ix2 (row (prev b) a) (⟨384 + j.val, by have := j.isLt; omega⟩ : Fin 1152)) := by
  unfold blk0
  rw [View.read_apply]
  exact congrArg (V c main_v10) (emb0_1 b a j)

theorem idx0_2_0 : ∀ b : Fin 32, (cfg0.win 2).index (pt0 b) (0 : Fin 2) = b.val := by decide
theorem idx0_2_1 : ∀ b : Fin 32, (cfg0.win 2).index (pt0 b) (1 : Fin 2) = 1 := by decide

theorem emb0_2 (b : Fin 32) (a : Fin 128) (j : Fin 384) :
    ((cfg0.win 2).rect (pt0 b)).emb (ix2 a j) = ix2 (row b a) (⟨384 + j.val, by have := j.isLt; omega⟩ : Fin 1152) := by
  funext x
  apply Fin.ext
  match x with
  | ⟨0, _⟩ =>
    refine (Window.rect_emb_val _ _ _ _).trans ?_
    show (cfg0.win 2).index (pt0 b) (0 : Fin 2) * 128 + a.val = 128 * (b.val) + a.val
    rw [idx0_2_0]; omega
  | ⟨1, _⟩ =>
    refine (Window.rect_emb_val _ _ _ _).trans ?_
    show (cfg0.win 2).index (pt0 b) (1 : Fin 2) * 384 + j.val = 384 + j.val
    rw [idx0_2_1]

theorem blk0_2 (b : Fin 32) (a : Fin 128) (j : Fin 384) :
    (blk0 V c 2 (pt0 b) : Vec Ideal S128x384 .bf16) (ix2 a j) = (V c main_v10 : Vec Ideal S4096x1152 .bf16) (ix2 (row b a) (⟨384 + j.val, by have := j.isLt; omega⟩ : Fin 1152)) := by
  unfold blk0
  rw [View.read_apply]
  exact congrArg (V c main_v10) (emb0_2 b a j)

theorem idx0_3_0 : ∀ b : Fin 32, (cfg0.win 3).index (pt0 b) (0 : Fin 2) = b.val - 1 := by decide
theorem idx0_3_1 : ∀ b : Fin 32, (cfg0.win 3).index (pt0 b) (1 : Fin 2) = 2 := by decide

theorem emb0_3 (b : Fin 32) (a : Fin 128) (j : Fin 384) :
    ((cfg0.win 3).rect (pt0 b)).emb (ix2 a j) = ix2 (row (prev b) a) (⟨768 + j.val, by have := j.isLt; omega⟩ : Fin 1152) := by
  funext x
  apply Fin.ext
  match x with
  | ⟨0, _⟩ =>
    refine (Window.rect_emb_val _ _ _ _).trans ?_
    show (cfg0.win 3).index (pt0 b) (0 : Fin 2) * 128 + a.val = 128 * (b.val - 1) + a.val
    rw [idx0_3_0]; omega
  | ⟨1, _⟩ =>
    refine (Window.rect_emb_val _ _ _ _).trans ?_
    show (cfg0.win 3).index (pt0 b) (1 : Fin 2) * 384 + j.val = 768 + j.val
    rw [idx0_3_1]

theorem blk0_3 (b : Fin 32) (a : Fin 128) (j : Fin 384) :
    (blk0 V c 3 (pt0 b) : Vec Ideal S128x384 .bf16) (ix2 a j) = (V c main_v10 : Vec Ideal S4096x1152 .bf16) (ix2 (row (prev b) a) (⟨768 + j.val, by have := j.isLt; omega⟩ : Fin 1152)) := by
  unfold blk0
  rw [View.read_apply]
  exact congrArg (V c main_v10) (emb0_3 b a j)

theorem idx0_4_0 : ∀ b : Fin 32, (cfg0.win 4).index (pt0 b) (0 : Fin 2) = b.val := by decide
theorem idx0_4_1 : ∀ b : Fin 32, (cfg0.win 4).index (pt0 b) (1 : Fin 2) = 2 := by decide

theorem emb0_4 (b : Fin 32) (a : Fin 128) (j : Fin 384) :
    ((cfg0.win 4).rect (pt0 b)).emb (ix2 a j) = ix2 (row b a) (⟨768 + j.val, by have := j.isLt; omega⟩ : Fin 1152) := by
  funext x
  apply Fin.ext
  match x with
  | ⟨0, _⟩ =>
    refine (Window.rect_emb_val _ _ _ _).trans ?_
    show (cfg0.win 4).index (pt0 b) (0 : Fin 2) * 128 + a.val = 128 * (b.val) + a.val
    rw [idx0_4_0]; omega
  | ⟨1, _⟩ =>
    refine (Window.rect_emb_val _ _ _ _).trans ?_
    show (cfg0.win 4).index (pt0 b) (1 : Fin 2) * 384 + j.val = 768 + j.val
    rw [idx0_4_1]

theorem blk0_4 (b : Fin 32) (a : Fin 128) (j : Fin 384) :
    (blk0 V c 4 (pt0 b) : Vec Ideal S128x384 .bf16) (ix2 a j) = (V c main_v10 : Vec Ideal S4096x1152 .bf16) (ix2 (row b a) (⟨768 + j.val, by have := j.isLt; omega⟩ : Fin 1152)) := by
  unfold blk0
  rw [View.read_apply]
  exact congrArg (V c main_v10) (emb0_4 b a j)

theorem idx0_5_0 : ∀ b : Fin 32, (cfg0.win 5).index (pt0 b) (0 : Fin 2) = b.val := by decide
theorem idx0_5_1 : ∀ b : Fin 32, (cfg0.win 5).index (pt0 b) (1 : Fin 2) = 0 := by decide

theorem emb0_5 (b : Fin 32) (a : Fin 128) (j : Fin 384) :
    ((cfg0.win 5).rect (pt0 b)).emb (ix2 a j) = ix2 (row b a) j := by
  funext x
  apply Fin.ext
  match x with
  | ⟨0, _⟩ =>
    refine (Window.rect_emb_val _ _ _ _).trans ?_
    show (cfg0.win 5).index (pt0 b) (0 : Fin 2) * 128 + a.val = 128 * (b.val) + a.val
    rw [idx0_5_0]; omega
  | ⟨1, _⟩ =>
    refine (Window.rect_emb_val _ _ _ _).trans ?_
    show (cfg0.win 5).index (pt0 b) (1 : Fin 2) * 384 + j.val = j.val
    rw [idx0_5_1]; omega

theorem apart0_5 (t t' : Fin cfg0.N) (h : t ≠ t') :
    Disjoint ((cfg0.win 5).blk t).view.set ((cfg0.win 5).blk t').view.set := by
  refine Finset.disjoint_left.mpr fun i hi hi' => h ?_
  obtain ⟨y, rfl⟩ := View.exists_emb_of_mem_set _ hi
  obtain ⟨y', e⟩ := View.exists_emb_of_mem_set _ hi'
  have e0 : (((cfg0.win 5).rect t').emb y' (0 : Fin 2)).val = (((cfg0.win 5).rect t).emb y (0 : Fin 2)).val :=
    congrArg (fun i : S4096x384.Idx => (i 0).val) e
  have l : (y (0 : Fin 2)).val < 128 := (y (0 : Fin 2)).isLt
  have l' : (y' (0 : Fin 2)).val < 128 := (y' (0 : Fin 2)).isLt
  have e1 : (((cfg0.win 5).rect t).emb y (0 : Fin 2)).val = t.val * 128 + (y (0 : Fin 2)).val :=
    (Window.rect_emb_val _ _ _ _).trans (congrArg (· * 128 + (y (0 : Fin 2)).val) (idx0_5_0 ⟨t.val, t.isLt⟩))
  have e2 : (((cfg0.win 5).rect t').emb y' (0 : Fin 2)).val = t'.val * 128 + (y' (0 : Fin 2)).val :=
    (Window.rect_emb_val _ _ _ _).trans (congrArg (· * 128 + (y' (0 : Fin 2)).val) (idx0_5_0 ⟨t'.val, t'.isLt⟩))
  exact Fin.ext (by omega)

theorem out0_5 (b : Fin 32) (a : Fin 128) (j : Fin 384) :
    ((dat0 V c).arrAt 5 cfg0.N : Vec Ideal S4096x384 .f32) (ix2 (row b a) j)
      = fwdO (grid0.coords (pt0 b)) (blk0 V c 0 (pt0 b)) (blk0 V c 1 (pt0 b)) (blk0 V c 2 (pt0 b)) (blk0 V c 3 (pt0 b)) (blk0 V c 4 (pt0 b)) (ix2 a j) := by
  have e := (dat0 V c).arrAt_emb_eq_flushed 5 (fun t t' _ _ h => apart0_5 t t' h) (pt0 b) (flush0_5 _) (ix2 a j)
  have h : ((cfg0.win 5).blk (pt0 b)).view.emb (ix2 a j) = ix2 (row b a) j := emb0_5 b a j
  refine (congrArg ((dat0 V c).arrAt 5 cfg0.N) h).symm.trans (e.trans ?_)
  rw [cast_eq]
  show (dat0 V c).after 5 (pt0 b) (ix2 a j) = _
  rw [after0_5]

theorem idx0_6_0 : ∀ b : Fin 32, (cfg0.win 6).index (pt0 b) (0 : Fin 2) = b.val := by decide
theorem idx0_6_1 : ∀ b : Fin 32, (cfg0.win 6).index (pt0 b) (1 : Fin 2) = 0 := by decide

theorem emb0_6 (b : Fin 32) (a : Fin 128) (j : Fin 384) :
    ((cfg0.win 6).rect (pt0 b)).emb (ix2 a j) = ix2 (row b a) j := by
  funext x
  apply Fin.ext
  match x with
  | ⟨0, _⟩ =>
    refine (Window.rect_emb_val _ _ _ _).trans ?_
    show (cfg0.win 6).index (pt0 b) (0 : Fin 2) * 128 + a.val = 128 * (b.val) + a.val
    rw [idx0_6_0]; omega
  | ⟨1, _⟩ =>
    refine (Window.rect_emb_val _ _ _ _).trans ?_
    show (cfg0.win 6).index (pt0 b) (1 : Fin 2) * 384 + j.val = j.val
    rw [idx0_6_1]; omega

theorem apart0_6 (t t' : Fin cfg0.N) (h : t ≠ t') :
    Disjoint ((cfg0.win 6).blk t).view.set ((cfg0.win 6).blk t').view.set := by
  refine Finset.disjoint_left.mpr fun i hi hi' => h ?_
  obtain ⟨y, rfl⟩ := View.exists_emb_of_mem_set _ hi
  obtain ⟨y', e⟩ := View.exists_emb_of_mem_set _ hi'
  have e0 : (((cfg0.win 6).rect t').emb y' (0 : Fin 2)).val = (((cfg0.win 6).rect t).emb y (0 : Fin 2)).val :=
    congrArg (fun i : S4096x384.Idx => (i 0).val) e
  have l : (y (0 : Fin 2)).val < 128 := (y (0 : Fin 2)).isLt
  have l' : (y' (0 : Fin 2)).val < 128 := (y' (0 : Fin 2)).isLt
  have e1 : (((cfg0.win 6).rect t).emb y (0 : Fin 2)).val = t.val * 128 + (y (0 : Fin 2)).val :=
    (Window.rect_emb_val _ _ _ _).trans (congrArg (· * 128 + (y (0 : Fin 2)).val) (idx0_6_0 ⟨t.val, t.isLt⟩))
  have e2 : (((cfg0.win 6).rect t').emb y' (0 : Fin 2)).val = t'.val * 128 + (y' (0 : Fin 2)).val :=
    (Window.rect_emb_val _ _ _ _).trans (congrArg (· * 128 + (y' (0 : Fin 2)).val) (idx0_6_0 ⟨t'.val, t'.isLt⟩))
  exact Fin.ext (by omega)

theorem out0_6 (b : Fin 32) (a : Fin 128) (j : Fin 384) :
    ((dat0 V c).arrAt 6 cfg0.N : Vec Ideal S4096x384 .f32) (ix2 (row b a) j)
      = fwdL (grid0.coords (pt0 b)) (blk0 V c 0 (pt0 b)) (blk0 V c 1 (pt0 b)) (blk0 V c 2 (pt0 b)) (ix2 a j) := by
  have e := (dat0 V c).arrAt_emb_eq_flushed 6 (fun t t' _ _ h => apart0_6 t t' h) (pt0 b) (flush0_6 _) (ix2 a j)
  have h : ((cfg0.win 6).blk (pt0 b)).view.emb (ix2 a j) = ix2 (row b a) j := emb0_6 b a j
  refine (congrArg ((dat0 V c).arrAt 6 cfg0.N) h).symm.trans (e.trans ?_)
  rw [cast_eq]
  show (dat0 V c).after 6 (pt0 b) (ix2 a j) = _
  rw [after0_6]

theorem idx1_0_0 : ∀ b : Fin 32, (cfg1.win 0).index (pt1 b) (0 : Fin 2) = b.val := by decide
theorem idx1_0_1 : ∀ b : Fin 32, (cfg1.win 0).index (pt1 b) (1 : Fin 2) = 0 := by decide

theorem emb1_0 (b : Fin 32) (a : Fin 128) (j : Fin 384) :
    ((cfg1.win 0).rect (pt1 b)).emb (ix2 a j) = ix2 (row b a) (⟨j.val, by have := j.isLt; omega⟩ : Fin 1152) := by
  funext x
  apply Fin.ext
  match x with
  | ⟨0, _⟩ =>
    refine (Window.rect_emb_val _ _ _ _).trans ?_
    show (cfg1.win 0).index (pt1 b) (0 : Fin 2) * 128 + a.val = 128 * (b.val) + a.val
    rw [idx1_0_0]; omega
  | ⟨1, _⟩ =>
    refine (Window.rect_emb_val _ _ _ _).trans ?_
    show (cfg1.win 0).index (pt1 b) (1 : Fin 2) * 384 + j.val = j.val
    rw [idx1_0_1]; omega

theorem blk1_0 (b : Fin 32) (a : Fin 128) (j : Fin 384) :
    (blk1 V c 0 (pt1 b) : Vec Ideal S128x384 .bf16) (ix2 a j) = (V c main_v20 : Vec Ideal S4096x1152 .bf16) (ix2 (row b a) (⟨j.val, by have := j.isLt; omega⟩ : Fin 1152)) := by
  unfold blk1
  rw [View.read_apply]
  exact congrArg (V c main_v20) (emb1_0 b a j)

theorem idx1_1_0 : ∀ b : Fin 32, (cfg1.win 1).index (pt1 b) (0 : Fin 2) = b.val - 1 := by decide
theorem idx1_1_1 : ∀ b : Fin 32, (cfg1.win 1).index (pt1 b) (1 : Fin 2) = 1 := by decide

theorem emb1_1 (b : Fin 32) (a : Fin 128) (j : Fin 384) :
    ((cfg1.win 1).rect (pt1 b)).emb (ix2 a j) = ix2 (row (prev b) a) (⟨384 + j.val, by have := j.isLt; omega⟩ : Fin 1152) := by
  funext x
  apply Fin.ext
  match x with
  | ⟨0, _⟩ =>
    refine (Window.rect_emb_val _ _ _ _).trans ?_
    show (cfg1.win 1).index (pt1 b) (0 : Fin 2) * 128 + a.val = 128 * (b.val - 1) + a.val
    rw [idx1_1_0]; omega
  | ⟨1, _⟩ =>
    refine (Window.rect_emb_val _ _ _ _).trans ?_
    show (cfg1.win 1).index (pt1 b) (1 : Fin 2) * 384 + j.val = 384 + j.val
    rw [idx1_1_1]

theorem blk1_1 (b : Fin 32) (a : Fin 128) (j : Fin 384) :
    (blk1 V c 1 (pt1 b) : Vec Ideal S128x384 .bf16) (ix2 a j) = (V c main_v20 : Vec Ideal S4096x1152 .bf16) (ix2 (row (prev b) a) (⟨384 + j.val, by have := j.isLt; omega⟩ : Fin 1152)) := by
  unfold blk1
  rw [View.read_apply]
  exact congrArg (V c main_v20) (emb1_1 b a j)

theorem idx1_2_0 : ∀ b : Fin 32, (cfg1.win 2).index (pt1 b) (0 : Fin 2) = b.val := by decide
theorem idx1_2_1 : ∀ b : Fin 32, (cfg1.win 2).index (pt1 b) (1 : Fin 2) = 1 := by decide

theorem emb1_2 (b : Fin 32) (a : Fin 128) (j : Fin 384) :
    ((cfg1.win 2).rect (pt1 b)).emb (ix2 a j) = ix2 (row b a) (⟨384 + j.val, by have := j.isLt; omega⟩ : Fin 1152) := by
  funext x
  apply Fin.ext
  match x with
  | ⟨0, _⟩ =>
    refine (Window.rect_emb_val _ _ _ _).trans ?_
    show (cfg1.win 2).index (pt1 b) (0 : Fin 2) * 128 + a.val = 128 * (b.val) + a.val
    rw [idx1_2_0]; omega
  | ⟨1, _⟩ =>
    refine (Window.rect_emb_val _ _ _ _).trans ?_
    show (cfg1.win 2).index (pt1 b) (1 : Fin 2) * 384 + j.val = 384 + j.val
    rw [idx1_2_1]

theorem blk1_2 (b : Fin 32) (a : Fin 128) (j : Fin 384) :
    (blk1 V c 2 (pt1 b) : Vec Ideal S128x384 .bf16) (ix2 a j) = (V c main_v20 : Vec Ideal S4096x1152 .bf16) (ix2 (row b a) (⟨384 + j.val, by have := j.isLt; omega⟩ : Fin 1152)) := by
  unfold blk1
  rw [View.read_apply]
  exact congrArg (V c main_v20) (emb1_2 b a j)

theorem idx1_3_0 : ∀ b : Fin 32, (cfg1.win 3).index (pt1 b) (0 : Fin 2) = b.val - 1 := by decide
theorem idx1_3_1 : ∀ b : Fin 32, (cfg1.win 3).index (pt1 b) (1 : Fin 2) = 2 := by decide

theorem emb1_3 (b : Fin 32) (a : Fin 128) (j : Fin 384) :
    ((cfg1.win 3).rect (pt1 b)).emb (ix2 a j) = ix2 (row (prev b) a) (⟨768 + j.val, by have := j.isLt; omega⟩ : Fin 1152) := by
  funext x
  apply Fin.ext
  match x with
  | ⟨0, _⟩ =>
    refine (Window.rect_emb_val _ _ _ _).trans ?_
    show (cfg1.win 3).index (pt1 b) (0 : Fin 2) * 128 + a.val = 128 * (b.val - 1) + a.val
    rw [idx1_3_0]; omega
  | ⟨1, _⟩ =>
    refine (Window.rect_emb_val _ _ _ _).trans ?_
    show (cfg1.win 3).index (pt1 b) (1 : Fin 2) * 384 + j.val = 768 + j.val
    rw [idx1_3_1]

theorem blk1_3 (b : Fin 32) (a : Fin 128) (j : Fin 384) :
    (blk1 V c 3 (pt1 b) : Vec Ideal S128x384 .bf16) (ix2 a j) = (V c main_v20 : Vec Ideal S4096x1152 .bf16) (ix2 (row (prev b) a) (⟨768 + j.val, by have := j.isLt; omega⟩ : Fin 1152)) := by
  unfold blk1
  rw [View.read_apply]
  exact congrArg (V c main_v20) (emb1_3 b a j)

theorem idx1_4_0 : ∀ b : Fin 32, (cfg1.win 4).index (pt1 b) (0 : Fin 2) = b.val := by decide
theorem idx1_4_1 : ∀ b : Fin 32, (cfg1.win 4).index (pt1 b) (1 : Fin 2) = 2 := by decide

theorem emb1_4 (b : Fin 32) (a : Fin 128) (j : Fin 384) :
    ((cfg1.win 4).rect (pt1 b)).emb (ix2 a j) = ix2 (row b a) (⟨768 + j.val, by have := j.isLt; omega⟩ : Fin 1152) := by
  funext x
  apply Fin.ext
  match x with
  | ⟨0, _⟩ =>
    refine (Window.rect_emb_val _ _ _ _).trans ?_
    show (cfg1.win 4).index (pt1 b) (0 : Fin 2) * 128 + a.val = 128 * (b.val) + a.val
    rw [idx1_4_0]; omega
  | ⟨1, _⟩ =>
    refine (Window.rect_emb_val _ _ _ _).trans ?_
    show (cfg1.win 4).index (pt1 b) (1 : Fin 2) * 384 + j.val = 768 + j.val
    rw [idx1_4_1]

theorem blk1_4 (b : Fin 32) (a : Fin 128) (j : Fin 384) :
    (blk1 V c 4 (pt1 b) : Vec Ideal S128x384 .bf16) (ix2 a j) = (V c main_v20 : Vec Ideal S4096x1152 .bf16) (ix2 (row b a) (⟨768 + j.val, by have := j.isLt; omega⟩ : Fin 1152)) := by
  unfold blk1
  rw [View.read_apply]
  exact congrArg (V c main_v20) (emb1_4 b a j)

theorem idx1_5_0 : ∀ b : Fin 32, (cfg1.win 5).index (pt1 b) (0 : Fin 2) = b.val := by decide
theorem idx1_5_1 : ∀ b : Fin 32, (cfg1.win 5).index (pt1 b) (1 : Fin 2) = 0 := by decide

theorem emb1_5 (b : Fin 32) (a : Fin 128) (j : Fin 384) :
    ((cfg1.win 5).rect (pt1 b)).emb (ix2 a j) = ix2 (row b a) j := by
  funext x
  apply Fin.ext
  match x with
  | ⟨0, _⟩ =>
    refine (Window.rect_emb_val _ _ _ _).trans ?_
    show (cfg1.win 5).index (pt1 b) (0 : Fin 2) * 128 + a.val = 128 * (b.val) + a.val
    rw [idx1_5_0]; omega
  | ⟨1, _⟩ =>
    refine (Window.rect_emb_val _ _ _ _).trans ?_
    show (cfg1.win 5).index (pt1 b) (1 : Fin 2) * 384 + j.val = j.val
    rw [idx1_5_1]; omega

theorem blk1_5 (b : Fin 32) (a : Fin 128) (j : Fin 384) :
    (blk1 V c 5 (pt1 b) : Vec Ideal S128x384 .f32) (ix2 a j) = (V c main_v21 : Vec Ideal S4096x384 .f32) (ix2 (row b a) j) := by
  unfold blk1
  rw [View.read_apply]
  exact congrArg (V c main_v21) (emb1_5 b a j)

theorem idx1_6_0 : ∀ b : Fin 32, (cfg1.win 6).index (pt1 b) (0 : Fin 2) = b.val := by decide
theorem idx1_6_1 : ∀ b : Fin 32, (cfg1.win 6).index (pt1 b) (1 : Fin 2) = 0 := by decide

theorem emb1_6 (b : Fin 32) (a : Fin 128) (j : Fin 384) :
    ((cfg1.win 6).rect (pt1 b)).emb (ix2 a j) = ix2 (row b a) j := by
  funext x
  apply Fin.ext
  match x with
  | ⟨0, _⟩ =>
    refine (Window.rect_emb_val _ _ _ _).trans ?_
    show (cfg1.win 6).index (pt1 b) (0 : Fin 2) * 128 + a.val = 128 * (b.val) + a.val
    rw [idx1_6_0]; omega
  | ⟨1, _⟩ =>
    refine (Window.rect_emb_val _ _ _ _).trans ?_
    show (cfg1.win 6).index (pt1 b) (1 : Fin 2) * 384 + j.val = j.val
    rw [idx1_6_1]; omega

theorem blk1_6 (b : Fin 32) (a : Fin 128) (j : Fin 384) :
    (blk1 V c 6 (pt1 b) : Vec Ideal S128x384 .f32) (ix2 a j) = (V c main_v22 : Vec Ideal S4096x384 .f32) (ix2 (row b a) j) := by
  unfold blk1
  rw [View.read_apply]
  exact congrArg (V c main_v22) (emb1_6 b a j)

theorem idx1_7_0 : ∀ b : Fin 32, (cfg1.win 7).index (pt1 b) (0 : Fin 2) = b.val := by decide
theorem idx1_7_1 : ∀ b : Fin 32, (cfg1.win 7).index (pt1 b) (1 : Fin 2) = 0 := by decide

theorem emb1_7 (b : Fin 32) (a : Fin 128) (j : Fin 384) :
    ((cfg1.win 7).rect (pt1 b)).emb (ix2 a j) = ix2 (row b a) j := by
  funext x
  apply Fin.ext
  match x with
  | ⟨0, _⟩ =>
    refine (Window.rect_emb_val _ _ _ _).trans ?_
    show (cfg1.win 7).index (pt1 b) (0 : Fin 2) * 128 + a.val = 128 * (b.val) + a.val
    rw [idx1_7_0]; omega
  | ⟨1, _⟩ =>
    refine (Window.rect_emb_val _ _ _ _).trans ?_
    show (cfg1.win 7).index (pt1 b) (1 : Fin 2) * 384 + j.val = j.val
    rw [idx1_7_1]; omega

theorem blk1_7 (b : Fin 32) (a : Fin 128) (j : Fin 384) :
    (blk1 V c 7 (pt1 b) : Vec Ideal S128x384 .f32) (ix2 a j) = (V c main_v23 : Vec Ideal S4096x384 .f32) (ix2 (row b a) j) := by
  unfold blk1
  rw [View.read_apply]
  exact congrArg (V c main_v23) (emb1_7 b a j)

theorem idx1_8_0 : ∀ b : Fin 32, (cfg1.win 8).index (pt1 b) (0 : Fin 2) = b.val := by decide
theorem idx1_8_1 : ∀ b : Fin 32, (cfg1.win 8).index (pt1 b) (1 : Fin 2) = 0 := by decide

theorem emb1_8 (b : Fin 32) (a : Fin 128) (j : Fin 384) :
    ((cfg1.win 8).rect (pt1 b)).emb (ix2 a j) = ix2 (row b a) j := by
  funext x
  apply Fin.ext
  match x with
  | ⟨0, _⟩ =>
    refine (Window.rect_emb_val _ _ _ _).trans ?_
    show (cfg1.win 8).index (pt1 b) (0 : Fin 2) * 128 + a.val = 128 * (b.val) + a.val
    rw [idx1_8_0]; omega
  | ⟨1, _⟩ =>
    refine (Window.rect_emb_val _ _ _ _).trans ?_
    show (cfg1.win 8).index (pt1 b) (1 : Fin 2) * 384 + j.val = j.val
    rw [idx1_8_1]; omega

theorem blk1_8 (b : Fin 32) (a : Fin 128) (j : Fin 384) :
    (blk1 V c 8 (pt1 b) : Vec Ideal S128x384 .f32) (ix2 a j) = (V c main_v24 : Vec Ideal S4096x384 .f32) (ix2 (row b a) j) := by
  unfold blk1
  rw [View.read_apply]
  exact congrArg (V c main_v24) (emb1_8 b a j)

theorem idx1_9_0 : ∀ b : Fin 32, (cfg1.win 9).index (pt1 b) (0 : Fin 2) = b.val := by decide
theorem idx1_9_1 : ∀ b : Fin 32, (cfg1.win 9).index (pt1 b) (1 : Fin 2) = 0 := by decide

theorem emb1_9 (b : Fin 32) (a : Fin 128) (j : Fin 384) :
    ((cfg1.win 9).rect (pt1 b)).emb (ix2 a j) = ix2 (row b a) j := by
  funext x
  apply Fin.ext
  match x with
  | ⟨0, _⟩ =>
    refine (Window.rect_emb_val _ _ _ _).trans ?_
    show (cfg1.win 9).index (pt1 b) (0 : Fin 2) * 128 + a.val = 128 * (b.val) + a.val
    rw [idx1_9_0]; omega
  | ⟨1, _⟩ =>
    refine (Window.rect_emb_val _ _ _ _).trans ?_
    show (cfg1.win 9).index (pt1 b) (1 : Fin 2) * 384 + j.val = j.val
    rw [idx1_9_1]; omega

theorem apart1_9 (t t' : Fin cfg1.N) (h : t ≠ t') :
    Disjoint ((cfg1.win 9).blk t).view.set ((cfg1.win 9).blk t').view.set := by
  refine Finset.disjoint_left.mpr fun i hi hi' => h ?_
  obtain ⟨y, rfl⟩ := View.exists_emb_of_mem_set _ hi
  obtain ⟨y', e⟩ := View.exists_emb_of_mem_set _ hi'
  have e0 : (((cfg1.win 9).rect t').emb y' (0 : Fin 2)).val = (((cfg1.win 9).rect t).emb y (0 : Fin 2)).val :=
    congrArg (fun i : S4096x384.Idx => (i 0).val) e
  have l : (y (0 : Fin 2)).val < 128 := (y (0 : Fin 2)).isLt
  have l' : (y' (0 : Fin 2)).val < 128 := (y' (0 : Fin 2)).isLt
  have e1 : (((cfg1.win 9).rect t).emb y (0 : Fin 2)).val = t.val * 128 + (y (0 : Fin 2)).val :=
    (Window.rect_emb_val _ _ _ _).trans (congrArg (· * 128 + (y (0 : Fin 2)).val) (idx1_9_0 ⟨t.val, t.isLt⟩))
  have e2 : (((cfg1.win 9).rect t').emb y' (0 : Fin 2)).val = t'.val * 128 + (y' (0 : Fin 2)).val :=
    (Window.rect_emb_val _ _ _ _).trans (congrArg (· * 128 + (y' (0 : Fin 2)).val) (idx1_9_0 ⟨t'.val, t'.isLt⟩))
  exact Fin.ext (by omega)

theorem out1_9 (b : Fin 32) (a : Fin 128) (j : Fin 384) :
    ((dat1 V c).arrAt 9 cfg1.N : Vec Ideal S4096x384 .f32) (ix2 (row b a) j)
      = dqBlk (grid1.coords (pt1 b)) (blk1 V c 0 (pt1 b)) (blk1 V c 1 (pt1 b)) (blk1 V c 2 (pt1 b)) (blk1 V c 3 (pt1 b)) (blk1 V c 4 (pt1 b)) (blk1 V c 5 (pt1 b)) (blk1 V c 6 (pt1 b)) (blk1 V c 7 (pt1 b)) (blk1 V c 8 (pt1 b)) (ix2 a j) := by
  have e := (dat1 V c).arrAt_emb_eq_flushed 9 (fun t t' _ _ h => apart1_9 t t' h) (pt1 b) (flush1_9 _) (ix2 a j)
  have h : ((cfg1.win 9).blk (pt1 b)).view.emb (ix2 a j) = ix2 (row b a) j := emb1_9 b a j
  refine (congrArg ((dat1 V c).arrAt 9 cfg1.N) h).symm.trans (e.trans ?_)
  rw [cast_eq]
  show (dat1 V c).after 9 (pt1 b) (ix2 a j) = _
  rw [after1_9]

/-- The whole array is written back once, after the last point. -/
theorem out1_10 (ρ : Fin 4096) (j : Fin 384) :
    ((dat1 V c).arrAt 10 cfg1.N : Vec Ideal S4096x384 .f32) (ix2 ρ j) = accK V c 32 (ix2 ρ j) := by
  have hlt : (31 : ℕ) < cfg1.N := by decide
  have e := (dat1 V c).arrAt_emb_eq_flushed 10 (fun t t' ht ht' h => absurd (Fin.ext (by
    have h1 := (flush1_10 t).mp ht; have h2 := (flush1_10 t').mp ht'
    have l1 : t.val < 32 := t.isLt; have l2 : t'.val < 32 := t'.isLt; omega)) h) ⟨31, hlt⟩ ((flush1_10 _).mpr rfl) (ix2 ρ j)
  have h : ((cfg1.win 10).blk ⟨31, hlt⟩).view.emb (ix2 ρ j) = ix2 ρ j := by
    funext x
    apply Fin.ext
    match x with
    | ⟨0, _⟩ => exact Window.rect_emb_val_of_index_zero (cfg1.win 10) ⟨31, hlt⟩ (0 : Fin 2) rfl _
    | ⟨1, _⟩ => exact Window.rect_emb_val_of_index_zero (cfg1.win 10) ⟨31, hlt⟩ (1 : Fin 2) rfl _
  refine (congrArg ((dat1 V c).arrAt 10 cfg1.N) h).symm.trans (e.trans ?_)
  rw [cast_eq]
  show (dat1 V c).after 10 ⟨31, hlt⟩ (ix2 ρ j) = _
  rw [after1_10]

/-- The whole array is written back once, after the last point. -/
theorem out1_11 (ρ : Fin 4096) (j : Fin 384) :
    ((dat1 V c).arrAt 11 cfg1.N : Vec Ideal S4096x384 .f32) (ix2 ρ j) = accV V c 32 (ix2 ρ j) := by
  have hlt : (31 : ℕ) < cfg1.N := by decide
  have e := (dat1 V c).arrAt_emb_eq_flushed 11 (fun t t' ht ht' h => absurd (Fin.ext (by
    have h1 := (flush1_11 t).mp ht; have h2 := (flush1_11 t').mp ht'
    have l1 : t.val < 32 := t.isLt; have l2 : t'.val < 32 := t'.isLt; omega)) h) ⟨31, hlt⟩ ((flush1_11 _).mpr rfl) (ix2 ρ j)
  have h : ((cfg1.win 11).blk ⟨31, hlt⟩).view.emb (ix2 ρ j) = ix2 ρ j := by
    funext x
    apply Fin.ext
    match x with
    | ⟨0, _⟩ => exact Window.rect_emb_val_of_index_zero (cfg1.win 11) ⟨31, hlt⟩ (0 : Fin 2) rfl _
    | ⟨1, _⟩ => exact Window.rect_emb_val_of_index_zero (cfg1.win 11) ⟨31, hlt⟩ (1 : Fin 2) rfl _
  refine (congrArg ((dat1 V c).arrAt 11 cfg1.N) h).symm.trans (e.trans ?_)
  rw [cast_eq]
  show (dat1 V c).after 11 ⟨31, hlt⟩ (ix2 ρ j) = _
  rw [after1_11]

end Cert.KernelIdeal.Attn
-- ==== Proof.Acc.lean ====
/- The two gradients the points add up: what a block adds lands in the block before it and in the block itself, and after the
   last point every row holds what its own block and the next add to it. -/
module

public import proofs.«01_k».proof.Proof.Blocks

@[expose] public section

noncomputable section

namespace Cert.KernelIdeal.Attn

open Cert.KernelIdeal Cert.KernelIdeal.Gen
open Idealize.ShloMosaic Idealize.ShloMosaic.TcCoe
open Cert.Rows (row)

theorem isFirst_iff : ∀ b : Fin 32, isFirst (grid1.coords (pt1 b)) ↔ b.val = 0 := by decide
theorem upRow : ∀ b : Fin 32, row1 (grid1.coords (pt1 b)) = 128 * (prev b).val := by decide
theorem loRow : ∀ b : Fin 32, row2 (grid1.coords (pt1 b)) = 128 * b.val := by decide

/-- A window of rows put over an array: its own rows, the others as they were. -/
theorem put_rows (x : Vec Ideal S4096x384 .f32) (off : Fin 2 → ℕ) (p : Fin 32) (hoff : off = ![128 * p.val, 0]) (w : Vec Ideal S128x384 .f32)
    (b : Fin 32) (a : Fin 128) (j : Fin 384) :
    VecWindow.put x off S128x384.size w (ix2 (row b a) j) = if p = b then w (ix2 a j) else x (ix2 (row b a) j) := by
  subst hoff
  have ha := a.isLt
  unfold VecWindow.put
  by_cases h : p = b
  · subst h
    rw [if_pos rfl, dif_pos (by
      intro x
      match x with
      | ⟨0, _⟩ =>
        show 128 * p.val ≤ 128 * p.val + a.val ∧ 128 * p.val + a.val < 128 * p.val + 128
        omega
      | ⟨1, _⟩ => exact ⟨Nat.zero_le _, by show j.val < 0 + 384; have := j.isLt; omega⟩)]
    refine congrArg w (funext fun x => Fin.ext ?_)
    match x with
    | ⟨0, _⟩ => show 128 * p.val + a.val - 128 * p.val = a.val; omega
    | ⟨1, _⟩ => rfl
  · rw [if_neg h, dif_neg]
    intro hh
    have h0 : 128 * p.val ≤ 128 * b.val + a.val ∧ 128 * b.val + a.val < 128 * p.val + 128 := hh (0 : Fin 2)
    exact h (Fin.ext (by omega))

theorem window_rows (x : Vec Ideal S4096x384 .f32) (off : Fin 2 → ℕ) (p : Fin 32) (hoff : off = ![128 * p.val, 0]) (inb) (a : Fin 128) (j : Fin 384) :
    VecWindow.window x off S128x384.size inb (ix2 a j) = x (ix2 (row p a) j) := by
  subst hoff
  refine congrArg x (funext fun x => Fin.ext ?_)
  match x with
  | ⟨0, _⟩ => show 128 * p.val + 1 * a.val = 128 * p.val + a.val; omega
  | ⟨1, _⟩ => show 0 + 1 * j.val = j.val; omega

theorem addUp_apply (d : FVec Ideal S256x384 .f32) (w : Vec Ideal S128x384 .f32) (a : Fin 128) (j : Fin 384) :
    addUp d w (ix2 a j) = w (ix2 a j) + d (ix2 ⟨a.val, by omega⟩ j) := by
  pointwise [addUp, id]

theorem addLo_apply (d : FVec Ideal S256x384 .f32) (w : Vec Ideal S128x384 .f32) (a : Fin 128) (j : Fin 384) :
    addLo d w (ix2 a j) = w (ix2 a j) + d (ix2 ⟨128 + a.val, by omega⟩ j) := by
  pointwise [addLo, id]

/-- One point's addition, at a row of block `b`. -/
theorem acc_apply (t : Fin 32) (d : FVec Ideal S256x384 .f32) (x : Vec Ideal S4096x384 .f32) (b : Fin 32) (a : Fin 128) (j : Fin 384) :
    acc (grid1.coords (pt1 t)) d x (ix2 (row b a) j)
      = (if t = b then (if prev t = b then x (ix2 (row b a) j) + d (ix2 ⟨a.val, by omega⟩ j) else x (ix2 (row b a) j)) + d (ix2 ⟨128 + a.val, by omega⟩ j)
        else if prev t = b then x (ix2 (row b a) j) + d (ix2 ⟨a.val, by omega⟩ j) else x (ix2 (row b a) j)) := by
  have h1 : k1_off1 (grid1.coords (pt1 t)) = ![128 * (prev t).val, 0] := by rw [off1_eq, upRow]
  have h2 : k1_off2 (grid1.coords (pt1 t)) = ![128 * t.val, 0] := by rw [off2_eq, loRow]
  have up : ∀ b', accUp (grid1.coords (pt1 t)) d x (ix2 (row b' a) j)
      = if prev t = b' then x (ix2 (row b' a) j) + d (ix2 ⟨a.val, by omega⟩ j) else x (ix2 (row b' a) j) := by
    intro b'
    unfold accUp
    rw [put_rows _ _ _ h1]
    by_cases h : prev t = b'
    · subst h
      rw [if_pos rfl, if_pos rfl, addUp_apply, window_rows _ _ _ h1]
    · rw [if_neg h, if_neg h]
  unfold acc
  rw [put_rows _ _ _ h2]
  by_cases h : t = b
  · subst h
    rw [if_pos rfl, if_pos rfl, addLo_apply, window_rows _ _ _ h2, up]
  · rw [if_neg h, if_neg h, up]

/-- The real number a row of block `b` holds after `n` points. -/
def partSum (D : Fin 32 → Fin 256 → ℝ) (n : ℕ) (b : Fin 32) (a : Fin 128) : ℝ :=
  (if b.val < n then D b ⟨128 + a.val, by omega⟩ else 0)
    + (if h : b.val + 1 < n ∧ b.val + 1 < 32 then D ⟨b.val + 1, h.2⟩ ⟨a.val, by omega⟩ else 0)

/-- Points that each add their block to an array zero at the first leave `partSum`: the first block adds nothing to the rows
    before it. -/
theorem sums (f : ℕ → Vec Ideal S4096x384 .f32) (d : Fin 32 → FVec Ideal S256x384 .f32) (z : Vec Ideal S4096x384 .f32)
    (hz : ∀ i, z i = 0)
    (hf : ∀ t : Fin 32, f (t.val + 1) = acc (grid1.coords (pt1 t)) (d t) (if isFirst (grid1.coords (pt1 t)) then z else f t.val))
    (D : Fin 32 → Fin 256 → ℝ) (j : Fin 384) (hd : ∀ t i, d t (ix2 i j) = ((D t i : ℝ) : EReal))
    (h0 : ∀ i : Fin 256, i.val < 128 → D 0 i = 0) (b : Fin 32) (a : Fin 128) :
    ∀ n : ℕ, n < 32 → f (n + 1) (ix2 (row b a) j) = ((partSum D (n + 1) b a : ℝ) : EReal) := by
  intro n
  induction n with
  | zero =>
    intro hn
    have e := hf 0
    rw [if_pos ((isFirst_iff 0).mpr rfl)] at e
    rw [show f (0 + 1) = _ from e, acc_apply, hz, hd, hd, h0 _ (by exact a.isLt)]
    by_cases hb : (0 : Fin 32) = b
    · subst hb
      rw [if_pos rfl, if_pos (by rfl)]
      simp [partSum]
    · have hb' : b.val ≠ 0 := fun h => hb (Fin.ext h.symm)
      rw [if_neg hb, if_neg (by intro h; exact hb h)]
      simp [partSum, hb']
  | succ n ih =>
    intro hn
    have e := hf ⟨n + 1, hn⟩
    rw [if_neg (by rw [isFirst_iff]; simp)] at e
    rw [show f (n + 1 + 1) = _ from e, acc_apply, hd, hd, ih (by omega)]
    have hp : prev ⟨n + 1, hn⟩ = ⟨n, by omega⟩ := Fin.ext (by show n + 1 - 1 = n; omega)
    rw [hp]
    by_cases hb : (⟨n + 1, hn⟩ : Fin 32) = b
    · subst hb
      rw [if_pos rfl, if_neg (by intro h; have := congrArg Fin.val h; simp at this), ← EReal.coe_add]
      congr 1
      simp [partSum]
    · rw [if_neg hb]
      by_cases hb' : (⟨n, by omega⟩ : Fin 32) = b
      · subst hb'
        rw [if_pos rfl, ← EReal.coe_add]
        congr 1
        simp [partSum, hn]
      · rw [if_neg hb']
        have h1 : b.val ≠ n + 1 := fun h => hb (Fin.ext h.symm)
        have h2 : b.val ≠ n := fun h => hb' (Fin.ext h.symm)
        have e1 : (b.val < n + 1 + 1) ↔ (b.val < n + 1) := by omega
        have e2 : (b.val + 1 < n + 1 + 1) ↔ (b.val + 1 < n + 1) := by omega
        simp only [partSum, e1, e2]

end Cert.KernelIdeal.Attn
-- ==== Proof.KernelValue.lean ====
/- The three arrays the two calls leave, over the extended reals and for finite arguments: the gradients of the queries, of the
   keys and of the values. -/
module

public import proofs.«01_k».proof.Proof.Acc

@[expose] public section

noncomputable section

namespace Cert.KernelIdeal.Attn

open Cert.KernelIdeal Cert.KernelIdeal.Gen
open Idealize.ShloMosaic Idealize.ShloMosaic.TcCoe
open Cert.Rows (vis row key src Arr rowsOf keysOf)

/-- The contributions put together are what the points add up to: a sequence's first block adds nothing to the block before. -/
theorem partSum_gather (f : Fin 32 → Fin 6 → Fin 256 → Fin 64 → ℝ) (h : Fin 6) (e : Fin 64)
    (hs : ∀ b : Fin 32, b.val % 8 = 0 → ∀ j : Fin 256, j.val < 128 → f b h j e = 0) (b : Fin 32) (a : Fin 128) :
    partSum (fun b j => f b h j e) 32 b a = Rows.gather f b h a e := by
  have hb := b.isLt
  unfold partSum Rows.gather
  rw [if_pos hb]
  congr 1
  by_cases h8 : b.val % 8 ≠ 7
  · rw [dif_pos h8, dif_pos ⟨by omega, by omega⟩]
  · rw [dif_neg h8]
    split
    · rename_i hn
      exact hs ⟨b.val + 1, hn.2⟩ (by show (b.val + 1) % 8 = 0; omega) _ a.isLt
    · rfl

theorem zeroK (i : S4096x384.Idx) : (k1_pay2 (F := Ideal) : Vec Ideal S4096x384 .f32) i = 0 := by
  have e : i = ix2 (i 0) (i 1) := funext fun a => match a with | ⟨0, _⟩ => rfl | ⟨1, _⟩ => rfl
  rw [e]
  pointwise [k1_pay2, id]
theorem zeroV (i : S4096x384.Idx) : (k1_pay3 (F := Ideal) : Vec Ideal S4096x384 .f32) i = 0 := by
  have e : i = ix2 (i 0) (i 1) := funext fun a => match a with | ⟨0, _⟩ => rfl | ⟨1, _⟩ => rfl
  rw [e]
  pointwise [k1_pay3, id]

theorem stepK (V : Bufs (F := Ideal)) (c : Dev nD) (t : Fin 32) : accK V c (t.val + 1)
    = acc (grid1.coords (pt1 t)) (dkAt V c (pt1 t)) (if isFirst (grid1.coords (pt1 t)) then (k1_pay2 (F := Ideal)) else accK V c t.val) := by
  have ht : t.val < cfg1.N := t.isLt
  rw [accK, dif_pos ht]
  unfold startK pt1
  rfl

theorem stepV (V : Bufs (F := Ideal)) (c : Dev nD) (t : Fin 32) : accV V c (t.val + 1)
    = acc (grid1.coords (pt1 t)) (dvAt V c (pt1 t)) (if isFirst (grid1.coords (pt1 t)) then (k1_pay3 (F := Ideal)) else accV V c t.val) := by
  have ht : t.val < cfg1.N := t.isLt
  rw [accV, dif_pos ht]
  unfold startV pt1
  rfl

variable (m : (ℓ : Loc nD τ sig) → Buf (Elt Ideal) ℓ) (c : Dev nD)
variable (Q K U G : Arr) (L : Fin 4096 → Fin 6 → ℝ)

/-- The arguments' entries, by re-laid row, head and column. -/
structure Args : Prop where
  q : ∀ ρ h e, (m ((c : Thread nD τ).loc main_arg0) : FVec Ideal S1x4096x6x64 .f32) (ix4 0 (src ρ) h e) = (Q ρ h e : EReal)
  k : ∀ ρ h e, (m ((c : Thread nD τ).loc main_arg1) : FVec Ideal S1x4096x6x64 .f32) (ix4 0 (src ρ) h e) = (K ρ h e : EReal)
  v : ∀ ρ h e, (m ((c : Thread nD τ).loc main_arg2) : FVec Ideal S1x4096x6x64 .f32) (ix4 0 (src ρ) h e) = (U ρ h e : EReal)
  g : ∀ ρ h e, (m ((c : Thread nD τ).loc main_arg3) : FVec Ideal S1x4096x6x64 .f32) (ix4 0 (src ρ) h e) = (G ρ h e : EReal)
  l : ∀ ρ h, (m ((c : Thread nD τ).loc main_arg4) : FVec Ideal S1x4096x6 .f32) (ix3 0 (src ρ) h) = (L ρ h : EReal)

variable {m c Q K U G L}

section
variable (A : Args m c Q K U G L)

theorem rect_ext (x y : Vec Ideal S128x384 .bf16) (h : ∀ (a : Fin 128) (j : Fin 384), x (ix2 a j) = y (ix2 a j)) : x = y := by
  funext i
  have e : i = ix2 (i 0) (i 1) := funext fun a => match a with | ⟨0, _⟩ => rfl | ⟨1, _⟩ => rfl
  rw [e]
  exact h _ _

/-- Both calls read the same blocks of queries, keys and values. -/
theorem same0 (b : Fin 32) : (blk0 (ent0 m) c 0 (pt0 b) : Vec Ideal S128x384 .bf16) = blk1 (ent1 m) c 0 (pt1 b) :=
  rect_ext _ _ fun a j => by rw [blk0_0, blk1_0, ent0_v10, ent1_v20]
theorem same1 (b : Fin 32) : (blk0 (ent0 m) c 1 (pt0 b) : Vec Ideal S128x384 .bf16) = blk1 (ent1 m) c 1 (pt1 b) :=
  rect_ext _ _ fun a j => by rw [blk0_1, blk1_1, ent0_v10, ent1_v20]
theorem same2 (b : Fin 32) : (blk0 (ent0 m) c 2 (pt0 b) : Vec Ideal S128x384 .bf16) = blk1 (ent1 m) c 2 (pt1 b) :=
  rect_ext _ _ fun a j => by rw [blk0_2, blk1_2, ent0_v10, ent1_v20]
theorem same3 (b : Fin 32) : (blk0 (ent0 m) c 3 (pt0 b) : Vec Ideal S128x384 .bf16) = blk1 (ent1 m) c 3 (pt1 b) :=
  rect_ext _ _ fun a j => by rw [blk0_3, blk1_3, ent0_v10, ent1_v20]
theorem same4 (b : Fin 32) : (blk0 (ent0 m) c 4 (pt0 b) : Vec Ideal S128x384 .bf16) = blk1 (ent1 m) c 4 (pt1 b) :=
  rect_ext _ _ fun a j => by rw [blk0_4, blk1_4, ent0_v10, ent1_v20]

include A

theorem in_q (b : Fin 32) (h : Fin 6) (a : Fin 128) (e : Fin 64) :
    (blk1 (ent1 m) c 0 (pt1 b) : Vec Ideal S128x384 .bf16) (ix2 a (cc h e)) = (rowsOf Q b h a e : EReal) * ((1 / 8 : ℝ) : EReal) := by
  rw [blk1_0, ent1_v20, packedRows_q, A.q]; rfl

omit A in
/-- A seen key is in the block before or in the block itself. -/
theorem seen (f : Arr) (b : Fin 32) (h : Fin 6) (x y : Vec Ideal S128x384 .bf16)
    (hx : ∀ a e, x (ix2 a (cc h e)) = (f (row (prev b) a) h e : EReal)) (hy : ∀ a e, y (ix2 a (cc h e)) = (f (row b a) h e : EReal))
    (a : Fin 128) (j : Fin 256) (hv : vis b.val a j) (e : Fin 64) :
    stack (fun a => x (ix2 a (cc h e))) (fun a => y (ix2 a (cc h e))) j = (keysOf f b h j e : EReal) := by
  unfold stack
  by_cases hj : j.val < 128
  · rw [dif_pos hj]
    refine (hx _ e).trans ?_
    have hb : b.val % 8 ≠ 0 := by rcases hv.2.2 with h1 | h1 <;> omega
    have er : row (prev b) ⟨j.val, hj⟩ = key b j :=
      Fin.ext (by show 128 * (b.val - 1) + j.val = 128 * b.val + j.val - 128; omega)
    rw [er]; rfl
  · rw [dif_neg hj]
    refine (hy _ e).trans ?_
    have er : row b ⟨j.val - 128, by have := j.isLt; omega⟩ = key b j :=
      Fin.ext (by show 128 * b.val + (j.val - 128) = 128 * b.val + j.val - 128; omega)
    rw [er]; rfl

theorem in_k (b : Fin 32) (h : Fin 6) (a : Fin 128) (j : Fin 256) (hv : vis b.val a j) (e : Fin 64) :
    stack (fun a => (blk1 (ent1 m) c 1 (pt1 b) : Vec Ideal S128x384 .bf16) (ix2 a (cc h e)))
      (fun a => (blk1 (ent1 m) c 2 (pt1 b) : Vec Ideal S128x384 .bf16) (ix2 a (cc h e))) j = (keysOf K b h j e : EReal) :=
  seen K b h _ _ (fun a e => by rw [blk1_1, ent1_v20, packedRows_k, A.k]) (fun a e => by rw [blk1_2, ent1_v20, packedRows_k, A.k]) a j hv e

theorem in_v (b : Fin 32) (h : Fin 6) (a : Fin 128) (j : Fin 256) (hv : vis b.val a j) (e : Fin 64) :
    stack (fun a => (blk1 (ent1 m) c 3 (pt1 b) : Vec Ideal S128x384 .bf16) (ix2 a (cc h e)))
      (fun a => (blk1 (ent1 m) c 4 (pt1 b) : Vec Ideal S128x384 .bf16) (ix2 a (cc h e))) j = (keysOf U b h j e : EReal) :=
  seen U b h _ _ (fun a e => by rw [blk1_3, ent1_v20, packedRows_v, A.v]) (fun a e => by rw [blk1_4, ent1_v20, packedRows_v, A.v]) a j hv e

omit A in
theorem in_o (b : Fin 32) (a : Fin 128) (j : Fin 384) :
    (blk1 (ent1 m) c 5 (pt1 b) : Vec Ideal S128x384 .f32) (ix2 a j)
      = fwdO (grid0.coords (pt0 b)) (blk1 (ent1 m) c 0 (pt1 b)) (blk1 (ent1 m) c 1 (pt1 b)) (blk1 (ent1 m) c 2 (pt1 b))
          (blk1 (ent1 m) c 3 (pt1 b)) (blk1 (ent1 m) c 4 (pt1 b)) (ix2 a j) := by
  rw [blk1_5, ent1_v21, cutJoin_apply, out0_5, same0, same1, same2, same3, same4]

omit A in
theorem in_l (b : Fin 32) (a : Fin 128) (j : Fin 384) :
    (blk1 (ent1 m) c 6 (pt1 b) : Vec Ideal S128x384 .f32) (ix2 a j)
      = fwdL (grid0.coords (pt0 b)) (blk1 (ent1 m) c 0 (pt1 b)) (blk1 (ent1 m) c 1 (pt1 b)) (blk1 (ent1 m) c 2 (pt1 b)) (ix2 a j) := by
  rw [blk1_6, ent1_v22, cutJoin_apply, out0_6, same0, same1, same2]

theorem in_g (b : Fin 32) (h : Fin 6) (a : Fin 128) (e : Fin 64) :
    (blk1 (ent1 m) c 7 (pt1 b) : Vec Ideal S128x384 .f32) (ix2 a (cc h e)) = (rowsOf G b h a e : EReal) := by
  rw [blk1_7, ent1_v23, rowsAll_apply, A.g]; rfl

theorem in_gl (b : Fin 32) (h : Fin 6) (a : Fin 128) :
    (blk1 (ent1 m) c 8 (pt1 b) : Vec Ideal S128x384 .f32) (ix2 a (cc h 0)) = (L (row b a) h : EReal) := by
  rw [blk1_8, ent1_v24, rowsSpread_apply, A.l]

/-- The queries' gradient. -/
theorem left_q (b : Fin 32) (h : Fin 6) (a : Fin 128) (e : Fin 64) :
    ((dat1 (ent1 m) c).arrAt 9 cfg1.N : Vec Ideal S4096x384 .f32) (ix2 (row b a) (cc h e)) = (Rows.gradQ Q K U G L b h a e : EReal) := by
  rw [out1_9]
  exact dqBlk_eq b.val h (rowsOf Q b h) (rowsOf G b h) (keysOf K b h) (keysOf U b h) (fun a => L (row b a) h) _ _ _ _ _ _ _ _ _
    (in_q A b h) (in_k A b h) (in_v A b h) (grid0.coords (pt0 b)) (coords0 _) _ (coords1 _) (fun a e => in_o b a _) (fun a => in_l b a _)
    (in_g A b h) (in_gl A b h) a e

theorem add_k (b : Fin 32) (h : Fin 6) (j : Fin 256) (e : Fin 64) :
    dkAt (ent1 m) c (pt1 b) (ix2 j (cc h e)) = (Rows.gradK Q K U G L b h j e : EReal) :=
  dkBlk_eq b.val h (rowsOf Q b h) (rowsOf G b h) (keysOf K b h) (keysOf U b h) (fun a => L (row b a) h) _ _ _ _ _ _ _ _ _
    (in_q A b h) (in_k A b h) (in_v A b h) (grid0.coords (pt0 b)) (coords0 _) _ (coords1 _) (fun a e => in_o b a _) (fun a => in_l b a _)
    (in_g A b h) (in_gl A b h) j e

theorem add_v (b : Fin 32) (h : Fin 6) (j : Fin 256) (e : Fin 64) :
    dvAt (ent1 m) c (pt1 b) (ix2 j (cc h e)) = (Rows.gradV Q K G b h j e : EReal) :=
  dvBlk_eq b.val h (rowsOf Q b h) (rowsOf G b h) (keysOf K b h) _ _ _ _ _
    (in_q A b h) (in_k A b h) (grid0.coords (pt0 b)) (coords0 _) _ (coords1 _) (fun a => in_l b a _)
    (in_g A b h) j e

/-- The keys' gradient. -/
theorem left_k (b : Fin 32) (h : Fin 6) (a : Fin 128) (e : Fin 64) :
    ((dat1 (ent1 m) c).arrAt 10 cfg1.N : Vec Ideal S4096x384 .f32) (ix2 (row b a) (cc h e))
      = (Rows.gather (Rows.gradK Q K U G L) b h a e : EReal) := by
  have e1 : (partSum (fun b j => Rows.gradK Q K U G L b h j e) 32 b a : EReal) = (Rows.gather (Rows.gradK Q K U G L) b h a e : EReal) :=
    congrArg _ (partSum_gather (Rows.gradK Q K U G L) h e (fun b hb j hj => Rows.gradK_start Q K U G L b hb h j hj e) b a)
  refine (out1_10 (ent1 m) c (row b a) (cc h e)).trans (Eq.trans ?_ e1)
  exact sums (accK (ent1 m) c) (fun t => dkAt (ent1 m) c (pt1 t)) (k1_pay2 (F := Ideal)) zeroK
    (stepK (ent1 m) c) (fun b j => Rows.gradK Q K U G L b h j e) (cc h e) (fun t i => add_k A t h i e)
    (fun i hi => Rows.gradK_start Q K U G L 0 rfl h i hi e) b a 31 (by omega)

/-- The values' gradient. -/
theorem left_v (b : Fin 32) (h : Fin 6) (a : Fin 128) (e : Fin 64) :
    ((dat1 (ent1 m) c).arrAt 11 cfg1.N : Vec Ideal S4096x384 .f32) (ix2 (row b a) (cc h e))
      = (Rows.gather (Rows.gradV Q K G) b h a e : EReal) := by
  have e1 : (partSum (fun b j => Rows.gradV Q K G b h j e) 32 b a : EReal) = (Rows.gather (Rows.gradV Q K G) b h a e : EReal) :=
    congrArg _ (partSum_gather (Rows.gradV Q K G) h e (fun b hb j hj => Rows.gradV_start Q K G b hb h j hj e) b a)
  refine (out1_11 (ent1 m) c (row b a) (cc h e)).trans (Eq.trans ?_ e1)
  exact sums (accV (ent1 m) c) (fun t => dvAt (ent1 m) c (pt1 t)) (k1_pay3 (F := Ideal)) zeroV
    (stepV (ent1 m) c) (fun b j => Rows.gradV Q K G b h j e) (cc h e) (fun t i => add_v A t h i e)
    (fun i hi => Rows.gradV_start Q K G 0 rfl h i hi e) b a 31 (by omega)

end

end Cert.KernelIdeal.Attn
-- ==== Proof.RefStages.lean ====
/- The reference's gradient in stages: the blocks of 128 rows, the windows of 256 keys, the mask, the masked scores, the
   softmax and its derivative. -/
module

public import proofs.«01_k».proof.Proof.Gen.ReferenceIdeal
public import proofs.«01_k».proof.Proof.Layout
public import Idealize.ShloMosaic.Lib.Pointwise

@[expose] public section

noncomputable section

namespace Cert.ReferenceIdeal.Attn

open Cert.ReferenceIdeal Cert.ReferenceIdeal.Gen
open Idealize.ShloMosaic Idealize.ShloMosaic.TcCoe
open Cert.Rows (vis)

variable {F : FTy → Type} [FloatOps F]

/-- An argument's blocks: residue, head, block, row, column. -/
def rel (x : FVec F S1x4096x6x64 .f32) : FVec F S1x4x6x8x128x64 .f32 :=
  shapeCast _ (transpose S1x4x6x1024x64 [0, 2, 3, 1, 4] (shapeCast _ x shapeCasts_S1x4096x6x64_S1x1024x4x6x64)
    transposes_S1x1024x4x6x64_S1x4x6x1024x64_0_2_3_1_4) shapeCasts_S1x4x6x1024x64_S1x4x6x8x128x64

/-- The log-sum-exp's gradient in the same order. -/
def relRow (x : FVec F S1x4096x6 .f32) : FVec F S1x4x6x8x128 .f32 :=
  shapeCast _ (transpose S1x4x6x1024 [0, 2, 3, 1] (shapeCast _ x shapeCasts_S1x4096x6_S1x1024x4x6)
    transposes_S1x1024x4x6_S1x4x6x1024_0_2_3_1) shapeCasts_S1x4x6x1024_S1x4x6x8x128

/-- Each block with the one before it, zeros before the first. -/
def win (x : FVec F S1x4x6x8x128x64 .f32) : FVec F S1x4x6x8x256x64 .f32 :=
  concatenate S1x4x6x8x256x64 4 [⟨S1x4x6x8x128x64, concatenate S1x4x6x8x128x64 3
      [⟨S1x4x6x1x128x64, broadcastInDim S1x4x6x1x128x64 ![] bcast_S_S1x4x6x1x128x64 (constant S_ .f32 0x00000000#32)⟩,
       ⟨S1x4x6x7x128x64, extractStridedSlice S1x4x6x7x128x64 ![0, 0, 0, 0, 0, 0] x slices_S1x4x6x8x128x64_S1x4x6x7x128x64_0_0_0_0_0_0⟩]
      concatenates_S1x4x6x1x128x64_S1x4x6x7x128x64_S1x4x6x8x128x64_d3⟩, ⟨S1x4x6x8x128x64, x⟩]
    concatenates_S1x4x6x8x128x64_S1x4x6x8x128x64_S1x4x6x8x256x64_d4

/-- How far a row's own position is past a key's. -/
def gap : IVec S1x128x256 32 :=
  subi (broadcastInDim S1x128x256 ![0, 1, 2] bcast_S1x128x1_S1x128x256_0_1_2 (addi (broadcastInDim S1x128x1 ![1] bcast_S128_S1x128x1_1
      (iotaInDim S128 32 0)) (broadcastInDim S1x128x1 ![] bcast_S_S1x128x1 (constantI S_ 32 128#32))))
    (broadcastInDim S1x128x256 ![0, 1, 2] bcast_S1x1x256_S1x128x256_0_1_2 (broadcastInDim S1x1x256 ![2] bcast_S256_S1x1x256_2
      (iotaInDim S256 32 0)))

/-- A key's position in its sequence. -/
def place : IVec S8x1x256 32 :=
  addi (broadcastInDim S8x1x256 ![0, 1, 2] bcast_S8x1x1_S8x1x256_0_1_2 (subi (muli (broadcastInDim S8x1x1 ![0] bcast_S8_S8x1x1_0
      (iotaInDim S8 32 0)) (broadcastInDim S8x1x1 ![] bcast_S_S8x1x1 (constantI S_ 32 128#32)))
      (broadcastInDim S8x1x1 ![] bcast_S_S8x1x1 (constantI S_ 32 128#32))))
    (broadcastInDim S8x1x256 ![0, 1, 2] bcast_S1x1x256_S8x1x256_0_1_2 (broadcastInDim S1x1x256 ![2] bcast_S256_S1x1x256_2
      (iotaInDim S256 32 0)))

/-- The mask of a block. -/
def mask : IVec S8x128x256 1 :=
  andi (broadcastInDim S8x128x256 ![0, 1, 2] bcast_S1x128x256_S8x128x256_0_1_2
      (andi (cmpi .sge gap (broadcastInDim S1x128x256 ![] bcast_S_S1x128x256 (constantI S_ 32 0#32)))
        (cmpi .sle gap (broadcastInDim S1x128x256 ![] bcast_S_S1x128x256 (constantI S_ 32 128#32)))))
    (broadcastInDim S8x128x256 ![0, 1, 2] bcast_S8x1x256_S8x128x256_0_1_2
      (cmpi .sge place (broadcastInDim S8x1x256 ![] bcast_S_S8x1x256 (constantI S_ 32 0#32))))

/-- The mask for every residue and head. -/
def maskAll : IVec S1x4x6x8x128x256 1 := broadcastInDim S1x4x6x8x128x256 ![3, 4, 5] bcast_S8x128x256_S1x4x6x8x128x256_3_4_5 mask

/-- One value at every score. -/
def every (w : BitVec 32) : FVec F S1x4x6x8x128x256 .f32 :=
  broadcastInDim S1x4x6x8x128x256 ![] bcast_S_S1x4x6x8x128x256 (constant S_ .f32 w)

/-- The masked scores, from the queries' blocks and the keys' windows. -/
def scores (q : FVec F S1x4x6x8x128x64 .f32) (k : FVec F S1x4x6x8x256x64 .f32) : FVec F S1x4x6x8x128x256 .f32 :=
  select maskAll (Host.divf (Host.dotGeneral dot_S1x4x6x8x128x64_S1x4x6x8x256x64_S1x4x6x8x128x256_5_5_4_4_0123_0123 none q k)
    (every 0x41000000#32)) (broadcastInDim S1x4x6x8x128x256 ![] bcast_S_S1x4x6x8x128x256 (id (constant S_ .f32 0xFF800000#32)))

/-- A row's value at all its scores. -/
def spread (x : FVec F S1x4x6x8x128 .f32) : FVec F S1x4x6x8x128x256 .f32 :=
  broadcastInDim S1x4x6x8x128x256 ![0, 1, 2, 3, 4, 5] bcast_S1x4x6x8x128x1_S1x4x6x8x128x256_0_1_2_3_4_5
    (broadcastInDim S1x4x6x8x128x1 ![0, 1, 2, 3, 4] bcast_S1x4x6x8x128_S1x4x6x8x128x1_0_1_2_3_4 x)

/-- Each row's maximum. -/
def top (s : FVec F S1x4x6x8x128x256 .f32) : FVec F S1x4x6x8x128 .f32 :=
  Host.reduce FloatOps.maximumf s (constant S_ .f32 0xFF800000#32) reducesTo_S1x4x6x8x128x256_S1x4x6x8x128_d5 h_S_

/-- The sum of each row. -/
def sums (s : FVec F S1x4x6x8x128x256 .f32) : FVec F S1x4x6x8x128 .f32 :=
  Host.reduceAdd s (constant S_ .f32 0x00000000#32) reducesTo_S1x4x6x8x128x256_S1x4x6x8x128_d5 h_S_

/-- The exponentials of the scores less their row's maximum. -/
def raised (s : FVec F S1x4x6x8x128x256 .f32) : FVec F S1x4x6x8x128x256 .f32 := Host.exp (subf s (spread (top s)))

/-- The softmax's weights. -/
def prob (s : FVec F S1x4x6x8x128x256 .f32) : FVec F S1x4x6x8x128x256 .f32 :=
  Host.exp (subf s (spread (addf (Host.log (sums (raised s))) (top s))))

/-- The values' windows' gradient. -/
def dvWin (g : FVec F S1x4x6x8x128x64 .f32) (p : FVec F S1x4x6x8x128x256 .f32) : FVec F S1x4x6x8x256x64 .f32 :=
  transpose S1x4x6x8x256x64 [0, 1, 2, 3, 5, 4]
    (Host.dotGeneral dot_S1x4x6x8x128x64_S1x4x6x8x128x256_S1x4x6x8x64x256_4_4_5_5_0123_0123 none g p)
    transposes_S1x4x6x8x64x256_S1x4x6x8x256x64_0_1_2_3_5_4

/-- The weights' gradient times the weights. -/
def pull (g : FVec F S1x4x6x8x128x64 .f32) (v : FVec F S1x4x6x8x256x64 .f32) (p : FVec F S1x4x6x8x128x256 .f32) :
    FVec F S1x4x6x8x128x256 .f32 :=
  mulf (Host.dotGeneral dot_S1x4x6x8x128x64_S1x4x6x8x256x64_S1x4x6x8x128x256_5_5_4_4_0123_0123 none g v) p

/-- What reaches the log-sum-exp. -/
def toLse (l : FVec F S1x4x6x8x128 .f32) (u : FVec F S1x4x6x8x128x256 .f32) : FVec F S1x4x6x8x128 .f32 :=
  addf l (broadcastInDim S1x4x6x8x128 ![1, 2, 3, 4] bcast_S4x6x8x128_S1x4x6x8x128_1_2_3_4
    (Host.reduceAdd (shapeCast S1x4x6x8x128x1 (sums (Host.negf u)) shapeCasts_S1x4x6x8x128_S1x4x6x8x128x1)
      (constant S_ .f32 0x00000000#32) reducesTo_S1x4x6x8x128x1_S4x6x8x128_d0_5 h_S_))

/-- The products' gradient: the scores', masked and divided by eight. -/
def dots (l : FVec F S1x4x6x8x128 .f32) (s u : FVec F S1x4x6x8x128x256 .f32) : FVec F S1x4x6x8x128x256 .f32 :=
  Host.divf (select maskAll (addf u (mulf (broadcastInDim S1x4x6x8x128x256 ![0, 1, 2, 3, 4]
      bcast_S1x4x6x8x128_S1x4x6x8x128x256_0_1_2_3_4 (Host.divf (toLse l u) (sums (raised s)))) (raised s)))
    (every 0x00000000#32)) (every 0x41000000#32)

/-- The two halves of the windows' gradient put back on their blocks. -/
def unwin (x : FVec F S1x4x6x8x256x64 .f32) : FVec F S1x4x6x8x128x64 .f32 :=
  addf (extractStridedSlice S1x4x6x8x128x64 ![0, 0, 0, 0, 128, 0] x slices_S1x4x6x8x256x64_S1x4x6x8x128x64_0_0_0_0_128_0)
    (pad S1x4x6x8x128x64 ![0, 0, 0, 0, 0, 0] ![0, 0, 0, 1, 0, 0] ![0, 0, 0, 0, 0, 0]
      (extractStridedSlice S1x4x6x7x128x64 ![0, 0, 0, 1, 0, 0]
        (extractStridedSlice S1x4x6x8x128x64 ![0, 0, 0, 0, 0, 0] x slices_S1x4x6x8x256x64_S1x4x6x8x128x64_0_0_0_0_0_0)
        slices_S1x4x6x8x128x64_S1x4x6x7x128x64_0_0_0_1_0_0)
      (constant S_ .f32 0x00000000#32) pads_S1x4x6x7x128x64_S1x4x6x8x128x64_000_000_000_010_000_000 h_S_)

/-- The blocks as rows, residue by residue. -/
def out (x : FVec F S1x4x6x8x128x64 .f32) : FVec F S4096x384 .f32 :=
  shapeCast _ (transpose S4x1024x384 [1, 0, 2] (shapeCast _ (shapeCast S1x4096x6x64 (transpose S1x1024x4x6x64 [0, 3, 1, 2, 4]
    (shapeCast _ x shapeCasts_S1x4x6x8x128x64_S1x4x6x1024x64) transposes_S1x4x6x1024x64_S1x1024x4x6x64_0_3_1_2_4)
    shapeCasts_S1x1024x4x6x64_S1x4096x6x64) shapeCasts_S1x4096x6x64_S1024x4x384) transposes_S1024x4x384_S4x1024x384_1_0_2)
    shapeCasts_S4x1024x384_S4096x384

variable (q k v g : FVec F S1x4096x6x64 .f32) (l : FVec F S1x4096x6 .f32)

/-- The scores of the arguments. -/
def S : FVec F S1x4x6x8x128x256 .f32 := scores (rel q) (win (rel k))

/-- The products' gradient of the arguments. -/
def DS : FVec F S1x4x6x8x128x256 .f32 := dots (relRow l) (S q k) (pull (rel g) (win (rel v)) (prob (S q k)))

/-- The reference's three gradients. -/
def refQ : FVec F S4096x384 .f32 :=
  out (Host.dotGeneral dot_S1x4x6x8x128x256_S1x4x6x8x256x64_S1x4x6x8x128x64_5_4_4_5_0123_0123 none (DS q k v g l) (win (rel k)))
def refK : FVec F S4096x384 .f32 :=
  out (unwin (Host.dotGeneral dot_S1x4x6x8x128x256_S1x4x6x8x128x64_S1x4x6x8x256x64_4_4_5_5_0123_0123 none (DS q k v g l) (rel q)))
def refV : FVec F S4096x384 .f32 := out (unwin (dvWin (rel g) (prob (S q k))))

end Cert.ReferenceIdeal.Attn
-- ==== Proof.RefReads.lean ====
/- The reference's stages, read at an index over the extended reals. -/
module

public import proofs.«01_k».proof.Proof.RefStages
public import proofs.«01_k».proof.Proof.Words

@[expose] public section

noncomputable section

namespace Cert.ReferenceIdeal.Attn

open Cert.ReferenceIdeal Cert.ReferenceIdeal.Gen
open Idealize.ShloMosaic Idealize.ShloMosaic.TcCoe
open Cert.Rows (blk src src_row vis row near_bit place_bit vis_bits select_bit ninf eight)

theorem rel_apply (x : FVec Ideal S1x4096x6x64 .f32) (r : Fin 4) (h : Fin 6) (n : Fin 8) (a : Fin 128) (e : Fin 64) :
    rel x (ix6 0 r h n a e) = x (ix4 0 (src (row (blk r n) a)) h e) := by
  pointwise [rel]
  rw [src_row]

theorem relRow_apply (x : FVec Ideal S1x4096x6 .f32) (r : Fin 4) (h : Fin 6) (n : Fin 8) (a : Fin 128) :
    relRow x (ix5 0 r h n a) = x (ix3 0 (src (row (blk r n) a)) h) := by
  pointwise [relRow]
  rw [src_row]

theorem win_apply (x : FVec Ideal S1x4x6x8x128x64 .f32) (r : Fin 4) (h : Fin 6) (n : Fin 8) (j : Fin 256) (e : Fin 64) :
    win x (ix6 0 r h n j e)
      = if h1 : j.val < 128 then if h2 : n.val < 1 then 0
          else x (ix6 0 r h ⟨n.val - 1, by have := n.isLt; omega⟩ ⟨j.val, h1⟩ e)
        else x (ix6 0 r h n ⟨j.val - 128, by have := j.isLt; omega⟩ e) := by
  pointwise [win]

theorem mask_apply (n : Fin 8) (a : Fin 128) (j : Fin 256) :
    mask (ix3 n a j) = BitVec.ofBool (decide (vis n.val a j)) := by
  pointwise [mask, gap, place]
  rw [near_bit a.isLt j.isLt, place_bit n.isLt j.isLt, vis_bits]

theorem scores_apply (q : FVec Ideal S1x4x6x8x128x64 .f32) (k : FVec Ideal S1x4x6x8x256x64 .f32) (r : Fin 4) (h : Fin 6) (n : Fin 8)
    (a : Fin 128) (j : Fin 256) :
    scores q k (ix6 0 r h n a j)
      = if vis n.val a j then Ideal.div (∑ e, q (ix6 0 r h n a e) * k (ix6 0 r h n j e)) ((8 : ℝ) : EReal) else ⊥ := by
  pointwise [scores, maskAll, mask_apply, select_bit, eight, id, ninf, every,
    dot_S1x4x6x8x128x64_S1x4x6x8x256x64_S1x4x6x8x128x256_5_5_4_4_0123_0123]

/-- The scores of a row are those whose index drops to the row's. -/
theorem drop_row (r : Fin 4) (h : Fin 6) (n : Fin 8) (a : Fin 128) (i : S1x4x6x8x128x256.Idx) :
    reducesTo_S1x4x6x8x128x256_S1x4x6x8x128_d5.drop i = ix5 0 r h n a ↔ ∃ j : Fin 256, ix6 0 r h n a j = i := by
  constructor
  · intro e
    refine ⟨i 5, funext fun c => Fin.ext ?_⟩
    have e' := fun b => (congrArg Fin.val (congrFun e b)).symm
    match c with
    | ⟨0, _⟩ => exact e' 0
    | ⟨1, _⟩ => exact e' 1
    | ⟨2, _⟩ => exact e' 2
    | ⟨3, _⟩ => exact e' 3
    | ⟨4, _⟩ => exact e' 4
    | ⟨5, _⟩ => rfl
  · rintro ⟨j, rfl⟩
    refine funext fun c => Fin.ext ?_
    match c with
    | ⟨0, _⟩ | ⟨1, _⟩ | ⟨2, _⟩ | ⟨3, _⟩ | ⟨4, _⟩ => rfl

theorem top_apply (s : FVec Ideal S1x4x6x8x128x256 .f32) (r : Fin 4) (h : Fin 6) (n : Fin 8) (a : Fin 128) :
    top s (ix5 0 r h n a) = (Finset.univ : Finset (Fin 256)).fold max ⊥ fun j => s (ix6 0 r h n a j) := by
  pointwise [top]
  rw [ninf]
  exact Finset.fold_filter_eq_fold_of_fiber max _ (fun j : Fin 256 => (ix6 0 r h n a j : S1x4x6x8x128x256.Idx))
    (fun _ _ e => congrFun e 5) (drop_row r h n a) _ _

theorem sums_apply (s : FVec Ideal S1x4x6x8x128x256 .f32) (r : Fin 4) (h : Fin 6) (n : Fin 8) (a : Fin 128) :
    sums s (ix5 0 r h n a) = ∑ j : Fin 256, s (ix6 0 r h n a j) := by
  pointwise [sums]
  rw [Ideal.hostReduceAdd, zero_add]
  exact Finset.sum_filter_eq_sum_of_fiber _ (fun j : Fin 256 => (ix6 0 r h n a j : S1x4x6x8x128x256.Idx))
    (fun _ _ e => congrFun e 5) (drop_row r h n a) _

theorem raised_apply (s : FVec Ideal S1x4x6x8x128x256 .f32) (r : Fin 4) (h : Fin 6) (n : Fin 8) (a : Fin 128) (j : Fin 256) :
    raised s (ix6 0 r h n a j) = Ideal.exp (s (ix6 0 r h n a j) - top s (ix5 0 r h n a)) := by
  pointwise [raised, spread]

theorem prob_apply (s : FVec Ideal S1x4x6x8x128x256 .f32) (r : Fin 4) (h : Fin 6) (n : Fin 8) (a : Fin 128) (j : Fin 256) :
    prob s (ix6 0 r h n a j)
      = Ideal.exp (s (ix6 0 r h n a j) - (Ideal.log (sums (raised s) (ix5 0 r h n a)) + top s (ix5 0 r h n a))) := by
  pointwise [prob, spread]

theorem dvWin_apply (g : FVec Ideal S1x4x6x8x128x64 .f32) (p : FVec Ideal S1x4x6x8x128x256 .f32) (r : Fin 4) (h : Fin 6) (n : Fin 8)
    (j : Fin 256) (e : Fin 64) :
    dvWin g p (ix6 0 r h n j e) = ∑ a : Fin 128, g (ix6 0 r h n a e) * p (ix6 0 r h n a j) := by
  pointwise [dvWin, dot_S1x4x6x8x128x64_S1x4x6x8x128x256_S1x4x6x8x64x256_4_4_5_5_0123_0123]

theorem pull_apply (g : FVec Ideal S1x4x6x8x128x64 .f32) (v : FVec Ideal S1x4x6x8x256x64 .f32) (p : FVec Ideal S1x4x6x8x128x256 .f32)
    (r : Fin 4) (h : Fin 6) (n : Fin 8) (a : Fin 128) (j : Fin 256) :
    pull g v p (ix6 0 r h n a j) = (∑ e, g (ix6 0 r h n a e) * v (ix6 0 r h n j e)) * p (ix6 0 r h n a j) := by
  pointwise [pull, dot_S1x4x6x8x128x64_S1x4x6x8x256x64_S1x4x6x8x128x256_5_5_4_4_0123_0123]

/-- A row's one entry is the one index that drops to the row. -/
theorem drop_one (r : Fin 4) (h : Fin 6) (n : Fin 8) (a : Fin 128) (i : S1x4x6x8x128x1.Idx) :
    reducesTo_S1x4x6x8x128x1_S4x6x8x128_d0_5.drop i = ix4 r h n a ↔ ∃ _ : Unit, ix6 0 r h n a 0 = i := by
  constructor
  · intro e
    refine ⟨(), funext fun c => Fin.ext ?_⟩
    have e' := fun b => (congrArg Fin.val (congrFun e b)).symm
    match c with
    | ⟨0, hc⟩ => exact (Nat.lt_one_iff.1 (i 0).isLt).symm
    | ⟨1, _⟩ => exact e' 0
    | ⟨2, _⟩ => exact e' 1
    | ⟨3, _⟩ => exact e' 2
    | ⟨4, _⟩ => exact e' 3
    | ⟨5, hc⟩ => exact (Nat.lt_one_iff.1 (i 5).isLt).symm
  · rintro ⟨_, rfl⟩
    refine funext fun c => Fin.ext ?_
    match c with
    | ⟨0, _⟩ | ⟨1, _⟩ | ⟨2, _⟩ | ⟨3, _⟩ => rfl

theorem toLse_apply (l : FVec Ideal S1x4x6x8x128 .f32) (u : FVec Ideal S1x4x6x8x128x256 .f32) (r : Fin 4) (h : Fin 6) (n : Fin 8)
    (a : Fin 128) :
    toLse l u (ix5 0 r h n a) = l (ix5 0 r h n a) + ∑ j : Fin 256, -u (ix6 0 r h n a j) := by
  have e : sums (Host.negf u) (ix5 0 r h n a) = ∑ j : Fin 256, -u (ix6 0 r h n a j) := by
    rw [sums_apply]
    pointwise
  pointwise [toLse]
  rw [← e, Ideal.hostReduceAdd, zero_add]
  congr 1
  refine (Finset.sum_filter_eq_sum_of_fiber _ (fun _ : Unit => (ix6 0 r h n a 0 : S1x4x6x8x128x1.Idx))
    (fun _ _ _ => rfl) (drop_one r h n a) _).trans ?_
  rw [Finset.sum_const, Finset.card_univ, Fintype.card_unit, one_nsmul]
  pointwise

theorem dots_apply (l : FVec Ideal S1x4x6x8x128 .f32) (s u : FVec Ideal S1x4x6x8x128x256 .f32) (r : Fin 4) (h : Fin 6) (n : Fin 8)
    (a : Fin 128) (j : Fin 256) :
    dots l s u (ix6 0 r h n a j)
      = Ideal.div (if vis n.val a j then u (ix6 0 r h n a j)
            + Ideal.div (toLse l u (ix5 0 r h n a)) (sums (raised s) (ix5 0 r h n a)) * raised s (ix6 0 r h n a j) else 0)
          ((8 : ℝ) : EReal) := by
  pointwise [dots, maskAll, mask_apply, every, eight, select_bit]

theorem unwin_apply (x : FVec Ideal S1x4x6x8x256x64 .f32) (r : Fin 4) (h : Fin 6) (n : Fin 8) (a : Fin 128) (e : Fin 64) :
    unwin x (ix6 0 r h n a e)
      = x (ix6 0 r h n ⟨128 + a.val, by have := a.isLt; omega⟩ e)
        + if hn : n.val < 7 then x (ix6 0 r h ⟨1 + n.val, by omega⟩ ⟨a.val, by have := a.isLt; omega⟩ e) else 0 := by
  pointwise [unwin]

theorem out_apply (x : FVec Ideal S1x4x6x8x128x64 .f32) (r : Fin 4) (h : Fin 6) (n : Fin 8) (a : Fin 128) (e : Fin 64) (c : Fin 384)
    (hc : c.val = 64 * h.val + e.val) : out x (ix2 (row (blk r n) a) c) = x (ix6 0 r h n a e) := by
  have := r.isLt; have := n.isLt; have := a.isLt; have := e.isLt
  have hr : (row (blk r n) a).val = 128 * (8 * r.val + n.val) + a.val := rfl
  pointwise [out]
  congr 1
  congr 1 <;> first | rfl | (apply Fin.ext; simp only [hr, hc]; omega)

theorem dqWin_apply (s : FVec Ideal S1x4x6x8x128x256 .f32) (k : FVec Ideal S1x4x6x8x256x64 .f32) (r : Fin 4) (h : Fin 6) (n : Fin 8)
    (a : Fin 128) (e : Fin 64) :
    (Host.dotGeneral dot_S1x4x6x8x128x256_S1x4x6x8x256x64_S1x4x6x8x128x64_5_4_4_5_0123_0123 none s k : FVec Ideal _ .f32) (ix6 0 r h n a e)
      = ∑ j : Fin 256, s (ix6 0 r h n a j) * k (ix6 0 r h n j e) := by
  pointwise [dot_S1x4x6x8x128x256_S1x4x6x8x256x64_S1x4x6x8x128x64_5_4_4_5_0123_0123]

theorem dkWin_apply (s : FVec Ideal S1x4x6x8x128x256 .f32) (q : FVec Ideal S1x4x6x8x128x64 .f32) (r : Fin 4) (h : Fin 6) (n : Fin 8)
    (j : Fin 256) (e : Fin 64) :
    (Host.dotGeneral dot_S1x4x6x8x128x256_S1x4x6x8x128x64_S1x4x6x8x256x64_4_4_5_5_0123_0123 none s q : FVec Ideal _ .f32) (ix6 0 r h n j e)
      = ∑ a : Fin 128, s (ix6 0 r h n a j) * q (ix6 0 r h n a e) := by
  pointwise [dot_S1x4x6x8x128x256_S1x4x6x8x128x64_S1x4x6x8x256x64_4_4_5_5_0123_0123]

end Cert.ReferenceIdeal.Attn
-- ==== Proof.RefValue.lean ====
/- The reference's three gradients over the extended reals, for arguments that are finite, are those of `Layout`. -/
module

public import proofs.«01_k».proof.Proof.RefReads

@[expose] public section

noncomputable section

namespace Cert.ReferenceIdeal.Attn

open Cert.ReferenceIdeal Cert.ReferenceIdeal.Gen
open Idealize.ShloMosaic Idealize.ShloMosaic.TcCoe
open Cert.Rows (blk src vis row key vis_self rowsOf keysOf Arr)

theorem vis_blk (r : Fin 4) (n : Fin 8) (a : Fin 128) (j : Fin 256) : vis n.val a j ↔ vis (blk r n).val a j := by
  have := n.isLt
  have h : (blk r n).val % 8 = n.val := by show (8 * r.val + n.val) % 8 = n.val; omega
  rw [← Rows.vis_mod (blk r n).val, h]

/-- An argument of the reference holds the array `X`, row by row in the re-laid order. -/
def Holds (x : FVec Ideal S1x4096x6x64 .f32) (X : Arr) : Prop := ∀ ρ h e, x (ix4 0 (src ρ) h e) = (X ρ h e : EReal)

/-- The same for the log-sum-exp's gradient. -/
def HoldsRow (x : FVec Ideal S1x4096x6 .f32) (X : Fin 4096 → Fin 6 → ℝ) : Prop := ∀ ρ h, x (ix3 0 (src ρ) h) = (X ρ h : EReal)

/-- A window holds the keys a row sees. -/
theorem win_eq {x : FVec Ideal S1x4096x6x64 .f32} {X : Arr} (hx : Holds x X) (r : Fin 4) (h : Fin 6) (n : Fin 8) (a : Fin 128)
    (j : Fin 256) (hv : vis (blk r n).val a j) (e : Fin 64) :
    win (rel x) (ix6 0 r h n j e) = (keysOf X (blk r n) h j e : EReal) := by
  have hn := n.isLt
  have hj := j.isLt
  have hb : (blk r n).val = 8 * r.val + n.val := rfl
  rw [win_apply]
  split
  case isTrue h1 =>
    have h2 : ¬ n.val < 1 := by rcases hv.2.2 with h3 | h3 <;> omega
    rw [dif_neg h2, rel_apply, hx, keysOf]
    congr 2
    exact Fin.ext (show 128 * (8 * r.val + (n.val - 1)) + j.val = 128 * (8 * r.val + n.val) + j.val - 128 by omega)
  case isFalse h1 =>
    rw [rel_apply, hx, keysOf]
    congr 2
    exact Fin.ext (show 128 * (8 * r.val + n.val) + (j.val - 128) = 128 * (8 * r.val + n.val) + j.val - 128 by omega)

theorem rel_eq {x : FVec Ideal S1x4096x6x64 .f32} {X : Arr} (hx : Holds x X) (r : Fin 4) (h : Fin 6) (n : Fin 8) (a : Fin 128)
    (e : Fin 64) : rel x (ix6 0 r h n a e) = (rowsOf X (blk r n) h a e : EReal) := by
  rw [rel_apply, hx, rowsOf]

section

variable {q k v g : FVec Ideal S1x4096x6x64 .f32} {l : FVec Ideal S1x4096x6 .f32} {Q K V G : Arr} {L : Fin 4096 → Fin 6 → ℝ}
  (hq : Holds q Q) (hk : Holds k K) (hv : Holds v V) (hg : Holds g G) (hl : HoldsRow l L)

include hq hk in
theorem S_eq (r : Fin 4) (h : Fin 6) (n : Fin 8) (a : Fin 128) (j : Fin 256) :
    S q k (ix6 0 r h n a j) = Rows.score (vis (blk r n).val a) (Rows.sc (rowsOf Q (blk r n) h) (keysOf K (blk r n) h) a) j := by
  rw [S, scores_apply, ← Rows.score_post (vis (blk r n).val) _ _ (fun j e => win (rel k) (ix6 0 r h n j e))
    (fun a j hv e => win_eq hk r h n a j hv e) a j]
  simp only [rel_eq hq]
  exact if_congr (vis_blk r n a j) rfl rfl

include hq hk in
theorem top_eq (r : Fin 4) (h : Fin 6) (n : Fin 8) (a : Fin 128) : ∃ M : ℝ, top (S q k) (ix5 0 r h n a) = (M : EReal) := by
  obtain ⟨M, hM⟩ := Rows.max_real (vis (blk r n).val a) (Rows.sc (rowsOf Q (blk r n) h) (keysOf K (blk r n) h) a) (vis_self _ a)
  refine ⟨M, ?_⟩
  rw [top_apply, ← hM]
  congr 1
  exact funext fun j => S_eq hq hk r h n a j

include hq hk in
theorem raised_eq {r : Fin 4} {h : Fin 6} {n : Fin 8} {a : Fin 128} {M : ℝ} (hM : top (S q k) (ix5 0 r h n a) = (M : EReal)) (j : Fin 256) :
    raised (S q k) (ix6 0 r h n a j)
      = Ideal.exp (Rows.score (vis (blk r n).val a) (Rows.sc (rowsOf Q (blk r n) h) (keysOf K (blk r n) h) a) j - (M : EReal)) := by
  rw [raised_apply, hM, S_eq hq hk]

include hq hk in
/-- The reference's softmax weights. -/
theorem prob_eq (r : Fin 4) (h : Fin 6) (n : Fin 8) (a : Fin 128) (j : Fin 256) :
    prob (S q k) (ix6 0 r h n a j) = (Rows.wt (vis (blk r n).val) (rowsOf Q (blk r n) h) (keysOf K (blk r n) h) a j : EReal) := by
  obtain ⟨M, hM⟩ := top_eq hq hk r h n a
  rw [prob_apply, sums_apply, hM]
  simp only [raised_eq hq hk hM]
  rw [Rows.sum_exp, Rows.log_sum _ _ (vis_self _ a), S_eq hq hk, Rows.exp_lse _ _ (vis_self _ a), Rows.wt]

include hq hk hv hg hl in
/-- The reference's gradient of the scores, divided by eight. -/
theorem DS_eq (r : Fin 4) (h : Fin 6) (n : Fin 8) (a : Fin 128) (j : Fin 256) :
    DS q k v g l (ix6 0 r h n a j)
      = Ideal.div (Rows.dS (vis (blk r n).val) (rowsOf Q (blk r n) h) (rowsOf G (blk r n) h) (keysOf K (blk r n) h)
          (keysOf V (blk r n) h) (fun a => L (row (blk r n) a) h) a j : EReal) ((8 : ℝ) : EReal) := by
  obtain ⟨M, hM⟩ := top_eq hq hk r h n a
  rw [DS, dots_apply, toLse_apply, sums_apply, relRow_apply, hl (row (blk r n) a) h]
  simp only [raised_eq hq hk hM, pull_apply, prob_eq hq hk, rel_eq hg]
  refine congrArg (fun x => Ideal.div x ((8 : ℝ) : EReal)) ?_
  have key := Rows.slope_diff (vis (blk r n).val a) (Rows.sc (rowsOf Q (blk r n) h) (keysOf K (blk r n) h) a) (vis_self _ a) M
    (fun j => ∑ e, (rowsOf G (blk r n) h a e : EReal) * win (rel v) (ix6 0 r h n j e))
    (Rows.gv (rowsOf G (blk r n) h) (keysOf V (blk r n) h) a)
    (fun j hj => Rows.gv_eq (vis (blk r n).val) _ _ _ (fun a j hv' e => win_eq hv r h n a j hv' e) a j hj) (L (row (blk r n) a) h) j
  by_cases hvis : vis n.val a j
  · rw [if_pos hvis]; exact key
  · rw [if_neg hvis, Rows.dS_masked _ _ _ _ _ _ (fun hc => hvis ((vis_blk r n a j).2 hc)), EReal.coe_zero]

include hq hk hv hg hl in
/-- The reference's gradient of the queries. -/
theorem refQ_eq (r : Fin 4) (h : Fin 6) (n : Fin 8) (a : Fin 128) (e : Fin 64) (c : Fin 384) (hc : c.val = 64 * h.val + e.val) :
    refQ q k v g l (ix2 (row (blk r n) a) c) = (Rows.gradQ Q K V G L (blk r n) h a e : EReal) := by
  rw [refQ, out_apply _ r h n a e c hc, dqWin_apply, Rows.gradQ,
    ← Rows.dQ_pre _ _ _ _ _ _ (fun j e => win (rel k) (ix6 0 r h n j e)) (fun a j hv e => win_eq hk r h n a j hv e) a e]
  simp only [DS_eq hq hk hv hg hl]

/-- The windows' gradient put back on the blocks. -/
theorem unwin_eq (x : FVec Ideal S1x4x6x8x256x64 .f32) (f : Fin 32 → Fin 6 → Fin 256 → Fin 64 → ℝ)
    (hx : ∀ r h n j e, x (ix6 0 r h n j e) = (f (blk r n) h j e : EReal)) (r : Fin 4) (h : Fin 6) (n : Fin 8) (a : Fin 128) (e : Fin 64) :
    unwin x (ix6 0 r h n a e) = (Rows.gather f (blk r n) h a e : EReal) := by
  have hn := n.isLt
  have hb : (blk r n).val = 8 * r.val + n.val := rfl
  rw [unwin_apply, hx, Rows.gather, EReal.coe_add]
  congr 1
  by_cases h7 : n.val < 7
  · rw [dif_pos h7, dif_pos (by omega), hx]
    congr 2
    exact Fin.ext (show 8 * r.val + (1 + n.val) = 8 * r.val + n.val + 1 by omega)
  · rw [dif_neg h7, dif_neg (by omega), EReal.coe_zero]

include hq hk hv hg hl in
/-- The reference's gradient of the keys. -/
theorem refK_eq (r : Fin 4) (h : Fin 6) (n : Fin 8) (a : Fin 128) (e : Fin 64) (c : Fin 384) (hc : c.val = 64 * h.val + e.val) :
    refK q k v g l (ix2 (row (blk r n) a) c) = (Rows.gather (Rows.gradK Q K V G L) (blk r n) h a e : EReal) := by
  rw [refK, out_apply _ r h n a e c hc]
  refine unwin_eq _ _ (fun r h n j e => ?_) r h n a e
  rw [dkWin_apply, Rows.gradK, ← Rows.dK_post]
  simp only [DS_eq hq hk hv hg hl, rel_eq hq]

include hq hk hg in
/-- The reference's gradient of the values. -/
theorem refV_eq (r : Fin 4) (h : Fin 6) (n : Fin 8) (a : Fin 128) (e : Fin 64) (c : Fin 384) (hc : c.val = 64 * h.val + e.val) :
    refV q k g (ix2 (row (blk r n) a) c) = (Rows.gather (Rows.gradV Q K G) (blk r n) h a e : EReal) := by
  rw [refV, out_apply _ r h n a e c hc]
  refine unwin_eq _ _ (fun r h n j e => ?_) r h n a e
  rw [dvWin_apply, Rows.gradV, ← Rows.dV_eq]
  simp only [prob_eq hq hk, rel_eq hg, mul_comm]

end

end Cert.ReferenceIdeal.Attn
-- ==== Proof.RefRun.lean ====
/- The reference's results are the staged gradients. -/
module

public import proofs.«01_k».proof.Proof.RefStages
public import proofs.«01_k».proof.Proof.Gen.ReferenceIdeal.Run

@[expose] public section

noncomputable section

namespace Cert.ReferenceIdeal.Attn

open Cert.ReferenceIdeal Cert.ReferenceIdeal.Gen
open Idealize.ShloMosaic Idealize.ShloMosaic.TcCoe

variable {F : FTy → Type} [FloatOps F] (m : (ℓ : Loc nD τ sig) → Buf (Elt F) ℓ) (c : Dev nD)

theorem out0_eq : Value.res_out0 m c = refQ (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

theorem out1_eq : Value.res_out1 m c = refK (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

theorem out2_eq : Value.res_out2 m c = refV (m ((c.tc : Thread nD τ).loc main_arg0)) (m ((c.tc : Thread nD τ).loc main_arg1))
    (m ((c.tc : Thread nD τ).loc main_arg3)) := rfl

end Cert.ReferenceIdeal.Attn
-- ==== Proof.lean ====
/- The claims: of the attention from its two runs (Proof/Run.lean, Proof/MachineRun.lean) and its reference's, of the other calls from Proof/Prod2.lean to Proof/Prod20.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Pre_finite19
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Pre_finite20
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Prod19
public import proofs.«01_k».proof.Proof.Prod20
public import proofs.«01_k».proof.Proof.KernelValue
public import proofs.«01_k».proof.Proof.RefValue
public import proofs.«01_k».proof.Proof.RefRun
public import proofs.«01_k».proof.Proof.Finite
public import proofs.«01_k».proof.Proof.MachineRun
public import Idealize.ShloMosaic.Adequacy
public import Idealize.ShloMosaic.Init

@[expose] public section

namespace Cert.Proof

open Idealize.ShloMosaic Idealize.ShloMosaic.TcCoe Idealize.SL.Sem

/-- The program as compiled runs: it ends, nothing faults, its arguments end as launched and every semaphore at zero. -/
theorem frame_kernel : Cert.quiescent_Kernel := fun m ρ _ =>
  (θ_run Cert.Kernel.defs _ _).mono
    (fun _ h => ⟨fun c => ⟨(h.1 c).1, (h.1 c).2.1, (h.1 c).2.2.1, (h.1 c).2.2.2.1, (h.1 c).2.2.2.2.1⟩, h.2⟩)
    (Cert.Kernel.Attn.run_ends (F := Bits) m ρ)

/-- The program over the reals, its mask −∞, runs likewise. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Attn.run_ends (F := Ideal) m ρ)

/-- The reference over the reals runs likewise; it declares no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The one number named is the mask, which stands for −∞. -/
theorem preserves : Cert.preserves_Kernel_KernelIdeal :=
  IdealRules.named_const.statement Cert.KernelIdeal.κ "mask" .f32 0xF149F2CA#32 ⊥ rfl

/-- An index of a result: a row of a block and a head's column. -/
theorem index_of (i : Cert.KernelIdeal.S4096x384.Idx) :
    ∃ (r : Fin 4) (n : Fin 8) (a : Fin 128) (h : Fin 6) (e : Fin 64),
      i = ix2 (Cert.Rows.row (Cert.Rows.blk r n) a) (Cert.KernelIdeal.Attn.cc h e) := by
  have h0 : (i 0).val < 4096 := (i 0).isLt
  have h1 : (i 1).val < 384 := (i 1).isLt
  refine ⟨⟨(i 0).val / 1024, by omega⟩, ⟨(i 0).val / 128 % 8, by omega⟩, ⟨(i 0).val % 128, by omega⟩, ⟨(i 1).val / 64, by omega⟩,
    ⟨(i 1).val % 64, by omega⟩, funext fun x => Fin.ext ?_⟩
  match x with
  | ⟨0, _⟩ =>
    show (i 0).val = 128 * (8 * ((i 0).val / 1024) + (i 0).val / 128 % 8) + (i 0).val % 128
    omega
  | ⟨1, _⟩ =>
    show (i 1).val = 64 * ((i 1).val / 64) + (i 1).val % 64
    omega

/-- Two results equal at every row of a block and every head's column are equal. -/
theorem result_ext (x y : Cert.KernelIdeal.S4096x384.Idx → EReal)
    (h : ∀ (r : Fin 4) (n : Fin 8) (a : Fin 128) (h : Fin 6) (e : Fin 64),
      x (ix2 (Cert.Rows.row (Cert.Rows.blk r n) a) (Cert.KernelIdeal.Attn.cc h e))
        = y (ix2 (Cert.Rows.row (Cert.Rows.blk r n) a) (Cert.KernelIdeal.Attn.cc h e))) : x = y := by
  funext i
  obtain ⟨r, n, a, hd, e, rfl⟩ := index_of i
  exact h r n a hd e

section
variable (m : (ℓ : Loc Cert.KernelIdeal.nD Cert.KernelIdeal.τ Cert.KernelIdeal.sig) → Buf (Elt Ideal) ℓ)
  (c : Dev Cert.KernelIdeal.nD)

/-- An argument's numbers as reals, by re-laid row. -/
noncomputable def reals (x : FVec Ideal Cert.KernelIdeal.S1x4096x6x64 .f32) : Cert.Rows.Arr :=
  fun ρ h e => EReal.toReal (x (ix4 0 (Cert.Rows.src ρ) h e))
noncomputable def realRows (x : FVec Ideal Cert.KernelIdeal.S1x4096x6 .f32) : Fin 4096 → Fin 6 → ℝ :=
  fun ρ h => EReal.toReal (x (ix3 0 (Cert.Rows.src ρ) h))

/-- Where the arguments are finite they are those reals. -/
theorem args_real (hp : Cert.Pre_KernelIdeal_finite m) :
    Cert.KernelIdeal.Attn.Args m c (reals (m ((c.tc : Thread Cert.KernelIdeal.nD Cert.KernelIdeal.τ).loc Cert.KernelIdeal.main_arg0)))
      (reals (m ((c.tc : Thread Cert.KernelIdeal.nD Cert.KernelIdeal.τ).loc Cert.KernelIdeal.main_arg1)))
      (reals (m ((c.tc : Thread Cert.KernelIdeal.nD Cert.KernelIdeal.τ).loc Cert.KernelIdeal.main_arg2)))
      (reals (m ((c.tc : Thread Cert.KernelIdeal.nD Cert.KernelIdeal.τ).loc Cert.KernelIdeal.main_arg3)))
      (realRows (m ((c.tc : Thread Cert.KernelIdeal.nD Cert.KernelIdeal.τ).loc Cert.KernelIdeal.main_arg4))) := by
  have h := Cert.Pre_finite.Attn.all_real _ _ _ _ _ (hp c)
  exact ⟨fun ρ n e => (h (Cert.Rows.src ρ) n e).1.symm, fun ρ n e => (h (Cert.Rows.src ρ) n e).2.1.symm,
    fun ρ n e => (h (Cert.Rows.src ρ) n e).2.2.1.symm, fun ρ n e => (h (Cert.Rows.src ρ) n e).2.2.2.1.symm,
    fun ρ n => (h (Cert.Rows.src ρ) n 0).2.2.2.2.symm⟩

end

/-- Over the reals, on finite arguments, the backward call and the forward call before it compute the reference's three gradients. -/
theorem algebraic : Cert.algebraic_KernelIdeal_ReferenceIdeal_pre_finite := by
  intro m g m' g' hp heq
  refine ⟨fun c => (Cert.KernelIdeal.Attn.dat1 (Cert.KernelIdeal.Attn.ent1 m) c).arrAt 9 Cert.KernelIdeal.cfg1.N,
    fun c => (Cert.KernelIdeal.Attn.dat1 (Cert.KernelIdeal.Attn.ent1 m) c).arrAt 10 Cert.KernelIdeal.cfg1.N,
    fun c => (Cert.KernelIdeal.Attn.dat1 (Cert.KernelIdeal.Attn.ent1 m) c).arrAt 11 Cert.KernelIdeal.cfg1.N, ?_, ?_⟩
  · exact (θ_run Cert.KernelIdeal.defs _ _).mono
      (fun _ h c => ⟨(h.1 c).2.2.2.2.2.1, (h.1 c).2.2.2.2.2.2.1, (h.1 c).2.2.2.2.2.2.2, (h.1 c).1, (h.1 c).2.1, (h.1 c).2.2.1,
        (h.1 c).2.2.2.1, (h.1 c).2.2.2.2.1⟩)
      (Cert.KernelIdeal.Attn.run_ends (F := Ideal) m g)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' g')
    all_goals
      obtain ⟨e0, e1, e2, e3, e4⟩ := heq c
      have A := args_real m c hp
      refine result_ext _ _ fun r n a hd e => ?_
    · refine Eq.trans ?_ (Cert.KernelIdeal.Attn.left_q A (Cert.Rows.blk r n) hd a e).symm
      refine (congrFun (Cert.ReferenceIdeal.Attn.out0_eq m' c) _).trans ?_
      rw [e0, e1, e2, e3, e4]
      exact Cert.ReferenceIdeal.Attn.refQ_eq A.q A.k A.v A.g A.l r hd n a e _ rfl
    · refine Eq.trans ?_ (Cert.KernelIdeal.Attn.left_k A (Cert.Rows.blk r n) hd a e).symm
      refine (congrFun (Cert.ReferenceIdeal.Attn.out1_eq m' c) _).trans ?_
      rw [e0, e1, e2, e3, e4]
      exact Cert.ReferenceIdeal.Attn.refK_eq A.q A.k A.v A.g A.l r hd n a e _ rfl
    · refine Eq.trans ?_ (Cert.KernelIdeal.Attn.left_v A (Cert.Rows.blk r n) hd a e).symm
      refine (congrFun (Cert.ReferenceIdeal.Attn.out2_eq m' c) _).trans ?_
      rw [e0, e1, e3]
      exact Cert.ReferenceIdeal.Attn.refV_eq A.q A.k A.g r hd n a e _ rfl

/-- `mm_d_act` as compiled runs: it ends, nothing faults, its arguments end as launched and every semaphore at zero. -/
theorem frame_kernel2 : Cert.quiescent_Kernel2 := fun m ρ _ => Cert.Kernel2.Gen.frame m ρ

/-- `mm_d_act` over the reals runs likewise. -/
theorem frame_ideal2 : Cert.quiescent_Kernel2Ideal := fun m ρ _ => Cert.Kernel2Ideal.Gen.frame m ρ

/-- So does its reference. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- `mm_dw_mlp_out` as compiled runs: it ends, nothing faults, its arguments end as launched and every semaphore at zero. -/
theorem frame_kernel3 : Cert.quiescent_Kernel3 := fun m ρ _ => Cert.Kernel3.Gen.frame m ρ

/-- `mm_dw_mlp_out` over the reals runs likewise. -/
theorem frame_ideal3 : Cert.quiescent_Kernel3Ideal := fun m ρ _ => Cert.Kernel3Ideal.Gen.frame m ρ

/-- So does its reference. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- `mm_dh2` as compiled runs: it ends, nothing faults, its arguments end as launched and every semaphore at zero. -/
theorem frame_kernel4 : Cert.quiescent_Kernel4 := fun m ρ _ => Cert.Kernel4.Gen.frame m ρ

/-- `mm_dh2` over the reals runs likewise. -/
theorem frame_ideal4 : Cert.quiescent_Kernel4Ideal := fun m ρ _ => Cert.Kernel4Ideal.Gen.frame m ρ

/-- So does its reference. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- `mm_dw_mlp_in` as compiled runs: it ends, nothing faults, its arguments end as launched and every semaphore at zero. -/
theorem frame_kernel5 : Cert.quiescent_Kernel5 := fun m ρ _ => Cert.Kernel5.Gen.frame m ρ

/-- `mm_dw_mlp_in` over the reals runs likewise. -/
theorem frame_ideal5 : Cert.quiescent_Kernel5Ideal := fun m ρ _ => Cert.Kernel5Ideal.Gen.frame m ρ

/-- So does its reference. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- `mm_mlp_in` as compiled runs: it ends, nothing faults, its arguments end as launched and every semaphore at zero. -/
theorem frame_kernel6 : Cert.quiescent_Kernel6 := fun m ρ _ => Cert.Kernel6.Gen.frame m ρ

/-- `mm_mlp_in` over the reals runs likewise. -/
theorem frame_ideal6 : Cert.quiescent_Kernel6Ideal := fun m ρ _ => Cert.Kernel6Ideal.Gen.frame m ρ

/-- So does its reference. -/
theorem frame_reference6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- `mm_mlp_out` as compiled runs: it ends, nothing faults, its arguments end as launched and every semaphore at zero. -/
theorem frame_kernel7 : Cert.quiescent_Kernel7 := fun m ρ _ => Cert.Kernel7.Gen.frame m ρ

/-- `mm_mlp_out` over the reals runs likewise. -/
theorem frame_ideal7 : Cert.quiescent_Kernel7Ideal := fun m ρ _ => Cert.Kernel7Ideal.Gen.frame m ρ

/-- So does its reference. -/
theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- `mm_in` as compiled runs: it ends, nothing faults, its arguments end as launched and every semaphore at zero. -/
theorem frame_kernel8 : Cert.quiescent_Kernel8 := fun m ρ _ => Cert.Kernel8.Gen.frame m ρ

/-- `mm_in` over the reals runs likewise. -/
theorem frame_ideal8 : Cert.quiescent_Kernel8Ideal := fun m ρ _ => Cert.Kernel8Ideal.Gen.frame m ρ

/-- So does its reference. -/
theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- `mm_out` as compiled runs: it ends, nothing faults, its arguments end as launched and every semaphore at zero. -/
theorem frame_kernel9 : Cert.quiescent_Kernel9 := fun m ρ _ => Cert.Kernel9.Gen.frame m ρ

/-- `mm_out` over the reals runs likewise. -/
theorem frame_ideal9 : Cert.quiescent_Kernel9Ideal := fun m ρ _ => Cert.Kernel9Ideal.Gen.frame m ρ

/-- So does its reference. -/
theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- `mm_dcat` as compiled runs: it ends, nothing faults, its arguments end as launched and every semaphore at zero. -/
theorem frame_kernel10 : Cert.quiescent_Kernel10 := fun m ρ _ => Cert.Kernel10.Gen.frame m ρ

/-- `mm_dcat` over the reals runs likewise. -/
theorem frame_ideal10 : Cert.quiescent_Kernel10Ideal := fun m ρ _ => Cert.Kernel10Ideal.Gen.frame m ρ

/-- So does its reference. -/
theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- `mm_dw_out` as compiled runs: it ends, nothing faults, its arguments end as launched and every semaphore at zero. -/
theorem frame_kernel11 : Cert.quiescent_Kernel11 := fun m ρ _ => Cert.Kernel11.Gen.frame m ρ

/-- `mm_dw_out` over the reals runs likewise. -/
theorem frame_ideal11 : Cert.quiescent_Kernel11Ideal := fun m ρ _ => Cert.Kernel11Ideal.Gen.frame m ρ

/-- So does its reference. -/
theorem frame_reference11 : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- `mm_dh1` as compiled runs: it ends, nothing faults, its arguments end as launched and every semaphore at zero. -/
theorem frame_kernel12 : Cert.quiescent_Kernel12 := fun m ρ _ => Cert.Kernel12.Gen.frame m ρ

/-- `mm_dh1` over the reals runs likewise. -/
theorem frame_ideal12 : Cert.quiescent_Kernel12Ideal := fun m ρ _ => Cert.Kernel12Ideal.Gen.frame m ρ

/-- So does its reference. -/
theorem frame_reference12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- `mm_dw_in` as compiled runs: it ends, nothing faults, its arguments end as launched and every semaphore at zero. -/
theorem frame_kernel13 : Cert.quiescent_Kernel13 := fun m ρ _ => Cert.Kernel13.Gen.frame m ρ

/-- `mm_dw_in` over the reals runs likewise. -/
theorem frame_ideal13 : Cert.quiescent_Kernel13Ideal := fun m ρ _ => Cert.Kernel13Ideal.Gen.frame m ρ

/-- So does its reference. -/
theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- `glu_fwd` as compiled runs: it ends, nothing faults, its arguments end as launched and every semaphore at zero. -/
theorem frame_kernel14 : Cert.quiescent_Kernel14 := fun m ρ _ => Cert.Kernel14.Gen.frame m ρ

/-- `glu_fwd` over the reals runs likewise. -/
theorem frame_ideal14 : Cert.quiescent_Kernel14Ideal := fun m ρ _ => Cert.Kernel14Ideal.Gen.frame m ρ

/-- So does its reference. -/
theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- `ada_update` as compiled runs: it ends, nothing faults, its arguments end as launched and every semaphore at zero. -/
theorem frame_kernel15 : Cert.quiescent_Kernel15 := fun m ρ _ => Cert.Kernel15.Gen.frame m ρ

/-- `ada_update` over the reals runs likewise. -/
theorem frame_ideal15 : Cert.quiescent_Kernel15Ideal := fun m ρ _ => Cert.Kernel15Ideal.Gen.frame m ρ

/-- So does its reference. -/
theorem frame_reference15 : Cert.quiescent_Reference15Ideal := fun m ρ _ =>
  (θ_run Cert.Reference15Ideal.defs _ _).mono
    (fun r h => ⟨fun c => (h c).2.2.2.2, Idealize.ShloMosaic.sem_eq_zero_of_no_sems (by decide) r.2⟩)
    (Cert.Reference15Ideal.Value.run (F := Ideal) m ρ)

/-- `prenorm_fwd` as compiled runs: it ends, nothing faults, its arguments end as launched and every semaphore at zero. -/
theorem frame_kernel16 : Cert.quiescent_Kernel16 := fun m ρ _ => Cert.Kernel16.Gen.frame m ρ

/-- `prenorm_fwd` over the reals runs likewise. -/
theorem frame_ideal16 : Cert.quiescent_Kernel16Ideal := fun m ρ _ => Cert.Kernel16Ideal.Gen.frame m ρ

/-- So does its reference. -/
theorem frame_reference16 : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

/-- `postmix_fwd` as compiled runs: it ends, nothing faults, its arguments end as launched and every semaphore at zero. -/
theorem frame_kernel17 : Cert.quiescent_Kernel17 := fun m ρ _ => Cert.Kernel17.Gen.frame m ρ

/-- `postmix_fwd` over the reals runs likewise. -/
theorem frame_ideal17 : Cert.quiescent_Kernel17Ideal := fun m ρ _ => Cert.Kernel17Ideal.Gen.frame m ρ

/-- So does its reference. -/
theorem frame_reference17 : Cert.quiescent_Reference17Ideal := fun m ρ _ =>
  (θ_run Cert.Reference17Ideal.defs _ _).mono
    (fun r h => ⟨fun c => (h c).2.2, Idealize.ShloMosaic.sem_eq_zero_of_no_sems (by decide) r.2⟩)
    (Cert.Reference17Ideal.Value.run (F := Ideal) m ρ)

/-- `small_sum_update` as compiled runs: it ends, nothing faults, its arguments end as launched and every semaphore at zero. -/
theorem frame_kernel18 : Cert.quiescent_Kernel18 := fun m ρ _ => Cert.Kernel18.Gen.frame m ρ

/-- `small_sum_update` over the reals runs likewise. -/
theorem frame_ideal18 : Cert.quiescent_Kernel18Ideal := fun m ρ _ => Cert.Kernel18Ideal.Gen.frame m ρ

/-- So does its reference. -/
theorem frame_reference18 : Cert.quiescent_Reference18Ideal := fun m ρ _ =>
  (θ_run Cert.Reference18Ideal.defs _ _).mono
    (fun r h => ⟨fun c => (h c).2.2.2.2, Idealize.ShloMosaic.sem_eq_zero_of_no_sems (by decide) r.2⟩)
    (Cert.Reference18Ideal.Value.run (F := Ideal) m ρ)

/-- `prenorm_bwd` as compiled runs: it ends, nothing faults, its arguments end as launched and every semaphore at zero. -/
theorem frame_kernel19 : Cert.quiescent_Kernel19 := fun m ρ _ => Cert.Kernel19.Gen.frame m ρ

/-- `prenorm_bwd` over the reals runs likewise. -/
theorem frame_ideal19 : Cert.quiescent_Kernel19Ideal := fun m ρ _ => Cert.Kernel19Ideal.Gen.frame m ρ

/-- So does its reference. -/
theorem frame_reference19 : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run (F := Ideal) m ρ)

/-- `glu_bwd` as compiled runs: it ends, nothing faults, its arguments end as launched and every semaphore at zero. -/
theorem frame_kernel20 : Cert.quiescent_Kernel20 := fun m ρ _ => Cert.Kernel20.Gen.frame m ρ

/-- `glu_bwd` over the reals runs likewise. -/
theorem frame_ideal20 : Cert.quiescent_Kernel20Ideal := fun m ρ _ => Cert.Kernel20Ideal.Gen.frame m ρ

/-- So does its reference. -/
theorem frame_reference20 : Cert.quiescent_Reference20Ideal := fun m ρ _ =>
  (θ_run Cert.Reference20Ideal.defs _ _).mono
    (fun r h => ⟨fun c => (h c).2.2.2, Idealize.ShloMosaic.sem_eq_zero_of_no_sems (by decide) r.2⟩)
    (Cert.Reference20Ideal.Value.run (F := Ideal) m ρ)

/-- The claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.Gen.facts, Cert.Pre_finite19.Gen.facts, Cert.Pre_finite20.Gen.facts, frame_kernel, frame_ideal, fun m ρ _ => frame_ideal m ρ trivial, frame_reference,
    fun m ρ _ => frame_reference m ρ trivial,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel18, frame_ideal18, frame_reference18,
    frame_kernel19, frame_ideal19, fun m ρ _ => frame_ideal19 m ρ trivial, frame_reference19,
    fun m ρ _ => frame_reference19 m ρ trivial,
    frame_kernel20, frame_ideal20, fun m ρ _ => frame_ideal20 m ρ trivial, frame_reference20,
    fun m ρ _ => frame_reference20 m ρ trivial,
    preserves, algebraic,
    trivial, Cert.Kernel2Ideal.Prod.algebraic,
    trivial, Cert.Kernel3Ideal.Prod.algebraic,
    trivial, Cert.Kernel4Ideal.Prod.algebraic,
    trivial, Cert.Kernel5Ideal.Prod.algebraic,
    trivial, Cert.Kernel6Ideal.Prod.algebraic,
    trivial, Cert.Kernel7Ideal.Prod.algebraic,
    trivial, Cert.Kernel8Ideal.Prod.algebraic,
    trivial, Cert.Kernel9Ideal.Prod.algebraic,
    trivial, Cert.Kernel10Ideal.Prod.algebraic,
    trivial, Cert.Kernel11Ideal.Prod.algebraic,
    trivial, Cert.Kernel12Ideal.Prod.algebraic,
    trivial, Cert.Kernel13Ideal.Prod.algebraic,
    trivial, Cert.Kernel14Ideal.Prod.algebraic,
    trivial, Cert.Kernel15Ideal.Prod.algebraic,
    trivial, Cert.Kernel16Ideal.Prod.algebraic,
    trivial, Cert.Kernel17Ideal.Prod.algebraic,
    trivial, Cert.Kernel18Ideal.Prod.algebraic,
    trivial, Cert.Kernel19Ideal.Prod.algebraic,
    trivial, Cert.Kernel20Ideal.Prod.algebraic⟩

end Cert.Proof
